-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "gelu_k1" .f32 0xBDD2D3E8#32 (((((-2) * (6693141 / 8388608)) * (Real.log 2)⁻¹) * (12003091 / 268435456) : ℝ) : EReal)
  ∧ IdealRules.named_const.Statement Cert.Kernel2Ideal.κ "gelu_k0" .f32 0xC0135761#32 ((((-2) * (6693141 / 8388608)) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_inputs.lean ====
abbrev S16384x2048 : Shape := ⟨2, ![16384, 2048]⟩
abbrev S1x8x2x128x128 : Shape := ⟨5, ![1, 8, 2, 128, 128]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x8x2x128x128 : S_.BroadcastsInDim S1x8x2x128x128 (![] : Fin 0 → Fin S1x8x2x128x128.rank)
  reducesTo_S1x8x2x128x128_S_d0_1_2_3_4 : S1x8x2x128x128.ReducesTo [0, 1, 2, 3, 4] S_

variable [Facts]

def fn {F : FTy → Type} [FloatOps F] (main_arg0 : FVec F S16384x2048 .bf16) (main_arg1 : FVec F S1x8x2x128x128 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S1x8x2x128x128 .f32 := Host.absf main_arg1
  let main_cst_0 : FVec F S_ .f32 := constant S_ .f32 0x7F800000#32
  let main_v6 : FVec F S1x8x2x128x128 .f32 := broadcastInDim S1x8x2x128x128 ![] bcast_S_S1x8x2x128x128 main_cst_0
  let main_v7 : IVec S1x8x2x128x128 1 := cmpf .olt main_v5 main_v6
  let main_c_1 : IVec S_ 1 := constantI S_ 1 1#1
  let main_v8 : IVec S_ 1 := (fun x v => Host.reduce IntOp.andi x v reducesTo_S1x8x2x128x128_S_d0_1_2_3_4 h_S_) main_v7 main_c_1
  let main_v9 : IVec S_ 1 := andi main_v4 main_v8
  main_v9
-- ==== Kernel.lean ====
abbrev S16384x2048 : Shape := ⟨2, ![16384, 2048]⟩
abbrev S1x8x2x128x128 : Shape := ⟨5, ![1, 8, 2, 128, 128]⟩
abbrev S8x2x128x128 : Shape := ⟨4, ![8, 2, 128, 128]⟩
abbrev S8x128x16384 : Shape := ⟨3, ![8, 128, 16384]⟩
abbrev S1024x256 : Shape := ⟨2, ![1024, 256]⟩
abbrev S1x2x128x128 : Shape := ⟨4, ![1, 2, 128, 128]⟩
abbrev S1x128x1024 : Shape := ⟨3, ![1, 128, 1024]⟩
abbrev S2x128x1024 : Shape := ⟨3, ![2, 128, 1024]⟩
abbrev S2x2x128x128 : Shape := ⟨4, ![2, 2, 128, 128]⟩
abbrev S2x2x16x128 : Shape := ⟨4, ![2, 2, 16, 128]⟩
abbrev S1x1x128x128 : Shape := ⟨4, ![1, 1, 128, 128]⟩
abbrev S128x128 : Shape := ⟨2, ![128, 128]⟩
abbrev S1024x128 : Shape := ⟨2, ![1024, 128]⟩
abbrev S128x1024 : Shape := ⟨2, ![128, 1024]⟩
abbrev S8x128 : Shape := ⟨2, ![8, 128]⟩
abbrev S1x128 : Shape := ⟨2, ![1, 128]⟩
abbrev S1x1x16x128 : Shape := ⟨4, ![1, 1, 16, 128]⟩
abbrev S16x128 : Shape := ⟨2, ![16, 128]⟩
abbrev S80x128 : Shape := ⟨2, ![80, 128]⟩
abbrev S128 : Shape := ⟨1, ![128]⟩
abbrev S1x128x128 : Shape := ⟨3, ![1, 128, 128]⟩
abbrev S1x1x1x128 : Shape := ⟨4, ![1, 1, 1, 128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 8
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S1x8x2x128x128, .f32⟩
  | .hbm, ⟨2, _⟩ => ⟨S8x2x128x128, .f32⟩
  | .hbm, ⟨3, _⟩ => ⟨S8x2x128x128, .bf16⟩
  | .hbm, ⟨4, _⟩ => ⟨S8x128x16384, .f32⟩
  | .hbm, ⟨5, _⟩ => ⟨S8x128x16384, .f32⟩
  | .hbm, ⟨6, _⟩ => ⟨S8x128x16384, .bf16⟩
  | .hbm, ⟨7, _⟩ => ⟨S8x128x16384, .bf16⟩
  | .local _ .vmem, ⟨0, _⟩ => ⟨S1024x256, .bf16⟩
  | .local _ .vmem, ⟨1, _⟩ => ⟨S1024x256, .bf16⟩
  | .local _ .vmem, ⟨2, _⟩ => ⟨S1x2x128x128, .bf16⟩
  | .local _ .vmem, ⟨3, _⟩ => ⟨S1x2x128x128, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S2x128x1024, .f32⟩
  | .local _ .vmem, ⟨13, _⟩ => ⟨S2x2x128x128, .f32⟩
  | .local _ .vmem, ⟨14, _⟩ => ⟨S2x2x16x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c9_i32 : BitVec 32 := 9#32
  let v25 : BitVec 32 := Scalar.addi c0_i32 c9_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1_i32_30 : BitVec 32 := 1#32
  let v34 : BitVec 32 := Scalar.subi arg11 c1_i32_30
  let c0_i32_31 : BitVec 32 := 0#32
  let v35 : BitVec 32 := Scalar.maxsi v34 c0_i32_31
  let c128_i32 : BitVec 32 := 128#32
  let v36 : BitVec 32 := Scalar.muli v35 c128_i32
  v36
def k0_off1 (k0_t1 : Fin k0_t1_loop.trips) : Fin 4 → Nat :=
  let c0_i32 : BitVec 32 := 0#32
  let c1_i32 : BitVec 32 := 1#32
  let arg11 : BitVec 32 := Scf.iv c0_i32 c1_i32 k0_t1
  let c1_i32_32 : BitVec 32 := 1#32
  let v38 : BitVec 32 := Scalar.addi arg11 c1_i32_32
  let c2_i32 : BitVec 32 := 2#32
  let c0_i32_33 : BitVec 32 := 0#32
  let v39 : BitVec 1 := Scalar.cmpi .eq c2_i32 c0_i32_33
  let c1_i32_34 : BitVec 32 := 1#32
  let v40 : BitVec 32 := Scalar.select v39 c1_i32_34 c2_i32
  let v41 : BitVec 32 := Scalar.remsi v38 v40
  let c0_i32_36 : BitVec 32 := 0#32
  let v43 : BitVec 1 := Scalar.cmpi .slt v41 c0_i32_36
  let c0_i32_37 : BitVec 32 := 0#32
  let v44 : BitVec 1 := Scalar.cmpi .slt v40 c0_i32_37
  let v45 : BitVec 1 := Scalar.xori v43 v44
  let c0_i32_35 : BitVec 32 := 0#32
  let v42 : BitVec 1 := Scalar.cmpi .ne v41 c0_i32_35
  let v46 : BitVec 1 := Scalar.andi v45 v42
  let v47 : BitVec 32 := Scalar.addi v41 v40
  let v48 : BitVec 32 := Scalar.select v46 v47 v41
  let v49 : Index := Scalar.indexCast v48
  let c0_38 : Index := 0#32
  let c0_39 : Index := 0#32
  let c0_40 : Index := 0#32
  ![v49.toNat, 0, 0, 0]
def k0_off2 (k0_t1 : Fin k0_t1_loop.trips) : Fin 4 → Nat :=
  let c0_i32 : BitVec 32 := 0#32
  let c1_i32 : BitVec 32 := 1#32
  let arg11 : BitVec 32 := Scf.iv c0_i32 c1_i32 k0_t1
  let c1_i32_32 : BitVec 32 := 1#32
  let v38 : BitVec 32 := Scalar.addi arg11 c1_i32_32
  let c2_i32 : BitVec 32 := 2#32
  let c0_i32_33 : BitVec 32 := 0#32
  let v39 : BitVec 1 := Scalar.cmpi .eq c2_i32 c0_i32_33
  let c1_i32_34 : BitVec 32 := 1#32
  let v40 : BitVec 32 := Scalar.select v39 c1_i32_34 c2_i32
  let v41 : BitVec 32 := Scalar.remsi v38 v40
  let c0_i32_36 : BitVec 32 := 0#32
  let v43 : BitVec 1 := Scalar.cmpi .slt v41 c0_i32_36
  let c0_i32_37 : BitVec 32 := 0#32
  let v44 : BitVec 1 := Scalar.cmpi .slt v40 c0_i32_37
  let v45 : BitVec 1 := Scalar.xori v43 v44
  let c0_i32_35 : BitVec 32 := 0#32
  let v42 : BitVec 1 := Scalar.cmpi .ne v41 c0_i32_35
  let v46 : BitVec 1 := Scalar.andi v45 v42
  let v47 : BitVec 32 := Scalar.addi v41 v40
  let v48 : BitVec 32 := Scalar.select v46 v47 v41
  let v52 : Index := Scalar.indexCast v48
  let c1_41 : Index := 1#32
  let c0_42 : Index := 0#32
  let c0_43 : Index := 0#32
  ![v52.toNat, 1, 0, 0]
def k0_off3 (k0_t1 : Fin k0_t1_loop.trips) : Fin 4 → Nat :=
  let c0_i32 : BitVec 32 := 0#32
  let c1_i32 : BitVec 32 := 1#32
  let arg11 : BitVec 32 := Scf.iv c0_i32 c1_i32 k0_t1
  let c1_i32_32 : BitVec 32 := 1#32
  let v38 : BitVec 32 := Scalar.addi arg11 c1_i32_32
  let c2_i32 : BitVec 32 := 2#32
  let c0_i32_33 : BitVec 32 := 0#32
  let v39 : BitVec 1 := Scalar.cmpi .eq c2_i32 c0_i32_33
  let c1_i32_34 : BitVec 32 := 1#32
  let v40 : BitVec 32 := Scalar.select v39 c1_i32_34 c2_i32
  let v41 : BitVec 32 := Scalar.remsi v38 v40
  let c0_i32_36 : BitVec 32 := 0#32
  let v43 : BitVec 1 := Scalar.cmpi .slt v41 c0_i32_36
  let c0_i32_37 : BitVec 32 := 0#32
  let v44 : BitVec 1 := Scalar.cmpi .slt v40 c0_i32_37
  let v45 : BitVec 1 := Scalar.xori v43 v44
  let c0_i32_35 : BitVec 32 := 0#32
  let v42 : BitVec 1 := Scalar.cmpi .ne v41 c0_i32_35
  let v46 : BitVec 1 := Scalar.andi v45 v42
  let v47 : BitVec 32 := Scalar.addi v41 v40
  let v48 : BitVec 32 := Scalar.select v46 v47 v41
  let v314 : Index := Scalar.indexCast v48
  let c0_99 : Index := 0#32
  let c0_100 : Index := 0#32
  let c0_101 : Index := 0#32
  ![v314.toNat, 0, 0, 0]
def k0_off4 (k0_t1 : Fin k0_t1_loop.trips) : Fin 3 → Nat :=
  let c0_119 : Index := 0#32
  let c0_120 : Index := 0#32
  let c0_i32 : BitVec 32 := 0#32
  let c1_i32 : BitVec 32 := 1#32
  let arg11 : BitVec 32 := Scf.iv c0_i32 c1_i32 k0_t1
  let c1_i32_30 : BitVec 32 := 1#32
  let v34 : BitVec 32 := Scalar.subi arg11 c1_i32_30
  let c0_i32_31 : BitVec 32 := 0#32
  let v35 : BitVec 32 := Scalar.maxsi v34 c0_i32_31
  let c128_i32 : BitVec 32 := 128#32
  let v36 : BitVec 32 := Scalar.muli v35 c128_i32
  let v37 : BitVec 32 := v36
  let v398 : Index := Scalar.indexCast v37
  ![0, 0, v398.toNat]
def k0_off5 (k0_t1 : Fin k0_t1_loop.trips) : Fin 3 → Nat :=
  let c0_121 : Index := 0#32
  let c0_122 : Index := 0#32
  let c0_i32 : BitVec 32 := 0#32
  let c1_i32 : BitVec 32 := 1#32
  let arg11 : BitVec 32 := Scf.iv c0_i32 c1_i32 k0_t1
  let c1_i32_30 : BitVec 32 := 1#32
  let v34 : BitVec 32 := Scalar.subi arg11 c1_i32_30
  let c0_i32_31 : BitVec 32 := 0#32
  let v35 : BitVec 32 := Scalar.maxsi v34 c0_i32_31
  let c128_i32 : BitVec 32 := 128#32
  let v36 : BitVec 32 := Scalar.muli v35 c128_i32
  let v37 : BitVec 32 := v36
  let v402 : Index := Scalar.indexCast v37
  ![0, 0, v402.toNat]
def k0_off6 (k0_t1 : Fin k0_t1_loop.trips) : Fin 3 → Nat :=
  let c1_125 : Index := 1#32
  let c0_126 : Index := 0#32
  let c0_i32 : BitVec 32 := 0#32
  let c1_i32 : BitVec 32 := 1#32
  let arg11 : BitVec 32 := Scf.iv c0_i32 c1_i32 k0_t1
  let c1_i32_30 : BitVec 32 := 1#32
  let v34 : BitVec 32 := Scalar.subi arg11 c1_i32_30
  let c0_i32_31 : BitVec 32 := 0#32
  let v35 : BitVec 32 := Scalar.maxsi v34 c0_i32_31
  let c128_i32 : BitVec 32 := 128#32
  let v36 : BitVec 32 := Scalar.muli v35 c128_i32
  let v37 : BitVec 32 := v36
  let v415 : Index := Scalar.indexCast v37
  ![1, 0, v415.toNat]
def k0_off7 (k0_t1 : Fin k0_t1_loop.trips) : Fin 4 → Nat :=
  let c0_i32 : BitVec 32 := 0#32
  let c1_i32 : BitVec 32 := 1#32
  let arg11 : BitVec 32 := Scf.iv c0_i32 c1_i32 k0_t1
  let c1_i32_32 : BitVec 32 := 1#32
  let v38 : BitVec 32 := Scalar.addi arg11 c1_i32_32
  let c2_i32 : BitVec 32 := 2#32
  let c0_i32_33 : BitVec 32 := 0#32
  let v39 : BitVec 1 := Scalar.cmpi .eq c2_i32 c0_i32_33
  let c1_i32_34 : BitVec 32 := 1#32
  let v40 : BitVec 32 := Scalar.select v39 c1_i32_34 c2_i32
  let v41 : BitVec 32 := Scalar.remsi v38 v40
  let c0_i32_36 : BitVec 32 := 0#32
  let v43 : BitVec 1 := Scalar.cmpi .slt v41 c0_i32_36
  let c0_i32_37 : BitVec 32 := 0#32
  let v44 : BitVec 1 := Scalar.cmpi .slt v40 c0_i32_37
  let v45 : BitVec 1 := Scalar.xori v43 v44
  let c0_i32_35 : BitVec 32 := 0#32
  let v42 : BitVec 1 := Scalar.cmpi .ne v41 c0_i32_35
  let v46 : BitVec 1 := Scalar.andi v45 v42
  let v47 : BitVec 32 := Scalar.addi v41 v40
  let v48 : BitVec 32 := Scalar.select v46 v47 v41
  let v427 : Index := Scalar.indexCast v48
  let c1_129 : Index := 1#32
  let c0_130 : Index := 0#32
  let c0_131 : Index := 0#32
  ![v427.toNat, 1, 0, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c7_i32 : BitVec 32 := 7#32
  let v437 : BitVec 32 := Scalar.minsi arg11 c7_i32
  let c128_i32_135 : BitVec 32 := 128#32
  let v438 : BitVec 32 := Scalar.muli v437 c128_i32_135
  v438
def k0_off8 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v452 : Index := Scalar.indexCast v449
  let c0_144 : Index := 0#32
  let c0_145 : Index := 0#32
  let c0_146 : Index := 0#32
  ![v452.toNat, 0, 0, 0]
def k0_off9 (k0_t1 : Fin k0_t1_loop.trips) : Fin 3 → Nat :=
  let c0_147 : Index := 0#32
  let c0_148 : Index := 0#32
  let c0_i32 : BitVec 32 := 0#32
  let c1_i32 : BitVec 32 := 1#32
  let arg11 : BitVec 32 := Scf.iv c0_i32 c1_i32 k0_t1
  let c7_i32 : BitVec 32 := 7#32
  let v437 : BitVec 32 := Scalar.minsi arg11 c7_i32
  let c128_i32_135 : BitVec 32 := 128#32
  let v438 : BitVec 32 := Scalar.muli v437 c128_i32_135
  let v439 : BitVec 32 := v438
  let v456 : Index := Scalar.indexCast v439
  ![0, 0, v456.toNat]
def k0_off10 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v465 : Index := Scalar.indexCast v449
  let c0_151 : Index := 0#32
  let c0_152 : Index := 0#32
  let c0_153 : Index := 0#32
  ![v465.toNat, 0, 0, 0]
def k0_off11 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v481 : Index := Scalar.indexCast v449
  let c0_160 : Index := 0#32
  let c1_161 : Index := 1#32
  let c0_162 : Index := 0#32
  ![v481.toNat, 0, 1, 0]
def k0_off12 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v497 : Index := Scalar.indexCast v449
  let c0_169 : Index := 0#32
  let c2 : Index := 2#32
  let c0_170 : Index := 0#32
  ![v497.toNat, 0, 2, 0]
def k0_off13 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v513 : Index := Scalar.indexCast v449
  let c0_177 : Index := 0#32
  let c3 : Index := 3#32
  let c0_178 : Index := 0#32
  ![v513.toNat, 0, 3, 0]
def k0_off14 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v529 : Index := Scalar.indexCast v449
  let c0_185 : Index := 0#32
  let c4 : Index := 4#32
  let c0_186 : Index := 0#32
  ![v529.toNat, 0, 4, 0]
def k0_off15 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v545 : Index := Scalar.indexCast v449
  let c0_193 : Index := 0#32
  let c5 : Index := 5#32
  let c0_194 : Index := 0#32
  ![v545.toNat, 0, 5, 0]
def k0_off16 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v561 : Index := Scalar.indexCast v449
  let c0_201 : Index := 0#32
  let c6 : Index := 6#32
  let c0_202 : Index := 0#32
  ![v561.toNat, 0, 6, 0]
def k0_off17 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v577 : Index := Scalar.indexCast v449
  let c0_209 : Index := 0#32
  let c7 : Index := 7#32
  let c0_210 : Index := 0#32
  ![v577.toNat, 0, 7, 0]
def k0_off18 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v593 : Index := Scalar.indexCast v449
  let c0_217 : Index := 0#32
  let c8 : Index := 8#32
  let c0_218 : Index := 0#32
  ![v593.toNat, 0, 8, 0]
def k0_off19 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v609 : Index := Scalar.indexCast v449
  let c0_225 : Index := 0#32
  let c9 : Index := 9#32
  let c0_226 : Index := 0#32
  ![v609.toNat, 0, 9, 0]
def k0_off20 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v625 : Index := Scalar.indexCast v449
  let c0_233 : Index := 0#32
  let c10 : Index := 10#32
  let c0_234 : Index := 0#32
  ![v625.toNat, 0, 10, 0]
def k0_off21 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v641 : Index := Scalar.indexCast v449
  let c0_241 : Index := 0#32
  let c11 : Index := 11#32
  let c0_242 : Index := 0#32
  ![v641.toNat, 0, 11, 0]
def k0_off22 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v657 : Index := Scalar.indexCast v449
  let c0_249 : Index := 0#32
  let c12 : Index := 12#32
  let c0_250 : Index := 0#32
  ![v657.toNat, 0, 12, 0]
def k0_off23 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v673 : Index := Scalar.indexCast v449
  let c0_257 : Index := 0#32
  let c13 : Index := 13#32
  let c0_258 : Index := 0#32
  ![v673.toNat, 0, 13, 0]
def k0_off24 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v689 : Index := Scalar.indexCast v449
  let c0_265 : Index := 0#32
  let c14 : Index := 14#32
  let c0_266 : Index := 0#32
  ![v689.toNat, 0, 14, 0]
def k0_off25 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v705 : Index := Scalar.indexCast v449
  let c0_273 : Index := 0#32
  let c15 : Index := 15#32
  let c0_274 : Index := 0#32
  ![v705.toNat, 0, 15, 0]
def k0_off26 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v726 : Index := Scalar.indexCast v449
  let c1_285 : Index := 1#32
  let c0_286 : Index := 0#32
  let c0_287 : Index := 0#32
  ![v726.toNat, 1, 0, 0]
def k0_off27 (k0_t1 : Fin k0_t1_loop.trips) : Fin 3 → Nat :=
  let c1_288 : Index := 1#32
  let c0_289 : Index := 0#32
  let c0_i32 : BitVec 32 := 0#32
  let c1_i32 : BitVec 32 := 1#32
  let arg11 : BitVec 32 := Scf.iv c0_i32 c1_i32 k0_t1
  let c7_i32 : BitVec 32 := 7#32
  let v437 : BitVec 32 := Scalar.minsi arg11 c7_i32
  let c128_i32_135 : BitVec 32 := 128#32
  let v438 : BitVec 32 := Scalar.muli v437 c128_i32_135
  let v439 : BitVec 32 := v438
  let v730 : Index := Scalar.indexCast v439
  ![1, 0, v730.toNat]
def k0_off28 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v739 : Index := Scalar.indexCast v449
  let c1_292 : Index := 1#32
  let c0_293 : Index := 0#32
  let c0_294 : Index := 0#32
  ![v739.toNat, 1, 0, 0]
def k0_off29 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v755 : Index := Scalar.indexCast v449
  let c1_301 : Index := 1#32
  let c1_302 : Index := 1#32
  let c0_303 : Index := 0#32
  ![v755.toNat, 1, 1, 0]
def k0_off30 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v771 : Index := Scalar.indexCast v449
  let c1_310 : Index := 1#32
  let c2_311 : Index := 2#32
  let c0_312 : Index := 0#32
  ![v771.toNat, 1, 2, 0]
def k0_off31 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v787 : Index := Scalar.indexCast v449
  let c1_319 : Index := 1#32
  let c3_320 : Index := 3#32
  let c0_321 : Index := 0#32
  ![v787.toNat, 1, 3, 0]
def k0_off32 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v803 : Index := Scalar.indexCast v449
  let c1_328 : Index := 1#32
  let c4_329 : Index := 4#32
  let c0_330 : Index := 0#32
  ![v803.toNat, 1, 4, 0]
def k0_off33 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v819 : Index := Scalar.indexCast v449
  let c1_337 : Index := 1#32
  let c5_338 : Index := 5#32
  let c0_339 : Index := 0#32
  ![v819.toNat, 1, 5, 0]
def k0_off34 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v835 : Index := Scalar.indexCast v449
  let c1_346 : Index := 1#32
  let c6_347 : Index := 6#32
  let c0_348 : Index := 0#32
  ![v835.toNat, 1, 6, 0]
def k0_off35 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v851 : Index := Scalar.indexCast v449
  let c1_355 : Index := 1#32
  let c7_356 : Index := 7#32
  let c0_357 : Index := 0#32
  ![v851.toNat, 1, 7, 0]
def k0_off36 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v867 : Index := Scalar.indexCast v449
  let c1_364 : Index := 1#32
  let c8_365 : Index := 8#32
  let c0_366 : Index := 0#32
  ![v867.toNat, 1, 8, 0]
def k0_off37 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v883 : Index := Scalar.indexCast v449
  let c1_373 : Index := 1#32
  let c9_374 : Index := 9#32
  let c0_375 : Index := 0#32
  ![v883.toNat, 1, 9, 0]
def k0_off38 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v899 : Index := Scalar.indexCast v449
  let c1_382 : Index := 1#32
  let c10_383 : Index := 10#32
  let c0_384 : Index := 0#32
  ![v899.toNat, 1, 10, 0]
def k0_off39 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v915 : Index := Scalar.indexCast v449
  let c1_391 : Index := 1#32
  let c11_392 : Index := 11#32
  let c0_393 : Index := 0#32
  ![v915.toNat, 1, 11, 0]
def k0_off40 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v931 : Index := Scalar.indexCast v449
  let c1_400 : Index := 1#32
  let c12_401 : Index := 12#32
  let c0_402 : Index := 0#32
  ![v931.toNat, 1, 12, 0]
def k0_off41 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v947 : Index := Scalar.indexCast v449
  let c1_409 : Index := 1#32
  let c13_410 : Index := 13#32
  let c0_411 : Index := 0#32
  ![v947.toNat, 1, 13, 0]
def k0_off42 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v963 : Index := Scalar.indexCast v449
  let c1_418 : Index := 1#32
  let c14_419 : Index := 14#32
  let c0_420 : Index := 0#32
  ![v963.toNat, 1, 14, 0]
def k0_off43 (k0_t1 : Fin k0_t1_loop.trips) : Fin 4 → Nat :=
  let c0_i32 : BitVec 32 := 0#32
  let c1_i32 : BitVec 32 := 1#32
  let arg11 : BitVec 32 := Scf.iv c0_i32 c1_i32 k0_t1
  let c2_i32_136 : BitVec 32 := 2#32
  let c0_i32_137 : BitVec 32 := 0#32
  let v440 : BitVec 1 := Scalar.cmpi .eq c2_i32_136 c0_i32_137
  let c1_i32_138 : BitVec 32 := 1#32
  let v441 : BitVec 32 := Scalar.select v440 c1_i32_138 c2_i32_136
  let v442 : BitVec 32 := Scalar.remsi arg11 v441
  let c0_i32_140 : BitVec 32 := 0#32
  let v444 : BitVec 1 := Scalar.cmpi .slt v442 c0_i32_140
  let c0_i32_141 : BitVec 32 := 0#32
  let v445 : BitVec 1 := Scalar.cmpi .slt v441 c0_i32_141
  let v446 : BitVec 1 := Scalar.xori v444 v445
  let c0_i32_139 : BitVec 32 := 0#32
  let v443 : BitVec 1 := Scalar.cmpi .ne v442 c0_i32_139
  let v447 : BitVec 1 := Scalar.andi v446 v443
  let v448 : BitVec 32 := Scalar.addi v442 v441
  let v449 : BitVec 32 := Scalar.select v447 v448 v442
  let v979 : Index := Scalar.indexCast v449
  let c1_427 : Index := 1#32
  let c15_428 : Index := 15#32
  let c0_429 : Index := 0#32
  ![v979.toNat, 1, 15, 0]
@[reducible] def k0_t2_loop : Scf.Loop 32 :=
  let c0_i32_30 : BitVec 32 := 0#32
  let c8_i32 : BitVec 32 := 8#32
  let v34 : BitVec 32 := Scalar.addi c0_i32_30 c8_i32
  let c1_i32_31 : BitVec 32 := 1#32
  ⟨c0_i32_30, v34, c1_i32_31⟩
def k0_mult3 (k0_t2 : Fin k0_t2_loop.trips) : BitVec 32 :=
  let c0_i32_30 : BitVec 32 := 0#32
  let c1_i32_31 : BitVec 32 := 1#32
  let arg11 : BitVec 32 := Scf.iv c0_i32_30 c1_i32_31 k0_t2
  let c128_i32 : BitVec 32 := 128#32
  let v35 : BitVec 32 := Scalar.muli arg11 c128_i32
  v35
def k0_off44 (k0_t2 : Fin k0_t2_loop.trips) : Fin 3 → Nat :=
  let c0_38 : Index := 0#32
  let c0_39 : Index := 0#32
  let c0_i32_30 : BitVec 32 := 0#32
  let c1_i32_31 : BitVec 32 := 1#32
  let arg11 : BitVec 32 := Scf.iv c0_i32_30 c1_i32_31 k0_t2
  let c128_i32 : BitVec 32 := 128#32
  let v35 : BitVec 32 := Scalar.muli arg11 c128_i32
  let v36 : BitVec 32 := v35
  let v41 : Index := Scalar.indexCast v36
  ![0, 0, v41.toNat]
def k0_off45 (k0_t2 : Fin k0_t2_loop.trips) : Fin 3 → Nat :=
  let c1_238 : Index := 1#32
  let c0_239 : Index := 0#32
  let c0_i32_30 : BitVec 32 := 0#32
  let c1_i32_31 : BitVec 32 := 1#32
  let arg11 : BitVec 32 := Scf.iv c0_i32_30 c1_i32_31 k0_t2
  let c128_i32 : BitVec 32 := 128#32
  let v35 : BitVec 32 := Scalar.muli arg11 c128_i32
  let v36 : BitVec 32 := v35
  let v368 : Index := Scalar.indexCast v36
  ![1, 0, v368.toNat]
def k0_mult4 (k0_t2 : Fin k0_t2_loop.trips) : BitVec 32 :=
  let c0_i32_30 : BitVec 32 := 0#32
  let c1_i32_31 : BitVec 32 := 1#32
  let arg11 : BitVec 32 := Scf.iv c0_i32_30 c1_i32_31 k0_t2
  let c128_i32_447 : BitVec 32 := 128#32
  let v691 : BitVec 32 := Scalar.muli arg11 c128_i32_447
  v691
def k0_off46 (k0_t2 : Fin k0_t2_loop.trips) : Fin 3 → Nat :=
  let c0_563 : Index := 0#32
  let c0_564 : Index := 0#32
  let c0_i32_30 : BitVec 32 := 0#32
  let c1_i32_31 : BitVec 32 := 1#32
  let arg11 : BitVec 32 := Scf.iv c0_i32_30 c1_i32_31 k0_t2
  let c128_i32_447 : BitVec 32 := 128#32
  let v691 : BitVec 32 := Scalar.muli arg11 c128_i32_447
  let v692 : BitVec 32 := v691
  let v1122 : Index := Scalar.indexCast v692
  ![0, 0, v1122.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x2048 : Shape := ⟨2, ![16384, 2048]⟩
abbrev S1x8x2x128x128 : Shape := ⟨5, ![1, 8, 2, 128, 128]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S16384x8x2x16 : Shape := ⟨4, ![16384, 8, 2, 16]⟩
abbrev S16384x8x1x16 : Shape := ⟨4, ![16384, 8, 1, 16]⟩
abbrev S16384x8x16 : Shape := ⟨3, ![16384, 8, 16]⟩
abbrev S16384x8x16x1 : Shape := ⟨4, ![16384, 8, 16, 1]⟩
abbrev S16384x8x16x16 : Shape := ⟨4, ![16384, 8, 16, 16]⟩
abbrev S16384x8x256 : Shape := ⟨3, ![16384, 8, 256]⟩
abbrev S_ : Shape := ⟨0, ![]⟩
abbrev S16384x8x1 : Shape := ⟨3, ![16384, 8, 1]⟩
abbrev S16384x8 : Shape := ⟨2, ![16384, 8]⟩
abbrev S128 : Shape := ⟨1, ![128]⟩
abbrev S16 : Shape := ⟨1, ![16]⟩
abbrev S1x1x1x16 : Shape := ⟨4, ![1, 1, 1, 16]⟩
abbrev S1x1x1x128 : Shape := ⟨4, ![1, 1, 1, 128]⟩
abbrev S16384x8x16x128 : Shape := ⟨4, ![16384, 8, 16, 128]⟩
abbrev S16384x8x128 : Shape := ⟨3, ![16384, 8, 128]⟩
abbrev S16x1 : Shape := ⟨2, ![16, 1]⟩
abbrev S16384x8x1x128 : Shape := ⟨4, ![16384, 8, 1, 128]⟩
abbrev S16384x8x1x1 : Shape := ⟨4, ![16384, 8, 1, 1]⟩
abbrev S8x128x16384 : Shape := ⟨3, ![8, 128, 16384]⟩

abbrev nBuf : Space → Nat
  | .hbm => 96
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x8x2x128x128, .f32⟩
  | .hbm, ⟨2, _⟩ => ⟨S16384x2048, .f32⟩
  | .hbm, ⟨3, _⟩ => ⟨S16384x8x2x128, .f32⟩
  | .hbm, ⟨4, _⟩ => ⟨S8x2x128x128, .f32⟩
  | .hbm, ⟨5, _⟩ => ⟨S8x2x128x128, .bf16⟩
  | .hbm, ⟨6, _⟩ => ⟨S8x2x128x128, .f32⟩
  | .hbm, ⟨7, _⟩ => ⟨S8x2x128x16384, .f32⟩
  | .hbm, ⟨8, _⟩ => ⟨S16384x8x2x128, .f32⟩
  | .hbm, ⟨9, _⟩ => ⟨S16384x8x2x16, .f32⟩
  | .hbm, ⟨10, _⟩ => ⟨S16384x8x2x16, .i32⟩
  | .hbm, ⟨11, _⟩ => ⟨S16384x8x1x16, .f32⟩
  | .hbm, ⟨12, _⟩ => ⟨S16384x8x16, .f32⟩
  | .hbm, ⟨13, _⟩ => ⟨S16384x8x16x1, .f32⟩
  | .hbm, ⟨14, _⟩ => ⟨S16384x8x1x16, .f32⟩
  | .hbm, ⟨15, _⟩ => ⟨S16384x8x16, .f32⟩
  | .hbm, ⟨16, _⟩ => ⟨S16384x8x1x16, .f32⟩
  | .hbm, ⟨17, _⟩ => ⟨S16384x8x16x16, .f32⟩
  | .hbm, ⟨18, _⟩ => ⟨S16384x8x16x16, .f32⟩
  | .hbm, ⟨19, _⟩ => ⟨S16384x8x16x16, .f32⟩
  | .hbm, ⟨20, _⟩ => ⟨S16384x8x256, .f32⟩
  | .hbm, ⟨21, _⟩ => ⟨S16384x8x16, .f32⟩
  | .hbm, ⟨22, _⟩ => ⟨S16384x8x16, .i32⟩
  | .hbm, ⟨23, _⟩ => ⟨S_, .i32⟩
  | .hbm, ⟨24, _⟩ => ⟨S16384x8x16, .i32⟩
  | .hbm, ⟨25, _⟩ => ⟨S16384x8x16, .i32⟩
  | .hbm, ⟨26, _⟩ => ⟨S16384x8x1, .f32⟩
  | .hbm, ⟨27, _⟩ => ⟨S16384x8x16, .f32⟩
  | .hbm, ⟨28, _⟩ => ⟨S16384x8x16, .f32⟩
  | .hbm, ⟨29, _⟩ => ⟨S16384x8x16, .f32⟩
  | .hbm, ⟨30, _⟩ => ⟨S_, .f32⟩
  | .hbm, ⟨31, _⟩ => ⟨S16384x8, .f32⟩
  | .hbm, ⟨32, _⟩ => ⟨S16384x8x1, .f32⟩
  | .hbm, ⟨33, _⟩ => ⟨S128, .i32⟩
  | .hbm, ⟨34, _⟩ => ⟨S16, .i32⟩
  | .hbm, ⟨35, _⟩ => ⟨S16384x8x16x1, .i32⟩
  | .hbm, ⟨36, _⟩ => ⟨S1x1x1x16, .i32⟩
  | .hbm, ⟨37, _⟩ => ⟨S16384x8x16x16, .i32⟩
  | .hbm, ⟨38, _⟩ => ⟨S16384x8x16x16, .i32⟩
  | .hbm, ⟨39, _⟩ => ⟨S16384x8x16x16, .i1⟩
  | .hbm, ⟨40, _⟩ => ⟨S16384x8x16x16, .f32⟩
  | .hbm, ⟨41, _⟩ => ⟨S_, .f32⟩
  | .hbm, ⟨42, _⟩ => ⟨S16384x8x16, .f32⟩
  | .hbm, ⟨43, _⟩ => ⟨S16384x8x1x16, .i32⟩
  | .hbm, ⟨44, _⟩ => ⟨S16384x8x16, .i32⟩
  | .hbm, ⟨45, _⟩ => ⟨S16384x8x16x1, .i32⟩
  | .hbm, ⟨46, _⟩ => ⟨S1x1x1x128, .i32⟩
  | .hbm, ⟨47, _⟩ => ⟨S16384x8x16x128, .i32⟩
  | .hbm, ⟨48, _⟩ => ⟨S16384x8x16x128, .i32⟩
  | .hbm, ⟨49, _⟩ => ⟨S16384x8x16x128, .i1⟩
  | .hbm, ⟨50, _⟩ => ⟨S16384x8x1x16, .i32⟩
  | .hbm, ⟨51, _⟩ => ⟨S16384x8x16, .i32⟩
  | .hbm, ⟨52, _⟩ => ⟨S16384x8x16x1, .i32⟩
  | .hbm, ⟨53, _⟩ => ⟨S1x1x1x128, .i32⟩
  | .hbm, ⟨54, _⟩ => ⟨S16384x8x16x128, .i32⟩
  | .hbm, ⟨55, _⟩ => ⟨S16384x8x16x128, .i32⟩
  | .hbm, ⟨56, _⟩ => ⟨S16384x8x16x128, .i1⟩
  | .hbm, ⟨57, _⟩ => ⟨S16384x8x16x1, .f32⟩
  | .hbm, ⟨58, _⟩ => ⟨S_, .f32⟩
  | .hbm, ⟨59, _⟩ => ⟨S_, .f32⟩
  | .hbm, ⟨60, _⟩ => ⟨S16384x8x16x128, .f32⟩
  | .hbm, ⟨61, _⟩ => ⟨S16384x8x16x128, .f32⟩
  | .hbm, ⟨62, _⟩ => ⟨S16384x8x16x128, .f32⟩
  | .hbm, ⟨63, _⟩ => ⟨S_, .f32⟩
  | .hbm, ⟨64, _⟩ => ⟨S16384x8x128, .f32⟩
  | .hbm, ⟨65, _⟩ => ⟨S16x1, .i32⟩
  | .hbm, ⟨66, _⟩ => ⟨S16x1, .f32⟩
  | .hbm, ⟨67, _⟩ => ⟨S_, .f32⟩
  | .hbm, ⟨68, _⟩ => ⟨S_, .f32⟩
  | .hbm, ⟨69, _⟩ => ⟨S16384x8x16x128, .f32⟩
  | .hbm, ⟨70, _⟩ => ⟨S16384x8x16x128, .f32⟩
  | .hbm, ⟨71, _⟩ => ⟨S16384x8x16x128, .f32⟩
  | .hbm, ⟨72, _⟩ => ⟨S_, .f32⟩
  | .hbm, ⟨73, _⟩ => ⟨S16384x8x128, .f32⟩
  | .hbm, ⟨74, _⟩ => ⟨S16384x8x1x128, .f32⟩
  | .hbm, ⟨75, _⟩ => ⟨S16384x8x128, .f32⟩
  | .hbm, ⟨76, _⟩ => ⟨S16384x8x1x1, .f32⟩
  | .hbm, ⟨77, _⟩ => ⟨S16384x8x1, .f32⟩
  | .hbm, ⟨78, _⟩ => ⟨S16384x8x128, .f32⟩
  | .hbm, ⟨79, _⟩ => ⟨S16384x8x128, .f32⟩
  | .hbm, ⟨80, _⟩ => ⟨S16384x8x128, .f32⟩
  | .hbm, ⟨81, _⟩ => ⟨S16384x8x128, .f32⟩
  | .hbm, ⟨82, _⟩ => ⟨S16384x8x128, .f32⟩
  | .hbm, ⟨83, _⟩ => ⟨S16384x8x1x128, .f32⟩
  | .hbm, ⟨84, _⟩ => ⟨S16384x8x128, .f32⟩
  | .hbm, ⟨85, _⟩ => ⟨S16384x8x1x1, .f32⟩
  | .hbm, ⟨86, _⟩ => ⟨S16384x8x1, .f32⟩
  | .hbm, ⟨87, _⟩ => ⟨S16384x8x128, .f32⟩
  | .hbm, ⟨88, _⟩ => ⟨S16384x8x128, .f32⟩
  | .hbm, ⟨89, _⟩ => ⟨S16384x8x128, .f32⟩
  | .hbm, ⟨90, _⟩ => ⟨S8x128x16384, .f32⟩
  | .hbm, ⟨91, _⟩ => ⟨S8x128x16384, .f32⟩
  | .hbm, ⟨92, _⟩ => ⟨S8x128x16384, .f32⟩
  | .hbm, ⟨93, _⟩ => ⟨S8x128x16384, .bf16⟩
  | .hbm, ⟨94, _⟩ => ⟨S8x128x16384, .f32⟩
  | .hbm, ⟨95, _⟩ => ⟨S8x128x16384, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_values : Ref sig .tc := ⟨.hbm, 9, rfl⟩
abbrev main_indices : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_values_0 : Ref sig .tc := ⟨.hbm, 21, rfl⟩
abbrev main_indices_1 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_3 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Kernel2.lean ====
abbrev S1024x16384 : Shape := ⟨2, ![1024, 16384]⟩
abbrev S1x16384x1024 : Shape := ⟨3, ![1, 16384, 1024]⟩
abbrev S8x128x16384 : Shape := ⟨3, ![8, 128, 16384]⟩
abbrev S16384x1024 : Shape := ⟨2, ![16384, 1024]⟩
abbrev S1024 : Shape := ⟨1, ![1024]⟩
abbrev S1x1024 : Shape := ⟨2, ![1, 1024]⟩
abbrev S1024x512 : Shape := ⟨2, ![1024, 512]⟩
abbrev S2048x1024 : Shape := ⟨2, ![2048, 1024]⟩
abbrev S1024x2048 : Shape := ⟨2, ![1024, 2048]⟩
abbrev S8x16x512 : Shape := ⟨3, ![8, 16, 512]⟩
abbrev S8x128x512 : Shape := ⟨3, ![8, 128, 512]⟩
abbrev S512x1024 : Shape := ⟨2, ![512, 1024]⟩
abbrev S2048x512 : Shape := ⟨2, ![2048, 512]⟩
abbrev S16x512 : Shape := ⟨2, ![16, 512]⟩
abbrev S1x1x512 : Shape := ⟨3, ![1, 1, 512]⟩
abbrev S1x512 : Shape := ⟨2, ![1, 512]⟩
abbrev S1x16x512 : Shape := ⟨3, ![1, 16, 512]⟩
abbrev S512 : Shape := ⟨1, ![512]⟩
abbrev S512x1 : Shape := ⟨2, ![512, 1]⟩

abbrev nBuf : Space → Nat
  | .hbm => 16
  | .vmem => 21
  | .smem => 0
  | _ => 0

abbrev bufTy : (tb : Table) → Fin (tcTables nBuf tb) → BufTy
  | .hbm, ⟨0, _⟩ => ⟨S1024x16384, .bf16⟩
  | .hbm, ⟨1, _⟩ => ⟨S1x16384x1024, .f32⟩
  | .hbm, ⟨2, _⟩ => ⟨S1x16384x1024, .f32⟩
  | .hbm, ⟨3, _⟩ => ⟨S8x128x16384, .f32⟩
  | .hbm, ⟨4, _⟩ => ⟨S8x128x16384, .f32⟩
  | .hbm, ⟨5, _⟩ => ⟨S8x128x16384, .bf16⟩
  | .hbm, ⟨6, _⟩ => ⟨S8x128x16384, .bf16⟩
  | .hbm, ⟨7, _⟩ => ⟨S16384x1024, .f32⟩
  | .hbm, ⟨8, _⟩ => ⟨S1024, .f32⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S1024x16384, .f32⟩
  | .hbm, ⟨13, _⟩ => ⟨S1024x16384, .bf16⟩
  | .hbm, ⟨14, _⟩ => ⟨S1x1024, .f32⟩
  | .hbm, ⟨15, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S8x16x512, .f32⟩
  | .local _ .vmem, ⟨7, _⟩ => ⟨S8x16x512, .f32⟩
  | .local _ .vmem, ⟨8, _⟩ => ⟨S8x16x512, .f32⟩
  | .local _ .vmem, ⟨9, _⟩ => ⟨S8x16x512, .f32⟩
  | .local _ .vmem, ⟨10, _⟩ => ⟨S8x128x512, .bf16⟩
  | .local _ .vmem, ⟨11, _⟩ => ⟨S8x128x512, .bf16⟩
  | .local _ .vmem, ⟨12, _⟩ => ⟨S8x128x512, .bf16⟩
  | .local _ .vmem, ⟨13, _⟩ => ⟨S8x128x512, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1024x512, .f32⟩
  | .local _ .vmem, ⟨20, _⟩ => ⟨S2048x512, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v10012 : BitVec 1 := Scalar.cmpi .eq arg1 c7_i32
  let v10013 : BitVec 32 := Scalar.extui v10012
  let c0_i32_7043 : BitVec 32 := 0#32
  let v10014 : BitVec 1 := Scalar.cmpi .ne v10013 c0_i32_7043
  v10014

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel2Ideal.lean ====
variable {F : FTy → Type} [FloatOps F] [Named F]
def κ : String → Option EReal := fun
  | "gelu_k0" => some ((((-2) * (6693141 / 8388608)) * (Real.log 2)⁻¹ : ℝ) : EReal)
  | "gelu_k1" => some (((((-2) * (6693141 / 8388608)) * (Real.log 2)⁻¹) * (12003091 / 268435456) : ℝ) : EReal)
  | _ => none
-- ==== Reference2Ideal.lean ====
abbrev S1024x16384 : Shape := ⟨2, ![1024, 16384]⟩
abbrev S1x16384x1024 : Shape := ⟨3, ![1, 16384, 1024]⟩
abbrev S8x128x16384 : Shape := ⟨3, ![8, 128, 16384]⟩
abbrev S16384x1024 : Shape := ⟨2, ![16384, 1024]⟩
abbrev S1024 : Shape := ⟨1, ![1024]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩
abbrev S16384 : Shape := ⟨1, ![16384]⟩
abbrev S16384x1 : Shape := ⟨2, ![16384, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S1x16384x1024, .f32⟩
  | .hbm, ⟨2, _⟩ => ⟨S1x16384x1024, .f32⟩
  | .hbm, ⟨3, _⟩ => ⟨S8x128x16384, .f32⟩
  | .hbm, ⟨4, _⟩ => ⟨S8x128x16384, .f32⟩
  | .hbm, ⟨5, _⟩ => ⟨S8x128x16384, .bf16⟩
  | .hbm, ⟨6, _⟩ => ⟨S8x128x16384, .bf16⟩
  | .hbm, ⟨7, _⟩ => ⟨S16384x1024, .f32⟩
  | .hbm, ⟨8, _⟩ => ⟨S1024, .f32⟩
  | .hbm, ⟨9, _⟩ => ⟨S8x128x16384, .f32⟩
  | .hbm, ⟨10, _⟩ => ⟨S8x1x128x16384, .f32⟩
  | .hbm, ⟨11, _⟩ => ⟨S8x128x1x16384, .f32⟩
  | .hbm, ⟨12, _⟩ => ⟨S8x128x128x16384, .f32⟩
  | .hbm, ⟨13, _⟩ => ⟨S8x128x128x16384, .f32⟩
  | .hbm, ⟨14, _⟩ => ⟨S8x128x128x16384, .i1⟩
  | .hbm, ⟨15, _⟩ => ⟨S8x128x1x16384, .f32⟩
  | .hbm, ⟨16, _⟩ => ⟨S8x128x16384, .f32⟩
  | .hbm, ⟨17, _⟩ => ⟨S8x1x128x16384, .f32⟩
  | .hbm, ⟨18, _⟩ => ⟨S8x128x128x16384, .f32⟩
  | .hbm, ⟨19, _⟩ => ⟨S8x128x128x16384, .f32⟩
  | .hbm, ⟨20, _⟩ => ⟨S8x128x128x16384, .f32⟩
  | .hbm, ⟨21, _⟩ => ⟨S_, .f32⟩
  | .hbm, ⟨22, _⟩ => ⟨S_, .f32⟩
  | .hbm, ⟨23, _⟩ => ⟨S8x128x128x16384, .f32⟩
  | .hbm, ⟨24, _⟩ => ⟨S8x128x128x16384, .f32⟩
  | .hbm, ⟨25, _⟩ => ⟨S_, .f32⟩
  | .hbm, ⟨26, _⟩ => ⟨S128x128x16384, .f32⟩
  | .hbm, ⟨27, _⟩ => ⟨S16384x16384, .f32⟩
  | .hbm, ⟨28, _⟩ => ⟨S16384x16384, .f32⟩
  | .hbm, ⟨29, _⟩ => ⟨S1024x16384, .f32⟩
  | .hbm, ⟨30, _⟩ => ⟨S16384x1024, .f32⟩
  | .hbm, ⟨31, _⟩ => ⟨S16384x16384, .f32⟩
  | .hbm, ⟨32, _⟩ => ⟨S16384x16384, .f32⟩
  | .hbm, ⟨33, _⟩ => ⟨S16384x16384, .f32⟩
  | .hbm, ⟨34, _⟩ => ⟨S_, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S_, .f32⟩
  | .hbm, ⟨39, _⟩ => ⟨S16384x16384, .f32⟩
  | .hbm, ⟨40, _⟩ => ⟨S16384x16384, .f32⟩
  | .hbm, ⟨41, _⟩ => ⟨S16384x16384, .f32⟩
  | .hbm, ⟨42, _⟩ => ⟨S_, .f32⟩
  | .hbm, ⟨43, _⟩ => ⟨S16384x16384, .f32⟩
  | .hbm, ⟨44, _⟩ => ⟨S16384x16384, .f32⟩
  | .hbm, ⟨45, _⟩ => ⟨S_, .f32⟩
  | .hbm, ⟨46, _⟩ => ⟨S16384x16384, .f32⟩
  | .hbm, ⟨47, _⟩ => ⟨S16384x16384, .f32⟩
  | .hbm, ⟨48, _⟩ => ⟨S16384x16384, .f32⟩
  | .hbm, ⟨49, _⟩ => ⟨S16384x16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x12288 : Shape := ⟨3, ![1, 1024, 12288]⟩
abbrev S16384x1024 : Shape := ⟨2, ![16384, 1024]⟩
abbrev S1024x12288 : Shape := ⟨2, ![1024, 12288]⟩
abbrev S16384x12288 : Shape := ⟨2, ![16384, 12288]⟩
abbrev S1024x1024 : Shape := ⟨2, ![1024, 1024]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x12288, .f32⟩
  | .hbm, ⟨3, _⟩ => ⟨S16384x1024, .f32⟩
  | .hbm, ⟨4, _⟩ => ⟨S1024x12288, .f32⟩
  | .hbm, ⟨5, _⟩ => ⟨S1024x12288, .bf16⟩
  | .hbm, ⟨6, _⟩ => ⟨S16384x12288, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x8192x1024 : Shape := ⟨3, ![2, 8192, 1024]⟩
abbrev S1x1024 : Shape := ⟨2, ![1, 1024]⟩
abbrev S1x1024x12288 : Shape := ⟨3, ![1, 1024, 12288]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x12288 : Shape := ⟨2, ![1024, 12288]⟩
abbrev S2x8192x12288 : Shape := ⟨3, ![2, 8192, 12288]⟩
abbrev S16384x12288 : Shape := ⟨2, ![16384, 12288]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x12288, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x12288, .f32⟩
  | .hbm, ⟨21, _⟩ => ⟨S2x8192x12288, .f32⟩
  | .hbm, ⟨22, _⟩ => ⟨S16384x12288, .f32⟩
  | .hbm, ⟨23, _⟩ => ⟨S16384x12288, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S16384x1024 : Shape := ⟨2, ![16384, 1024]⟩
abbrev S16384x2048 : Shape := ⟨2, ![16384, 2048]⟩
abbrev S16384x12288 : Shape := ⟨2, ![16384, 12288]⟩
abbrev S2x8192x1024 : Shape := ⟨3, ![2, 8192, 1024]⟩
abbrev S1x1024x1024 : Shape := ⟨3, ![1, 1024, 1024]⟩
abbrev S1x2048x1024 : Shape := ⟨3, ![1, 2048, 1024]⟩
abbrev S1x1024 : Shape := ⟨2, ![1, 1024]⟩
abbrev S1x1024x2048 : Shape := ⟨3, ![1, 1024, 2048]⟩
abbrev S1024x1024 : Shape := ⟨2, ![1024, 1024]⟩
abbrev S2048x1024 : Shape := ⟨2, ![2048, 1024]⟩
abbrev S1024x2048 : Shape := ⟨2, ![1024, 2048]⟩
abbrev S1024x16384 : Shape := ⟨2, ![1024, 16384]⟩
abbrev S512x1024 : Shape := ⟨2, ![512, 1024]⟩
abbrev S512x2048 : Shape := ⟨2, ![512, 2048]⟩
abbrev S1024x512 : Shape := ⟨2, ![1024, 512]⟩
abbrev S512 : Shape := ⟨1, ![512]⟩
abbrev S512x1 : Shape := ⟨2, ![512, 1]⟩

abbrev nBuf : Space → Nat
  | .hbm => 21
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x12288, .bf16⟩
  | .hbm, ⟨3, _⟩ => ⟨S2x8192x1024, .f32⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S16384x1024, .f32⟩
  | .hbm, ⟨10, _⟩ => ⟨S1024x1024, .f32⟩
  | .hbm, ⟨11, _⟩ => ⟨S1024x1024, .bf16⟩
  | .hbm, ⟨12, _⟩ => ⟨S2048x1024, .f32⟩
  | .hbm, ⟨13, _⟩ => ⟨S2048x1024, .bf16⟩
  | .hbm, ⟨14, _⟩ => ⟨S1024x1024, .f32⟩
  | .hbm, ⟨15, _⟩ => ⟨S1024x1024, .bf16⟩
  | .hbm, ⟨16, _⟩ => ⟨S1024x2048, .f32⟩
  | .hbm, ⟨17, _⟩ => ⟨S1024x2048, .bf16⟩
  | .hbm, ⟨18, _⟩ => ⟨S16384x1024, .f32⟩
  | .hbm, ⟨19, _⟩ => ⟨S1024x16384, .bf16⟩
  | .hbm, ⟨20, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | .local _ .vmem, ⟨17, _⟩ => ⟨S1024x512, .bf16⟩
  | .local _ .vmem, ⟨18, _⟩ => ⟨S1024x512, .bf16⟩
  | .local _ .vmem, ⟨19, _⟩ => ⟨S512x2048, .bf16⟩
  | .local _ .vmem, ⟨20, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S16384x2048 : Shape := ⟨2, ![16384, 2048]⟩
abbrev S16384x12288 : Shape := ⟨2, ![16384, 12288]⟩
abbrev S2x8192x1024 : Shape := ⟨3, ![2, 8192, 1024]⟩
abbrev S1x1024x1024 : Shape := ⟨3, ![1, 1024, 1024]⟩
abbrev S1x2048x1024 : Shape := ⟨3, ![1, 2048, 1024]⟩
abbrev S1x1024 : Shape := ⟨2, ![1, 1024]⟩
abbrev S1x1024x2048 : Shape := ⟨3, ![1, 1024, 2048]⟩
abbrev S1024x1024 : Shape := ⟨2, ![1024, 1024]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x16384 : Shape := ⟨2, ![1024, 16384]⟩
abbrev S1024x2048 : Shape := ⟨2, ![1024, 2048]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x12288, .bf16⟩
  | .hbm, ⟨3, _⟩ => ⟨S2x8192x1024, .f32⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S16384x1024, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S16384x2048, .f32⟩
  | .hbm, ⟨17, _⟩ => ⟨S2048x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S1024x16384, .f32⟩
  | .hbm, ⟨60, _⟩ => ⟨S1024x16384, .bf16⟩
  | .hbm, ⟨61, _⟩ => ⟨S1024x2048, .f32⟩
  | .hbm, ⟨62, _⟩ => ⟨S16384x2048, .f32⟩
  | .hbm, ⟨63, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proof.Run.lean ====
/-
  One trip of each of the retrieval call's two loops at symbolic memrefs, over any float algebra.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)

/-- One trip of loop 1, what it leaves kept only as existing. -/
theorem trip1_frame (k : Fin k0_t1_loop.trips) (acc : FVec F S1x128 .f32) (v23 : IVec S8x128 32)
    (f4 : Bf (F := F) c arg4) (f5 : Bf (F := F) c arg5) (f6 : Bf (F := F) c arg6) (f7 : Bf (F := F) c arg7)
    (f8 : Bf (F := F) c arg8) (f9 : Bf (F := F) c arg9) (f10 : Bf (F := F) c arg10) (Q : FVec F S1x128 .f32 → sProp 𝕄) :
    iprop(pt c arg4 f4 ∗ pt c arg5 f5 ∗ pt c arg6 f6 ∗ pt c arg7 f7 ∗ pt c arg8 f8 ∗ pt c arg9 f9 ∗ pt c arg10 f10
      ∗ (∀ r, iprop((∃ f, pt c arg4 f) ∗ (∃ f, pt c arg5 f) ∗ (∃ f, pt c arg6 f) ∗ (∃ f, pt c arg7 f) ∗ pt c arg8 f8
            ∗ (∃ f, pt c arg9 f) ∗ (∃ f, pt c arg10 f)) -∗ Q r))
    ⊢ wp frame (wpE (defs₀ (F := F)) Variants.none c none) Set.univ
        (k0_t1_body (F := F) i arg2 harg2 arg3 harg3 arg4 harg4 arg5 harg5 arg6 harg6 arg7 harg7 arg8 harg8 arg9 harg9 arg10 harg10 v23 k acc) Q := by
  unfold k0_t1_body
  iintro ⟨H4, H5, H6, H7, H8, H9, H10, Hk⟩
  sl_exec_parts
  sl_step
  iapply Hk
  isplitl [H4]; · iexists _; iexact H4
  isplitl [H5]; · iexists _; iexact H5
  isplitl [H6]; · iexists _; iexact H6
  isplitl [H7]; · iexists _; iexact H7
  isplitl [H8]; · iexact H8
  isplitl [H9]; · iexists _; iexact H9
  iexists _; iexact H10

/-- One trip of loop 2, what it leaves kept only as existing. -/
theorem trip2_frame (k : Fin k0_t2_loop.trips) (acc : PUnit) (v23 : IVec S8x128 32)
    (f4 : Bf (F := F) c arg4) (f5 : Bf (F := F) c arg5) (f6 : Bf (F := F) c arg6) (f7 : Bf (F := F) c arg7)
    (f8 : Bf (F := F) c arg8) (f9 : Bf (F := F) c arg9) (f10 : Bf (F := F) c arg10) (Q : PUnit → sProp 𝕄) :
    iprop(pt c arg4 f4 ∗ pt c arg5 f5 ∗ pt c arg6 f6 ∗ pt c arg7 f7 ∗ pt c arg8 f8 ∗ pt c arg9 f9 ∗ pt c arg10 f10
      ∗ (∀ r, iprop((∃ f, pt c arg4 f) ∗ (∃ f, pt c arg5 f) ∗ (∃ f, pt c arg6 f) ∗ (∃ f, pt c arg7 f) ∗ pt c arg8 f8
            ∗ (∃ f, pt c arg9 f) ∗ (∃ f, pt c arg10 f)) -∗ Q r))
    ⊢ wp frame (wpE (defs₀ (F := F)) Variants.none c none) Set.univ
        (k0_t2_body (F := F) i arg2 harg2 arg3 harg3 arg4 harg4 arg5 harg5 arg6 harg6 arg7 harg7 arg8 harg8 arg9 harg9 arg10 harg10 v23 k acc) Q := by
  unfold k0_t2_body
  iintro ⟨H4, H5, H6, H7, H8, H9, H10, Hk⟩
  sl_exec_parts
  sl_step
  iapply Hk
  isplitl [H4]; · iexists _; iexact H4
  isplitl [H5]; · iexists _; iexact H5
  isplitl [H6]; · iexists _; iexact H6
  isplitl [H7]; · iexists _; iexact H7
  isplitl [H8]; · iexact H8
  isplitl [H9]; · iexists _; iexact H9
  iexists _; iexact H10

abbrev scM0_0 : Memref sig .tc .vmem S2x128x1024 .f32 := Memref.whole cc0_scratch0
abbrev scM0_1 : Memref sig .tc .vmem S2x2x128x128 .f32 := Memref.whole cc0_scratch1
abbrev scM0_2 : Memref sig .tc .vmem S2x2x16x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

theorem defs₀_row (t : Fin cfg0.N) :
    defs₀ (F := F) .tc cfg0.body (cfg0.bodyArgs t (cfg0.slots t)) = bodyAt0 t := by
  unfold defs₀; rw [Defs.onTc_tc]
end Cert.Proof.Topk

end

end
-- ==== Proof.Frames.lean ====
/-
  The frame of the retrieval call, over any float algebra: the loops by existential invariants, the body,
  the launch with its outputs forgotten.
-/
module

public import proofs.«01_k».proof.Proof.Run

@[expose] public section

set_option maxRecDepth 16384

noncomputable section

namespace Cert.Proof.TopkF

open Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)

/-- The pipelined loop's invariant. -/
@[sl_loop, instance_reducible] def inv1 (v23 : IVec S8x128 32) (init : FVec F S1x128 .f32) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 v23 init where
  inv := fun _ _ => iprop((∃ f, pt c arg4 f) ∗ (∃ f, pt c arg5 f) ∗ (∃ f, pt c arg6 f) ∗ (∃ f, pt c arg7 f) ∗ (∃ f, pt c arg8 f) ∗ (∃ f, pt c arg9 f) ∗ (∃ f, pt c arg10 f))
  step := fun k acc => by
    iintro ⟨⟨%f4, H4⟩, ⟨%f5, H5⟩, ⟨%f6, H6⟩, ⟨%f7, H7⟩, ⟨%f8, H8⟩, ⟨%f9, H9⟩, ⟨%f10, H10⟩⟩
    iapply (trip1_frame c i arg2 harg2 arg3 harg3 arg4 harg4 arg5 harg5 arg6 harg6 arg7 harg7 arg8 harg8 arg9 harg9 arg10 harg10 k acc v23 f4 f5 f6 f7 f8 f9 f10 _)
    iframe
    iintro %r ⟨G4, G5, G6, G7, G8, G9, G10⟩
    iframe
    iexists _; iexact G8

/-- The exact loop's invariant. -/
@[sl_loop, instance_reducible] def inv2 (v23 : IVec S8x128 32) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 v23 where
  inv := fun _ _ => iprop((∃ f, pt c arg4 f) ∗ (∃ f, pt c arg5 f) ∗ (∃ f, pt c arg6 f) ∗ (∃ f, pt c arg7 f) ∗ (∃ f, pt c arg8 f) ∗ (∃ f, pt c arg9 f) ∗ (∃ f, pt c arg10 f))
  step := fun k acc => by
    iintro ⟨⟨%f4, H4⟩, ⟨%f5, H5⟩, ⟨%f6, H6⟩, ⟨%f7, H7⟩, ⟨%f8, H8⟩, ⟨%f9, H9⟩, ⟨%f10, H10⟩⟩
    iapply (trip2_frame c i arg2 harg2 arg3 harg3 arg4 harg4 arg5 harg5 arg6 harg6 arg7 harg7 arg8 harg8 arg9 harg9 arg10 harg10 k acc v23 f4 f5 f6 f7 f8 f9 f10 _)
    iframe
    iintro %r ⟨G4, G5, G6, G7, G8, G9, G10⟩
    iframe
    iexists _; iexact G8

theorem body_frame (f2 : Bf (F := F) c arg2) (f3 : Bf (F := F) c arg3)
    (f4 : Bf (F := F) c arg4) (f5 : Bf (F := F) c arg5) (f6 : Bf (F := F) c arg6) (f7 : Bf (F := F) c arg7)
    (f8 : Bf (F := F) c arg8) (f9 : Bf (F := F) c arg9) (f10 : Bf (F := F) c arg10) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
      ∗ (iprop(pt c arg2 f2 ∗ pt c arg3 f3 ∗ (∃ f, pt c arg4 f) ∗ (∃ f, pt c arg5 f) ∗ (∃ f, pt c arg6 f) ∗ (∃ f, pt c arg7 f) ∗ (∃ f, pt c arg8 f)
            ∗ (∃ f, pt c arg9 f) ∗ (∃ f, pt c arg10 f)) -∗ Q ⟨⟩))
    ⊢ wp frame (wpE (defs₀ (F := F)) Variants.none c none) Set.univ
        (cc0_peer_topk (F := F) i arg2 harg2 arg3 harg3 arg4 harg4 arg5 harg5 arg6 harg6 arg7 harg7 arg8 harg8 arg9 harg9 arg10 harg10) Q := by
  rw [cc0_peer_topk_eq_skeleton]
  unfold cc0_peer_topk_skel
  iintro ⟨H2, H3, H4, H5, H6, H7, H8, H9, H10, Hk⟩
  sl_exec_parts
  split
  · sl_exec_parts
    sl_step
    iapply Hk
    iframe
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10
  · sl_exec_parts
    sl_step
    iapply Hk
    iframe
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10

open Idealize.ShloMosaic.Pipeline (Dat BodyObligationLoose)

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => (Scalar.ofBits .f32 0#32 : F .f32)
    | ⟨3, _⟩ => fun _ => (Scalar.ofBits .f32 0#32 : F .f32)
    | ⟨4, _⟩ => fun _ => (Scalar.ofBits .bf16 0#16 : F .bf16)
    | ⟨5, _⟩ => fun _ => (Scalar.ofBits .bf16 0#16 : F .bf16)
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

abbrev fgt : Fin cfg0.W → Bool := fun w => 2 ≤ w.val

theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d))
    ⊢ wp frame (wpE (defs₀ (F := F)) Variants.none c none) Set.univ (bodyAt0 t) (fun _ =>
     iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d))) := by
  unfold bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  unfold owns
  iintro ⟨⟨⟨⟨%d8, %f8, %e8, HS0⟩, ⟨%d9, %f9, %e9, HS1⟩, ⟨%d10, %f10, %e10, HS2⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  iapply (body_frame c (grid0.coords t) _ _ _ _ _ _ _ _ _ _ _ _ _ _ _ _ _ _ f0 f1 f2 f3 f4 f5 f8 f9 f10 _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨G0, G1, ⟨%g2, G2⟩, ⟨%g3, G3⟩, ⟨%g4, G4⟩, ⟨%g5, G5⟩, ⟨%g8, S0⟩, ⟨%g9, S1⟩, ⟨%g10, S2⟩⟩
  isplitl [S0 S1 S2 Hg]
  · isplitl [S0 S1 S2]
    · isplitl [S0]
      · iexists _, _; isplitr; swap; · iexact S0
        ipureintro; rfl
      isplitl [S1]
      · iexists _, _; isplitr; swap; · iexact S1
        ipureintro; rfl
      iexists _, _; isplitr; swap; · iexact S2
      ipureintro; rfl
    iexact Hg
  isplitl [Ho]; · iexact Ho
  isplitl [G0]
  · iexists _; isplitr; swap; · iexact G0
    ipureintro; exact e0
  isplitl [G1]
  · iexists _; isplitr; swap; · iexact G1
    ipureintro; exact e1
  isplitl [G2]
  · iexists _, _; isplitr; swap; · iexact G2
    ipureintro; rfl
  isplitl [G3]
  · iexists _, _; isplitr; swap; · iexact G3
    ipureintro; rfl
  isplitl [G4]
  · iexists _, _; isplitr; swap; · iexact G4
    ipureintro; rfl
  iexists _, _; isplitr; swap; · iexact G5
  ipureintro; rfl

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c)) (hshare := fun c => (dats m 0 c).share_full fun _ => rfl)
    (howed := fun _ _ => rfl) (V := V m) (hmain := hmain m Variants.none) (hA := A_eq m) (hΦ := fun _ _ => rfl)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => by
    obtain ⟨ha, hb⟩ := h.1 c
    refine ⟨?_, (hb main_arg1 (Pipeline.mem_restRefs_of main_arg1 (by decide) (by decide))).trans (V_main_arg1 m c)⟩
    have h0 := ha 0
    rw [Pipeline.RDat.ArrAt_in _ 0 rfl] at h0
    exact h0.trans (V_main_arg0 m c), h.2⟩) (run_main_quiescent m ρ)

end Cert.Proof.TopkF

end

end
-- ==== Proof.Rank.lean ====
/-
  Ranking a column of values: what repeated removal of the largest element does to it, exactly (the first largest
  element at a time) and fast (every largest element at a time), and when the two agree.
-/
module

public import Idealize.ShloMosaic.Lib.Pointwise

@[expose] public section

noncomputable section

namespace Cert.Proof.Rank

variable {n : ℕ}

/-- `a` is before `b`: larger, or equal and at an earlier place. -/
def Bef (f : Fin n → EReal) (a b : Fin n) : Prop := f b < f a ∨ (f a = f b ∧ a < b)
theorem bef_irrefl (f : Fin n → EReal) (a : Fin n) : ¬ Bef f a a := fun h => h.elim (lt_irrefl _) (fun h => lt_irrefl _ h.2)
theorem bef_trans (f : Fin n → EReal) {a b c : Fin n} (h1 : Bef f a b) (h2 : Bef f b c) : Bef f a c := by
  rcases h1 with h1 | ⟨h1, h1'⟩ <;> rcases h2 with h2 | ⟨h2, h2'⟩
  · exact Or.inl (h2.trans h1)
  · exact Or.inl (h2 ▸ h1)
  · exact Or.inl (h1.symm ▸ h2)
  · exact Or.inr ⟨h1.trans h2, h1'.trans h2'⟩
theorem bef_total (f : Fin n → EReal) {a b : Fin n} (h : a ≠ b) : Bef f a b ∨ Bef f b a := by
  rcases lt_trichotomy (f a) (f b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

open Classical in
/-- How many are before `j`. -/
def rk (f : Fin n → EReal) (j : Fin n) : ℕ := (Finset.univ.filter fun a => Bef f a j).card

theorem rk_lt_of_bef (f : Fin n → EReal) {a b : Fin n} (h : Bef f a b) : rk f a < rk f b := by
  classical
  apply Finset.card_lt_card
  refine ⟨fun c hc => ?_, fun hs => ?_⟩
  · simp only [Finset.mem_filter, Finset.mem_univ, true_and] at hc ⊢
    exact bef_trans f hc h
  · have := hs (Finset.mem_filter.2 ⟨Finset.mem_univ a, h⟩)
    simp only [Finset.mem_filter, Finset.mem_univ, true_and] at this
    exact bef_irrefl f a this
theorem bef_iff_rk (f : Fin n → EReal) (a b : Fin n) : Bef f a b ↔ rk f a < rk f b := by
  refine ⟨rk_lt_of_bef f, fun h => ?_⟩
  by_cases hab : a = b
  · subst hab; exact absurd h (lt_irrefl _)
  · rcases bef_total f hab with h1 | h1
    · exact h1
    · exact absurd (rk_lt_of_bef f h1) (not_lt.2 h.le)
theorem rk_inj (f : Fin n → EReal) : Function.Injective (rk f) := by
  intro a b h
  by_contra hab
  rcases bef_total f hab with h1 | h1
  · exact absurd (rk_lt_of_bef f h1) (by omega)
  · exact absurd (rk_lt_of_bef f h1) (by omega)
theorem rk_lt (f : Fin n → EReal) (j : Fin n) : rk f j < n := by
  classical
  have : (Finset.univ.filter fun a => Bef f a j) ⊂ (Finset.univ : Finset (Fin n)) :=
    ⟨Finset.subset_univ _, fun hs => bef_irrefl f j (by simpa using hs (Finset.mem_univ j))⟩
  have h := Finset.card_lt_card this
  rw [Finset.card_univ, Fintype.card_fin] at h
  exact h
theorem rk_surj (f : Fin n → EReal) (r : ℕ) (h : r < n) : ∃ j, rk f j = r := by
  have hi : Function.Injective (fun j => (⟨rk f j, rk_lt f j⟩ : Fin n)) := fun a b hab => rk_inj f (congrArg Fin.val hab)
  obtain ⟨j, hj⟩ := (Finite.injective_iff_surjective.1 hi) ⟨r, h⟩
  exact ⟨j, congrArg Fin.val hj⟩

/-- The largest value. -/
def mxc (g : Fin n → EReal) : EReal := Finset.univ.fold max ⊥ g
theorem le_mxc (g : Fin n → EReal) (j : Fin n) : g j ≤ mxc g := (Finset.le_fold_max _).2 (Or.inr ⟨j, Finset.mem_univ _, le_rfl⟩)
theorem mxc_le (g : Fin n → EReal) (u : EReal) (h : ∀ j, g j ≤ u) : mxc g ≤ u := (Finset.fold_max_le _).2 ⟨bot_le, fun j _ => h j⟩
theorem mxc_eq (g : Fin n → EReal) (j : Fin n) (h : ∀ a, g a ≤ g j) : mxc g = g j := le_antisymm (mxc_le g _ h) (le_mxc g j)
theorem mxc_att (g : Fin n → EReal) (h : 0 < n) : ∃ j, g j = mxc g := by
  haveI : Nonempty (Fin n) := ⟨⟨0, h⟩⟩
  obtain ⟨j, hj⟩ := Finite.exists_max g
  exact ⟨j, (mxc_eq g j hj).symm⟩

/-- What a round takes: in the fast mode every largest element, in the exact mode the first. -/
def pk (x : Bool) (g : Fin n → EReal) (j : Fin n) : Prop := match x with
  | false => g j = mxc g
  | true => g j = mxc g ∧ ∀ a, g a = mxc g → j ≤ a
open Classical in
/-- The column after `r` rounds. -/
def cit (x : Bool) (f : Fin n → EReal) : ℕ → Fin n → EReal
  | 0 => f
  | r + 1 => fun j => if pk x (cit x f r) j then ⊥ else cit x f r j

open Classical in
/-- How many elements are numbers or above. -/
def vld (f : Fin n → EReal) : ℕ := (Finset.univ.filter fun a => f a ≠ ⊥).card
theorem ne_bot_of_rk (f : Fin n → EReal) (j : Fin n) (h : rk f j < vld f) : f j ≠ ⊥ := by
  classical
  intro hb
  refine absurd h (not_lt.2 (Finset.card_le_card fun a ha => ?_))
  simp only [Finset.mem_filter, Finset.mem_univ, true_and] at ha ⊢
  exact Or.inl (by rw [hb]; exact bot_lt_iff_ne_bot.2 ha)

open Classical in
theorem exact_round (f : Fin n → EReal) (r : ℕ) (hr : r < vld f) (g : Fin n → EReal) (hg : ∀ j, g j = if rk f j < r then ⊥ else f j) (j : Fin n) (hj : rk f j = r) :
    mxc g = f j ∧ ∀ a, pk true g a ↔ a = j := by
  have hgj : g j = f j := by rw [hg, if_neg (by omega)]
  have hb : f j ≠ ⊥ := ne_bot_of_rk f j (hj ▸ hr)
  have hle : ∀ a, ¬ rk f a < r → f a ≤ f j ∧ (f a = f j → j ≤ a) := fun a ha => by
    by_cases haj : a = j
    · subst haj; exact ⟨le_rfl, fun _ => le_rfl⟩
    · have hlt : rk f j < rk f a := by
        have : rk f a ≠ rk f j := fun h => haj (rk_inj f h)
        omega
      rcases (bef_iff_rk f j a).2 hlt with h1 | ⟨h1, h2⟩
      · exact ⟨h1.le, fun h => absurd h1 (by rw [h]; exact lt_irrefl _)⟩
      · exact ⟨h1.symm.le, fun _ => h2.le⟩
  have hm : mxc g = f j := by
    rw [← hgj]
    refine mxc_eq g j fun a => ?_
    rw [hgj, hg]
    split
    · exact bot_le
    · rename_i h; exact (hle a h).1
  refine ⟨hm, fun a => ⟨fun h => ?_, fun h => ?_⟩⟩
  · obtain ⟨h1, h2⟩ := h
    have h3 : a ≤ j := h2 j (hgj.trans hm.symm)
    rw [hm, hg] at h1
    split at h1
    · exact absurd h1.symm hb
    · rename_i h; exact le_antisymm h3 ((hle a h).2 h1)
  · subst h
    refine ⟨hgj.trans hm.symm, fun a ha => ?_⟩
    rw [hm, hg] at ha
    split at ha
    · exact absurd ha.symm hb
    · rename_i h; exact (hle a h).2 ha

open Classical in
/-- The exact rounds remove the elements in the order of their ranks. -/
theorem cit_exact (f : Fin n → EReal) : ∀ r, r ≤ vld f → ∀ j, cit true f r j = if rk f j < r then ⊥ else f j
  | 0, _, j => by rw [if_neg (Nat.not_lt_zero _)]; rfl
  | r + 1, h, j => by
    have ih := cit_exact f r (by omega)
    have hn : vld f ≤ n := by
      have := Finset.card_le_univ (Finset.univ.filter fun a => f a ≠ ⊥)
      simpa [vld] using this
    obtain ⟨j0, hj0⟩ := rk_surj f r (by omega)
    have hp := (exact_round f r (by omega) (cit true f r) ih j0 hj0).2
    show (if pk true (cit true f r) j then ⊥ else cit true f r j) = _
    rw [ih j]
    by_cases hj : j = j0
    · subst hj; rw [if_pos ((hp j).2 rfl), if_pos (by omega)]
    · rw [if_neg (fun h => hj ((hp j).1 h))]
      have : rk f j ≠ r := fun h => hj (rk_inj f (h.trans hj0.symm))
      by_cases hlt : rk f j < r
      · rw [if_pos hlt, if_pos (by omega)]
      · rw [if_neg hlt, if_neg (by omega)]
theorem mx_exact (f : Fin n → EReal) (r : ℕ) (h : r < vld f) (j : Fin n) (hj : rk f j = r) : mxc (cit true f r) = f j :=
  (exact_round f r h _ (cit_exact f r h.le) j hj).1
theorem pk_exact (f : Fin n → EReal) (r : ℕ) (h : r < vld f) (a : Fin n) : pk true (cit true f r) a ↔ rk f a = r := by
  classical
  have hn : vld f ≤ n := by
    have := Finset.card_le_univ (Finset.univ.filter fun a => f a ≠ ⊥)
    simpa [vld] using this
  obtain ⟨j0, hj0⟩ := rk_surj f r (by omega)
  rw [(exact_round f r h _ (cit_exact f r h.le) j0 hj0).2 a]
  exact ⟨fun h => h ▸ hj0, fun h => rk_inj f (h.trans hj0.symm)⟩

open Classical in
/-- How many elements the fast rounds have taken. -/
def tk (f : Fin n → EReal) (r : ℕ) : ℕ := (Finset.univ.filter fun a => f a ≠ ⊥ ∧ cit false f r a = ⊥).card
open Classical in
theorem cit_bot (x : Bool) (f : Fin n → EReal) (r : ℕ) (a : Fin n) : cit x f r a = ⊥ ∨ cit x f r a = f a := by
  induction r with
  | zero => exact Or.inr rfl
  | succ r ih =>
    show (if pk x (cit x f r) a then (⊥ : EReal) else cit x f r a) = ⊥ ∨ (if pk x (cit x f r) a then (⊥ : EReal) else cit x f r a) = f a
    split
    · exact Or.inl rfl
    · exact ih
open Classical in
theorem tk_succ (f : Fin n → EReal) (r : ℕ) : tk f (r + 1) = tk f r + (Finset.univ.filter fun a => cit false f r a ≠ ⊥ ∧ pk false (cit false f r) a).card := by
  unfold tk
  rw [← Finset.card_union_of_disjoint]
  · congr 1
    ext a
    simp only [Finset.mem_filter, Finset.mem_univ, true_and, Finset.mem_union]
    show (f a ≠ ⊥ ∧ (if pk false (cit false f r) a then ⊥ else cit false f r a) = ⊥) ↔ _
    rcases cit_bot false f r a with h | h
    · by_cases hp : pk false (cit false f r) a <;> simp [h, hp]
    · by_cases hp : pk false (cit false f r) a <;> simp [h, hp]
  · rw [Finset.disjoint_filter]
    intro a _ h1 h2
    exact h2.1 h1.2
theorem tk_le_vld (f : Fin n → EReal) (r : ℕ) : tk f r ≤ vld f :=
  Finset.card_le_card fun a ha => by
    simp only [Finset.mem_filter, Finset.mem_univ, true_and] at ha ⊢
    exact ha.1
open Classical in
theorem rem_of_tk (f : Fin n → EReal) (r : ℕ) (h : tk f r < vld f) : ∃ a, cit false f r a ≠ ⊥ ∧ pk false (cit false f r) a := by
  have : ∃ a, f a ≠ ⊥ ∧ cit false f r a ≠ ⊥ := by
    by_contra hc
    push Not at hc
    refine absurd h (not_lt.2 (Finset.card_le_card fun a ha => ?_))
    simp only [Finset.mem_filter, Finset.mem_univ, true_and] at ha ⊢
    exact ⟨ha, hc a ha⟩
  obtain ⟨a, _, ha⟩ := this
  obtain ⟨j, hj⟩ := mxc_att (cit false f r) a.pos
  refine ⟨j, ?_, hj⟩
  intro hb
  have := le_mxc (cit false f r) a
  rw [← hj, hb] at this
  exact ha (le_bot_iff.1 this)
theorem tk_step (f : Fin n → EReal) (r : ℕ) (h : tk f r < vld f) : tk f r + 1 ≤ tk f (r + 1) := by
  classical
  rw [tk_succ]
  obtain ⟨a, ha⟩ := rem_of_tk f r h
  have : 0 < (Finset.univ.filter fun a => cit false f r a ≠ ⊥ ∧ pk false (cit false f r) a).card :=
    Finset.card_pos.2 ⟨a, Finset.mem_filter.2 ⟨Finset.mem_univ _, ha⟩⟩
  omega
theorem tk_mono (f : Fin n → EReal) (r m : ℕ) (h : tk f (r + m) < vld f) : tk f r + m ≤ tk f (r + m) := by
  induction m with
  | zero => exact le_rfl
  | succ m ih =>
    have h0 : tk f (r + m) ≤ tk f (r + m + 1) := by rw [tk_succ]; omega
    have h1 : tk f (r + m) < vld f := lt_of_le_of_lt h0 h
    have := tk_step f (r + m) h1
    have := ih h1
    show tk f r + (m + 1) ≤ tk f (r + m + 1)
    omega

/-- The fast rounds are the exact ones when as many elements are gone as there were rounds, and one is left. -/
theorem fast_exact (f : Fin n → EReal) (N : ℕ) (hv : N < vld f) (hD : tk f N ≤ N) :
    ∀ r, r ≤ N → cit false f r = cit true f r ∧ (r < N → ∀ a, pk false (cit false f r) a ↔ pk true (cit true f r) a) := by
  classical
  have key : ∀ r, r < N → cit false f r = cit true f r → ∀ a, pk false (cit false f r) a ↔ pk true (cit true f r) a := by
    intro r hr he a
    have h1 : r ≤ tk f r := by
      have := tk_mono f 0 r (by
        have := tk_mono f r (N - r) (by rw [Nat.add_sub_cancel' hr.le]; omega)
        rw [Nat.add_sub_cancel' hr.le] at this
        rw [Nat.zero_add]; omega)
      rw [Nat.zero_add] at this; omega
    have h2 : tk f (r + 1) ≤ r + 1 := by
      have := tk_mono f (r + 1) (N - (r + 1)) (by rw [Nat.add_sub_cancel' hr]; omega)
      rw [Nat.add_sub_cancel' hr] at this
      omega
    have h3 : tk f r < vld f := by rw [tk_succ] at h2; omega
    rw [tk_succ] at h2
    have h4 : (Finset.univ.filter fun a => cit false f r a ≠ ⊥ ∧ pk false (cit false f r) a).card ≤ 1 := by omega
    obtain ⟨b, hb1, hb2⟩ := rem_of_tk f r h3
    have huniq : ∀ c, pk false (cit false f r) c → c = b := fun c hc => by
      have hc' : cit false f r c = mxc (cit false f r) := hc
      have hb' : cit false f r b = mxc (cit false f r) := hb2
      exact (Finset.card_le_one.1 h4) c (Finset.mem_filter.2 ⟨Finset.mem_univ _, by rw [hc', ← hb']; exact hb1, hc⟩) b (Finset.mem_filter.2 ⟨Finset.mem_univ _, hb1, hb2⟩)
    rw [← he]
    constructor
    · intro h
      exact ⟨h, fun c hc => by rw [huniq c hc, huniq a h]⟩
    · intro h; exact h.1
  have hc : ∀ r, r ≤ N → cit false f r = cit true f r := by
    intro r
    induction r with
    | zero => intro _; rfl
    | succ r ih =>
      intro hr
      have he := ih (by omega)
      funext j
      show (if pk false (cit false f r) j then ⊥ else cit false f r j) = (if pk true (cit true f r) j then ⊥ else cit true f r j)
      have hk := key r (by omega) he j
      by_cases hp : pk false (cit false f r) j
      · rw [if_pos hp, if_pos (hk.1 hp)]
      · rw [if_neg hp, if_neg (fun h => hp (hk.2 h)), he]
  exact fun r hr => ⟨hc r hr, fun h => key r h (hc r hr)⟩

end Cert.Proof.Rank

end

end
-- ==== Proof.Pairs.lean ====
/-
  The pair sums of two sorted lists of sixteen: the sixteen largest of the 256 are among the fifty pairs whose places,
  counted from one, have a product of at most sixteen, in the same order.
-/
module

public import proofs.«01_k».proof.Proof.Rank

@[expose] public section

noncomputable section

namespace Cert.Proof.Rank

open Classical in
/-- The value of rank `k`. -/
def srt {n : ℕ} (f : Fin n → EReal) (k : ℕ) : EReal := if h : ∃ j, rk f j = k then f h.choose else ⊥
theorem srt_of {n : ℕ} (f : Fin n → EReal) (k : ℕ) (j : Fin n) (h : rk f j = k) : srt f k = f j := by
  have he : ∃ j, rk f j = k := ⟨j, h⟩
  unfold srt
  rw [dif_pos he]
  congr 1
  exact rk_inj f (he.choose_spec.trans h.symm)
theorem srt_anti {n : ℕ} (f : Fin n → EReal) (a b : ℕ) (hab : a ≤ b) (hb : b < n) : srt f b ≤ srt f a := by
  obtain ⟨i, hi⟩ := rk_surj f a (by omega)
  obtain ⟨j, hj⟩ := rk_surj f b hb
  rw [srt_of f a i hi, srt_of f b j hj]
  rcases Nat.lt_or_ge a b with h | h
  · rcases (bef_iff_rk f i j).2 (by omega) with h | h
    · exact h.le
    · exact h.1.symm.le
  · have : i = j := rk_inj f (by omega)
    rw [this]
theorem srt_mem {n : ℕ} (f : Fin n → EReal) (a : ℕ) (ha : a < n) : ∃ j, srt f a = f j := by
  obtain ⟨i, hi⟩ := rk_surj f a ha
  exact ⟨i, srt_of f a i hi⟩
theorem srt_exact {n : ℕ} (f : Fin n → EReal) (r : ℕ) (h : r < vld f) (hn : r < n) : mxc (cit true f r) = srt f r := by
  obtain ⟨i, hi⟩ := rk_surj f r hn
  rw [mx_exact f r h i hi, srt_of f r i hi]
theorem vld_all {n : ℕ} (f : Fin n → EReal) (h : ∀ j, f j ≠ ⊥) : vld f = n := by
  classical
  unfold vld
  rw [Finset.filter_true_of_mem (fun a _ => h a), Finset.card_univ, Fintype.card_fin]

/-- The pair of row `r` of the candidates. -/
def ea (r : ℕ) : ℕ := if r < 16 then 0 else if r < 72 then (r - 16) / 8 + 1 else r - 64
def eb (r : ℕ) : ℕ := if r < 16 then r else if r < 72 then (r - 16) % 8 else 0
/-- The row of a pair. -/
def rw8 (a b : ℕ) : ℕ := if a = 0 then b else if a < 8 then 8 + 8 * a + b else 64 + a
def ok (r : ℕ) : Prop := (ea r + 1) * (eb r + 1) ≤ 16
instance (r : ℕ) : Decidable (ok r) := by unfold ok; infer_instance
theorem ea_lt (r : Fin 80) : ea r < 16 := by have := r.isLt; unfold ea; split <;> [omega; split <;> omega]
theorem eb_lt (r : Fin 80) : eb r < 16 := by have := r.isLt; unfold eb; split <;> [omega; split <;> omega]
/-- The place of row `r` among all pairs. -/
def emb (r : Fin 80) : Fin 256 := ⟨ea r * 16 + eb r, by have := ea_lt r; have := eb_lt r; omega⟩
theorem emb_lt (r s : Fin 80) : emb r < emb s ↔ r < s := by
  revert r s; decide +kernel
theorem emb_inj (r s : Fin 80) (h : emb r = emb s) : r = s := by
  rcases lt_trichotomy r s with h1 | h1 | h1
  · exact absurd h (ne_of_lt ((emb_lt r s).2 h1))
  · exact h1
  · exact absurd h.symm (ne_of_lt ((emb_lt s r).2 h1))
theorem emb_div (r : Fin 80) : (emb r).val / 16 = ea r := by have := eb_lt r; show (ea r * 16 + eb r) / 16 = _; omega
theorem emb_mod (r : Fin 80) : (emb r).val % 16 = eb r := by have := eb_lt r; show (ea r * 16 + eb r) % 16 = _; omega
theorem emb_of_ok : ∀ p : Fin 256, (p.val / 16 + 1) * (p.val % 16 + 1) ≤ 16 → ∃ r : Fin 80, ok r ∧ emb r = p := by
  decide +kernel
theorem card_ok : (Finset.univ.filter fun r : Fin 80 => ok r).card = 50 := by decide +kernel

section
variable (T1 T2 : ℕ → EReal)
/-- All pair sums, and the candidates. -/
def C256 (p : Fin 256) : EReal := T1 (p.val / 16) + T2 (p.val % 16)
def C80 (r : Fin 80) : EReal := if ok r then T1 (ea r) + T2 (eb r) else ⊥
theorem C80_ok (r : Fin 80) (h : ok r) : C80 T1 T2 r = C256 T1 T2 (emb r) := by
  unfold C80 C256
  rw [if_pos h, emb_div, emb_mod]

variable (h1 : ∀ a b, a ≤ b → b < 16 → T1 b ≤ T1 a) (h2 : ∀ a b, a ≤ b → b < 16 → T2 b ≤ T2 a)
  (b1 : ∀ a, a < 16 → T1 a ≠ ⊥) (b2 : ∀ a, a < 16 → T2 a ≠ ⊥)
include b1 b2
theorem C256_ne (p : Fin 256) : C256 T1 T2 p ≠ ⊥ := by
  have := p.isLt
  rw [C256, Ne, EReal.add_eq_bot_iff, not_or]
  exact ⟨b1 _ (by omega), b2 _ (by omega)⟩
theorem C80_ne_iff (r : Fin 80) : C80 T1 T2 r ≠ ⊥ ↔ ok r := by
  constructor
  · intro h
    by_contra hn
    exact h (by rw [C80, if_neg hn])
  · intro h
    rw [C80_ok T1 T2 r h]
    exact C256_ne T1 T2 b1 b2 _
theorem vld_C80 : vld (C80 T1 T2) = 50 := by
  classical
  rw [← card_ok]
  unfold vld
  congr 1
  ext r
  simp only [Finset.mem_filter, Finset.mem_univ, true_and]
  exact C80_ne_iff T1 T2 b1 b2 r
omit b1 b2
include h1 h2
theorem ok_of_rk (p : Fin 256) (h : rk (C256 T1 T2) p < 16) : (p.val / 16 + 1) * (p.val % 16 + 1) ≤ 16 := by
  classical
  by_contra hc
  have hp := p.isLt
  have hsub : ((Finset.univ : Finset (Fin (p.val / 16 + 1) × Fin (p.val % 16 + 1))).image fun u : Fin (p.val / 16 + 1) × Fin (p.val % 16 + 1) =>
      (⟨u.1.val * 16 + u.2.val, by have := u.1.isLt; have := u.2.isLt; omega⟩ : Fin 256)) ⊆ insert p (Finset.univ.filter fun a => Bef (C256 T1 T2) a p) := by
    intro q hq
    obtain ⟨u, -, hu⟩ := Finset.mem_image.1 hq
    have hu1 := u.1.isLt
    have hu2 := u.2.isLt
    have hqv : q.val = u.1.val * 16 + u.2.val := by rw [← hu]
    rw [Finset.mem_insert]
    by_cases hqp : q = p
    · exact Or.inl hqp
    · refine Or.inr (Finset.mem_filter.2 ⟨Finset.mem_univ _, ?_⟩)
      have hle : C256 T1 T2 p ≤ C256 T1 T2 q := by
        unfold C256
        exact add_le_add (h1 _ _ (by omega) (by omega)) (h2 _ _ (by omega) (by omega))
      rcases hle.lt_or_eq with hl | he
      · exact Or.inl hl
      · refine Or.inr ⟨he.symm, ?_⟩
        have : q.val ≠ p.val := fun h => hqp (Fin.ext h)
        show q.val < p.val
        omega
  have hc1 := Finset.card_le_card hsub
  rw [Finset.card_image_of_injective, Finset.card_univ, Fintype.card_prod, Fintype.card_fin, Fintype.card_fin] at hc1
  · have := hc1.trans (Finset.card_insert_le _ _)
    unfold rk at h
    omega
  · intro u v huv
    have huv := congrArg Fin.val huv
    simp only at huv
    have hu2 := u.2.isLt
    have hv2 := v.2.isLt
    exact Prod.ext (Fin.ext (by omega)) (Fin.ext (by omega))
include b1 b2
/-- Bef among the candidates is Bef among the pairs. -/
theorem bef_emb (r s : Fin 80) (hr : ok r) (hs : ok s) : Bef (C80 T1 T2) r s ↔ Bef (C256 T1 T2) (emb r) (emb s) := by
  unfold Bef
  rw [C80_ok T1 T2 r hr, C80_ok T1 T2 s hs, emb_lt]
theorem rk_emb (r : Fin 80) (hr : ok r) (h : rk (C256 T1 T2) (emb r) < 16) : rk (C80 T1 T2) r = rk (C256 T1 T2) (emb r) := by
  classical
  have key : ∀ q, Bef (C80 T1 T2) q r → ok q := fun q hq => by
    refine (C80_ne_iff T1 T2 b1 b2 q).1 fun hb => ?_
    have hne := (C80_ne_iff T1 T2 b1 b2 r).2 hr
    rcases hq with hq | hq
    · rw [hb] at hq; exact absurd hq not_lt_bot
    · exact hne (hq.1.symm.trans hb)
  refine Finset.card_nbij emb ?_ ?_ ?_
  · intro q hq
    simp only [Finset.coe_filter, Finset.mem_univ, true_and, Set.mem_setOf_eq, Finset.mem_filter] at hq ⊢
    exact (bef_emb T1 T2 h1 h2 b1 b2 q r (key q hq) hr).1 hq
  · exact fun a _ b _ hab => emb_inj a b hab
  · intro p hp
    simp only [Finset.coe_filter, Finset.mem_univ, true_and, Set.mem_setOf_eq, Set.mem_image] at hp ⊢
    obtain ⟨q, hq, rfl⟩ := emb_of_ok p (ok_of_rk T1 T2 h1 h2 p (lt_trans ((bef_iff_rk _ _ _).1 hp) h))
    exact ⟨q, (bef_emb T1 T2 h1 h2 b1 b2 q r hq hr).2 hp, rfl⟩
theorem rank_pair (k : ℕ) (hk : k < 16) : ∃ r : Fin 80, ok r ∧ rk (C80 T1 T2) r = k ∧ rk (C256 T1 T2) (emb r) = k := by
  obtain ⟨p, hp⟩ := rk_surj (C256 T1 T2) k (by omega)
  obtain ⟨r, hr, rfl⟩ := emb_of_ok p (ok_of_rk T1 T2 h1 h2 p (by omega))
  exact ⟨r, hr, (rk_emb T1 T2 h1 h2 b1 b2 r hr (by omega)).trans hp, hp⟩
theorem srt_pair (k : ℕ) (hk : k < 16) : srt (C80 T1 T2) k = srt (C256 T1 T2) k := by
  obtain ⟨r, hr, hr1, hr2⟩ := rank_pair T1 T2 h1 h2 b1 b2 k hk
  rw [srt_of _ k r hr1, srt_of _ k _ hr2, C80_ok T1 T2 r hr]
theorem rk_emb_iff (r : Fin 80) : rk (C80 T1 T2) r < 16 ↔ ok r ∧ rk (C256 T1 T2) (emb r) < 16 := by
  constructor
  · intro h
    obtain ⟨s, hs, hs1, hs2⟩ := rank_pair T1 T2 h1 h2 b1 b2 _ h
    have := rk_inj _ hs1
    subst this
    exact ⟨hs, by omega⟩
  · rintro ⟨h, h'⟩
    rw [rk_emb T1 T2 h1 h2 b1 b2 r h h']; exact h'
open Classical in
/-- How many of the sixteen best pairs have first place `a`. -/
theorem cnt_pair (a : ℕ) : (∑ r : Fin 80, if ea r = a ∧ rk (C80 T1 T2) r < 16 then (1 : EReal) else 0)
    = ∑ p : Fin 256, if p.val / 16 = a ∧ rk (C256 T1 T2) p < 16 then (1 : EReal) else 0 := by
  rw [Finset.sum_boole, Finset.sum_boole]
  congr 1
  refine Finset.card_nbij emb ?_ ?_ ?_
  · intro q hq
    simp only [Finset.coe_filter, Finset.mem_univ, true_and, Set.mem_setOf_eq, Finset.mem_filter] at hq ⊢
    rw [emb_div]
    exact ⟨hq.1, ((rk_emb_iff T1 T2 h1 h2 b1 b2 q).1 hq.2).2⟩
  · exact fun a _ b _ hab => emb_inj a b hab
  · intro p hp
    simp only [Finset.coe_filter, Finset.mem_univ, true_and, Set.mem_setOf_eq, Set.mem_image] at hp ⊢
    obtain ⟨q, hq, rfl⟩ := emb_of_ok p (ok_of_rk T1 T2 h1 h2 p hp.2)
    rw [emb_div] at hp
    exact ⟨q, ⟨hp.1, (rk_emb_iff T1 T2 h1 h2 b1 b2 q).2 ⟨hq, hp.2⟩⟩, rfl⟩
end

end Cert.Proof.Rank

end

end
-- ==== Proof.Sort.lean ====
/-
  A stable sort by descending value puts at place `k` the element of rank `k`.
-/
module

public import proofs.«01_k».proof.Proof.Pairs
public import Idealize.ShloMosaic.Lib.PlanTiles.StableSort
public import Idealize.ShloMosaic.Lib.SortFacts

@[expose] public section

noncomputable section

namespace Cert.Proof.Rank

open Idealize.ShloMosaic

variable {n : ℕ}

/-- The elements below `a`, counted: an order of the elements by their values, in the natural numbers. -/
def low (f : Fin n → EReal) (a : Fin n) : ℕ := by
  classical exact (Finset.univ.filter fun b => f b < f a).card
theorem low_mono (f : Fin n → EReal) {a b : Fin n} (h : f b < f a) : low f b < low f a := by
  classical
  unfold low
  refine Finset.card_lt_card ?_
  refine Finset.ssubset_iff_subset_ne.2 ⟨fun c hc => ?_, fun e => ?_⟩
  · simp only [Finset.mem_filter, Finset.mem_univ, _root_.true_and] at hc ⊢
    exact hc.trans h
  · have : b ∈ Finset.univ.filter fun c => f c < f b := by rw [e]; simpa using h
    simp at this
theorem low_lt (f : Fin n → EReal) (a b : Fin n) : low f b < low f a ↔ f b < f a := by
  refine ⟨fun h => ?_, low_mono f⟩
  rcases lt_trichotomy (f b) (f a) with h1 | h1 | h1
  · exact h1
  · exact absurd h (by unfold low; rw [h1]; exact lt_irrefl _)
  · exact absurd h (lt_asymm (low_mono f h1))
theorem low_eq (f : Fin n → EReal) {a b : Fin n} (h : low f a = low f b) : f a = f b := by
  rcases lt_trichotomy (f a) (f b) with h1 | h1 | h1
  · exact absurd (low_mono f h1) (by omega)
  · exact h1
  · exact absurd (low_mono f h1) (by omega)

/-- The element a stable sort by descending value puts at place `k`. -/
def src (f : Fin n → EReal) (k : Fin n) : Fin n := by
  classical exact sortedFrom (fun a b => decide (f b < f a)) k
theorem src_bef (f : Fin n → EReal) {i j : Fin n} (h : i < j) : Bef f (src f i) (src f j) := by
  classical
  have hp := List.pairwise_iff_get.mp (Idealize.ShloMosaic.PlanTiles.pairwise_stableSort_lex (low f) (fun a b : Fin n => a < b) (List.finRange n) (List.pairwise_lt_finRange n))
  have e : (fun x y : Fin n => decide (low f y < low f x)) = fun a b => decide (f b < f a) := by
    funext x y
    exact decide_eq_decide.2 (low_lt f x y)
  rw [e] at hp
  have hp' : ∀ (a b : Fin (sortPositions n fun a b => decide (f b < f a)).length), a < b → _ := hp
  have h1 := hp' (i.cast (length_sortPositions n _).symm) (j.cast (length_sortPositions n _).symm) h
  rcases h1 with h1 | ⟨h1, h2⟩
  · exact Or.inl ((low_lt f _ _).1 h1)
  · exact Or.inr ⟨low_eq f h1, h2⟩
theorem rk_src (f : Fin n → EReal) (k : Fin n) : rk f (src f k) = k.val := by
  have hm : StrictMono fun k : Fin n => (⟨rk f (src f k), rk_lt f _⟩ : Fin n) := fun i j h => (bef_iff_rk f _ _).1 (src_bef f h)
  have h1 := hm.le_apply (x := k)
  have h2 := hm.dual.le_apply (x := OrderDual.toDual k)
  exact le_antisymm (show rk f (src f k) ≤ k.val from h2) (show k.val ≤ rk f (src f k) from h1)
theorem src_rk (f : Fin n → EReal) (a : Fin n) : src f ⟨rk f a, rk_lt f a⟩ = a := rk_inj f (rk_src f _)
theorem src_eq (f : Fin n → EReal) (k a : Fin n) : src f k = a ↔ rk f a = k.val :=
  ⟨fun h => h ▸ rk_src f k, fun h => rk_inj f ((rk_src f k).trans h.symm)⟩
theorem f_src (f : Fin n → EReal) (k : Fin n) : f (src f k) = srt f k.val := (srt_of f k.val (src f k) (rk_src f k)).symm

end Cert.Proof.Rank

end

end
-- ==== Proof.Spec.lean ====
/-
  The rounds of maxima, the ranks, the candidates and the outputs of a lane group as functions of the scores.
-/
module

public import proofs.«01_k».proof.Proof.Gen.KernelIdeal.Skeleton

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The maxima of the lanes of `V`. -/
def mx1 (V : FVec F S128x128 .f32) : FVec F S128 .f32 :=
  multiReduction .maximumf [0] S128 V 0xFF800000#32 reduces_S128x128_S128 (.inl rfl) rfl
def mxr (V : FVec F S128x128 .f32) : FVec F S1x128 .f32 := shapeCast S1x128 (mx1 V) shapeCasts_S128_S1x128
/-- Where a lane holds its maximum. -/
def sel (V : FVec F S128x128 .f32) : IVec S128x128 1 :=
  cmpf .oeq V (broadcastTo S128x128 (mxr V) broadcasts_S1x128_S128x128)
def cut (s : IVec S128x128 1) (V : FVec F S128x128 .f32) : FVec F S128x128 .f32 :=
  select s (broadcast S128x128 (Scalar.ofBits .f32 0xFF800000#32)) V
/-- The row numbers. -/
def io : FVec F S128x128 .f32 := sitofp .f32 (iota .tc S128x128 32 [0] iota_S128x128_d0_w32)
/-- The row numbers of the maxima, a number beyond every row elsewhere. -/
def wv (V : FVec F S128x128 .f32) : FVec F S128x128 .f32 :=
  select (sel V) (io (F := F)) (broadcast S128x128 (Scalar.ofBits .f32 0x43000000#32))
def wmn (V : FVec F S128x128 .f32) : FVec F S128 .f32 :=
  multiReduction .minimumf [0] S128 (wv V) 0x7F800000#32 reduces_S128x128_S128 (.inl rfl) rfl
/-- The first row at which a lane holds its maximum. -/
def selx (V : FVec F S128x128 .f32) : IVec S128x128 1 :=
  cmpf .oeq (io (F := F)) (broadcastTo S128x128 (shapeCast S1x128 (wmn V) shapeCasts_S128_S1x128) broadcasts_S1x128_S128x128)
/-- What is gone. -/
abbrev gone (V : FVec F S128x128 .f32) : IVec S128x128 1 := cmpf .oeq V (broadcast S128x128 (Scalar.ofBits .f32 0xFF800000#32))
/-- What a round takes: in the fast mode every maximum, in the exact mode the first. -/
def pick (x : Bool) (V : FVec F S128x128 .f32) : IVec S128x128 1 := match x with
  | false => sel V
  | true => selx V
/-- `V` after `n` rounds. -/
def it (x : Bool) (V : FVec F S128x128 .f32) : ℕ → FVec F S128x128 .f32
  | 0 => V
  | n + 1 => cut (pick x (it x V n)) (it x V n)
theorem it_add (x : Bool) (V : FVec F S128x128 .f32) (m n : ℕ) : it x (it x V m) n = it x V (m + n) := by
  induction n with
  | zero => rfl
  | succ n ih =>
    show cut (pick x (it x (it x V m) n)) (it x (it x V m) n) = cut (pick x (it x V (m + n))) (it x V (m + n))
    rw [ih]
/-- A lane's maxima repeated down the rows. -/
abbrev bm (V : FVec F S128x128 .f32) : FVec F S128x128 .f32 := broadcastTo S128x128 (mxr V) broadcasts_S1x128_S128x128

/-- The maxima of the lanes of `V`. -/
def mx18 (V : FVec F S80x128 .f32) : FVec F S128 .f32 :=
  multiReduction .maximumf [0] S128 V 0xFF800000#32 reduces_S80x128_S128 (.inl rfl) rfl
def mxr8 (V : FVec F S80x128 .f32) : FVec F S1x128 .f32 := shapeCast S1x128 (mx18 V) shapeCasts_S128_S1x128
/-- Where a lane holds its maximum. -/
def sel8 (V : FVec F S80x128 .f32) : IVec S80x128 1 :=
  cmpf .oeq V (broadcastTo S80x128 (mxr8 V) broadcasts_S1x128_S80x128)
def cut8 (s : IVec S80x128 1) (V : FVec F S80x128 .f32) : FVec F S80x128 .f32 :=
  select s (broadcast S80x128 (Scalar.ofBits .f32 0xFF800000#32)) V
/-- The row numbers. -/
def io8 : FVec F S80x128 .f32 := sitofp .f32 (iota .tc S80x128 32 [0] iota_S80x128_d0_w32)
/-- The row numbers of the maxima, a number beyond every row elsewhere. -/
def wv8 (V : FVec F S80x128 .f32) : FVec F S80x128 .f32 :=
  select (sel8 V) (io8 (F := F)) (broadcast S80x128 (Scalar.ofBits .f32 0x42A00000#32))
def wmn8 (V : FVec F S80x128 .f32) : FVec F S128 .f32 :=
  multiReduction .minimumf [0] S128 (wv8 V) 0x7F800000#32 reduces_S80x128_S128 (.inl rfl) rfl
/-- The first row at which a lane holds its maximum. -/
def selx8 (V : FVec F S80x128 .f32) : IVec S80x128 1 :=
  cmpf .oeq (io8 (F := F)) (broadcastTo S80x128 (shapeCast S1x128 (wmn8 V) shapeCasts_S128_S1x128) broadcasts_S1x128_S80x128)
/-- What is gone. -/
abbrev gone8 (V : FVec F S80x128 .f32) : IVec S80x128 1 := cmpf .oeq V (broadcast S80x128 (Scalar.ofBits .f32 0xFF800000#32))
/-- What a round takes: in the fast mode every maximum, in the exact mode the first. -/
def pick8 (x : Bool) (V : FVec F S80x128 .f32) : IVec S80x128 1 := match x with
  | false => sel8 V
  | true => selx8 V
/-- `V` after `n` rounds. -/
def it8 (x : Bool) (V : FVec F S80x128 .f32) : ℕ → FVec F S80x128 .f32
  | 0 => V
  | n + 1 => cut8 (pick8 x (it8 x V n)) (it8 x V n)
theorem it8_add (x : Bool) (V : FVec F S80x128 .f32) (m n : ℕ) : it8 x (it8 x V m) n = it8 x V (m + n) := by
  induction n with
  | zero => rfl
  | succ n ih =>
    show cut8 (pick8 x (it8 x (it8 x V m) n)) (it8 x (it8 x V m) n) = cut8 (pick8 x (it8 x V (m + n))) (it8 x V (m + n))
    rw [ih]
/-- A lane's maxima repeated down the rows. -/
abbrev bm8 (V : FVec F S80x128 .f32) : FVec F S80x128 .f32 := broadcastTo S80x128 (mxr8 V) broadcasts_S1x128_S80x128

/-- A row of maxima and a mask, with leading unit axes. -/
abbrev rowv (V : FVec F S128x128 .f32) : FVec F S1x1x1x128 .f32 := shapeCast S1x1x1x128 (mxr V) shapeCasts_S1x128_S1x1x1x128
abbrev mskv (s : IVec S128x128 1) : IVec S1x1x128x128 1 := shapeCast S1x1x128x128 s shapeCasts_S128x128_S1x1x128x128
abbrev litv (b : BitVec 32) : FVec F S1x1x128x128 .f32 :=
  shapeCast S1x1x128x128 (broadcast S128x128 (Scalar.ofBits .f32 b)) shapeCasts_S128x128_S1x1x128x128

/-- The bit pattern of the number of round `r`. -/
def lit : ℕ → BitVec 32
  | 0 => 0x00000000#32
  | 1 => 0x3F800000#32
  | 2 => 0x40000000#32
  | 3 => 0x40400000#32
  | 4 => 0x40800000#32
  | 5 => 0x40A00000#32
  | 6 => 0x40C00000#32
  | 7 => 0x40E00000#32
  | 8 => 0x41000000#32
  | 9 => 0x41100000#32
  | 10 => 0x41200000#32
  | 11 => 0x41300000#32
  | 12 => 0x41400000#32
  | 13 => 0x41500000#32
  | 14 => 0x41600000#32
  | _ => 0x41700000#32

/-- The ranks after `n` rounds: 99 where nothing was taken, else the last round that took the element. -/
def rkc (x : Bool) (V : FVec F S128x128 .f32) : ℕ → FVec F S128x128 .f32
  | 0 => broadcast S128x128 (Scalar.ofBits .f32 0x42C60000#32)
  | n + 1 => select (pick x (it x V n)) (broadcast S128x128 (Scalar.ofBits .f32 (lit n))) (rkc x V n)

/-- How many of a lane's elements are gone after 16 rounds, less 16. -/
def exc (L : FVec F S128x128 .f32) : FVec F S1x128 .f32 :=
  subf (shapeCast S1x128 (multiReduction .add [0] S128 (select (cmpf .oeq L (broadcast S128x128 (Scalar.ofBits .f32 0xFF800000#32)))
    (broadcast S128x128 (Scalar.ofBits .f32 0x3F800000#32)) (broadcast S128x128 (Scalar.ofBits .f32 0x00000000#32))) 0x00000000#32
      reduces_S128x128_S128 (.inl rfl) rfl) shapeCasts_S128_S1x128) (broadcast S1x128 (Scalar.ofBits .f32 0x41800000#32))

/-- The candidate pair sums. -/
def cnd (v23 : IVec S8x128 32) (a b : Vec F S1x1x16x128 .f32) : FVec F S80x128 .f32 :=
  k0_pay13 v23 (k0_pay5 a) (k0_pay6 b) (k0_pay7 a b) (k0_pay8 a b) (k0_pay9 v23 a b) (k0_pay10 v23) (k0_pay11 b) (k0_pay12 a)
def smk (C L : FVec F S80x128 .f32) : FVec F S80x128 .f32 := k0_pay49 C L k0_pay48
def inz (b : ℕ → FVec F S1x128 .f32) : FVec F S1x128 .f32 :=
  k0_pay50 (b 0) (b 1) (b 2) (b 3) (b 4) (b 5) (b 6) (b 7) (b 8) (b 9) (b 10) (b 11) (b 12) (b 13) (b 14) (b 15)
def n1o (m : FVec F S80x128 .f32) (r : Vec F S1x1x128x128 .f32) : FVec F S1x128x128 .f32 :=
  k0_pay71 (k0_pay60 m) (k0_pay61 m) (k0_pay62 m) (k0_pay63 m) (k0_pay64 m) (k0_pay65 m) (k0_pay66 m) (k0_pay68 r)
    (k0_pay69 (k0_pay51 m) (k0_pay52 m) (k0_pay53 m) (k0_pay54 m) (k0_pay55 m) (k0_pay56 m) (k0_pay57 m) (k0_pay58 m) (k0_pay59 m) r) (k0_pay70 r)
/-- The four outputs of a lane group. -/
def o4 (x : Bool) (v23 : IVec S8x128 32) (a b : Vec F S1x1x16x128 .f32) (s : Vec F S1x128x128 .f32) : FVec F S1x128x128 .f32 :=
  k0_pay73 (k0_pay72 (k0_pay5 a) (inz fun i => mxr8 (it8 x (cnd v23 a b) i)) s)
def o5 (x : Bool) (v23 : IVec S8x128 32) (a b : Vec F S1x1x16x128 .f32) (r : Vec F S1x1x128x128 .f32) : FVec F S1x128x128 .f32 :=
  n1o (smk (cnd v23 a b) (it8 x (cnd v23 a b) 16)) r
def o6 (b : Vec F S1x1x16x128 .f32) (s : Vec F S1x128x128 .f32) : FVec F S1x128x128 .bf16 := k0_pay74 (k0_pay6 b) s
def o7 (r : Vec F S1x1x128x128 .f32) : FVec F S1x128x128 .bf16 := k0_pay75 r
/-- The number of selected pairs, less 16. -/
def ex2 (v23 : IVec S8x128 32) (a b : Vec F S1x1x16x128 .f32) : FVec F S1x128 .f32 :=
  k0_pay76 (k0_pay67 (smk (cnd v23 a b) (it8 false (cnd v23 a b) 16)))
/-- The scores of a lane group, without the leading unit axis. -/
abbrev sq (s : Vec F S1x128x128 .f32) : FVec F S128x128 .f32 := shapeCast S128x128 s shapeCasts_S1x128x128_S128x128

end Cert.Proof.Topk

end

end
-- ==== Proof.Lanes.lean ====
/-
  The rounds at one lane.
-/
module

public import proofs.«01_k».proof.Proof.Spec
public import proofs.«01_k».proof.Proof.Rank
public import Idealize.ShloMosaic.Lib.Pointwise

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.Rank

theorem ofBits_ninf : Ideal.ofBits .f32 4286578688#32 = ⊥ := by simp [Ideal.ofBits, Ideal.ieee]
theorem ofBits_pinf : Ideal.ofBits .f32 2139095040#32 = ⊤ := by simp [Ideal.ofBits, Ideal.ieee]
theorem ofBits_N128 : Ideal.ofBits .f32 1124073472#32 = ((128 : ℝ) : EReal) := by simp [Ideal.ofBits, Ideal.ieee, -EReal.coe_mul]; norm_num
theorem ofBits_N80 : Ideal.ofBits .f32 1117782016#32 = ((80 : ℝ) : EReal) := by simp [Ideal.ofBits, Ideal.ieee, -EReal.coe_mul]; norm_num
theorem ofBits_99 : Ideal.ofBits .f32 0x42C60000#32 = ((99 : ℝ) : EReal) := by simp [Ideal.ofBits, Ideal.ieee, -EReal.coe_mul]; norm_num
theorem ofBits_16 : Ideal.ofBits .f32 0x41800000#32 = ((16 : ℝ) : EReal) := by simp [Ideal.ofBits, Ideal.ieee, -EReal.coe_mul]; norm_num
theorem ofBits_lit (n : ℕ) (h : n < 16) : Ideal.ofBits .f32 (lit n) = ((n : ℝ) : EReal) := by
  interval_cases n <;> simp [lit, Ideal.ofBits, Ideal.ieee, -EReal.coe_mul] <;> norm_num
theorem ofBool_one (p : Prop) [Decidable p] : BitVec.ofBool (decide p) = 1#1 ↔ p := by
  by_cases h : p <;> simp [h]
theorem sitofp_ofNat (n : ℕ) (h : n < 2 ^ 31) : (FloatOps.sitofp (F := Ideal) .f32 (BitVec.ofNat 32 n)) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem first_iff {n : ℕ} {N : ℝ} (hN : (n : ℝ) ≤ N) (f : Fin n → EReal) (s : Fin n → BitVec 1) (hs : ∀ x, s x = 1#1 ↔ f x = mxc f) (a : Fin n) :
    ((a.val : ℝ) : EReal) = Finset.univ.fold min ⊤ (fun x : Fin n => if s x = 1 then ((x.val : ℝ) : EReal) else (N : EReal)) ↔ pk true f a := by
  have hlt : ∀ b : Fin n, ((b.val : ℝ) : EReal) < (N : EReal) := fun b => by
    rw [EReal.coe_lt_coe_iff]
    exact lt_of_lt_of_le (by exact_mod_cast b.isLt) hN
  obtain ⟨m, hm⟩ := mxc_att f a.pos
  have key : ∀ c : EReal, c = Finset.univ.fold min ⊤ (fun x : Fin n => if s x = 1 then ((x.val : ℝ) : EReal) else (N : EReal)) → ∀ x, f x = mxc f → c ≤ ((x.val : ℝ) : EReal) := by
    intro c hc x hx
    rw [hc]
    refine (Finset.fold_min_le _).2 (Or.inr ⟨x, Finset.mem_univ _, ?_⟩)
    rw [if_pos (show s x = 1 from (hs x).2 hx)]
  constructor
  · intro h
    have hle := key _ h
    refine ⟨?_, fun c hc => ?_⟩
    · by_contra hna
      have hlm := lt_of_le_of_lt (hle m hm) (hlt m)
      have : ((a.val : ℝ) : EReal) < Finset.univ.fold min ⊤ (fun x : Fin n => if s x = 1 then ((x.val : ℝ) : EReal) else (N : EReal)) := by
        refine (Finset.lt_fold_min _).2 ⟨EReal.coe_lt_top _, fun x _ => ?_⟩
        split
        · rename_i hx
          have hx' := (hs x).1 hx
          refine lt_of_le_of_ne (hle x hx') fun he => hna ?_
          have : a.val = x.val := by exact_mod_cast he
          rw [show a = x from Fin.ext this]; exact hx'
        · exact hlt a
      exact absurd h (ne_of_lt this)
    · have := hle c hc
      rw [EReal.coe_le_coe_iff] at this
      exact_mod_cast this
  · rintro ⟨h1, h2⟩
    refine le_antisymm ?_ ?_
    · refine (Finset.le_fold_min _).2 ⟨le_top, fun x _ => ?_⟩
      split
      · rename_i hx
        rw [EReal.coe_le_coe_iff]
        exact_mod_cast h2 x ((hs x).1 hx)
      · exact (hlt a).le
    · exact key _ rfl a h1

/-- Lane `b` of `V`. -/
abbrev col (V : FVec Ideal S128x128 .f32) (b : Fin 128) : Fin 128 → EReal := fun j => V (ix2 j b)

theorem mxr_at (V : FVec Ideal S128x128 .f32) (b : Fin 128) : mxr V (ix2 0 b) = mxc (col V b) := by
  pointwise [mxr, mx1]
  rw [ofBits_ninf]
  rfl
theorem sel_at (V : FVec Ideal S128x128 .f32) (a : Fin 128) (b : Fin 128) : sel V (ix2 a b) = 1#1 ↔ V (ix2 a b) = mxc (col V b) := by
  rw [← mxr_at]
  pointwise [sel]
  exact ofBool_one _
theorem cut_at (s : IVec S128x128 1) (V : FVec Ideal S128x128 .f32) (a : Fin 128) (b : Fin 128) : cut s V (ix2 a b) = if s (ix2 a b) = 1#1 then ⊥ else V (ix2 a b) := by
  pointwise [cut]
  rw [ofBits_ninf]
  rfl
theorem io_at (a : Fin 128) (b : Fin 128) : io (F := Ideal) (ix2 a b) = ((a.val : ℝ) : EReal) := by
  pointwise [io]
  exact sitofp_ofNat _ (by have := a.isLt; omega)
theorem selx_at (V : FVec Ideal S128x128 .f32) (a : Fin 128) (b : Fin 128) : selx V (ix2 a b) = 1#1 ↔ pk true (col V b) a := by
  pointwise [selx, wmn, wv]
  rw [ofBool_one, ofBits_pinf, ofBits_N128]
  simp only [io_at, Scalar.select]
  exact first_iff (by norm_num) (col V b) (fun x => sel V (ix2 x b)) (fun x => sel_at V x b) a
theorem pick_at (x : Bool) (V : FVec Ideal S128x128 .f32) (a : Fin 128) (b : Fin 128) : pick x V (ix2 a b) = 1#1 ↔ pk x (col V b) a := by
  cases x
  · exact sel_at V a b
  · exact selx_at V a b
theorem it_at (x : Bool) (V : FVec Ideal S128x128 .f32) (b : Fin 128) : ∀ n, col (it x V n) b = cit x (col V b) n
  | 0 => rfl
  | n + 1 => by
    funext a
    have ih := it_at x V b n
    show cut (pick x (it x V n)) (it x V n) (ix2 a b) = _
    rw [cut_at]
    show _ = (open Classical in if pk x (cit x (col V b) n) a then (⊥ : EReal) else cit x (col V b) n a)
    rw [← ih]
    by_cases hp : pk x (col (it x V n) b) a
    · rw [if_pos hp, if_pos ((pick_at x _ a b).2 hp)]
    · rw [if_neg hp, if_neg (fun h => hp ((pick_at x _ a b).1 h))]
theorem mxit_at (x : Bool) (V : FVec Ideal S128x128 .f32) (n : ℕ) (b : Fin 128) : mxr (it x V n) (ix2 0 b) = mxc (cit x (col V b) n) := by
  rw [mxr_at, it_at]

/-- Lane `b` of `V`. -/
abbrev col8 (V : FVec Ideal S80x128 .f32) (b : Fin 128) : Fin 80 → EReal := fun j => V (ix2 j b)

theorem mxr8_at (V : FVec Ideal S80x128 .f32) (b : Fin 128) : mxr8 V (ix2 0 b) = mxc (col8 V b) := by
  pointwise [mxr8, mx18]
  rw [ofBits_ninf]
  rfl
theorem sel8_at (V : FVec Ideal S80x128 .f32) (a : Fin 80) (b : Fin 128) : sel8 V (ix2 a b) = 1#1 ↔ V (ix2 a b) = mxc (col8 V b) := by
  rw [← mxr8_at]
  pointwise [sel8]
  exact ofBool_one _
theorem cut8_at (s : IVec S80x128 1) (V : FVec Ideal S80x128 .f32) (a : Fin 80) (b : Fin 128) : cut8 s V (ix2 a b) = if s (ix2 a b) = 1#1 then ⊥ else V (ix2 a b) := by
  pointwise [cut8]
  rw [ofBits_ninf]
  rfl
theorem io8_at (a : Fin 80) (b : Fin 128) : io8 (F := Ideal) (ix2 a b) = ((a.val : ℝ) : EReal) := by
  pointwise [io8]
  exact sitofp_ofNat _ (by have := a.isLt; omega)
theorem selx8_at (V : FVec Ideal S80x128 .f32) (a : Fin 80) (b : Fin 128) : selx8 V (ix2 a b) = 1#1 ↔ pk true (col8 V b) a := by
  pointwise [selx8, wmn8, wv8]
  rw [ofBool_one, ofBits_pinf, ofBits_N80]
  simp only [io8_at, Scalar.select]
  exact first_iff (by norm_num) (col8 V b) (fun x => sel8 V (ix2 x b)) (fun x => sel8_at V x b) a
theorem pick8_at (x : Bool) (V : FVec Ideal S80x128 .f32) (a : Fin 80) (b : Fin 128) : pick8 x V (ix2 a b) = 1#1 ↔ pk x (col8 V b) a := by
  cases x
  · exact sel8_at V a b
  · exact selx8_at V a b
theorem it8_at (x : Bool) (V : FVec Ideal S80x128 .f32) (b : Fin 128) : ∀ n, col8 (it8 x V n) b = cit x (col8 V b) n
  | 0 => rfl
  | n + 1 => by
    funext a
    have ih := it8_at x V b n
    show cut8 (pick8 x (it8 x V n)) (it8 x V n) (ix2 a b) = _
    rw [cut8_at]
    show _ = (open Classical in if pk x (cit x (col8 V b) n) a then (⊥ : EReal) else cit x (col8 V b) n a)
    rw [← ih]
    by_cases hp : pk x (col8 (it8 x V n) b) a
    · rw [if_pos hp, if_pos ((pick8_at x _ a b).2 hp)]
    · rw [if_neg hp, if_neg (fun h => hp ((pick8_at x _ a b).1 h))]
theorem mxit8_at (x : Bool) (V : FVec Ideal S80x128 .f32) (n : ℕ) (b : Fin 128) : mxr8 (it8 x V n) (ix2 0 b) = mxc (cit x (col8 V b) n) := by
  rw [mxr8_at, it8_at]

/-- What a lane's ranks say: the round at which an element was taken, or 99. -/
theorem rkc_at (x : Bool) (V : FVec Ideal S128x128 .f32) (a b : Fin 128) (h : ∀ r, r < 16 → (pk x (cit x (col V b) r) a ↔ rk (col V b) a = r)) :
    ∀ n, n ≤ 16 → rkc x V n (ix2 a b) = if rk (col V b) a < n then ((rk (col V b) a : ℝ) : EReal) else ((99 : ℝ) : EReal)
  | 0, _ => by
    rw [if_neg (Nat.not_lt_zero _), ← ofBits_99]
    rfl
  | n + 1, hn => by
    have ih := rkc_at x V a b h n (by omega)
    have hp := pick_at x (it x V n) a b
    rw [it_at, h n (by omega)] at hp
    show Scalar.select (pick x (it x V n) (ix2 a b)) (Ideal.ofBits .f32 (lit n)) (rkc x V n (ix2 a b)) = _
    rw [ofBits_lit n (by omega), ih]
    unfold Scalar.select
    by_cases hr : rk (col V b) a = n
    · rw [if_pos (show pick x (it x V n) (ix2 a b) = 1 from hp.2 hr), if_pos (by omega), hr]
    · rw [if_neg (show ¬ pick x (it x V n) (ix2 a b) = 1 from fun h => hr (hp.1 h))]
      by_cases hl : rk (col V b) a < n
      · rw [if_pos hl, if_pos (by omega)]
      · rw [if_neg hl, if_neg (by omega)]
theorem fold_count {n : ℕ} (p : Fin n → Prop) [DecidablePred p] : (∑ x, if p x then (1 : EReal) else 0) = (((Finset.univ.filter p).card : ℝ) : EReal) := by
  rw [Finset.sum_boole]
  norm_cast
theorem exc_at (V : FVec Ideal S128x128 .f32) (b : Fin 128) : exc V (ix2 0 b) = (((open Classical in (Finset.univ.filter fun a : Fin 128 => V (ix2 a b) = ⊥).card : ℕ) : ℝ) : EReal) - ((16 : ℝ) : EReal) := by
  classical
  pointwise [exc]
  rw [ofBits_16]
  simp only [ofBits_ninf]
  rw [fold_count]

end Cert.Proof.Topk

end

end
-- ==== Proof.Lanes2.lean ====
/-
  The candidates and the outputs at one lane.
-/
module

public import proofs.«01_k».proof.Proof.Lanes
public import proofs.«01_k».proof.Proof.Pairs
public import Idealize.ShloMosaic.Lib.Pointwise

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.Rank

theorem slt_at (n m : ℕ) (hn : n < 80) (hm : m < 80) : IntOp.cmpi CmpIPredicate.slt (BitVec.ofNat 32 n) (BitVec.ofNat 32 m) = BitVec.ofBool (decide (n < m)) := by
  show BitVec.ofBool ((BitVec.ofNat 32 n).slt (BitVec.ofNat 32 m)) = _
  congr 1
  rw [BitVec.slt, BitVec.toInt_eq_toNat_of_lt (by rw [BitVec.toNat_ofNat]; omega), BitVec.toInt_eq_toNat_of_lt (by rw [BitVec.toNat_ofNat]; omega), BitVec.toNat_ofNat, BitVec.toNat_ofNat,
    Nat.mod_eq_of_lt (by omega), Nat.mod_eq_of_lt (by omega)]
  simp
theorem sel_slt (n m : ℕ) (hn : n < 80) (hm : m < 80) (u v : EReal) :
    Scalar.select (IntOp.cmpi CmpIPredicate.slt (BitVec.ofNat 32 n) (BitVec.ofNat 32 m)) u v = if n < m then u else v := by
  rw [slt_at n m hn hm]
  unfold Scalar.select
  by_cases h : n < m <;> simp [h]
theorem cnd_at (a b : Vec Ideal S1x1x16x128 .f32) (l : Fin 128) (T1 T2 : ℕ → EReal) (ha : ∀ k : Fin 16, a (ix4 0 0 k l) = T1 k.val) (hb : ∀ k : Fin 16, b (ix4 0 0 k l) = T2 k.val) (r : Fin 80) :
    cnd (iota .tc S8x128 32 [0] iota_S8x128_d0_w32) a b (ix2 r l) = C80 T1 T2 r := by
  have hr := r.isLt
  pointwise [cnd, k0_pay13, k0_pay12, k0_pay11, k0_pay10, k0_pay9, k0_pay8, k0_pay7, k0_pay6, k0_pay5]
  simp only [ha, hb, ofBits_ninf, dite_eq_ite]
  rw [sel_slt _ 5 (by omega) (by omega), sel_slt _ 4 (by omega) (by omega), sel_slt _ 3 (by omega) (by omega)]
  iterate 3 rw [sel_slt _ 2 (by omega) (by omega)]
  unfold C80
  generalize r.val = n at hr
  interval_cases n <;> simp [ok, ea, eb, add_comm]
theorem smk_at (C L : FVec Ideal S80x128 .f32) (r : Fin 80) (l : Fin 128) : smk C L (ix2 r l) = if L (ix2 r l) = ⊥ ∧ C (ix2 r l) ≠ ⊥ then 1 else 0 := by
  pointwise [smk, k0_pay49, k0_pay48]
  simp only [ofBits_ninf, bot_lt_iff_ne_bot, Scalar.select]
  by_cases h1 : L (ix2 r l) = ⊥ <;> by_cases h2 : C (ix2 r l) = ⊥ <;> simp [h1, h2, IntOp.andi]
theorem sum80 (m : FVec Ideal S80x128 .f32) (l : Fin 128) (h : ℕ → EReal) (hm : ∀ x : Fin 80, m (ix2 x l) = h x.val) :
    k0_pay67 m (ix2 0 l) = ∑ x : Fin 80, h x.val := by
  pointwise [k0_pay67, k0_pay51, k0_pay52, k0_pay53, k0_pay54, k0_pay55, k0_pay56, k0_pay57, k0_pay58, k0_pay59, k0_pay60, k0_pay61, k0_pay62, k0_pay63, k0_pay64, k0_pay65, k0_pay66]
  simp only [hm]
  rw [Fin.sum_univ_eq_sum_range h 80, Fin.sum_univ_eq_sum_range h 16, Fin.sum_univ_eq_sum_range (fun i => h (16 + i)) 8, Fin.sum_univ_eq_sum_range (fun i => h (24 + i)) 8, Fin.sum_univ_eq_sum_range (fun i => h (32 + i)) 8, Fin.sum_univ_eq_sum_range (fun i => h (40 + i)) 8, Fin.sum_univ_eq_sum_range (fun i => h (48 + i)) 8, Fin.sum_univ_eq_sum_range (fun i => h (56 + i)) 8, Fin.sum_univ_eq_sum_range (fun i => h (64 + i)) 8]
  show _ + h 72 + h 73 + h 74 + h 75 + h 76 + h 77 + h 78 + h 79 = _
  simp only [Finset.sum_range_succ, Finset.sum_range_zero, zero_add, ← add_assoc, Nat.reduceAdd, Nat.add_zero]
set_option maxHeartbeats 8000000 in
theorem row_at (m : FVec Ideal S80x128 .f32) (l : Fin 128) (h : ℕ → EReal) (hm : ∀ x : Fin 80, m (ix2 x l) = h x.val) :
    k0_pay51 m (ix2 0 l) = (∑ x : Fin 80, if ea x.val = 0 then h x.val else 0) ∧
    k0_pay52 m (ix2 0 l) = (∑ x : Fin 80, if ea x.val = 1 then h x.val else 0) ∧
    k0_pay53 m (ix2 0 l) = (∑ x : Fin 80, if ea x.val = 2 then h x.val else 0) ∧
    k0_pay54 m (ix2 0 l) = (∑ x : Fin 80, if ea x.val = 3 then h x.val else 0) ∧
    k0_pay55 m (ix2 0 l) = (∑ x : Fin 80, if ea x.val = 4 then h x.val else 0) ∧
    k0_pay56 m (ix2 0 l) = (∑ x : Fin 80, if ea x.val = 5 then h x.val else 0) ∧
    k0_pay57 m (ix2 0 l) = (∑ x : Fin 80, if ea x.val = 6 then h x.val else 0) ∧
    k0_pay58 m (ix2 0 l) = (∑ x : Fin 80, if ea x.val = 7 then h x.val else 0) ∧
    k0_pay59 m (ix2 0 l) = (∑ x : Fin 80, if ea x.val = 8 then h x.val else 0) ∧
    k0_pay60 m (ix2 0 l) = (∑ x : Fin 80, if ea x.val = 9 then h x.val else 0) ∧
    k0_pay61 m (ix2 0 l) = (∑ x : Fin 80, if ea x.val = 10 then h x.val else 0) ∧
    k0_pay62 m (ix2 0 l) = (∑ x : Fin 80, if ea x.val = 11 then h x.val else 0) ∧
    k0_pay63 m (ix2 0 l) = (∑ x : Fin 80, if ea x.val = 12 then h x.val else 0) ∧
    k0_pay64 m (ix2 0 l) = (∑ x : Fin 80, if ea x.val = 13 then h x.val else 0) ∧
    k0_pay65 m (ix2 0 l) = (∑ x : Fin 80, if ea x.val = 14 then h x.val else 0) ∧
    k0_pay66 m (ix2 0 l) = (∑ x : Fin 80, if ea x.val = 15 then h x.val else 0) := by
  refine ⟨?_, ?_, ?_, ?_, ?_, ?_, ?_, ?_, ?_, ?_, ?_, ?_, ?_, ?_, ?_, ?_⟩ <;> rw [Fin.sum_univ_eq_sum_range (fun i => if ea i = _ then h i else 0) 80]
  · pointwise [k0_pay51]
    simp only [hm]
    rw [Fin.sum_univ_eq_sum_range h 16]
    simp [Finset.sum_range_succ, ea]
  · pointwise [k0_pay52]
    simp only [hm]
    rw [Fin.sum_univ_eq_sum_range (fun i => h (16 + i)) 8]
    simp [Finset.sum_range_succ, ea]
  · pointwise [k0_pay53]
    simp only [hm]
    rw [Fin.sum_univ_eq_sum_range (fun i => h (24 + i)) 8]
    simp [Finset.sum_range_succ, ea]
  · pointwise [k0_pay54]
    simp only [hm]
    rw [Fin.sum_univ_eq_sum_range (fun i => h (32 + i)) 8]
    simp [Finset.sum_range_succ, ea]
  · pointwise [k0_pay55]
    simp only [hm]
    rw [Fin.sum_univ_eq_sum_range (fun i => h (40 + i)) 8]
    simp [Finset.sum_range_succ, ea]
  · pointwise [k0_pay56]
    simp only [hm]
    rw [Fin.sum_univ_eq_sum_range (fun i => h (48 + i)) 8]
    simp [Finset.sum_range_succ, ea]
  · pointwise [k0_pay57]
    simp only [hm]
    rw [Fin.sum_univ_eq_sum_range (fun i => h (56 + i)) 8]
    simp [Finset.sum_range_succ, ea]
  · pointwise [k0_pay58]
    simp only [hm]
    rw [Fin.sum_univ_eq_sum_range (fun i => h (64 + i)) 8]
    simp [Finset.sum_range_succ, ea]
  · pointwise [k0_pay59]
    simp only [hm]
    show h 72 = _
    simp [Finset.sum_range_succ, ea]
  · pointwise [k0_pay60]
    simp only [hm]
    show h 73 = _
    simp [Finset.sum_range_succ, ea]
  · pointwise [k0_pay61]
    simp only [hm]
    show h 74 = _
    simp [Finset.sum_range_succ, ea]
  · pointwise [k0_pay62]
    simp only [hm]
    show h 75 = _
    simp [Finset.sum_range_succ, ea]
  · pointwise [k0_pay63]
    simp only [hm]
    show h 76 = _
    simp [Finset.sum_range_succ, ea]
  · pointwise [k0_pay64]
    simp only [hm]
    show h 77 = _
    simp [Finset.sum_range_succ, ea]
  · pointwise [k0_pay65]
    simp only [hm]
    show h 78 = _
    simp [Finset.sum_range_succ, ea]
  · pointwise [k0_pay66]
    simp only [hm]
    show h 79 = _
    simp [Finset.sum_range_succ, ea]
theorem lit_eq (k n : ℕ) : (((k : ℝ) : EReal) = ((n : ℝ) : EReal)) = (k = n) := by
  rw [EReal.coe_eq_coe_iff, Nat.cast_inj]
theorem n1o_at (m : FVec Ideal S80x128 .f32) (r : Vec Ideal S1x1x128x128 .f32) (a l : Fin 128) (h : ℕ → EReal) (hm : ∀ x : Fin 80, m (ix2 x l) = h x.val) (k : ℕ)
    (hr : r (ix4 0 0 a l) = if k < 16 then ((k : ℝ) : EReal) else ((99 : ℝ) : EReal)) :
    n1o m r (ix3 0 a l) = if k < 16 then ∑ x : Fin 80, if ea x.val = k then h x.val else 0 else 0 := by
  have hr' : r (ix4 0 0 a l) = (((if k < 16 then k else 99 : ℕ) : ℝ) : EReal) := by
    rw [hr]
    split
    · rfl
    · norm_num
  pointwise [n1o, k0_pay71, k0_pay70, k0_pay69, k0_pay68]
  obtain ⟨e0, e1, e2, e3, e4, e5, e6, e7, e8, e9, e10, e11, e12, e13, e14, e15⟩ := row_at m l h hm
  rw [e0, e1, e2, e3, e4, e5, e6, e7, e8, e9, e10, e11, e12, e13, e14, e15, hr', show Ideal.ofBits .f32 1073741824#32 = (((2 : ℕ) : ℝ) : EReal) from ofBits_lit 2 (by norm_num), show Ideal.ofBits .f32 1077936128#32 = (((3 : ℕ) : ℝ) : EReal) from ofBits_lit 3 (by norm_num), show Ideal.ofBits .f32 1082130432#32 = (((4 : ℕ) : ℝ) : EReal) from ofBits_lit 4 (by norm_num), show Ideal.ofBits .f32 1084227584#32 = (((5 : ℕ) : ℝ) : EReal) from ofBits_lit 5 (by norm_num), show Ideal.ofBits .f32 1086324736#32 = (((6 : ℕ) : ℝ) : EReal) from ofBits_lit 6 (by norm_num), show Ideal.ofBits .f32 1088421888#32 = (((7 : ℕ) : ℝ) : EReal) from ofBits_lit 7 (by norm_num), show Ideal.ofBits .f32 1090519040#32 = (((8 : ℕ) : ℝ) : EReal) from ofBits_lit 8 (by norm_num), show Ideal.ofBits .f32 1091567616#32 = (((9 : ℕ) : ℝ) : EReal) from ofBits_lit 9 (by norm_num), show Ideal.ofBits .f32 1092616192#32 = (((10 : ℕ) : ℝ) : EReal) from ofBits_lit 10 (by norm_num), show Ideal.ofBits .f32 1093664768#32 = (((11 : ℕ) : ℝ) : EReal) from ofBits_lit 11 (by norm_num), show Ideal.ofBits .f32 1094713344#32 = (((12 : ℕ) : ℝ) : EReal) from ofBits_lit 12 (by norm_num), show Ideal.ofBits .f32 1095761920#32 = (((13 : ℕ) : ℝ) : EReal) from ofBits_lit 13 (by norm_num), show Ideal.ofBits .f32 1096810496#32 = (((14 : ℕ) : ℝ) : EReal) from ofBits_lit 14 (by norm_num), show Ideal.ofBits .f32 1097859072#32 = (((15 : ℕ) : ℝ) : EReal) from ofBits_lit 15 (by norm_num),
    show (1 : EReal) = (((1 : ℕ) : ℝ) : EReal) by norm_num]
  have h0 : ∀ K : ℕ, ((((K : ℕ) : ℝ) : EReal) = 0) = (K = 0) := fun K => by
    rw [show (0 : EReal) = (((0 : ℕ) : ℝ) : EReal) by norm_num, lit_eq]
  simp only [lit_eq, h0]
  by_cases hk : k < 16
  · rw [if_pos hk, if_pos hk]
    interval_cases k <;> rfl
  · rw [if_neg hk, if_neg hk]
    rfl
theorem inz_at (b : ℕ → FVec Ideal S1x128 .f32) (l : Fin 128) (T : ℕ → EReal) (hT : ∀ k, k < 16 → b k (ix2 0 l) = T k) (h0 : Ideal.exp (T 0 - T 0) = 1) :
    inz b (ix2 0 l) = Ideal.div 1 (∑ k : Fin 16, Ideal.exp (T k.val - T 0)) := by
  pointwise [inz, k0_pay50]
  rw [Fin.sum_univ_eq_sum_range (fun k => Ideal.exp (T k - T 0)) 16]
  simp only [Finset.sum_range_succ, Finset.sum_range_zero, zero_add, h0]
  simp [hT]
theorem o4_at (x : Bool) (v23 : IVec S8x128 32) (a b : Vec Ideal S1x1x16x128 .f32) (s : Vec Ideal S1x128x128 .f32) (j l : Fin 128) :
    o4 x v23 a b s (ix3 0 j l) = Ideal.exp (s (ix3 0 j l) - a (ix4 0 0 0 l)) * inz (fun i => mxr8 (it8 x (cnd v23 a b) i)) (ix2 0 l) := by
  unfold o4
  generalize (inz fun i => mxr8 (it8 x (cnd v23 a b) i)) = z
  pointwise [k0_pay72, k0_pay73, k0_pay5]
theorem o6_at (b : Vec Ideal S1x1x16x128 .f32) (s : Vec Ideal S1x128x128 .f32) (j l : Fin 128) : o6 b s (ix3 0 j l) = Ideal.exp (s (ix3 0 j l) - b (ix4 0 0 0 l)) := by
  pointwise [o6, k0_pay74, k0_pay6]
theorem o7_at (r : Vec Ideal S1x1x128x128 .f32) (j l : Fin 128) : o7 r (ix3 0 j l) = r (ix4 0 0 j l) := by
  pointwise [o7, k0_pay75]
theorem sq_at (s : Vec Ideal S1x128x128 .f32) (j l : Fin 128) : sq s (ix2 j l) = s (ix3 0 j l) := by
  pointwise [sq]

end Cert.Proof.Topk

end

end
-- ==== Proof.Eqs1.lean ====
/-
  The pipelined loop: what each named stage of its first half is, as rounds on the scores.
-/
module

public import proofs.«01_k».proof.Proof.Run
public import proofs.«01_k».proof.Proof.Spec

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)
abbrev ld9 (k : Fin k0_t1_loop.trips) (f8 : Bf (F := F) c arg8) : Vec F S1x128x128 .f32 :=
  View.readAt (Elt F) arg8.view (Rect.unit (s := S2x128x1024) (k0_off9 k) S1x128x128.size (k0_off9_inb k)).toLoadRect f8
abbrev ld27 (k : Fin k0_t1_loop.trips) (f8 : Bf (F := F) c arg8) : Vec F S1x128x128 .f32 :=
  View.readAt (Elt F) arg8.view (Rect.unit (s := S2x128x1024) (k0_off27 k) S1x128x128.size (k0_off27_inb k)).toLoadRect f8
theorem pay87_f0 (w : Vec F S1x128x128 .f32) : k0_pay87 w = pick false (it false (sq w) 1) := rfl
theorem fr_55 (k : Fin k0_t1_loop.trips) (f8 : Bf (F := F) c arg8) : trip1_frame.sl.r_55 c arg8 k f8 = pick false (it false (sq (ld9 c arg8 k f8)) 1) := by
  show k0_pay87 (ld9 c arg8 k f8) = _; exact (pay87_f0 _)
theorem pay88_f1 (w : Vec F S1x128x128 .f32) : k0_pay88 w = (it false (sq w) 2) := rfl
theorem fr_56 (k : Fin k0_t1_loop.trips) (f8 : Bf (F := F) c arg8) : trip1_frame.sl.r_56 c arg8 k f8 = (it false (sq (ld9 c arg8 k f8)) 2) := by
  show k0_pay88 (ld9 c arg8 k f8) = _; exact (pay88_f1 _)
theorem pay99_f2 (W : FVec F S128x128 .f32) : k0_pay99 (W) = pick false (it false W 1) := rfl
theorem fr_57 (k : Fin k0_t1_loop.trips) (f8 : Bf (F := F) c arg8) : trip1_frame.sl.r_57 c arg8 k f8 = pick false (it false (sq (ld9 c arg8 k f8)) 3) := by
  show k0_pay99 (trip1_frame.sl.r_56 c arg8 k f8) = _; rw [fr_56]; exact (pay99_f2 _).trans (by simp only [it_add, Nat.reduceAdd])
theorem pay100_f3 (W : FVec F S128x128 .f32) : k0_pay100 (W) = (it false W 2) := rfl
theorem fr_58 (k : Fin k0_t1_loop.trips) (f8 : Bf (F := F) c arg8) : trip1_frame.sl.r_58 c arg8 k f8 = (it false (sq (ld9 c arg8 k f8)) 4) := by
  show k0_pay100 (trip1_frame.sl.r_56 c arg8 k f8) = _; rw [fr_56]; exact (pay100_f3 _).trans (by simp only [it_add, Nat.reduceAdd])
theorem pay113_f4 (W : FVec F S128x128 .f32) : k0_pay113 (W) = (it false W 2) := rfl
theorem fr_60 (k : Fin k0_t1_loop.trips) (f8 : Bf (F := F) c arg8) : trip1_frame.sl.r_60 c arg8 k f8 = (it false (sq (ld9 c arg8 k f8)) 6) := by
  show k0_pay113 (trip1_frame.sl.r_58 c arg8 k f8) = _; rw [fr_58]; exact (pay113_f4 _).trans (by simp only [it_add, Nat.reduceAdd])
theorem pay117_f5 (W : FVec F S128x128 .f32) : k0_pay117 (W) = mx1 (it false W 2) := rfl
theorem fr_61 (k : Fin k0_t1_loop.trips) (f8 : Bf (F := F) c arg8) : trip1_frame.sl.r_61 c arg8 k f8 = mx1 (it false (sq (ld9 c arg8 k f8)) 6) := by
  show k0_pay117 (trip1_frame.sl.r_58 c arg8 k f8) = _; rw [fr_58]; exact (pay117_f5 _).trans (by simp only [it_add, Nat.reduceAdd])
theorem pay130_f6 (W : FVec F S128x128 .f32) : k0_pay130 (W) (mx1 W) = mxr (it false W 2) := rfl
theorem fr_62 (k : Fin k0_t1_loop.trips) (f8 : Bf (F := F) c arg8) : trip1_frame.sl.r_62 c arg8 k f8 = mxr (it false (sq (ld9 c arg8 k f8)) 8) := by
  show k0_pay130 (trip1_frame.sl.r_60 c arg8 k f8) (trip1_frame.sl.r_61 c arg8 k f8) = _; rw [fr_60, fr_61]; exact (pay130_f6 _).trans (by simp only [it_add, Nat.reduceAdd])
theorem pay131_f7 (W : FVec F S128x128 .f32) : k0_pay131 (W) (mx1 W) = pick false (it false W 2) := rfl
theorem fr_63 (k : Fin k0_t1_loop.trips) (f8 : Bf (F := F) c arg8) : trip1_frame.sl.r_63 c arg8 k f8 = pick false (it false (sq (ld9 c arg8 k f8)) 8) := by
  show k0_pay131 (trip1_frame.sl.r_60 c arg8 k f8) (trip1_frame.sl.r_61 c arg8 k f8) = _; rw [fr_60, fr_61]; exact (pay131_f7 _).trans (by simp only [it_add, Nat.reduceAdd])
theorem pay132_f8 (W : FVec F S128x128 .f32) : k0_pay132 (W) (mx1 W) = (it false W 3) := rfl
theorem fr_64 (k : Fin k0_t1_loop.trips) (f8 : Bf (F := F) c arg8) : trip1_frame.sl.r_64 c arg8 k f8 = (it false (sq (ld9 c arg8 k f8)) 9) := by
  show k0_pay132 (trip1_frame.sl.r_60 c arg8 k f8) (trip1_frame.sl.r_61 c arg8 k f8) = _; rw [fr_60, fr_61]; exact (pay132_f8 _).trans (by simp only [it_add, Nat.reduceAdd])
theorem pay142_f9 (W : FVec F S128x128 .f32) : k0_pay142 (W) = mxr (it false W 1) := rfl
theorem fr_65 (k : Fin k0_t1_loop.trips) (f8 : Bf (F := F) c arg8) : trip1_frame.sl.r_65 c arg8 k f8 = mxr (it false (sq (ld9 c arg8 k f8)) 10) := by
  show k0_pay142 (trip1_frame.sl.r_64 c arg8 k f8) = _; rw [fr_64]; exact (pay142_f9 _).trans (by simp only [it_add, Nat.reduceAdd])
theorem pay143_f10 (W : FVec F S128x128 .f32) : k0_pay143 (W) = pick false (it false W 1) := rfl
theorem fr_66 (k : Fin k0_t1_loop.trips) (f8 : Bf (F := F) c arg8) : trip1_frame.sl.r_66 c arg8 k f8 = pick false (it false (sq (ld9 c arg8 k f8)) 10) := by
  show k0_pay143 (trip1_frame.sl.r_64 c arg8 k f8) = _; rw [fr_64]; exact (pay143_f10 _).trans (by simp only [it_add, Nat.reduceAdd])
theorem pay144_f11 (W : FVec F S128x128 .f32) : k0_pay144 (W) = (it false W 2) := rfl
theorem fr_67 (k : Fin k0_t1_loop.trips) (f8 : Bf (F := F) c arg8) : trip1_frame.sl.r_67 c arg8 k f8 = (it false (sq (ld9 c arg8 k f8)) 11) := by
  show k0_pay144 (trip1_frame.sl.r_64 c arg8 k f8) = _; rw [fr_64]; exact (pay144_f11 _).trans (by simp only [it_add, Nat.reduceAdd])
theorem pay155_f12 (W : FVec F S128x128 .f32) : k0_pay155 (W) = pick false (it false W 1) := rfl
theorem fr_68 (k : Fin k0_t1_loop.trips) (f8 : Bf (F := F) c arg8) : trip1_frame.sl.r_68 c arg8 k f8 = pick false (it false (sq (ld9 c arg8 k f8)) 12) := by
  show k0_pay155 (trip1_frame.sl.r_67 c arg8 k f8) = _; rw [fr_67]; exact (pay155_f12 _).trans (by simp only [it_add, Nat.reduceAdd])
theorem pay156_f13 (W : FVec F S128x128 .f32) : k0_pay156 (W) = (it false W 2) := rfl
theorem fr_69 (k : Fin k0_t1_loop.trips) (f8 : Bf (F := F) c arg8) : trip1_frame.sl.r_69 c arg8 k f8 = (it false (sq (ld9 c arg8 k f8)) 13) := by
  show k0_pay156 (trip1_frame.sl.r_67 c arg8 k f8) = _; rw [fr_67]; exact (pay156_f13 _).trans (by simp only [it_add, Nat.reduceAdd])
theorem pay169_f14 (W : FVec F S128x128 .f32) : k0_pay169 (W) = (it false W 2) := rfl
theorem fr_70 (k : Fin k0_t1_loop.trips) (f8 : Bf (F := F) c arg8) : trip1_frame.sl.r_70 c arg8 k f8 = (it false (sq (ld9 c arg8 k f8)) 15) := by
  show k0_pay169 (trip1_frame.sl.r_69 c arg8 k f8) = _; rw [fr_69]; exact (pay169_f14 _).trans (by simp only [it_add, Nat.reduceAdd])
theorem pay172_f15 (W : FVec F S128x128 .f32) : k0_pay172 (W) = mskv (pick false (it false W 1)) := rfl
theorem fr_71 (k : Fin k0_t1_loop.trips) (f8 : Bf (F := F) c arg8) : trip1_frame.sl.r_71 c arg8 k f8 = mskv (pick false (it false (sq (ld9 c arg8 k f8)) 14)) := by
  show k0_pay172 (trip1_frame.sl.r_69 c arg8 k f8) = _; rw [fr_69]; exact (pay172_f15 _).trans (by simp only [it_add, Nat.reduceAdd])
theorem pay180_f16 (w : Vec F S1x128x128 .f32) : k0_pay180 w = (sq w) := rfl
theorem fr_73 (k : Fin k0_t1_loop.trips) (f8 : Bf (F := F) c arg8) : trip1_frame.sl.r_73 c arg8 k f8 = (it false (sq (ld27 c arg8 k f8)) 0) := by
  show k0_pay180 (ld27 c arg8 k f8) = _; exact (pay180_f16 _)
theorem pay181_f17 (w : Vec F S1x128x128 .f32) : k0_pay181 w = mx1 (sq w) := rfl
theorem fr_74 (k : Fin k0_t1_loop.trips) (f8 : Bf (F := F) c arg8) : trip1_frame.sl.r_74 c arg8 k f8 = mx1 (it false (sq (ld27 c arg8 k f8)) 0) := by
  show k0_pay181 (ld27 c arg8 k f8) = _; exact (pay181_f17 _)
theorem pay194_f18 (W : FVec F S128x128 .f32) : k0_pay194 (W) (mx1 W) = mxr (it false W 2) := rfl
theorem fr_75 (k : Fin k0_t1_loop.trips) (f8 : Bf (F := F) c arg8) : trip1_frame.sl.r_75 c arg8 k f8 = mxr (it false (sq (ld27 c arg8 k f8)) 2) := by
  show k0_pay194 (trip1_frame.sl.r_73 c arg8 k f8) (trip1_frame.sl.r_74 c arg8 k f8) = _; rw [fr_73, fr_74]; exact (pay194_f18 _).trans (by simp only [it_add, Nat.reduceAdd])
theorem pay195_f19 (W : FVec F S128x128 .f32) : k0_pay195 (W) (mx1 W) = pick false (it false W 2) := rfl
theorem fr_76 (k : Fin k0_t1_loop.trips) (f8 : Bf (F := F) c arg8) : trip1_frame.sl.r_76 c arg8 k f8 = pick false (it false (sq (ld27 c arg8 k f8)) 2) := by
  show k0_pay195 (trip1_frame.sl.r_73 c arg8 k f8) (trip1_frame.sl.r_74 c arg8 k f8) = _; rw [fr_73, fr_74]; exact (pay195_f19 _).trans (by simp only [it_add, Nat.reduceAdd])
theorem pay196_f20 (W : FVec F S128x128 .f32) : k0_pay196 (W) (mx1 W) = (it false W 3) := rfl
theorem fr_77 (k : Fin k0_t1_loop.trips) (f8 : Bf (F := F) c arg8) : trip1_frame.sl.r_77 c arg8 k f8 = (it false (sq (ld27 c arg8 k f8)) 3) := by
  show k0_pay196 (trip1_frame.sl.r_73 c arg8 k f8) (trip1_frame.sl.r_74 c arg8 k f8) = _; rw [fr_73, fr_74]; exact (pay196_f20 _).trans (by simp only [it_add, Nat.reduceAdd])
theorem pay206_f21 (W : FVec F S128x128 .f32) : k0_pay206 (W) = mxr (it false W 1) := rfl
theorem fr_78 (k : Fin k0_t1_loop.trips) (f8 : Bf (F := F) c arg8) : trip1_frame.sl.r_78 c arg8 k f8 = mxr (it false (sq (ld27 c arg8 k f8)) 4) := by
  show k0_pay206 (trip1_frame.sl.r_77 c arg8 k f8) = _; rw [fr_77]; exact (pay206_f21 _).trans (by simp only [it_add, Nat.reduceAdd])
theorem pay207_f22 (W : FVec F S128x128 .f32) : k0_pay207 (W) = pick false (it false W 1) := rfl
theorem fr_79 (k : Fin k0_t1_loop.trips) (f8 : Bf (F := F) c arg8) : trip1_frame.sl.r_79 c arg8 k f8 = pick false (it false (sq (ld27 c arg8 k f8)) 4) := by
  show k0_pay207 (trip1_frame.sl.r_77 c arg8 k f8) = _; rw [fr_77]; exact (pay207_f22 _).trans (by simp only [it_add, Nat.reduceAdd])
theorem pay208_f23 (W : FVec F S128x128 .f32) : k0_pay208 (W) = (it false W 2) := rfl
theorem fr_80 (k : Fin k0_t1_loop.trips) (f8 : Bf (F := F) c arg8) : trip1_frame.sl.r_80 c arg8 k f8 = (it false (sq (ld27 c arg8 k f8)) 5) := by
  show k0_pay208 (trip1_frame.sl.r_77 c arg8 k f8) = _; rw [fr_77]; exact (pay208_f23 _).trans (by simp only [it_add, Nat.reduceAdd])
theorem pay219_f24 (W : FVec F S128x128 .f32) : k0_pay219 (W) = pick false (it false W 1) := rfl
theorem fr_81 (k : Fin k0_t1_loop.trips) (f8 : Bf (F := F) c arg8) : trip1_frame.sl.r_81 c arg8 k f8 = pick false (it false (sq (ld27 c arg8 k f8)) 6) := by
  show k0_pay219 (trip1_frame.sl.r_80 c arg8 k f8) = _; rw [fr_80]; exact (pay219_f24 _).trans (by simp only [it_add, Nat.reduceAdd])
theorem pay220_f25 (W : FVec F S128x128 .f32) : k0_pay220 (W) = (it false W 2) := rfl
theorem fr_82 (k : Fin k0_t1_loop.trips) (f8 : Bf (F := F) c arg8) : trip1_frame.sl.r_82 c arg8 k f8 = (it false (sq (ld27 c arg8 k f8)) 7) := by
  show k0_pay220 (trip1_frame.sl.r_80 c arg8 k f8) = _; rw [fr_80]; exact (pay220_f25 _).trans (by simp only [it_add, Nat.reduceAdd])
theorem pay233_f26 (W : FVec F S128x128 .f32) : k0_pay233 (W) = (it false W 2) := rfl
theorem fr_83 (k : Fin k0_t1_loop.trips) (f8 : Bf (F := F) c arg8) : trip1_frame.sl.r_83 c arg8 k f8 = (it false (sq (ld27 c arg8 k f8)) 9) := by
  show k0_pay233 (trip1_frame.sl.r_82 c arg8 k f8) = _; rw [fr_82]; exact (pay233_f26 _).trans (by simp only [it_add, Nat.reduceAdd])
theorem pay236_f27 (W : FVec F S128x128 .f32) : k0_pay236 (W) = mskv (pick false (it false W 1)) := rfl
theorem fr_84 (k : Fin k0_t1_loop.trips) (f8 : Bf (F := F) c arg8) : trip1_frame.sl.r_84 c arg8 k f8 = mskv (pick false (it false (sq (ld27 c arg8 k f8)) 8)) := by
  show k0_pay236 (trip1_frame.sl.r_82 c arg8 k f8) = _; rw [fr_82]; exact (pay236_f27 _).trans (by simp only [it_add, Nat.reduceAdd])
theorem pay245_f28 (W : FVec F S128x128 .f32) : k0_pay245 (W) = (it false W 2) := rfl
theorem fr_85 (k : Fin k0_t1_loop.trips) (f8 : Bf (F := F) c arg8) : trip1_frame.sl.r_85 c arg8 k f8 = (it false (sq (ld27 c arg8 k f8)) 11) := by
  show k0_pay245 (trip1_frame.sl.r_83 c arg8 k f8) = _; rw [fr_83]; exact (pay245_f28 _).trans (by simp only [it_add, Nat.reduceAdd])
theorem pay249_f29 (W : FVec F S128x128 .f32) : k0_pay249 (W) = mxr (it false W 2) := rfl
theorem fr_86 (k : Fin k0_t1_loop.trips) (f8 : Bf (F := F) c arg8) : trip1_frame.sl.r_86 c arg8 k f8 = mxr (it false (sq (ld27 c arg8 k f8)) 11) := by
  show k0_pay249 (trip1_frame.sl.r_83 c arg8 k f8) = _; rw [fr_83]; exact (pay249_f29 _).trans (by simp only [it_add, Nat.reduceAdd])
theorem pay250_f30 (W : FVec F S128x128 .f32) : k0_pay250 (W) = pick false (it false W 2) := rfl
theorem fr_87 (k : Fin k0_t1_loop.trips) (f8 : Bf (F := F) c arg8) : trip1_frame.sl.r_87 c arg8 k f8 = pick false (it false (sq (ld27 c arg8 k f8)) 11) := by
  show k0_pay250 (trip1_frame.sl.r_83 c arg8 k f8) = _; rw [fr_83]; exact (pay250_f30 _).trans (by simp only [it_add, Nat.reduceAdd])
theorem pay261_f31 (W : FVec F S128x128 .f32) : k0_pay261 (W) (pick false W) = mxr (it false W 2) := rfl
theorem fr_88 (k : Fin k0_t1_loop.trips) (f8 : Bf (F := F) c arg8) : trip1_frame.sl.r_88 c arg8 k f8 = mxr (it false (sq (ld27 c arg8 k f8)) 13) := by
  show k0_pay261 (trip1_frame.sl.r_85 c arg8 k f8) (trip1_frame.sl.r_87 c arg8 k f8) = _; rw [fr_85, fr_87]; exact (pay261_f31 _).trans (by simp only [it_add, Nat.reduceAdd])
theorem pay262_f32 (W : FVec F S128x128 .f32) : k0_pay262 (W) (pick false W) = pick false (it false W 2) := rfl
theorem fr_89 (k : Fin k0_t1_loop.trips) (f8 : Bf (F := F) c arg8) : trip1_frame.sl.r_89 c arg8 k f8 = pick false (it false (sq (ld27 c arg8 k f8)) 13) := by
  show k0_pay262 (trip1_frame.sl.r_85 c arg8 k f8) (trip1_frame.sl.r_87 c arg8 k f8) = _; rw [fr_85, fr_87]; exact (pay262_f32 _).trans (by simp only [it_add, Nat.reduceAdd])
theorem pay263_f33 (W : FVec F S128x128 .f32) : k0_pay263 (W) (pick false W) = (it false W 3) := rfl
theorem fr_90 (k : Fin k0_t1_loop.trips) (f8 : Bf (F := F) c arg8) : trip1_frame.sl.r_90 c arg8 k f8 = (it false (sq (ld27 c arg8 k f8)) 14) := by
  show k0_pay263 (trip1_frame.sl.r_85 c arg8 k f8) (trip1_frame.sl.r_87 c arg8 k f8) = _; rw [fr_85, fr_87]; exact (pay263_f33 _).trans (by simp only [it_add, Nat.reduceAdd])
theorem pay274_f34 (W : FVec F S128x128 .f32) : k0_pay274 (W) = pick false (it false W 1) := rfl
theorem fr_91 (k : Fin k0_t1_loop.trips) (f8 : Bf (F := F) c arg8) : trip1_frame.sl.r_91 c arg8 k f8 = pick false (it false (sq (ld27 c arg8 k f8)) 15) := by
  show k0_pay274 (trip1_frame.sl.r_90 c arg8 k f8) = _; rw [fr_90]; exact (pay274_f34 _).trans (by simp only [it_add, Nat.reduceAdd])
theorem pay275_f35 (W : FVec F S128x128 .f32) : k0_pay275 (W) = (it false W 2) := rfl
theorem fr_92 (k : Fin k0_t1_loop.trips) (f8 : Bf (F := F) c arg8) : trip1_frame.sl.r_92 c arg8 k f8 = (it false (sq (ld27 c arg8 k f8)) 16) := by
  show k0_pay275 (trip1_frame.sl.r_90 c arg8 k f8) = _; rw [fr_90]; exact (pay275_f35 _).trans (by simp only [it_add, Nat.reduceAdd])
theorem lit1_1 : ((k0_pay84 (F := F)) : FVec F S1x1x128x128 .f32) = litv (lit 0) := rfl
theorem pay85_f36 (w : Vec F S1x128x128 .f32) : k0_pay85 w = mskv (pick false (sq w)) := rfl
theorem msk1_1 (k : Fin k0_t1_loop.trips) (f8 : Bf (F := F) c arg8) : (k0_pay85 (ld9 c arg8 k f8)) = mskv (pick false (it false (sq (ld9 c arg8 k f8)) 0)) := by
  show k0_pay85 (ld9 c arg8 k f8) = _; exact (pay85_f36 _)
theorem lit1_2 : ((k0_pay90 trip1_frame.sl.cst_163) : FVec F S1x1x128x128 .f32) = litv (lit 1) := rfl
theorem pay91_f37 (W : FVec F S128x128 .f32) : k0_pay91 (pick false W) = mskv (pick false W) := rfl
theorem msk1_2 (k : Fin k0_t1_loop.trips) (f8 : Bf (F := F) c arg8) : (k0_pay91 (trip1_frame.sl.r_55 c arg8 k f8)) = mskv (pick false (it false (sq (ld9 c arg8 k f8)) 1)) := by
  show k0_pay91 (trip1_frame.sl.r_55 c arg8 k f8) = _; rw [fr_55]; exact (pay91_f37 _)
theorem lit1_3 : ((k0_pay96 (F := F)) : FVec F S1x1x128x128 .f32) = litv (lit 2) := rfl
theorem pay97_f38 (W : FVec F S128x128 .f32) : k0_pay97 (W) = mskv (pick false W) := rfl
theorem msk1_3 (k : Fin k0_t1_loop.trips) (f8 : Bf (F := F) c arg8) : (k0_pay97 (trip1_frame.sl.r_56 c arg8 k f8)) = mskv (pick false (it false (sq (ld9 c arg8 k f8)) 2)) := by
  show k0_pay97 (trip1_frame.sl.r_56 c arg8 k f8) = _; rw [fr_56]; exact (pay97_f38 _)
theorem lit1_4 : ((k0_pay103 (k0_pay102 (F := F))) : FVec F S1x1x128x128 .f32) = litv (lit 3) := rfl
theorem pay104_f39 (W : FVec F S128x128 .f32) : k0_pay104 (pick false W) = mskv (pick false W) := rfl
theorem msk1_4 (k : Fin k0_t1_loop.trips) (f8 : Bf (F := F) c arg8) : (k0_pay104 (trip1_frame.sl.r_57 c arg8 k f8)) = mskv (pick false (it false (sq (ld9 c arg8 k f8)) 3)) := by
  show k0_pay104 (trip1_frame.sl.r_57 c arg8 k f8) = _; rw [fr_57]; exact (pay104_f39 _)
theorem lit1_5 : ((k0_pay109 (F := F)) : FVec F S1x1x128x128 .f32) = litv (lit 4) := rfl
theorem pay110_f40 (W : FVec F S128x128 .f32) : k0_pay110 (W) = mskv (pick false W) := rfl
theorem msk1_5 (k : Fin k0_t1_loop.trips) (f8 : Bf (F := F) c arg8) : (k0_pay110 (trip1_frame.sl.r_58 c arg8 k f8)) = mskv (pick false (it false (sq (ld9 c arg8 k f8)) 4)) := by
  show k0_pay110 (trip1_frame.sl.r_58 c arg8 k f8) = _; rw [fr_58]; exact (pay110_f40 _)
theorem lit1_6 : ((k0_pay115 (F := F)) : FVec F S1x1x128x128 .f32) = litv (lit 5) := rfl
theorem pay116_f41 (W : FVec F S128x128 .f32) : k0_pay116 (W) = mskv (pick false (it false W 1)) := rfl
theorem msk1_6 (k : Fin k0_t1_loop.trips) (f8 : Bf (F := F) c arg8) : (k0_pay116 (trip1_frame.sl.r_58 c arg8 k f8)) = mskv (pick false (it false (sq (ld9 c arg8 k f8)) 5)) := by
  show k0_pay116 (trip1_frame.sl.r_58 c arg8 k f8) = _; rw [fr_58]; exact (pay116_f41 _).trans (by simp only [it_add, Nat.reduceAdd])
theorem lit1_7 : ((k0_pay122 (F := F)) : FVec F S1x1x128x128 .f32) = litv (lit 6) := rfl
theorem pay123_f42 (W : FVec F S128x128 .f32) : k0_pay123 (W) (mx1 W) = mskv (pick false W) := rfl
theorem msk1_7 (k : Fin k0_t1_loop.trips) (f8 : Bf (F := F) c arg8) : (k0_pay123 (trip1_frame.sl.r_60 c arg8 k f8) (trip1_frame.sl.r_61 c arg8 k f8)) = mskv (pick false (it false (sq (ld9 c arg8 k f8)) 6)) := by
  show k0_pay123 (trip1_frame.sl.r_60 c arg8 k f8) (trip1_frame.sl.r_61 c arg8 k f8) = _; rw [fr_60, fr_61]; exact (pay123_f42 _)
theorem lit1_8 : ((k0_pay128 (F := F)) : FVec F S1x1x128x128 .f32) = litv (lit 7) := rfl
theorem pay129_f43 (W : FVec F S128x128 .f32) : k0_pay129 (W) (mx1 W) = mskv (pick false (it false W 1)) := rfl
theorem msk1_8 (k : Fin k0_t1_loop.trips) (f8 : Bf (F := F) c arg8) : (k0_pay129 (trip1_frame.sl.r_60 c arg8 k f8) (trip1_frame.sl.r_61 c arg8 k f8)) = mskv (pick false (it false (sq (ld9 c arg8 k f8)) 7)) := by
  show k0_pay129 (trip1_frame.sl.r_60 c arg8 k f8) (trip1_frame.sl.r_61 c arg8 k f8) = _; rw [fr_60, fr_61]; exact (pay129_f43 _).trans (by simp only [it_add, Nat.reduceAdd])
theorem lit1_9 : ((k0_pay134 (F := F)) : FVec F S1x1x128x128 .f32) = litv (lit 8) := rfl
theorem pay135_f44 (W : FVec F S128x128 .f32) : k0_pay135 (pick false W) = mskv (pick false W) := rfl
theorem msk1_9 (k : Fin k0_t1_loop.trips) (f8 : Bf (F := F) c arg8) : (k0_pay135 (trip1_frame.sl.r_63 c arg8 k f8)) = mskv (pick false (it false (sq (ld9 c arg8 k f8)) 8)) := by
  show k0_pay135 (trip1_frame.sl.r_63 c arg8 k f8) = _; rw [fr_63]; exact (pay135_f44 _)
theorem lit1_10 : ((k0_pay140 (F := F)) : FVec F S1x1x128x128 .f32) = litv (lit 9) := rfl
theorem pay141_f45 (W : FVec F S128x128 .f32) : k0_pay141 (W) = mskv (pick false W) := rfl
theorem msk1_10 (k : Fin k0_t1_loop.trips) (f8 : Bf (F := F) c arg8) : (k0_pay141 (trip1_frame.sl.r_64 c arg8 k f8)) = mskv (pick false (it false (sq (ld9 c arg8 k f8)) 9)) := by
  show k0_pay141 (trip1_frame.sl.r_64 c arg8 k f8) = _; rw [fr_64]; exact (pay141_f45 _)
theorem lit1_11 : ((k0_pay146 (F := F)) : FVec F S1x1x128x128 .f32) = litv (lit 10) := rfl
theorem pay147_f46 (W : FVec F S128x128 .f32) : k0_pay147 (pick false W) = mskv (pick false W) := rfl
theorem msk1_11 (k : Fin k0_t1_loop.trips) (f8 : Bf (F := F) c arg8) : (k0_pay147 (trip1_frame.sl.r_66 c arg8 k f8)) = mskv (pick false (it false (sq (ld9 c arg8 k f8)) 10)) := by
  show k0_pay147 (trip1_frame.sl.r_66 c arg8 k f8) = _; rw [fr_66]; exact (pay147_f46 _)
theorem lit1_12 : ((k0_pay152 (F := F)) : FVec F S1x1x128x128 .f32) = litv (lit 11) := rfl
theorem pay153_f47 (W : FVec F S128x128 .f32) : k0_pay153 (W) = mskv (pick false W) := rfl
theorem msk1_12 (k : Fin k0_t1_loop.trips) (f8 : Bf (F := F) c arg8) : (k0_pay153 (trip1_frame.sl.r_67 c arg8 k f8)) = mskv (pick false (it false (sq (ld9 c arg8 k f8)) 11)) := by
  show k0_pay153 (trip1_frame.sl.r_67 c arg8 k f8) = _; rw [fr_67]; exact (pay153_f47 _)
theorem lit1_13 : ((k0_pay159 (k0_pay158 (F := F))) : FVec F S1x1x128x128 .f32) = litv (lit 12) := rfl
theorem pay160_f48 (W : FVec F S128x128 .f32) : k0_pay160 (pick false W) = mskv (pick false W) := rfl
theorem msk1_13 (k : Fin k0_t1_loop.trips) (f8 : Bf (F := F) c arg8) : (k0_pay160 (trip1_frame.sl.r_68 c arg8 k f8)) = mskv (pick false (it false (sq (ld9 c arg8 k f8)) 12)) := by
  show k0_pay160 (trip1_frame.sl.r_68 c arg8 k f8) = _; rw [fr_68]; exact (pay160_f48 _)
theorem lit1_14 : ((k0_pay165 (F := F)) : FVec F S1x1x128x128 .f32) = litv (lit 13) := rfl
theorem pay166_f49 (W : FVec F S128x128 .f32) : k0_pay166 (W) = mskv (pick false W) := rfl
theorem msk1_14 (k : Fin k0_t1_loop.trips) (f8 : Bf (F := F) c arg8) : (k0_pay166 (trip1_frame.sl.r_69 c arg8 k f8)) = mskv (pick false (it false (sq (ld9 c arg8 k f8)) 13)) := by
  show k0_pay166 (trip1_frame.sl.r_69 c arg8 k f8) = _; rw [fr_69]; exact (pay166_f49 _)
theorem lit1_15 : ((k0_pay171 (F := F)) : FVec F S1x1x128x128 .f32) = litv (lit 14) := rfl
theorem msk1_15 (k : Fin k0_t1_loop.trips) (f8 : Bf (F := F) c arg8) : (trip1_frame.sl.r_71 c arg8 k f8) = mskv (pick false (it false (sq (ld9 c arg8 k f8)) 14)) := fr_71 c arg8 k f8
theorem lit1_16 : ((k0_pay176 (F := F)) : FVec F S1x1x128x128 .f32) = litv (lit 15) := rfl
theorem pay177_f50 (W : FVec F S128x128 .f32) : k0_pay177 (W) = mskv (pick false W) := rfl
theorem msk1_16 (k : Fin k0_t1_loop.trips) (f8 : Bf (F := F) c arg8) : (k0_pay177 (trip1_frame.sl.r_70 c arg8 k f8)) = mskv (pick false (it false (sq (ld9 c arg8 k f8)) 15)) := by
  show k0_pay177 (trip1_frame.sl.r_70 c arg8 k f8) = _; rw [fr_70]; exact (pay177_f50 _)
theorem lit1_17 : ((k0_pay186 (F := F)) : FVec F S1x1x128x128 .f32) = litv (lit 0) := rfl
theorem pay187_f51 (W : FVec F S128x128 .f32) : k0_pay187 (W) (mx1 W) = mskv (pick false W) := rfl
theorem msk1_17 (k : Fin k0_t1_loop.trips) (f8 : Bf (F := F) c arg8) : (k0_pay187 (trip1_frame.sl.r_73 c arg8 k f8) (trip1_frame.sl.r_74 c arg8 k f8)) = mskv (pick false (it false (sq (ld27 c arg8 k f8)) 0)) := by
  show k0_pay187 (trip1_frame.sl.r_73 c arg8 k f8) (trip1_frame.sl.r_74 c arg8 k f8) = _; rw [fr_73, fr_74]; exact (pay187_f51 _)
theorem lit1_18 : ((k0_pay192 (F := F)) : FVec F S1x1x128x128 .f32) = litv (lit 1) := rfl
theorem pay193_f52 (W : FVec F S128x128 .f32) : k0_pay193 (W) (mx1 W) = mskv (pick false (it false W 1)) := rfl
theorem msk1_18 (k : Fin k0_t1_loop.trips) (f8 : Bf (F := F) c arg8) : (k0_pay193 (trip1_frame.sl.r_73 c arg8 k f8) (trip1_frame.sl.r_74 c arg8 k f8)) = mskv (pick false (it false (sq (ld27 c arg8 k f8)) 1)) := by
  show k0_pay193 (trip1_frame.sl.r_73 c arg8 k f8) (trip1_frame.sl.r_74 c arg8 k f8) = _; rw [fr_73, fr_74]; exact (pay193_f52 _).trans (by simp only [it_add, Nat.reduceAdd])
theorem lit1_19 : ((k0_pay198 (F := F)) : FVec F S1x1x128x128 .f32) = litv (lit 2) := rfl
theorem pay199_f53 (W : FVec F S128x128 .f32) : k0_pay199 (pick false W) = mskv (pick false W) := rfl
theorem msk1_19 (k : Fin k0_t1_loop.trips) (f8 : Bf (F := F) c arg8) : (k0_pay199 (trip1_frame.sl.r_76 c arg8 k f8)) = mskv (pick false (it false (sq (ld27 c arg8 k f8)) 2)) := by
  show k0_pay199 (trip1_frame.sl.r_76 c arg8 k f8) = _; rw [fr_76]; exact (pay199_f53 _)
theorem lit1_20 : ((k0_pay204 (F := F)) : FVec F S1x1x128x128 .f32) = litv (lit 3) := rfl
theorem pay205_f54 (W : FVec F S128x128 .f32) : k0_pay205 (W) = mskv (pick false W) := rfl
theorem msk1_20 (k : Fin k0_t1_loop.trips) (f8 : Bf (F := F) c arg8) : (k0_pay205 (trip1_frame.sl.r_77 c arg8 k f8)) = mskv (pick false (it false (sq (ld27 c arg8 k f8)) 3)) := by
  show k0_pay205 (trip1_frame.sl.r_77 c arg8 k f8) = _; rw [fr_77]; exact (pay205_f54 _)
theorem lit1_21 : ((k0_pay210 (F := F)) : FVec F S1x1x128x128 .f32) = litv (lit 4) := rfl
theorem pay211_f55 (W : FVec F S128x128 .f32) : k0_pay211 (pick false W) = mskv (pick false W) := rfl
theorem msk1_21 (k : Fin k0_t1_loop.trips) (f8 : Bf (F := F) c arg8) : (k0_pay211 (trip1_frame.sl.r_79 c arg8 k f8)) = mskv (pick false (it false (sq (ld27 c arg8 k f8)) 4)) := by
  show k0_pay211 (trip1_frame.sl.r_79 c arg8 k f8) = _; rw [fr_79]; exact (pay211_f55 _)
theorem lit1_22 : ((k0_pay216 (F := F)) : FVec F S1x1x128x128 .f32) = litv (lit 5) := rfl
theorem pay217_f56 (W : FVec F S128x128 .f32) : k0_pay217 (W) = mskv (pick false W) := rfl
theorem msk1_22 (k : Fin k0_t1_loop.trips) (f8 : Bf (F := F) c arg8) : (k0_pay217 (trip1_frame.sl.r_80 c arg8 k f8)) = mskv (pick false (it false (sq (ld27 c arg8 k f8)) 5)) := by
  show k0_pay217 (trip1_frame.sl.r_80 c arg8 k f8) = _; rw [fr_80]; exact (pay217_f56 _)
theorem lit1_23 : ((k0_pay223 (k0_pay222 (F := F))) : FVec F S1x1x128x128 .f32) = litv (lit 6) := rfl
theorem pay224_f57 (W : FVec F S128x128 .f32) : k0_pay224 (pick false W) = mskv (pick false W) := rfl
theorem msk1_23 (k : Fin k0_t1_loop.trips) (f8 : Bf (F := F) c arg8) : (k0_pay224 (trip1_frame.sl.r_81 c arg8 k f8)) = mskv (pick false (it false (sq (ld27 c arg8 k f8)) 6)) := by
  show k0_pay224 (trip1_frame.sl.r_81 c arg8 k f8) = _; rw [fr_81]; exact (pay224_f57 _)
theorem lit1_24 : ((k0_pay229 (F := F)) : FVec F S1x1x128x128 .f32) = litv (lit 7) := rfl
theorem pay230_f58 (W : FVec F S128x128 .f32) : k0_pay230 (W) = mskv (pick false W) := rfl
theorem msk1_24 (k : Fin k0_t1_loop.trips) (f8 : Bf (F := F) c arg8) : (k0_pay230 (trip1_frame.sl.r_82 c arg8 k f8)) = mskv (pick false (it false (sq (ld27 c arg8 k f8)) 7)) := by
  show k0_pay230 (trip1_frame.sl.r_82 c arg8 k f8) = _; rw [fr_82]; exact (pay230_f58 _)
theorem lit1_25 : ((k0_pay235 (F := F)) : FVec F S1x1x128x128 .f32) = litv (lit 8) := rfl
theorem msk1_25 (k : Fin k0_t1_loop.trips) (f8 : Bf (F := F) c arg8) : (trip1_frame.sl.r_84 c arg8 k f8) = mskv (pick false (it false (sq (ld27 c arg8 k f8)) 8)) := fr_84 c arg8 k f8
theorem lit1_26 : ((k0_pay241 (F := F)) : FVec F S1x1x128x128 .f32) = litv (lit 9) := rfl
theorem pay242_f59 (W : FVec F S128x128 .f32) : k0_pay242 (W) = mskv (pick false W) := rfl
theorem msk1_26 (k : Fin k0_t1_loop.trips) (f8 : Bf (F := F) c arg8) : (k0_pay242 (trip1_frame.sl.r_83 c arg8 k f8)) = mskv (pick false (it false (sq (ld27 c arg8 k f8)) 9)) := by
  show k0_pay242 (trip1_frame.sl.r_83 c arg8 k f8) = _; rw [fr_83]; exact (pay242_f59 _)
theorem lit1_27 : ((k0_pay247 (F := F)) : FVec F S1x1x128x128 .f32) = litv (lit 10) := rfl
theorem pay248_f60 (W : FVec F S128x128 .f32) : k0_pay248 (W) = mskv (pick false (it false W 1)) := rfl
theorem msk1_27 (k : Fin k0_t1_loop.trips) (f8 : Bf (F := F) c arg8) : (k0_pay248 (trip1_frame.sl.r_83 c arg8 k f8)) = mskv (pick false (it false (sq (ld27 c arg8 k f8)) 10)) := by
  show k0_pay248 (trip1_frame.sl.r_83 c arg8 k f8) = _; rw [fr_83]; exact (pay248_f60 _).trans (by simp only [it_add, Nat.reduceAdd])
theorem lit1_28 : ((k0_pay253 (F := F)) : FVec F S1x1x128x128 .f32) = litv (lit 11) := rfl
theorem pay254_f61 (W : FVec F S128x128 .f32) : k0_pay254 (pick false W) = mskv (pick false W) := rfl
theorem msk1_28 (k : Fin k0_t1_loop.trips) (f8 : Bf (F := F) c arg8) : (k0_pay254 (trip1_frame.sl.r_87 c arg8 k f8)) = mskv (pick false (it false (sq (ld27 c arg8 k f8)) 11)) := by
  show k0_pay254 (trip1_frame.sl.r_87 c arg8 k f8) = _; rw [fr_87]; exact (pay254_f61 _)
theorem lit1_29 : ((k0_pay259 (F := F)) : FVec F S1x1x128x128 .f32) = litv (lit 12) := rfl
theorem pay260_f62 (W : FVec F S128x128 .f32) : k0_pay260 (W) (pick false W) = mskv (pick false (it false W 1)) := rfl
theorem msk1_29 (k : Fin k0_t1_loop.trips) (f8 : Bf (F := F) c arg8) : (k0_pay260 (trip1_frame.sl.r_85 c arg8 k f8) (trip1_frame.sl.r_87 c arg8 k f8)) = mskv (pick false (it false (sq (ld27 c arg8 k f8)) 12)) := by
  show k0_pay260 (trip1_frame.sl.r_85 c arg8 k f8) (trip1_frame.sl.r_87 c arg8 k f8) = _; rw [fr_85, fr_87]; exact (pay260_f62 _).trans (by simp only [it_add, Nat.reduceAdd])
theorem lit1_30 : ((k0_pay265 (F := F)) : FVec F S1x1x128x128 .f32) = litv (lit 13) := rfl
theorem pay266_f63 (W : FVec F S128x128 .f32) : k0_pay266 (pick false W) = mskv (pick false W) := rfl
theorem msk1_30 (k : Fin k0_t1_loop.trips) (f8 : Bf (F := F) c arg8) : (k0_pay266 (trip1_frame.sl.r_89 c arg8 k f8)) = mskv (pick false (it false (sq (ld27 c arg8 k f8)) 13)) := by
  show k0_pay266 (trip1_frame.sl.r_89 c arg8 k f8) = _; rw [fr_89]; exact (pay266_f63 _)
theorem lit1_31 : ((k0_pay271 (F := F)) : FVec F S1x1x128x128 .f32) = litv (lit 14) := rfl
theorem pay272_f64 (W : FVec F S128x128 .f32) : k0_pay272 (W) = mskv (pick false W) := rfl
theorem msk1_31 (k : Fin k0_t1_loop.trips) (f8 : Bf (F := F) c arg8) : (k0_pay272 (trip1_frame.sl.r_90 c arg8 k f8)) = mskv (pick false (it false (sq (ld27 c arg8 k f8)) 14)) := by
  show k0_pay272 (trip1_frame.sl.r_90 c arg8 k f8) = _; rw [fr_90]; exact (pay272_f64 _)
theorem lit1_32 : ((k0_pay277 trip1_frame.sl.cst_430) : FVec F S1x1x128x128 .f32) = litv (lit 15) := rfl
theorem pay278_f65 (W : FVec F S128x128 .f32) : k0_pay278 (pick false W) = mskv (pick false W) := rfl
theorem msk1_32 (k : Fin k0_t1_loop.trips) (f8 : Bf (F := F) c arg8) : (k0_pay278 (trip1_frame.sl.r_91 c arg8 k f8)) = mskv (pick false (it false (sq (ld27 c arg8 k f8)) 15)) := by
  show k0_pay278 (trip1_frame.sl.r_91 c arg8 k f8) = _; rw [fr_91]; exact (pay278_f65 _)
theorem pay246_f66 (W : FVec F S128x128 .f32) : k0_pay246 (W) = rowv (it false W 1) := rfl
theorem row1_38 (k : Fin k0_t1_loop.trips) (f8 : Bf (F := F) c arg8) : k0_pay246 (trip1_frame.sl.r_83 c arg8 k f8) = rowv (it false (sq (ld27 c arg8 k f8)) 10) := by
  show k0_pay246 (trip1_frame.sl.r_83 c arg8 k f8) = _; rw [fr_83]; exact (pay246_f66 _).trans (by simp only [it_add, Nat.reduceAdd])
theorem pay240_f67 (W : FVec F S128x128 .f32) : k0_pay240 (W) = rowv W := rfl
theorem row1_37 (k : Fin k0_t1_loop.trips) (f8 : Bf (F := F) c arg8) : k0_pay240 (trip1_frame.sl.r_83 c arg8 k f8) = rowv (it false (sq (ld27 c arg8 k f8)) 9) := by
  show k0_pay240 (trip1_frame.sl.r_83 c arg8 k f8) = _; rw [fr_83]; exact (pay240_f67 _)
theorem pay234_f68 (W : FVec F S128x128 .f32) : k0_pay234 (W) = rowv (it false W 1) := rfl
theorem row1_36 (k : Fin k0_t1_loop.trips) (f8 : Bf (F := F) c arg8) : k0_pay234 (trip1_frame.sl.r_82 c arg8 k f8) = rowv (it false (sq (ld27 c arg8 k f8)) 8) := by
  show k0_pay234 (trip1_frame.sl.r_82 c arg8 k f8) = _; rw [fr_82]; exact (pay234_f68 _).trans (by simp only [it_add, Nat.reduceAdd])
theorem pay228_f69 (W : FVec F S128x128 .f32) : k0_pay228 (W) = rowv W := rfl
theorem row1_35 (k : Fin k0_t1_loop.trips) (f8 : Bf (F := F) c arg8) : k0_pay228 (trip1_frame.sl.r_82 c arg8 k f8) = rowv (it false (sq (ld27 c arg8 k f8)) 7) := by
  show k0_pay228 (trip1_frame.sl.r_82 c arg8 k f8) = _; rw [fr_82]; exact (pay228_f69 _)
theorem pay170_f70 (W : FVec F S128x128 .f32) : k0_pay170 (W) = rowv (it false W 1) := rfl
theorem row1_24 (k : Fin k0_t1_loop.trips) (f8 : Bf (F := F) c arg8) : k0_pay170 (trip1_frame.sl.r_69 c arg8 k f8) = rowv (it false (sq (ld9 c arg8 k f8)) 14) := by
  show k0_pay170 (trip1_frame.sl.r_69 c arg8 k f8) = _; rw [fr_69]; exact (pay170_f70 _).trans (by simp only [it_add, Nat.reduceAdd])
theorem pay164_f71 (W : FVec F S128x128 .f32) : k0_pay164 (W) = rowv W := rfl
theorem row1_23 (k : Fin k0_t1_loop.trips) (f8 : Bf (F := F) c arg8) : k0_pay164 (trip1_frame.sl.r_69 c arg8 k f8) = rowv (it false (sq (ld9 c arg8 k f8)) 13) := by
  show k0_pay164 (trip1_frame.sl.r_69 c arg8 k f8) = _; rw [fr_69]; exact (pay164_f71 _)
theorem pay114_f72 (W : FVec F S128x128 .f32) : k0_pay114 (W) = rowv (it false W 1) := rfl
theorem row1_15 (k : Fin k0_t1_loop.trips) (f8 : Bf (F := F) c arg8) : k0_pay114 (trip1_frame.sl.r_58 c arg8 k f8) = rowv (it false (sq (ld9 c arg8 k f8)) 5) := by
  show k0_pay114 (trip1_frame.sl.r_58 c arg8 k f8) = _; rw [fr_58]; exact (pay114_f72 _).trans (by simp only [it_add, Nat.reduceAdd])
theorem pay108_f73 (W : FVec F S128x128 .f32) : k0_pay108 (W) = rowv W := rfl
theorem row1_14 (k : Fin k0_t1_loop.trips) (f8 : Bf (F := F) c arg8) : k0_pay108 (trip1_frame.sl.r_58 c arg8 k f8) = rowv (it false (sq (ld9 c arg8 k f8)) 4) := by
  show k0_pay108 (trip1_frame.sl.r_58 c arg8 k f8) = _; rw [fr_58]; exact (pay108_f73 _)
theorem pay139_f74 (W : FVec F S128x128 .f32) : k0_pay139 (W) = rowv W := rfl
theorem row1_19 (k : Fin k0_t1_loop.trips) (f8 : Bf (F := F) c arg8) : k0_pay139 (trip1_frame.sl.r_64 c arg8 k f8) = rowv (it false (sq (ld9 c arg8 k f8)) 9) := by
  show k0_pay139 (trip1_frame.sl.r_64 c arg8 k f8) = _; rw [fr_64]; exact (pay139_f74 _)
theorem pay133_f75 (W : FVec F S128x128 .f32) : k0_pay133 (mxr W) = rowv W := rfl
theorem row1_18 (k : Fin k0_t1_loop.trips) (f8 : Bf (F := F) c arg8) : k0_pay133 (trip1_frame.sl.r_62 c arg8 k f8) = rowv (it false (sq (ld9 c arg8 k f8)) 8) := by
  show k0_pay133 (trip1_frame.sl.r_62 c arg8 k f8) = _; rw [fr_62]; exact (pay133_f75 _)
theorem pay258_f76 (W : FVec F S128x128 .f32) : k0_pay258 (W) (pick false W) = rowv (it false W 1) := rfl
theorem row1_40 (k : Fin k0_t1_loop.trips) (f8 : Bf (F := F) c arg8) : k0_pay258 (trip1_frame.sl.r_85 c arg8 k f8) (trip1_frame.sl.r_87 c arg8 k f8) = rowv (it false (sq (ld27 c arg8 k f8)) 12) := by
  show k0_pay258 (trip1_frame.sl.r_85 c arg8 k f8) (trip1_frame.sl.r_87 c arg8 k f8) = _; rw [fr_85, fr_87]; exact (pay258_f76 _).trans (by simp only [it_add, Nat.reduceAdd])
theorem pay252_f77 (W : FVec F S128x128 .f32) : k0_pay252 (mxr W) = rowv W := rfl
theorem row1_39 (k : Fin k0_t1_loop.trips) (f8 : Bf (F := F) c arg8) : k0_pay252 (trip1_frame.sl.r_86 c arg8 k f8) = rowv (it false (sq (ld27 c arg8 k f8)) 11) := by
  show k0_pay252 (trip1_frame.sl.r_86 c arg8 k f8) = _; rw [fr_86]; exact (pay252_f77 _)
theorem pay157_f78 (W : FVec F S128x128 .f32) : k0_pay157 (W) = rowv (it false W 1) := rfl
theorem row1_22 (k : Fin k0_t1_loop.trips) (f8 : Bf (F := F) c arg8) : k0_pay157 (trip1_frame.sl.r_67 c arg8 k f8) = rowv (it false (sq (ld9 c arg8 k f8)) 12) := by
  show k0_pay157 (trip1_frame.sl.r_67 c arg8 k f8) = _; rw [fr_67]; exact (pay157_f78 _).trans (by simp only [it_add, Nat.reduceAdd])
theorem pay151_f79 (W : FVec F S128x128 .f32) : k0_pay151 (W) = rowv W := rfl
theorem row1_21 (k : Fin k0_t1_loop.trips) (f8 : Bf (F := F) c arg8) : k0_pay151 (trip1_frame.sl.r_67 c arg8 k f8) = rowv (it false (sq (ld9 c arg8 k f8)) 11) := by
  show k0_pay151 (trip1_frame.sl.r_67 c arg8 k f8) = _; rw [fr_67]; exact (pay151_f79 _)
theorem pay145_f80 (W : FVec F S128x128 .f32) : k0_pay145 (mxr W) = rowv W := rfl
theorem row1_20 (k : Fin k0_t1_loop.trips) (f8 : Bf (F := F) c arg8) : k0_pay145 (trip1_frame.sl.r_65 c arg8 k f8) = rowv (it false (sq (ld9 c arg8 k f8)) 10) := by
  show k0_pay145 (trip1_frame.sl.r_65 c arg8 k f8) = _; rw [fr_65]; exact (pay145_f80 _)
theorem pay101_f81 (W : FVec F S128x128 .f32) : k0_pay101 (W) = rowv (it false W 1) := rfl
theorem row1_13 (k : Fin k0_t1_loop.trips) (f8 : Bf (F := F) c arg8) : k0_pay101 (trip1_frame.sl.r_56 c arg8 k f8) = rowv (it false (sq (ld9 c arg8 k f8)) 3) := by
  show k0_pay101 (trip1_frame.sl.r_56 c arg8 k f8) = _; rw [fr_56]; exact (pay101_f81 _).trans (by simp only [it_add, Nat.reduceAdd])
theorem pay95_f82 (W : FVec F S128x128 .f32) : k0_pay95 (W) = rowv W := rfl
theorem row1_12 (k : Fin k0_t1_loop.trips) (f8 : Bf (F := F) c arg8) : k0_pay95 (trip1_frame.sl.r_56 c arg8 k f8) = rowv (it false (sq (ld9 c arg8 k f8)) 2) := by
  show k0_pay95 (trip1_frame.sl.r_56 c arg8 k f8) = _; rw [fr_56]; exact (pay95_f82 _)
theorem pay127_f83 (W : FVec F S128x128 .f32) : k0_pay127 (W) (mx1 W) = rowv (it false W 1) := rfl
theorem row1_17 (k : Fin k0_t1_loop.trips) (f8 : Bf (F := F) c arg8) : k0_pay127 (trip1_frame.sl.r_60 c arg8 k f8) (trip1_frame.sl.r_61 c arg8 k f8) = rowv (it false (sq (ld9 c arg8 k f8)) 7) := by
  show k0_pay127 (trip1_frame.sl.r_60 c arg8 k f8) (trip1_frame.sl.r_61 c arg8 k f8) = _; rw [fr_60, fr_61]; exact (pay127_f83 _).trans (by simp only [it_add, Nat.reduceAdd])
theorem pay121_f84 (W : FVec F S128x128 .f32) : k0_pay121 (mx1 W) = rowv W := rfl
theorem row1_16 (k : Fin k0_t1_loop.trips) (f8 : Bf (F := F) c arg8) : k0_pay121 (trip1_frame.sl.r_61 c arg8 k f8) = rowv (it false (sq (ld9 c arg8 k f8)) 6) := by
  show k0_pay121 (trip1_frame.sl.r_61 c arg8 k f8) = _; rw [fr_61]; exact (pay121_f84 _)
theorem pay191_f85 (W : FVec F S128x128 .f32) : k0_pay191 (W) (mx1 W) = rowv (it false W 1) := rfl
theorem row1_29 (k : Fin k0_t1_loop.trips) (f8 : Bf (F := F) c arg8) : k0_pay191 (trip1_frame.sl.r_73 c arg8 k f8) (trip1_frame.sl.r_74 c arg8 k f8) = rowv (it false (sq (ld27 c arg8 k f8)) 1) := by
  show k0_pay191 (trip1_frame.sl.r_73 c arg8 k f8) (trip1_frame.sl.r_74 c arg8 k f8) = _; rw [fr_73, fr_74]; exact (pay191_f85 _).trans (by simp only [it_add, Nat.reduceAdd])
theorem pay185_f86 (W : FVec F S128x128 .f32) : k0_pay185 (mx1 W) = rowv W := rfl
theorem row1_28 (k : Fin k0_t1_loop.trips) (f8 : Bf (F := F) c arg8) : k0_pay185 (trip1_frame.sl.r_74 c arg8 k f8) = rowv (it false (sq (ld27 c arg8 k f8)) 0) := by
  show k0_pay185 (trip1_frame.sl.r_74 c arg8 k f8) = _; rw [fr_74]; exact (pay185_f86 _)
theorem pay89_f87 (w : Vec F S1x128x128 .f32) : k0_pay89 w = rowv (it false (sq w) 1) := rfl
theorem row1_11 (k : Fin k0_t1_loop.trips) (f8 : Bf (F := F) c arg8) : k0_pay89 (ld9 c arg8 k f8) = rowv (it false (sq (ld9 c arg8 k f8)) 1) := by
  show k0_pay89 (ld9 c arg8 k f8) = _; exact (pay89_f87 _)
theorem pay83_f88 (w : Vec F S1x128x128 .f32) : k0_pay83 w = rowv (sq w) := rfl
theorem row1_10 (k : Fin k0_t1_loop.trips) (f8 : Bf (F := F) c arg8) : k0_pay83 (ld9 c arg8 k f8) = rowv (it false (sq (ld9 c arg8 k f8)) 0) := by
  show k0_pay83 (ld9 c arg8 k f8) = _; exact (pay83_f88 _)
theorem pay175_f89 (W : FVec F S128x128 .f32) : k0_pay175 (W) = rowv W := rfl
theorem row1_25 (k : Fin k0_t1_loop.trips) (f8 : Bf (F := F) c arg8) : k0_pay175 (trip1_frame.sl.r_70 c arg8 k f8) = rowv (it false (sq (ld9 c arg8 k f8)) 15) := by
  show k0_pay175 (trip1_frame.sl.r_70 c arg8 k f8) = _; rw [fr_70]; exact (pay175_f89 _)
theorem pay203_f90 (W : FVec F S128x128 .f32) : k0_pay203 (W) = rowv W := rfl
theorem row1_31 (k : Fin k0_t1_loop.trips) (f8 : Bf (F := F) c arg8) : k0_pay203 (trip1_frame.sl.r_77 c arg8 k f8) = rowv (it false (sq (ld27 c arg8 k f8)) 3) := by
  show k0_pay203 (trip1_frame.sl.r_77 c arg8 k f8) = _; rw [fr_77]; exact (pay203_f90 _)
theorem pay197_f91 (W : FVec F S128x128 .f32) : k0_pay197 (mxr W) = rowv W := rfl
theorem row1_30 (k : Fin k0_t1_loop.trips) (f8 : Bf (F := F) c arg8) : k0_pay197 (trip1_frame.sl.r_75 c arg8 k f8) = rowv (it false (sq (ld27 c arg8 k f8)) 2) := by
  show k0_pay197 (trip1_frame.sl.r_75 c arg8 k f8) = _; rw [fr_75]; exact (pay197_f91 _)
theorem pay221_f92 (W : FVec F S128x128 .f32) : k0_pay221 (W) = rowv (it false W 1) := rfl
theorem row1_34 (k : Fin k0_t1_loop.trips) (f8 : Bf (F := F) c arg8) : k0_pay221 (trip1_frame.sl.r_80 c arg8 k f8) = rowv (it false (sq (ld27 c arg8 k f8)) 6) := by
  show k0_pay221 (trip1_frame.sl.r_80 c arg8 k f8) = _; rw [fr_80]; exact (pay221_f92 _).trans (by simp only [it_add, Nat.reduceAdd])
theorem pay215_f93 (W : FVec F S128x128 .f32) : k0_pay215 (W) = rowv W := rfl
theorem row1_33 (k : Fin k0_t1_loop.trips) (f8 : Bf (F := F) c arg8) : k0_pay215 (trip1_frame.sl.r_80 c arg8 k f8) = rowv (it false (sq (ld27 c arg8 k f8)) 5) := by
  show k0_pay215 (trip1_frame.sl.r_80 c arg8 k f8) = _; rw [fr_80]; exact (pay215_f93 _)
theorem pay209_f94 (W : FVec F S128x128 .f32) : k0_pay209 (mxr W) = rowv W := rfl
theorem row1_32 (k : Fin k0_t1_loop.trips) (f8 : Bf (F := F) c arg8) : k0_pay209 (trip1_frame.sl.r_78 c arg8 k f8) = rowv (it false (sq (ld27 c arg8 k f8)) 4) := by
  show k0_pay209 (trip1_frame.sl.r_78 c arg8 k f8) = _; rw [fr_78]; exact (pay209_f94 _)
theorem pay276_f95 (W : FVec F S128x128 .f32) : k0_pay276 (W) = rowv (it false W 1) := rfl
theorem row1_43 (k : Fin k0_t1_loop.trips) (f8 : Bf (F := F) c arg8) : k0_pay276 (trip1_frame.sl.r_90 c arg8 k f8) = rowv (it false (sq (ld27 c arg8 k f8)) 15) := by
  show k0_pay276 (trip1_frame.sl.r_90 c arg8 k f8) = _; rw [fr_90]; exact (pay276_f95 _).trans (by simp only [it_add, Nat.reduceAdd])
theorem pay270_f96 (W : FVec F S128x128 .f32) : k0_pay270 (W) = rowv W := rfl
theorem row1_42 (k : Fin k0_t1_loop.trips) (f8 : Bf (F := F) c arg8) : k0_pay270 (trip1_frame.sl.r_90 c arg8 k f8) = rowv (it false (sq (ld27 c arg8 k f8)) 14) := by
  show k0_pay270 (trip1_frame.sl.r_90 c arg8 k f8) = _; rw [fr_90]; exact (pay270_f96 _)
theorem pay264_f97 (W : FVec F S128x128 .f32) : k0_pay264 (mxr W) = rowv W := rfl
theorem row1_41 (k : Fin k0_t1_loop.trips) (f8 : Bf (F := F) c arg8) : k0_pay264 (trip1_frame.sl.r_88 c arg8 k f8) = rowv (it false (sq (ld27 c arg8 k f8)) 13) := by
  show k0_pay264 (trip1_frame.sl.r_88 c arg8 k f8) = _; rw [fr_88]; exact (pay264_f97 _)
end Cert.Proof.Topk

end

end
-- ==== Proof.Mem.lean ====
/-
  Reading the buffers of the call: masked stores, stores of single rows, stores of a group of columns, loads.
-/
module

public import proofs.«01_k».proof.Proof.Run
public import proofs.«01_k».proof.Proof.Spec
public import Idealize.ShloMosaic.Lib.Pointwise
public import Idealize.ShloMosaic.Lib.WritesUnit
public import Idealize.ShloMosaic.Lib.TopK.GroupedStream

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.View

section Reading
variable {sp : Space}

theorem mskv_apply (s : IVec S128x128 1) (a : Fin 1) (b : Fin 1) (p q : Fin 128) : mskv s (ix4 a b p q) = s (ix2 p q) := by
  unfold mskv; pointwise
theorem litv_apply (b : BitVec 32) (j : S1x1x128x128.Idx) : (litv b : FVec F S1x1x128x128 .f32) j = Scalar.ofBits .f32 b := rfl
theorem rowv_apply (V : FVec F S128x128 .f32) (a b d : Fin 1) (q : Fin 128) : rowv V (ix4 a b d q) = mxr V (ix2 0 q) := by
  unfold rowv; pointwise

/-- What a masked store leaves under its rectangle and beside it. -/
theorem read_mwrite_in {S : Shape} {e : EltTy} (v : View sig .tc sp S e) (r : Rect S) (f : v.ty.Contents (Elt F)) (w : r.shape.Idx → Elt F e)
    (m : IVec r.shape 1) (x : r.shape.Idx) :
    v.read (Elt F) ((v.slice r).write (Elt F) f w m.on) (r.emb x) = if m x = 1 then w x else v.read (Elt F) f (r.emb x) := by
  by_cases ht : m x = 1
  · rw [read_slice_write_emb _ _ _ ((IVec.mem_on_iff _ _).mpr ht), if_pos ht]
  · rw [if_neg ht, read_slice_write_of_not_mem]
    intro hm
    obtain ⟨x', hx', he⟩ := Finset.mem_map.mp hm
    exact ht (r.emb.injective he ▸ (IVec.mem_on_iff _ _).mp hx')
theorem read_mwrite_out {S : Shape} {e : EltTy} (v : View sig .tc sp S e) (r : Rect S) (f : v.ty.Contents (Elt F)) (w : r.shape.Idx → Elt F e)
    (m : IVec r.shape 1) (y : S.Idx) (hy : ∀ x, r.emb x ≠ y) :
    v.read (Elt F) ((v.slice r).write (Elt F) f w m.on) y = v.read (Elt F) f y := by
  rw [read_slice_write_of_not_mem]
  intro hm
  obtain ⟨x', -, he⟩ := Finset.mem_map.mp hm
  exact hy x' he

/-- The rank buffer `f` reads the ranks of `V` after `n` rounds at slot `sl`, half `h`, and `f0` elsewhere. -/
def NestP (v : View sig .tc sp S2x2x128x128 .f32) (f0 f : v.ty.Contents (Elt F)) (x : Bool) (V : FVec F S128x128 .f32) (sl h : ℕ) (n : ℕ) : Prop :=
  ∀ (y0 y1 : Fin 2) (a b : Fin 128), v.read (Elt F) f (ix4 y0 y1 a b) = if y0.val = sl ∧ y1.val = h then rkc x V n (ix2 a b) else v.read (Elt F) f0 (ix4 y0 y1 a b)

theorem nest0 (v : View sig .tc sp S2x2x128x128 .f32) (f0 : v.ty.Contents (Elt F)) (x : Bool) (V : FVec F S128x128 .f32) (sl h : ℕ)
    (off : Fin 4 → ℕ) (inb) (hoff : off = ![sl, h, 0, 0]) (w : FVec F S1x1x128x128 .f32) (hw : w = litv 0x42C60000#32) :
    NestP v f0 (v.writes (Elt F) f0 [⟨Rect.unit (s := S2x2x128x128) off S1x1x128x128.size inb, w⟩]) x V sl h 0 := by
  intro y0 y1 a b
  split
  · rename_i hh
    rw [read_writes_cons_unit_of_mem v f0 inb w [] (ix4 y0 y1 a b) (ix4 (0 : Fin 1) (0 : Fin 1) a b) hoff, hw]
    · rfl
    · intro t
      match t with
      | ⟨0, _⟩ => exact hh.1
      | ⟨1, _⟩ => exact hh.2
      | ⟨2, _⟩ => exact (Nat.zero_add _).symm
      | ⟨3, _⟩ => exact (Nat.zero_add _).symm
  · rename_i hh
    by_cases h0 : y0.val = sl
    · have h1 : ¬ y1.val = h := fun h1 => hh ⟨h0, h1⟩
      rw [read_writes_cons_unit_of_not_mem v f0 inb w [] (ix4 y0 y1 a b) hoff 1 (by show y1.val < h ∨ h + 1 ≤ y1.val; omega)]; rfl
    · rw [read_writes_cons_unit_of_not_mem v f0 inb w [] (ix4 y0 y1 a b) hoff 0 (by show y0.val < sl ∨ sl + 1 ≤ y0.val; omega)]; rfl

theorem nestS (v : View sig .tc sp S2x2x128x128 .f32) (f0 f : v.ty.Contents (Elt F)) (x : Bool) (V : FVec F S128x128 .f32) (sl h n : ℕ)
    (hf : NestP v f0 f x V sl h n)
    (off : Fin 4 → ℕ) (inb) (hoff : off = ![sl, h, 0, 0]) (w : FVec F S1x1x128x128 .f32) (hw : w = litv (lit n))
    (m : IVec S1x1x128x128 1) (hm : m = mskv (pick x (it x V n))) :
    NestP v f0 ((v.slice (Rect.unit (s := S2x2x128x128) off S1x1x128x128.size inb)).write (Elt F) f w m.on) x V sl h (n + 1) := by
  intro y0 y1 a b
  subst hoff
  split
  · rename_i hh
    have he : (ix4 y0 y1 a b : S2x2x128x128.Idx) = (Rect.unit (s := S2x2x128x128) ![sl, h, 0, 0] S1x1x128x128.size inb).emb (ix4 (0 : Fin 1) (0 : Fin 1) a b) := by
      funext t
      apply Fin.ext
      match t with
      | ⟨0, _⟩ => exact hh.1
      | ⟨1, _⟩ => exact hh.2
      | ⟨2, _⟩ => show a.val = 0 + 1 * a.val; omega
      | ⟨3, _⟩ => show b.val = 0 + 1 * b.val; omega
    have hr := hf y0 y1 a b
    rw [if_pos hh] at hr
    rw [he] at hr ⊢
    rw [read_mwrite_in, hr, hm, hw, mskv_apply]
    rfl
  · rename_i hh
    have hr := hf y0 y1 a b
    rw [if_neg hh] at hr
    rw [read_mwrite_out, hr]
    intro z hz
    have h0 : sl + 1 * (z 0).val = y0.val := congrArg (fun t : S2x2x128x128.Idx => (t 0).val) hz
    have h1 : h + 1 * (z 1).val = y1.val := congrArg (fun t : S2x2x128x128.Idx => (t 1).val) hz
    have z0 : (z 0).val < 1 := (z 0).isLt
    have z1 : (z 1).val < 1 := (z 1).isLt
    exact hh ⟨by omega, by omega⟩

/-- The buffer of maxima `f` reads at slot `sl` the first `n` rows of maxima (the halves one after the other), and `f0` elsewhere. -/
def RowsP (v : View sig .tc sp S2x2x16x128 .f32) (f0 f : v.ty.Contents (Elt F)) (x : Bool) (V : ℕ → FVec F S128x128 .f32) (sl n : ℕ) : Prop :=
  ∀ (y0 y1 : Fin 2) (r : Fin 16) (b : Fin 128), v.read (Elt F) f (ix4 y0 y1 r b) = if y0.val = sl ∧ y1.val * 16 + r.val < n then mxr (it x (V y1.val) r.val) (ix2 0 b) else v.read (Elt F) f0 (ix4 y0 y1 r b)
theorem rows0 (v : View sig .tc sp S2x2x16x128 .f32) (f0 : v.ty.Contents (Elt F)) (x : Bool) (V : ℕ → FVec F S128x128 .f32) (sl : ℕ) :
    RowsP v f0 (v.writes (Elt F) f0 []) x V sl 0 := by
  intro y0 y1 r b
  rw [if_neg (by omega)]; rfl
theorem rowsS (v : View sig .tc sp S2x2x16x128 .f32) (f0 : v.ty.Contents (Elt F)) (L : List (View.Piece (Elt F) S2x2x16x128 .f32)) (x : Bool) (V : ℕ → FVec F S128x128 .f32)
    (sl n : ℕ) (hL : RowsP v f0 (v.writes (Elt F) f0 L) x V sl n)
    (off : Fin 4 → ℕ) (inb) (h r : ℕ) (hr : r < 16) (hn : n = h * 16 + r) (hoff : off = ![sl, h, r, 0]) (w : FVec F S1x1x1x128 .f32) (hw : w = rowv (it x (V h) r)) :
    RowsP v f0 (v.writes (Elt F) f0 (⟨Rect.unit (s := S2x2x16x128) off S1x1x1x128.size inb, w⟩ :: L)) x V sl (n + 1) := by
  intro y0 y1 r' b
  by_cases h0 : y0.val = sl
  · by_cases h1 : y1.val = h
    · by_cases h2 : r'.val = r
      · rw [read_writes_cons_unit_of_mem v f0 inb w L (ix4 y0 y1 r' b) (ix4 (0 : Fin 1) (0 : Fin 1) (0 : Fin 1) b) hoff, hw, rowv_apply, if_pos ⟨h0, by omega⟩, h1, h2]
        intro t
        match t with
        | ⟨0, _⟩ => exact h0
        | ⟨1, _⟩ => exact h1
        | ⟨2, _⟩ => exact h2
        | ⟨3, _⟩ => exact (Nat.zero_add _).symm
      · rw [read_writes_cons_unit_of_not_mem v f0 inb w L (ix4 y0 y1 r' b) hoff 2 (by show r'.val < r ∨ r + 1 ≤ r'.val; omega), hL y0 y1 r' b]
        have := r'.isLt
        exact if_congr (by constructor <;> (rintro ⟨a, b⟩; refine ⟨a, ?_⟩; omega)) rfl rfl
    · rw [read_writes_cons_unit_of_not_mem v f0 inb w L (ix4 y0 y1 r' b) hoff 1 (by show y1.val < h ∨ h + 1 ≤ y1.val; omega), hL y0 y1 r' b]
      have := r'.isLt
      exact if_congr (by constructor <;> (rintro ⟨a, b⟩; refine ⟨a, ?_⟩; omega)) rfl rfl
  · rw [read_writes_cons_unit_of_not_mem v f0 inb w L (ix4 y0 y1 r' b) hoff 0 (by show y0.val < sl ∨ sl + 1 ≤ y0.val; omega), hL y0 y1 r' b]
    rw [if_neg (fun hh => h0 hh.1), if_neg (fun hh => h0 hh.1)]

/-- A store of the columns of one group. -/
theorem read_cols {φ : EltTy} (v : View sig .tc sp S1x128x1024 φ) (f0 : v.ty.Contents (Elt F)) (off : Fin 3 → ℕ) (inb) (g : ℕ) (hoff : off = ![0, 0, 128 * g])
    (w : S1x128x128.Idx → Elt F φ) (a : Fin 128) (t : Fin 1024) :
    v.read (Elt F) (v.writes (Elt F) f0 [⟨Rect.unit (s := S1x128x1024) off S1x128x128.size inb, w⟩]) (ix3 0 a t)
      = if t.val / 128 = g then w (ix3 0 a ⟨t.val % 128, Nat.mod_lt _ (by decide)⟩) else v.read (Elt F) f0 (ix3 0 a t) := by
  split
  · rename_i hh
    rw [read_writes_cons_unit_of_mem v f0 inb w [] (ix3 0 a t) (ix3 0 a ⟨t.val % 128, Nat.mod_lt _ (by decide)⟩ : S1x128x128.Idx) hoff]
    intro u
    match u with
    | ⟨0, _⟩ => rfl
    | ⟨1, _⟩ => exact (Nat.zero_add _).symm
    | ⟨2, _⟩ => show t.val = 128 * g + t.val % 128; omega
  · rename_i hh
    rw [read_writes_cons_unit_of_not_mem v f0 inb w [] (ix3 0 a t) hoff 2 (by show t.val < 128 * g ∨ 128 * g + 128 ≤ t.val; omega)]; rfl

/-- The scores of half `p` and group `g`. -/
def grp (s : Vec F S2x128x1024 .f32) (p : Fin 2) (g : Fin 8) : Vec F S1x128x128 .f32 :=
  fun j => s (ix3 p (show Fin 128 from j 1) (⟨128 * g.val + (show Fin 128 from j 2).val, by have := (show Fin 128 from j 2).isLt; have := g.isLt; omega⟩ : Fin 1024))
theorem ld_grp (v : View sig .tc sp S2x128x1024 .f32) (f : v.ty.Contents (Elt F)) (off : Fin 3 → ℕ) (inb) (p : Fin 2) (g : Fin 8) (hoff : off = ![p.val, 0, 128 * g.val]) :
    v.readAt (Elt F) (Rect.unit (s := S2x128x1024) off S1x128x128.size inb).toLoadRect f = grp (v.read (Elt F) f) p g := by
  funext j
  subst hoff
  show v.read (Elt F) f _ = v.read (Elt F) f _
  congr 1
  funext u
  apply Fin.ext
  match u with
  | ⟨0, _⟩ => show p.val + 1 * (j 0).val = p.val; have : (j 0).val < 1 := (j 0).isLt; omega
  | ⟨1, _⟩ => show 0 + 1 * (j 1).val = (j 1).val; omega
  | ⟨2, _⟩ => show 128 * g.val + 1 * (j 2).val = 128 * g.val + (j 2).val; omega
theorem ld_top (v : View sig .tc sp S2x2x16x128 .f32) (f : v.ty.Contents (Elt F)) (off : Fin 4 → ℕ) (inb) (sl h : Fin 2) (hoff : off = ![sl.val, h.val, 0, 0]) :
    v.readAt (Elt F) (Rect.unit (s := S2x2x16x128) off S1x1x16x128.size inb).toLoadRect f = fun j => v.read (Elt F) f (ix4 sl h (show Fin 16 from j 2) (show Fin 128 from j 3)) := by
  funext j
  subst hoff
  show v.read (Elt F) f _ = v.read (Elt F) f _
  congr 1
  funext u
  apply Fin.ext
  match u with
  | ⟨0, _⟩ => show sl.val + 1 * (j 0).val = sl.val; have : (j 0).val < 1 := (j 0).isLt; omega
  | ⟨1, _⟩ => show h.val + 1 * (j 1).val = h.val; have : (j 1).val < 1 := (j 1).isLt; omega
  | ⟨2, _⟩ => show 0 + 1 * (j 2).val = (j 2).val; omega
  | ⟨3, _⟩ => show 0 + 1 * (j 3).val = (j 3).val; omega
theorem ld_rnk (v : View sig .tc sp S2x2x128x128 .f32) (f : v.ty.Contents (Elt F)) (off : Fin 4 → ℕ) (inb) (sl h : Fin 2) (hoff : off = ![sl.val, h.val, 0, 0]) :
    v.readAt (Elt F) (Rect.unit (s := S2x2x128x128) off S1x1x128x128.size inb).toLoadRect f = fun j => v.read (Elt F) f (ix4 sl h (show Fin 128 from j 2) (show Fin 128 from j 3)) := by
  funext j
  subst hoff
  show v.read (Elt F) f _ = v.read (Elt F) f _
  congr 1
  funext u
  apply Fin.ext
  match u with
  | ⟨0, _⟩ => show sl.val + 1 * (j 0).val = sl.val; have : (j 0).val < 1 := (j 0).isLt; omega
  | ⟨1, _⟩ => show h.val + 1 * (j 1).val = h.val; have : (j 1).val < 1 := (j 1).isLt; omega
  | ⟨2, _⟩ => show 0 + 1 * (j 2).val = (j 2).val; omega
  | ⟨3, _⟩ => show 0 + 1 * (j 3).val = (j 3).val; omega

/-- The top rows and the ranks of a group's half. -/
def topv (x : Bool) (W : FVec F S128x128 .f32) : Vec F S1x1x16x128 .f32 := fun j => mxr (it x W (show Fin 16 from j 2).val) (ix2 0 (show Fin 128 from j 3))
def rnkv (x : Bool) (W : FVec F S128x128 .f32) : Vec F S1x1x128x128 .f32 := fun j => rkc x W 16 (ix2 (show Fin 128 from j 2) (show Fin 128 from j 3))

end Reading

end Cert.Proof.Topk

end

end
-- ==== Proof.Offs.lean ====
/-
  The offsets of the two loops in closed form.
-/
module

public import proofs.«01_k».proof.Proof.Run

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem tr1 : k0_t1_loop.trips = 9 := by decide
theorem tr2 : k0_t2_loop.trips = 8 := by decide
theorem cl1 (k : Fin k0_t1_loop.trips) : k0_off1 k = ![(k.val + 1) % 2, 0, 0, 0] := by revert k; decide
theorem cl2 (k : Fin k0_t1_loop.trips) : k0_off2 k = ![(k.val + 1) % 2, 1, 0, 0] := by revert k; decide
theorem cl3 (k : Fin k0_t1_loop.trips) : k0_off3 k = ![(k.val + 1) % 2, 0, 0, 0] := by revert k; decide
theorem cl4 (k : Fin k0_t1_loop.trips) : k0_off4 k = ![0, 0, 128 * (k.val - 1)] := by revert k; decide
theorem cl5 (k : Fin k0_t1_loop.trips) : k0_off5 k = ![0, 0, 128 * (k.val - 1)] := by revert k; decide
theorem cl6 (k : Fin k0_t1_loop.trips) : k0_off6 k = ![1, 0, 128 * (k.val - 1)] := by revert k; decide
theorem cl7 (k : Fin k0_t1_loop.trips) : k0_off7 k = ![(k.val + 1) % 2, 1, 0, 0] := by revert k; decide
theorem cl8 (k : Fin k0_t1_loop.trips) : k0_off8 k = ![k.val % 2, 0, 0, 0] := by revert k; decide
theorem cl9 (k : Fin k0_t1_loop.trips) : k0_off9 k = ![0, 0, 128 * min k.val 7] := by revert k; decide
theorem cl26 (k : Fin k0_t1_loop.trips) : k0_off26 k = ![k.val % 2, 1, 0, 0] := by revert k; decide
theorem cl27 (k : Fin k0_t1_loop.trips) : k0_off27 k = ![1, 0, 128 * min k.val 7] := by revert k; decide
theorem cl10 (k : Fin k0_t1_loop.trips) : k0_off10 k = ![k.val % 2, 0, 0, 0] := by revert k; decide
theorem cl11 (k : Fin k0_t1_loop.trips) : k0_off11 k = ![k.val % 2, 0, 1, 0] := by revert k; decide
theorem cl12 (k : Fin k0_t1_loop.trips) : k0_off12 k = ![k.val % 2, 0, 2, 0] := by revert k; decide
theorem cl13 (k : Fin k0_t1_loop.trips) : k0_off13 k = ![k.val % 2, 0, 3, 0] := by revert k; decide
theorem cl14 (k : Fin k0_t1_loop.trips) : k0_off14 k = ![k.val % 2, 0, 4, 0] := by revert k; decide
theorem cl15 (k : Fin k0_t1_loop.trips) : k0_off15 k = ![k.val % 2, 0, 5, 0] := by revert k; decide
theorem cl16 (k : Fin k0_t1_loop.trips) : k0_off16 k = ![k.val % 2, 0, 6, 0] := by revert k; decide
theorem cl17 (k : Fin k0_t1_loop.trips) : k0_off17 k = ![k.val % 2, 0, 7, 0] := by revert k; decide
theorem cl18 (k : Fin k0_t1_loop.trips) : k0_off18 k = ![k.val % 2, 0, 8, 0] := by revert k; decide
theorem cl19 (k : Fin k0_t1_loop.trips) : k0_off19 k = ![k.val % 2, 0, 9, 0] := by revert k; decide
theorem cl20 (k : Fin k0_t1_loop.trips) : k0_off20 k = ![k.val % 2, 0, 10, 0] := by revert k; decide
theorem cl21 (k : Fin k0_t1_loop.trips) : k0_off21 k = ![k.val % 2, 0, 11, 0] := by revert k; decide
theorem cl22 (k : Fin k0_t1_loop.trips) : k0_off22 k = ![k.val % 2, 0, 12, 0] := by revert k; decide
theorem cl23 (k : Fin k0_t1_loop.trips) : k0_off23 k = ![k.val % 2, 0, 13, 0] := by revert k; decide
theorem cl24 (k : Fin k0_t1_loop.trips) : k0_off24 k = ![k.val % 2, 0, 14, 0] := by revert k; decide
theorem cl25 (k : Fin k0_t1_loop.trips) : k0_off25 k = ![k.val % 2, 0, 15, 0] := by revert k; decide
theorem cl28 (k : Fin k0_t1_loop.trips) : k0_off28 k = ![k.val % 2, 1, 0, 0] := by revert k; decide
theorem cl29 (k : Fin k0_t1_loop.trips) : k0_off29 k = ![k.val % 2, 1, 1, 0] := by revert k; decide
theorem cl30 (k : Fin k0_t1_loop.trips) : k0_off30 k = ![k.val % 2, 1, 2, 0] := by revert k; decide
theorem cl31 (k : Fin k0_t1_loop.trips) : k0_off31 k = ![k.val % 2, 1, 3, 0] := by revert k; decide
theorem cl32 (k : Fin k0_t1_loop.trips) : k0_off32 k = ![k.val % 2, 1, 4, 0] := by revert k; decide
theorem cl33 (k : Fin k0_t1_loop.trips) : k0_off33 k = ![k.val % 2, 1, 5, 0] := by revert k; decide
theorem cl34 (k : Fin k0_t1_loop.trips) : k0_off34 k = ![k.val % 2, 1, 6, 0] := by revert k; decide
theorem cl35 (k : Fin k0_t1_loop.trips) : k0_off35 k = ![k.val % 2, 1, 7, 0] := by revert k; decide
theorem cl36 (k : Fin k0_t1_loop.trips) : k0_off36 k = ![k.val % 2, 1, 8, 0] := by revert k; decide
theorem cl37 (k : Fin k0_t1_loop.trips) : k0_off37 k = ![k.val % 2, 1, 9, 0] := by revert k; decide
theorem cl38 (k : Fin k0_t1_loop.trips) : k0_off38 k = ![k.val % 2, 1, 10, 0] := by revert k; decide
theorem cl39 (k : Fin k0_t1_loop.trips) : k0_off39 k = ![k.val % 2, 1, 11, 0] := by revert k; decide
theorem cl40 (k : Fin k0_t1_loop.trips) : k0_off40 k = ![k.val % 2, 1, 12, 0] := by revert k; decide
theorem cl41 (k : Fin k0_t1_loop.trips) : k0_off41 k = ![k.val % 2, 1, 13, 0] := by revert k; decide
theorem cl42 (k : Fin k0_t1_loop.trips) : k0_off42 k = ![k.val % 2, 1, 14, 0] := by revert k; decide
theorem cl43 (k : Fin k0_t1_loop.trips) : k0_off43 k = ![k.val % 2, 1, 15, 0] := by revert k; decide
theorem cl44 (k : Fin k0_t2_loop.trips) : k0_off44 k = ![0, 0, 128 * k.val] := by revert k; decide
theorem cl45 (k : Fin k0_t2_loop.trips) : k0_off45 k = ![1, 0, 128 * k.val] := by revert k; decide
theorem cl46 (k : Fin k0_t2_loop.trips) : k0_off46 k = ![0, 0, 128 * k.val] := by revert k; decide

end Cert.Proof.Topk

end

end
-- ==== Proof.Reads1.lean ====
/-
  The pipelined loop: what a trip leaves in the buffers of ranks and of maxima.
-/
module

public import proofs.«01_k».proof.Proof.Eqs1
public import proofs.«01_k».proof.Proof.Mem
public import proofs.«01_k».proof.Proof.Offs

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)
theorem nw1_1 (k : Fin k0_t1_loop.trips) (f8 : Bf (F := F) c arg8) (f9 : Bf (F := F) c arg9) : NestP arg9.view f9 (trip1_frame.sl.H9_w1 c arg8 arg9 k f8 f9) false (sq (ld9 c arg8 k f8)) (k.val % 2) 0 1 :=
  nestS arg9.view f9 _ false (sq (ld9 c arg8 k f8)) (k.val % 2) 0 0 (nest0 arg9.view f9 false (sq (ld9 c arg8 k f8)) (k.val % 2) 0 (k0_off8 k) (k0_off8_inb k) (cl8 k) _ rfl) (k0_off8 k) (k0_off8_inb k) (cl8 k) _ lit1_1 _ (msk1_1 c arg8 k f8)
theorem nw1_2 (k : Fin k0_t1_loop.trips) (f8 : Bf (F := F) c arg8) (f9 : Bf (F := F) c arg9) : NestP arg9.view f9 (trip1_frame.sl.H9_w2 c arg8 arg9 k f8 f9) false (sq (ld9 c arg8 k f8)) (k.val % 2) 0 2 :=
  nestS arg9.view f9 _ false (sq (ld9 c arg8 k f8)) (k.val % 2) 0 1 (nw1_1 c arg8 arg9 k f8 f9) (k0_off8 k) (k0_off8_inb k) (cl8 k) _ lit1_2 _ (msk1_2 c arg8 k f8)
theorem nw1_3 (k : Fin k0_t1_loop.trips) (f8 : Bf (F := F) c arg8) (f9 : Bf (F := F) c arg9) : NestP arg9.view f9 (trip1_frame.sl.H9_w3 c arg8 arg9 k f8 f9) false (sq (ld9 c arg8 k f8)) (k.val % 2) 0 3 :=
  nestS arg9.view f9 _ false (sq (ld9 c arg8 k f8)) (k.val % 2) 0 2 (nw1_2 c arg8 arg9 k f8 f9) (k0_off8 k) (k0_off8_inb k) (cl8 k) _ lit1_3 _ (msk1_3 c arg8 k f8)
theorem nw1_4 (k : Fin k0_t1_loop.trips) (f8 : Bf (F := F) c arg8) (f9 : Bf (F := F) c arg9) : NestP arg9.view f9 (trip1_frame.sl.H9_w4 c arg8 arg9 k f8 f9) false (sq (ld9 c arg8 k f8)) (k.val % 2) 0 4 :=
  nestS arg9.view f9 _ false (sq (ld9 c arg8 k f8)) (k.val % 2) 0 3 (nw1_3 c arg8 arg9 k f8 f9) (k0_off8 k) (k0_off8_inb k) (cl8 k) _ lit1_4 _ (msk1_4 c arg8 k f8)
theorem nw1_5 (k : Fin k0_t1_loop.trips) (f8 : Bf (F := F) c arg8) (f9 : Bf (F := F) c arg9) : NestP arg9.view f9 (trip1_frame.sl.H9_w5 c arg8 arg9 k f8 f9) false (sq (ld9 c arg8 k f8)) (k.val % 2) 0 5 :=
  nestS arg9.view f9 _ false (sq (ld9 c arg8 k f8)) (k.val % 2) 0 4 (nw1_4 c arg8 arg9 k f8 f9) (k0_off8 k) (k0_off8_inb k) (cl8 k) _ lit1_5 _ (msk1_5 c arg8 k f8)
theorem nw1_6 (k : Fin k0_t1_loop.trips) (f8 : Bf (F := F) c arg8) (f9 : Bf (F := F) c arg9) : NestP arg9.view f9 (trip1_frame.sl.H9_w6 c arg8 arg9 k f8 f9) false (sq (ld9 c arg8 k f8)) (k.val % 2) 0 6 :=
  nestS arg9.view f9 _ false (sq (ld9 c arg8 k f8)) (k.val % 2) 0 5 (nw1_5 c arg8 arg9 k f8 f9) (k0_off8 k) (k0_off8_inb k) (cl8 k) _ lit1_6 _ (msk1_6 c arg8 k f8)
theorem nw1_7 (k : Fin k0_t1_loop.trips) (f8 : Bf (F := F) c arg8) (f9 : Bf (F := F) c arg9) : NestP arg9.view f9 (trip1_frame.sl.H9_w7 c arg8 arg9 k f8 f9) false (sq (ld9 c arg8 k f8)) (k.val % 2) 0 7 :=
  nestS arg9.view f9 _ false (sq (ld9 c arg8 k f8)) (k.val % 2) 0 6 (nw1_6 c arg8 arg9 k f8 f9) (k0_off8 k) (k0_off8_inb k) (cl8 k) _ lit1_7 _ (msk1_7 c arg8 k f8)
theorem nw1_8 (k : Fin k0_t1_loop.trips) (f8 : Bf (F := F) c arg8) (f9 : Bf (F := F) c arg9) : NestP arg9.view f9 (trip1_frame.sl.H9_w8 c arg8 arg9 k f8 f9) false (sq (ld9 c arg8 k f8)) (k.val % 2) 0 8 :=
  nestS arg9.view f9 _ false (sq (ld9 c arg8 k f8)) (k.val % 2) 0 7 (nw1_7 c arg8 arg9 k f8 f9) (k0_off8 k) (k0_off8_inb k) (cl8 k) _ lit1_8 _ (msk1_8 c arg8 k f8)
theorem nw1_9 (k : Fin k0_t1_loop.trips) (f8 : Bf (F := F) c arg8) (f9 : Bf (F := F) c arg9) : NestP arg9.view f9 (trip1_frame.sl.H9_w9 c arg8 arg9 k f8 f9) false (sq (ld9 c arg8 k f8)) (k.val % 2) 0 9 :=
  nestS arg9.view f9 _ false (sq (ld9 c arg8 k f8)) (k.val % 2) 0 8 (nw1_8 c arg8 arg9 k f8 f9) (k0_off8 k) (k0_off8_inb k) (cl8 k) _ lit1_9 _ (msk1_9 c arg8 k f8)
theorem nw1_10 (k : Fin k0_t1_loop.trips) (f8 : Bf (F := F) c arg8) (f9 : Bf (F := F) c arg9) : NestP arg9.view f9 (trip1_frame.sl.H9_w10 c arg8 arg9 k f8 f9) false (sq (ld9 c arg8 k f8)) (k.val % 2) 0 10 :=
  nestS arg9.view f9 _ false (sq (ld9 c arg8 k f8)) (k.val % 2) 0 9 (nw1_9 c arg8 arg9 k f8 f9) (k0_off8 k) (k0_off8_inb k) (cl8 k) _ lit1_10 _ (msk1_10 c arg8 k f8)
theorem nw1_11 (k : Fin k0_t1_loop.trips) (f8 : Bf (F := F) c arg8) (f9 : Bf (F := F) c arg9) : NestP arg9.view f9 (trip1_frame.sl.H9_w11 c arg8 arg9 k f8 f9) false (sq (ld9 c arg8 k f8)) (k.val % 2) 0 11 :=
  nestS arg9.view f9 _ false (sq (ld9 c arg8 k f8)) (k.val % 2) 0 10 (nw1_10 c arg8 arg9 k f8 f9) (k0_off8 k) (k0_off8_inb k) (cl8 k) _ lit1_11 _ (msk1_11 c arg8 k f8)
theorem nw1_12 (k : Fin k0_t1_loop.trips) (f8 : Bf (F := F) c arg8) (f9 : Bf (F := F) c arg9) : NestP arg9.view f9 (trip1_frame.sl.H9_w12 c arg8 arg9 k f8 f9) false (sq (ld9 c arg8 k f8)) (k.val % 2) 0 12 :=
  nestS arg9.view f9 _ false (sq (ld9 c arg8 k f8)) (k.val % 2) 0 11 (nw1_11 c arg8 arg9 k f8 f9) (k0_off8 k) (k0_off8_inb k) (cl8 k) _ lit1_12 _ (msk1_12 c arg8 k f8)
theorem nw1_13 (k : Fin k0_t1_loop.trips) (f8 : Bf (F := F) c arg8) (f9 : Bf (F := F) c arg9) : NestP arg9.view f9 (trip1_frame.sl.H9_w13 c arg8 arg9 k f8 f9) false (sq (ld9 c arg8 k f8)) (k.val % 2) 0 13 :=
  nestS arg9.view f9 _ false (sq (ld9 c arg8 k f8)) (k.val % 2) 0 12 (nw1_12 c arg8 arg9 k f8 f9) (k0_off8 k) (k0_off8_inb k) (cl8 k) _ lit1_13 _ (msk1_13 c arg8 k f8)
theorem nw1_14 (k : Fin k0_t1_loop.trips) (f8 : Bf (F := F) c arg8) (f9 : Bf (F := F) c arg9) : NestP arg9.view f9 (trip1_frame.sl.H9_w14 c arg8 arg9 k f8 f9) false (sq (ld9 c arg8 k f8)) (k.val % 2) 0 14 :=
  nestS arg9.view f9 _ false (sq (ld9 c arg8 k f8)) (k.val % 2) 0 13 (nw1_13 c arg8 arg9 k f8 f9) (k0_off8 k) (k0_off8_inb k) (cl8 k) _ lit1_14 _ (msk1_14 c arg8 k f8)
theorem nw1_15 (k : Fin k0_t1_loop.trips) (f8 : Bf (F := F) c arg8) (f9 : Bf (F := F) c arg9) : NestP arg9.view f9 (trip1_frame.sl.H9_w15 c arg8 arg9 k f8 f9) false (sq (ld9 c arg8 k f8)) (k.val % 2) 0 15 :=
  nestS arg9.view f9 _ false (sq (ld9 c arg8 k f8)) (k.val % 2) 0 14 (nw1_14 c arg8 arg9 k f8 f9) (k0_off8 k) (k0_off8_inb k) (cl8 k) _ lit1_15 _ (msk1_15 c arg8 k f8)
theorem nw1_16 (k : Fin k0_t1_loop.trips) (f8 : Bf (F := F) c arg8) (f9 : Bf (F := F) c arg9) : NestP arg9.view f9 (trip1_frame.sl.H9_w16 c arg8 arg9 k f8 f9) false (sq (ld9 c arg8 k f8)) (k.val % 2) 0 16 :=
  nestS arg9.view f9 _ false (sq (ld9 c arg8 k f8)) (k.val % 2) 0 15 (nw1_15 c arg8 arg9 k f8 f9) (k0_off8 k) (k0_off8_inb k) (cl8 k) _ lit1_16 _ (msk1_16 c arg8 k f8)
theorem nw1_17 (k : Fin k0_t1_loop.trips) (f8 : Bf (F := F) c arg8) (f9 : Bf (F := F) c arg9) : NestP arg9.view (trip1_frame.sl.H9_w16 c arg8 arg9 k f8 f9) (trip1_frame.sl.H9_w17 c arg8 arg9 k f8 f9) false (sq (ld27 c arg8 k f8)) (k.val % 2) 1 1 :=
  nestS arg9.view (trip1_frame.sl.H9_w16 c arg8 arg9 k f8 f9) _ false (sq (ld27 c arg8 k f8)) (k.val % 2) 1 0 (nest0 arg9.view (trip1_frame.sl.H9_w16 c arg8 arg9 k f8 f9) false (sq (ld27 c arg8 k f8)) (k.val % 2) 1 (k0_off26 k) (k0_off26_inb k) (cl26 k) _ rfl) (k0_off26 k) (k0_off26_inb k) (cl26 k) _ lit1_17 _ (msk1_17 c arg8 k f8)
theorem nw1_18 (k : Fin k0_t1_loop.trips) (f8 : Bf (F := F) c arg8) (f9 : Bf (F := F) c arg9) : NestP arg9.view (trip1_frame.sl.H9_w16 c arg8 arg9 k f8 f9) (trip1_frame.sl.H9_w18 c arg8 arg9 k f8 f9) false (sq (ld27 c arg8 k f8)) (k.val % 2) 1 2 :=
  nestS arg9.view (trip1_frame.sl.H9_w16 c arg8 arg9 k f8 f9) _ false (sq (ld27 c arg8 k f8)) (k.val % 2) 1 1 (nw1_17 c arg8 arg9 k f8 f9) (k0_off26 k) (k0_off26_inb k) (cl26 k) _ lit1_18 _ (msk1_18 c arg8 k f8)
theorem nw1_19 (k : Fin k0_t1_loop.trips) (f8 : Bf (F := F) c arg8) (f9 : Bf (F := F) c arg9) : NestP arg9.view (trip1_frame.sl.H9_w16 c arg8 arg9 k f8 f9) (trip1_frame.sl.H9_w19 c arg8 arg9 k f8 f9) false (sq (ld27 c arg8 k f8)) (k.val % 2) 1 3 :=
  nestS arg9.view (trip1_frame.sl.H9_w16 c arg8 arg9 k f8 f9) _ false (sq (ld27 c arg8 k f8)) (k.val % 2) 1 2 (nw1_18 c arg8 arg9 k f8 f9) (k0_off26 k) (k0_off26_inb k) (cl26 k) _ lit1_19 _ (msk1_19 c arg8 k f8)
theorem nw1_20 (k : Fin k0_t1_loop.trips) (f8 : Bf (F := F) c arg8) (f9 : Bf (F := F) c arg9) : NestP arg9.view (trip1_frame.sl.H9_w16 c arg8 arg9 k f8 f9) (trip1_frame.sl.H9_w20 c arg8 arg9 k f8 f9) false (sq (ld27 c arg8 k f8)) (k.val % 2) 1 4 :=
  nestS arg9.view (trip1_frame.sl.H9_w16 c arg8 arg9 k f8 f9) _ false (sq (ld27 c arg8 k f8)) (k.val % 2) 1 3 (nw1_19 c arg8 arg9 k f8 f9) (k0_off26 k) (k0_off26_inb k) (cl26 k) _ lit1_20 _ (msk1_20 c arg8 k f8)
theorem nw1_21 (k : Fin k0_t1_loop.trips) (f8 : Bf (F := F) c arg8) (f9 : Bf (F := F) c arg9) : NestP arg9.view (trip1_frame.sl.H9_w16 c arg8 arg9 k f8 f9) (trip1_frame.sl.H9_w21 c arg8 arg9 k f8 f9) false (sq (ld27 c arg8 k f8)) (k.val % 2) 1 5 :=
  nestS arg9.view (trip1_frame.sl.H9_w16 c arg8 arg9 k f8 f9) _ false (sq (ld27 c arg8 k f8)) (k.val % 2) 1 4 (nw1_20 c arg8 arg9 k f8 f9) (k0_off26 k) (k0_off26_inb k) (cl26 k) _ lit1_21 _ (msk1_21 c arg8 k f8)
theorem nw1_22 (k : Fin k0_t1_loop.trips) (f8 : Bf (F := F) c arg8) (f9 : Bf (F := F) c arg9) : NestP arg9.view (trip1_frame.sl.H9_w16 c arg8 arg9 k f8 f9) (trip1_frame.sl.H9_w22 c arg8 arg9 k f8 f9) false (sq (ld27 c arg8 k f8)) (k.val % 2) 1 6 :=
  nestS arg9.view (trip1_frame.sl.H9_w16 c arg8 arg9 k f8 f9) _ false (sq (ld27 c arg8 k f8)) (k.val % 2) 1 5 (nw1_21 c arg8 arg9 k f8 f9) (k0_off26 k) (k0_off26_inb k) (cl26 k) _ lit1_22 _ (msk1_22 c arg8 k f8)
theorem nw1_23 (k : Fin k0_t1_loop.trips) (f8 : Bf (F := F) c arg8) (f9 : Bf (F := F) c arg9) : NestP arg9.view (trip1_frame.sl.H9_w16 c arg8 arg9 k f8 f9) (trip1_frame.sl.H9_w23 c arg8 arg9 k f8 f9) false (sq (ld27 c arg8 k f8)) (k.val % 2) 1 7 :=
  nestS arg9.view (trip1_frame.sl.H9_w16 c arg8 arg9 k f8 f9) _ false (sq (ld27 c arg8 k f8)) (k.val % 2) 1 6 (nw1_22 c arg8 arg9 k f8 f9) (k0_off26 k) (k0_off26_inb k) (cl26 k) _ lit1_23 _ (msk1_23 c arg8 k f8)
theorem nw1_24 (k : Fin k0_t1_loop.trips) (f8 : Bf (F := F) c arg8) (f9 : Bf (F := F) c arg9) : NestP arg9.view (trip1_frame.sl.H9_w16 c arg8 arg9 k f8 f9) (trip1_frame.sl.H9_w24 c arg8 arg9 k f8 f9) false (sq (ld27 c arg8 k f8)) (k.val % 2) 1 8 :=
  nestS arg9.view (trip1_frame.sl.H9_w16 c arg8 arg9 k f8 f9) _ false (sq (ld27 c arg8 k f8)) (k.val % 2) 1 7 (nw1_23 c arg8 arg9 k f8 f9) (k0_off26 k) (k0_off26_inb k) (cl26 k) _ lit1_24 _ (msk1_24 c arg8 k f8)
theorem nw1_25 (k : Fin k0_t1_loop.trips) (f8 : Bf (F := F) c arg8) (f9 : Bf (F := F) c arg9) : NestP arg9.view (trip1_frame.sl.H9_w16 c arg8 arg9 k f8 f9) (trip1_frame.sl.H9_w25 c arg8 arg9 k f8 f9) false (sq (ld27 c arg8 k f8)) (k.val % 2) 1 9 :=
  nestS arg9.view (trip1_frame.sl.H9_w16 c arg8 arg9 k f8 f9) _ false (sq (ld27 c arg8 k f8)) (k.val % 2) 1 8 (nw1_24 c arg8 arg9 k f8 f9) (k0_off26 k) (k0_off26_inb k) (cl26 k) _ lit1_25 _ (msk1_25 c arg8 k f8)
theorem nw1_26 (k : Fin k0_t1_loop.trips) (f8 : Bf (F := F) c arg8) (f9 : Bf (F := F) c arg9) : NestP arg9.view (trip1_frame.sl.H9_w16 c arg8 arg9 k f8 f9) (trip1_frame.sl.H9_w26 c arg8 arg9 k f8 f9) false (sq (ld27 c arg8 k f8)) (k.val % 2) 1 10 :=
  nestS arg9.view (trip1_frame.sl.H9_w16 c arg8 arg9 k f8 f9) _ false (sq (ld27 c arg8 k f8)) (k.val % 2) 1 9 (nw1_25 c arg8 arg9 k f8 f9) (k0_off26 k) (k0_off26_inb k) (cl26 k) _ lit1_26 _ (msk1_26 c arg8 k f8)
theorem nw1_27 (k : Fin k0_t1_loop.trips) (f8 : Bf (F := F) c arg8) (f9 : Bf (F := F) c arg9) : NestP arg9.view (trip1_frame.sl.H9_w16 c arg8 arg9 k f8 f9) (trip1_frame.sl.H9_w27 c arg8 arg9 k f8 f9) false (sq (ld27 c arg8 k f8)) (k.val % 2) 1 11 :=
  nestS arg9.view (trip1_frame.sl.H9_w16 c arg8 arg9 k f8 f9) _ false (sq (ld27 c arg8 k f8)) (k.val % 2) 1 10 (nw1_26 c arg8 arg9 k f8 f9) (k0_off26 k) (k0_off26_inb k) (cl26 k) _ lit1_27 _ (msk1_27 c arg8 k f8)
theorem nw1_28 (k : Fin k0_t1_loop.trips) (f8 : Bf (F := F) c arg8) (f9 : Bf (F := F) c arg9) : NestP arg9.view (trip1_frame.sl.H9_w16 c arg8 arg9 k f8 f9) (trip1_frame.sl.H9_w28 c arg8 arg9 k f8 f9) false (sq (ld27 c arg8 k f8)) (k.val % 2) 1 12 :=
  nestS arg9.view (trip1_frame.sl.H9_w16 c arg8 arg9 k f8 f9) _ false (sq (ld27 c arg8 k f8)) (k.val % 2) 1 11 (nw1_27 c arg8 arg9 k f8 f9) (k0_off26 k) (k0_off26_inb k) (cl26 k) _ lit1_28 _ (msk1_28 c arg8 k f8)
theorem nw1_29 (k : Fin k0_t1_loop.trips) (f8 : Bf (F := F) c arg8) (f9 : Bf (F := F) c arg9) : NestP arg9.view (trip1_frame.sl.H9_w16 c arg8 arg9 k f8 f9) (trip1_frame.sl.H9_w29 c arg8 arg9 k f8 f9) false (sq (ld27 c arg8 k f8)) (k.val % 2) 1 13 :=
  nestS arg9.view (trip1_frame.sl.H9_w16 c arg8 arg9 k f8 f9) _ false (sq (ld27 c arg8 k f8)) (k.val % 2) 1 12 (nw1_28 c arg8 arg9 k f8 f9) (k0_off26 k) (k0_off26_inb k) (cl26 k) _ lit1_29 _ (msk1_29 c arg8 k f8)
theorem nw1_30 (k : Fin k0_t1_loop.trips) (f8 : Bf (F := F) c arg8) (f9 : Bf (F := F) c arg9) : NestP arg9.view (trip1_frame.sl.H9_w16 c arg8 arg9 k f8 f9) (trip1_frame.sl.H9_w30 c arg8 arg9 k f8 f9) false (sq (ld27 c arg8 k f8)) (k.val % 2) 1 14 :=
  nestS arg9.view (trip1_frame.sl.H9_w16 c arg8 arg9 k f8 f9) _ false (sq (ld27 c arg8 k f8)) (k.val % 2) 1 13 (nw1_29 c arg8 arg9 k f8 f9) (k0_off26 k) (k0_off26_inb k) (cl26 k) _ lit1_30 _ (msk1_30 c arg8 k f8)
theorem nw1_31 (k : Fin k0_t1_loop.trips) (f8 : Bf (F := F) c arg8) (f9 : Bf (F := F) c arg9) : NestP arg9.view (trip1_frame.sl.H9_w16 c arg8 arg9 k f8 f9) (trip1_frame.sl.H9_w31 c arg8 arg9 k f8 f9) false (sq (ld27 c arg8 k f8)) (k.val % 2) 1 15 :=
  nestS arg9.view (trip1_frame.sl.H9_w16 c arg8 arg9 k f8 f9) _ false (sq (ld27 c arg8 k f8)) (k.val % 2) 1 14 (nw1_30 c arg8 arg9 k f8 f9) (k0_off26 k) (k0_off26_inb k) (cl26 k) _ lit1_31 _ (msk1_31 c arg8 k f8)
theorem nw1_32 (k : Fin k0_t1_loop.trips) (f8 : Bf (F := F) c arg8) (f9 : Bf (F := F) c arg9) : NestP arg9.view (trip1_frame.sl.H9_w16 c arg8 arg9 k f8 f9) (trip1_frame.sl.H9_w32 c arg8 arg9 k f8 f9) false (sq (ld27 c arg8 k f8)) (k.val % 2) 1 16 :=
  nestS arg9.view (trip1_frame.sl.H9_w16 c arg8 arg9 k f8 f9) _ false (sq (ld27 c arg8 k f8)) (k.val % 2) 1 15 (nw1_31 c arg8 arg9 k f8 f9) (k0_off26 k) (k0_off26_inb k) (cl26 k) _ lit1_32 _ (msk1_32 c arg8 k f8)
/-- The rows of the two halves. -/
abbrev vv1 (k : Fin k0_t1_loop.trips) (f8 : Bf (F := F) c arg8) : ℕ → FVec F S128x128 .f32
  | 0 => (sq (ld9 c arg8 k f8))
  | _ + 1 => (sq (ld27 c arg8 k f8))
theorem h1_2 (k : Fin k0_t1_loop.trips) (f8 : Bf (F := F) c arg8) (f10 : Bf (F := F) c arg10) : RowsP arg10.view f10 (arg10.view.writes (Elt F) f10 (trip1_frame.sl.H10_2 c arg8 k f8)) false (vv1 c arg8 k f8) (k.val % 2) 2 :=
  (rowsS arg10.view f10 _ false (vv1 c arg8 k f8) (k.val % 2) 1 (rowsS arg10.view f10 _ false (vv1 c arg8 k f8) (k.val % 2) 0 (rows0 arg10.view f10 false (vv1 c arg8 k f8) (k.val % 2)) (k0_off10 k) (k0_off10_inb k) 0 0 (by decide) rfl (cl10 k) _ (row1_10 c arg8 k f8)) (k0_off11 k) (k0_off11_inb k) 0 1 (by decide) rfl (cl11 k) _ (row1_11 c arg8 k f8))
theorem h1_4 (k : Fin k0_t1_loop.trips) (f8 : Bf (F := F) c arg8) (f10 : Bf (F := F) c arg10) : RowsP arg10.view f10 (arg10.view.writes (Elt F) f10 (trip1_frame.sl.H10_4 c arg8 k f8)) false (vv1 c arg8 k f8) (k.val % 2) 4 :=
  (rowsS arg10.view f10 _ false (vv1 c arg8 k f8) (k.val % 2) 3 (rowsS arg10.view f10 _ false (vv1 c arg8 k f8) (k.val % 2) 2 (h1_2 c arg8 arg10 k f8 f10) (k0_off12 k) (k0_off12_inb k) 0 2 (by decide) rfl (cl12 k) _ (row1_12 c arg8 k f8)) (k0_off13 k) (k0_off13_inb k) 0 3 (by decide) rfl (cl13 k) _ (row1_13 c arg8 k f8))
theorem h1_6 (k : Fin k0_t1_loop.trips) (f8 : Bf (F := F) c arg8) (f10 : Bf (F := F) c arg10) : RowsP arg10.view f10 (arg10.view.writes (Elt F) f10 (trip1_frame.sl.H10_6 c arg8 k f8)) false (vv1 c arg8 k f8) (k.val % 2) 6 :=
  (rowsS arg10.view f10 _ false (vv1 c arg8 k f8) (k.val % 2) 5 (rowsS arg10.view f10 _ false (vv1 c arg8 k f8) (k.val % 2) 4 (h1_4 c arg8 arg10 k f8 f10) (k0_off14 k) (k0_off14_inb k) 0 4 (by decide) rfl (cl14 k) _ (row1_14 c arg8 k f8)) (k0_off15 k) (k0_off15_inb k) 0 5 (by decide) rfl (cl15 k) _ (row1_15 c arg8 k f8))
theorem h1_8 (k : Fin k0_t1_loop.trips) (f8 : Bf (F := F) c arg8) (f10 : Bf (F := F) c arg10) : RowsP arg10.view f10 (arg10.view.writes (Elt F) f10 (trip1_frame.sl.H10_8 c arg8 k f8)) false (vv1 c arg8 k f8) (k.val % 2) 8 :=
  (rowsS arg10.view f10 _ false (vv1 c arg8 k f8) (k.val % 2) 7 (rowsS arg10.view f10 _ false (vv1 c arg8 k f8) (k.val % 2) 6 (h1_6 c arg8 arg10 k f8 f10) (k0_off16 k) (k0_off16_inb k) 0 6 (by decide) rfl (cl16 k) _ (row1_16 c arg8 k f8)) (k0_off17 k) (k0_off17_inb k) 0 7 (by decide) rfl (cl17 k) _ (row1_17 c arg8 k f8))
theorem h1_10 (k : Fin k0_t1_loop.trips) (f8 : Bf (F := F) c arg8) (f10 : Bf (F := F) c arg10) : RowsP arg10.view f10 (arg10.view.writes (Elt F) f10 (trip1_frame.sl.H10_10 c arg8 k f8)) false (vv1 c arg8 k f8) (k.val % 2) 10 :=
  (rowsS arg10.view f10 _ false (vv1 c arg8 k f8) (k.val % 2) 9 (rowsS arg10.view f10 _ false (vv1 c arg8 k f8) (k.val % 2) 8 (h1_8 c arg8 arg10 k f8 f10) (k0_off18 k) (k0_off18_inb k) 0 8 (by decide) rfl (cl18 k) _ (row1_18 c arg8 k f8)) (k0_off19 k) (k0_off19_inb k) 0 9 (by decide) rfl (cl19 k) _ (row1_19 c arg8 k f8))
theorem h1_13 (k : Fin k0_t1_loop.trips) (f8 : Bf (F := F) c arg8) (f10 : Bf (F := F) c arg10) : RowsP arg10.view f10 (arg10.view.writes (Elt F) f10 (trip1_frame.sl.H10_13 c arg8 k f8)) false (vv1 c arg8 k f8) (k.val % 2) 13 :=
  (rowsS arg10.view f10 _ false (vv1 c arg8 k f8) (k.val % 2) 12 (rowsS arg10.view f10 _ false (vv1 c arg8 k f8) (k.val % 2) 11 (rowsS arg10.view f10 _ false (vv1 c arg8 k f8) (k.val % 2) 10 (h1_10 c arg8 arg10 k f8 f10) (k0_off20 k) (k0_off20_inb k) 0 10 (by decide) rfl (cl20 k) _ (row1_20 c arg8 k f8)) (k0_off21 k) (k0_off21_inb k) 0 11 (by decide) rfl (cl21 k) _ (row1_21 c arg8 k f8)) (k0_off22 k) (k0_off22_inb k) 0 12 (by decide) rfl (cl22 k) _ (row1_22 c arg8 k f8))
theorem h1_15 (k : Fin k0_t1_loop.trips) (f8 : Bf (F := F) c arg8) (f10 : Bf (F := F) c arg10) : RowsP arg10.view f10 (arg10.view.writes (Elt F) f10 (trip1_frame.sl.H10_15 c arg8 k f8)) false (vv1 c arg8 k f8) (k.val % 2) 15 :=
  (rowsS arg10.view f10 _ false (vv1 c arg8 k f8) (k.val % 2) 14 (rowsS arg10.view f10 _ false (vv1 c arg8 k f8) (k.val % 2) 13 (h1_13 c arg8 arg10 k f8 f10) (k0_off23 k) (k0_off23_inb k) 0 13 (by decide) rfl (cl23 k) _ (row1_23 c arg8 k f8)) (k0_off24 k) (k0_off24_inb k) 0 14 (by decide) rfl (cl24 k) _ (row1_24 c arg8 k f8))
theorem h1_16 (k : Fin k0_t1_loop.trips) (f8 : Bf (F := F) c arg8) (f10 : Bf (F := F) c arg10) : RowsP arg10.view f10 (arg10.view.writes (Elt F) f10 (trip1_frame.sl.H10_16 c arg8 k f8)) false (vv1 c arg8 k f8) (k.val % 2) 16 :=
  (rowsS arg10.view f10 _ false (vv1 c arg8 k f8) (k.val % 2) 15 (h1_15 c arg8 arg10 k f8 f10) (k0_off25 k) (k0_off25_inb k) 0 15 (by decide) rfl (cl25 k) _ (row1_25 c arg8 k f8))
theorem h1_18 (k : Fin k0_t1_loop.trips) (f8 : Bf (F := F) c arg8) (f10 : Bf (F := F) c arg10) : RowsP arg10.view f10 (arg10.view.writes (Elt F) f10 (trip1_frame.sl.H10_18 c arg8 k f8)) false (vv1 c arg8 k f8) (k.val % 2) 18 :=
  (rowsS arg10.view f10 _ false (vv1 c arg8 k f8) (k.val % 2) 17 (rowsS arg10.view f10 _ false (vv1 c arg8 k f8) (k.val % 2) 16 (h1_16 c arg8 arg10 k f8 f10) (k0_off28 k) (k0_off28_inb k) 1 0 (by decide) rfl (cl28 k) _ (row1_28 c arg8 k f8)) (k0_off29 k) (k0_off29_inb k) 1 1 (by decide) rfl (cl29 k) _ (row1_29 c arg8 k f8))
theorem h1_20 (k : Fin k0_t1_loop.trips) (f8 : Bf (F := F) c arg8) (f10 : Bf (F := F) c arg10) : RowsP arg10.view f10 (arg10.view.writes (Elt F) f10 (trip1_frame.sl.H10_20 c arg8 k f8)) false (vv1 c arg8 k f8) (k.val % 2) 20 :=
  (rowsS arg10.view f10 _ false (vv1 c arg8 k f8) (k.val % 2) 19 (rowsS arg10.view f10 _ false (vv1 c arg8 k f8) (k.val % 2) 18 (h1_18 c arg8 arg10 k f8 f10) (k0_off30 k) (k0_off30_inb k) 1 2 (by decide) rfl (cl30 k) _ (row1_30 c arg8 k f8)) (k0_off31 k) (k0_off31_inb k) 1 3 (by decide) rfl (cl31 k) _ (row1_31 c arg8 k f8))
theorem h1_23 (k : Fin k0_t1_loop.trips) (f8 : Bf (F := F) c arg8) (f10 : Bf (F := F) c arg10) : RowsP arg10.view f10 (arg10.view.writes (Elt F) f10 (trip1_frame.sl.H10_23 c arg8 k f8)) false (vv1 c arg8 k f8) (k.val % 2) 23 :=
  (rowsS arg10.view f10 _ false (vv1 c arg8 k f8) (k.val % 2) 22 (rowsS arg10.view f10 _ false (vv1 c arg8 k f8) (k.val % 2) 21 (rowsS arg10.view f10 _ false (vv1 c arg8 k f8) (k.val % 2) 20 (h1_20 c arg8 arg10 k f8 f10) (k0_off32 k) (k0_off32_inb k) 1 4 (by decide) rfl (cl32 k) _ (row1_32 c arg8 k f8)) (k0_off33 k) (k0_off33_inb k) 1 5 (by decide) rfl (cl33 k) _ (row1_33 c arg8 k f8)) (k0_off34 k) (k0_off34_inb k) 1 6 (by decide) rfl (cl34 k) _ (row1_34 c arg8 k f8))
theorem h1_25 (k : Fin k0_t1_loop.trips) (f8 : Bf (F := F) c arg8) (f10 : Bf (F := F) c arg10) : RowsP arg10.view f10 (arg10.view.writes (Elt F) f10 (trip1_frame.sl.H10_25 c arg8 k f8)) false (vv1 c arg8 k f8) (k.val % 2) 25 :=
  (rowsS arg10.view f10 _ false (vv1 c arg8 k f8) (k.val % 2) 24 (rowsS arg10.view f10 _ false (vv1 c arg8 k f8) (k.val % 2) 23 (h1_23 c arg8 arg10 k f8 f10) (k0_off35 k) (k0_off35_inb k) 1 7 (by decide) rfl (cl35 k) _ (row1_35 c arg8 k f8)) (k0_off36 k) (k0_off36_inb k) 1 8 (by decide) rfl (cl36 k) _ (row1_36 c arg8 k f8))
theorem h1_27 (k : Fin k0_t1_loop.trips) (f8 : Bf (F := F) c arg8) (f10 : Bf (F := F) c arg10) : RowsP arg10.view f10 (arg10.view.writes (Elt F) f10 (trip1_frame.sl.H10_27 c arg8 k f8)) false (vv1 c arg8 k f8) (k.val % 2) 27 :=
  (rowsS arg10.view f10 _ false (vv1 c arg8 k f8) (k.val % 2) 26 (rowsS arg10.view f10 _ false (vv1 c arg8 k f8) (k.val % 2) 25 (h1_25 c arg8 arg10 k f8 f10) (k0_off37 k) (k0_off37_inb k) 1 9 (by decide) rfl (cl37 k) _ (row1_37 c arg8 k f8)) (k0_off38 k) (k0_off38_inb k) 1 10 (by decide) rfl (cl38 k) _ (row1_38 c arg8 k f8))
theorem h1_29 (k : Fin k0_t1_loop.trips) (f8 : Bf (F := F) c arg8) (f10 : Bf (F := F) c arg10) : RowsP arg10.view f10 (arg10.view.writes (Elt F) f10 (trip1_frame.sl.H10_29 c arg8 k f8)) false (vv1 c arg8 k f8) (k.val % 2) 29 :=
  (rowsS arg10.view f10 _ false (vv1 c arg8 k f8) (k.val % 2) 28 (rowsS arg10.view f10 _ false (vv1 c arg8 k f8) (k.val % 2) 27 (h1_27 c arg8 arg10 k f8 f10) (k0_off39 k) (k0_off39_inb k) 1 11 (by decide) rfl (cl39 k) _ (row1_39 c arg8 k f8)) (k0_off40 k) (k0_off40_inb k) 1 12 (by decide) rfl (cl40 k) _ (row1_40 c arg8 k f8))
theorem h1_32 (k : Fin k0_t1_loop.trips) (f8 : Bf (F := F) c arg8) (f10 : Bf (F := F) c arg10) : RowsP arg10.view f10 (arg10.view.writes (Elt F) f10 (⟨Rect.unit (s := S2x2x16x128) (k0_off43 k) S1x1x1x128.size (k0_off43_inb k), k0_pay276 (trip1_frame.sl.r_90 c arg8 k f8)⟩ :: ⟨Rect.unit (s := S2x2x16x128) (k0_off42 k) S1x1x1x128.size (k0_off42_inb k), k0_pay270 (trip1_frame.sl.r_90 c arg8 k f8)⟩ :: ⟨Rect.unit (s := S2x2x16x128) (k0_off41 k) S1x1x1x128.size (k0_off41_inb k), k0_pay264 (trip1_frame.sl.r_88 c arg8 k f8)⟩ :: trip1_frame.sl.H10_29 c arg8 k f8)) false (vv1 c arg8 k f8) (k.val % 2) 32 :=
  (rowsS arg10.view f10 _ false (vv1 c arg8 k f8) (k.val % 2) 31 (rowsS arg10.view f10 _ false (vv1 c arg8 k f8) (k.val % 2) 30 (rowsS arg10.view f10 _ false (vv1 c arg8 k f8) (k.val % 2) 29 (h1_29 c arg8 arg10 k f8 f10) (k0_off41 k) (k0_off41_inb k) 1 13 (by decide) rfl (cl41 k) _ (row1_41 c arg8 k f8)) (k0_off42 k) (k0_off42_inb k) 1 14 (by decide) rfl (cl42 k) _ (row1_42 c arg8 k f8)) (k0_off43 k) (k0_off43_inb k) 1 15 (by decide) rfl (cl43 k) _ (row1_43 c arg8 k f8))

end Cert.Proof.Topk

end

end
-- ==== Proof.Eqs2.lean ====
/-
  The exact loop: what each named stage of its first half is, as rounds on the scores.
-/
module

public import proofs.«01_k».proof.Proof.Run
public import proofs.«01_k».proof.Proof.Spec

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)
abbrev ld44 (k : Fin k0_t2_loop.trips) (f8 : Bf (F := F) c arg8) : Vec F S1x128x128 .f32 :=
  View.readAt (Elt F) arg8.view (Rect.unit (s := S2x128x1024) (k0_off44 k) S1x128x128.size (k0_off44_inb k)).toLoadRect f8
abbrev ld45 (k : Fin k0_t2_loop.trips) (f8 : Bf (F := F) c arg8) : Vec F S1x128x128 .f32 :=
  View.readAt (Elt F) arg8.view (Rect.unit (s := S2x128x1024) (k0_off45 k) S1x128x128.size (k0_off45_inb k)).toLoadRect f8
theorem pay286_x0 (w : Vec F S1x128x128 .f32) : k0_pay286 w = (it true (sq w) 1) := rfl
theorem xr (k : Fin k0_t2_loop.trips) (f8 : Bf (F := F) c arg8) : trip2_frame.sl.r c arg8 k f8 = (it true (sq (ld44 c arg8 k f8)) 1) := by
  show k0_pay286 (ld44 c arg8 k f8) = _; exact (pay286_x0 _)
theorem pay290_x1 (w : Vec F S1x128x128 .f32) : k0_pay290 w = mxr (it true (sq w) 1) := rfl
theorem xr_1 (k : Fin k0_t2_loop.trips) (f8 : Bf (F := F) c arg8) : trip2_frame.sl.r_1 c arg8 k f8 = mxr (it true (sq (ld44 c arg8 k f8)) 1) := by
  show k0_pay290 (ld44 c arg8 k f8) = _; exact (pay290_x1 _)
theorem pay291_x2 (w : Vec F S1x128x128 .f32) : k0_pay291 w = bm (it true (sq w) 1) := rfl
theorem xr_2 (k : Fin k0_t2_loop.trips) (f8 : Bf (F := F) c arg8) : trip2_frame.sl.r_2 c arg8 k f8 = bm (it true (sq (ld44 c arg8 k f8)) 1) := by
  show k0_pay291 (ld44 c arg8 k f8) = _; exact (pay291_x2 _)
theorem pay298_x3 (W : FVec F S128x128 .f32) : k0_pay298 (k0_pay283 (F := F)) (W) (bm W) = pick true (it true W 1) := rfl
theorem xr_3 (k : Fin k0_t2_loop.trips) (f8 : Bf (F := F) c arg8) : trip2_frame.sl.r_3 c arg8 k f8 = pick true (it true (sq (ld44 c arg8 k f8)) 2) := by
  show k0_pay298 (k0_pay283 (F := F)) (trip2_frame.sl.r c arg8 k f8) (trip2_frame.sl.r_2 c arg8 k f8) = _; rw [xr, xr_2]; exact (pay298_x3 _).trans (by simp only [it_add, Nat.reduceAdd])
theorem pay299_x4 (W : FVec F S128x128 .f32) : k0_pay299 (k0_pay283 (F := F)) (W) (bm W) = (it true W 2) := rfl
theorem xr_4 (k : Fin k0_t2_loop.trips) (f8 : Bf (F := F) c arg8) : trip2_frame.sl.r_4 c arg8 k f8 = (it true (sq (ld44 c arg8 k f8)) 3) := by
  show k0_pay299 (k0_pay283 (F := F)) (trip2_frame.sl.r c arg8 k f8) (trip2_frame.sl.r_2 c arg8 k f8) = _; rw [xr, xr_2]; exact (pay299_x4 _).trans (by simp only [it_add, Nat.reduceAdd])
theorem pay310_x5 (W : FVec F S128x128 .f32) : k0_pay310 (k0_pay283 (F := F)) (W) = mxr (it true W 1) := rfl
theorem xr_5 (k : Fin k0_t2_loop.trips) (f8 : Bf (F := F) c arg8) : trip2_frame.sl.r_5 c arg8 k f8 = mxr (it true (sq (ld44 c arg8 k f8)) 4) := by
  show k0_pay310 (k0_pay283 (F := F)) (trip2_frame.sl.r_4 c arg8 k f8) = _; rw [xr_4]; exact (pay310_x5 _).trans (by simp only [it_add, Nat.reduceAdd])
theorem pay311_x6 (W : FVec F S128x128 .f32) : k0_pay311 (k0_pay283 (F := F)) (W) = pick true (it true W 1) := rfl
theorem xr_6 (k : Fin k0_t2_loop.trips) (f8 : Bf (F := F) c arg8) : trip2_frame.sl.r_6 c arg8 k f8 = pick true (it true (sq (ld44 c arg8 k f8)) 4) := by
  show k0_pay311 (k0_pay283 (F := F)) (trip2_frame.sl.r_4 c arg8 k f8) = _; rw [xr_4]; exact (pay311_x6 _).trans (by simp only [it_add, Nat.reduceAdd])
theorem pay312_x7 (W : FVec F S128x128 .f32) : k0_pay312 (k0_pay283 (F := F)) (W) = (it true W 2) := rfl
theorem xr_7 (k : Fin k0_t2_loop.trips) (f8 : Bf (F := F) c arg8) : trip2_frame.sl.r_7 c arg8 k f8 = (it true (sq (ld44 c arg8 k f8)) 5) := by
  show k0_pay312 (k0_pay283 (F := F)) (trip2_frame.sl.r_4 c arg8 k f8) = _; rw [xr_4]; exact (pay312_x7 _).trans (by simp only [it_add, Nat.reduceAdd])
theorem pay318_x8 (W : FVec F S128x128 .f32) : k0_pay318 (k0_pay283 (F := F)) (W) = (it true W 1) := rfl
theorem xr_8 (k : Fin k0_t2_loop.trips) (f8 : Bf (F := F) c arg8) : trip2_frame.sl.r_8 c arg8 k f8 = (it true (sq (ld44 c arg8 k f8)) 6) := by
  show k0_pay318 (k0_pay283 (F := F)) (trip2_frame.sl.r_7 c arg8 k f8) = _; rw [xr_7]; exact (pay318_x8 _).trans (by simp only [it_add, Nat.reduceAdd])
theorem pay322_x9 (W : FVec F S128x128 .f32) : k0_pay322 (k0_pay283 (F := F)) (W) = mxr (it true W 1) := rfl
theorem xr_9 (k : Fin k0_t2_loop.trips) (f8 : Bf (F := F) c arg8) : trip2_frame.sl.r_9 c arg8 k f8 = mxr (it true (sq (ld44 c arg8 k f8)) 6) := by
  show k0_pay322 (k0_pay283 (F := F)) (trip2_frame.sl.r_7 c arg8 k f8) = _; rw [xr_7]; exact (pay322_x9 _).trans (by simp only [it_add, Nat.reduceAdd])
theorem pay323_x10 (W : FVec F S128x128 .f32) : k0_pay323 (k0_pay283 (F := F)) (W) = wv (it true W 1) := rfl
theorem xr_10 (k : Fin k0_t2_loop.trips) (f8 : Bf (F := F) c arg8) : trip2_frame.sl.r_10 c arg8 k f8 = wv (it true (sq (ld44 c arg8 k f8)) 6) := by
  show k0_pay323 (k0_pay283 (F := F)) (trip2_frame.sl.r_7 c arg8 k f8) = _; rw [xr_7]; exact (pay323_x10 _).trans (by simp only [it_add, Nat.reduceAdd])
theorem pay331_x11 (W : FVec F S128x128 .f32) : k0_pay331 (k0_pay283 (F := F)) (W) (wv W) = (it true W 2) := rfl
theorem xr_11 (k : Fin k0_t2_loop.trips) (f8 : Bf (F := F) c arg8) : trip2_frame.sl.r_11 c arg8 k f8 = (it true (sq (ld44 c arg8 k f8)) 8) := by
  show k0_pay331 (k0_pay283 (F := F)) (trip2_frame.sl.r_8 c arg8 k f8) (trip2_frame.sl.r_10 c arg8 k f8) = _; rw [xr_8, xr_10]; exact (pay331_x11 _).trans (by simp only [it_add, Nat.reduceAdd])
theorem pay334_x12 (W : FVec F S128x128 .f32) : k0_pay334 (k0_pay283 (F := F)) (W) (wv W) = mskv (pick true (it true W 1)) := rfl
theorem xr_12 (k : Fin k0_t2_loop.trips) (f8 : Bf (F := F) c arg8) : trip2_frame.sl.r_12 c arg8 k f8 = mskv (pick true (it true (sq (ld44 c arg8 k f8)) 7)) := by
  show k0_pay334 (k0_pay283 (F := F)) (trip2_frame.sl.r_8 c arg8 k f8) (trip2_frame.sl.r_10 c arg8 k f8) = _; rw [xr_8, xr_10]; exact (pay334_x12 _).trans (by simp only [it_add, Nat.reduceAdd])
theorem pay342_x13 (W : FVec F S128x128 .f32) : k0_pay342 (k0_pay283 (F := F)) (W) = pick true (it true W 1) := rfl
theorem xr_13 (k : Fin k0_t2_loop.trips) (f8 : Bf (F := F) c arg8) : trip2_frame.sl.r_13 c arg8 k f8 = pick true (it true (sq (ld44 c arg8 k f8)) 9) := by
  show k0_pay342 (k0_pay283 (F := F)) (trip2_frame.sl.r_11 c arg8 k f8) = _; rw [xr_11]; exact (pay342_x13 _).trans (by simp only [it_add, Nat.reduceAdd])
theorem pay343_x14 (W : FVec F S128x128 .f32) : k0_pay343 (k0_pay283 (F := F)) (W) = (it true W 2) := rfl
theorem xr_14 (k : Fin k0_t2_loop.trips) (f8 : Bf (F := F) c arg8) : trip2_frame.sl.r_14 c arg8 k f8 = (it true (sq (ld44 c arg8 k f8)) 10) := by
  show k0_pay343 (k0_pay283 (F := F)) (trip2_frame.sl.r_11 c arg8 k f8) = _; rw [xr_11]; exact (pay343_x14 _).trans (by simp only [it_add, Nat.reduceAdd])
theorem pay349_x15 (W : FVec F S128x128 .f32) : k0_pay349 (k0_pay283 (F := F)) (W) = (it true W 1) := rfl
theorem xr_15 (k : Fin k0_t2_loop.trips) (f8 : Bf (F := F) c arg8) : trip2_frame.sl.r_15 c arg8 k f8 = (it true (sq (ld44 c arg8 k f8)) 11) := by
  show k0_pay349 (k0_pay283 (F := F)) (trip2_frame.sl.r_14 c arg8 k f8) = _; rw [xr_14]; exact (pay349_x15 _).trans (by simp only [it_add, Nat.reduceAdd])
theorem pay353_x16 (W : FVec F S128x128 .f32) : k0_pay353 (k0_pay283 (F := F)) (W) = mxr (it true W 1) := rfl
theorem xr_16 (k : Fin k0_t2_loop.trips) (f8 : Bf (F := F) c arg8) : trip2_frame.sl.r_16 c arg8 k f8 = mxr (it true (sq (ld44 c arg8 k f8)) 11) := by
  show k0_pay353 (k0_pay283 (F := F)) (trip2_frame.sl.r_14 c arg8 k f8) = _; rw [xr_14]; exact (pay353_x16 _).trans (by simp only [it_add, Nat.reduceAdd])
theorem pay354_x17 (W : FVec F S128x128 .f32) : k0_pay354 (k0_pay283 (F := F)) (W) = pick true (it true W 1) := rfl
theorem xr_17 (k : Fin k0_t2_loop.trips) (f8 : Bf (F := F) c arg8) : trip2_frame.sl.r_17 c arg8 k f8 = pick true (it true (sq (ld44 c arg8 k f8)) 11) := by
  show k0_pay354 (k0_pay283 (F := F)) (trip2_frame.sl.r_14 c arg8 k f8) = _; rw [xr_14]; exact (pay354_x17 _).trans (by simp only [it_add, Nat.reduceAdd])
theorem pay361_x18 (W : FVec F S128x128 .f32) : k0_pay361 (k0_pay283 (F := F)) (W) (pick true W) (trip2_frame.sl.cst_177) = (it true W 2) := rfl
theorem xr_18 (k : Fin k0_t2_loop.trips) (f8 : Bf (F := F) c arg8) : trip2_frame.sl.r_18 c arg8 k f8 = (it true (sq (ld44 c arg8 k f8)) 13) := by
  show k0_pay361 (k0_pay283 (F := F)) (trip2_frame.sl.r_15 c arg8 k f8) (trip2_frame.sl.r_17 c arg8 k f8) trip2_frame.sl.cst_177 = _; rw [xr_15, xr_17]; exact (pay361_x18 _).trans (by simp only [it_add, Nat.reduceAdd])
theorem pay365_x19 (W : FVec F S128x128 .f32) : k0_pay365 (k0_pay283 (F := F)) (W) (pick true W) (trip2_frame.sl.cst_177) = mxr (it true W 2) := rfl
theorem xr_19 (k : Fin k0_t2_loop.trips) (f8 : Bf (F := F) c arg8) : trip2_frame.sl.r_19 c arg8 k f8 = mxr (it true (sq (ld44 c arg8 k f8)) 13) := by
  show k0_pay365 (k0_pay283 (F := F)) (trip2_frame.sl.r_15 c arg8 k f8) (trip2_frame.sl.r_17 c arg8 k f8) trip2_frame.sl.cst_177 = _; rw [xr_15, xr_17]; exact (pay365_x19 _).trans (by simp only [it_add, Nat.reduceAdd])
theorem pay366_x20 (W : FVec F S128x128 .f32) : k0_pay366 (k0_pay283 (F := F)) (W) (pick true W) (trip2_frame.sl.cst_177) = bm (it true W 2) := rfl
theorem xr_20 (k : Fin k0_t2_loop.trips) (f8 : Bf (F := F) c arg8) : trip2_frame.sl.r_20 c arg8 k f8 = bm (it true (sq (ld44 c arg8 k f8)) 13) := by
  show k0_pay366 (k0_pay283 (F := F)) (trip2_frame.sl.r_15 c arg8 k f8) (trip2_frame.sl.r_17 c arg8 k f8) trip2_frame.sl.cst_177 = _; rw [xr_15, xr_17]; exact (pay366_x20 _).trans (by simp only [it_add, Nat.reduceAdd])
theorem pay373_x21 (W : FVec F S128x128 .f32) : k0_pay373 (k0_pay283 (F := F)) (W) (bm W) = pick true (it true W 1) := rfl
theorem xr_21 (k : Fin k0_t2_loop.trips) (f8 : Bf (F := F) c arg8) : trip2_frame.sl.r_21 c arg8 k f8 = pick true (it true (sq (ld44 c arg8 k f8)) 14) := by
  show k0_pay373 (k0_pay283 (F := F)) (trip2_frame.sl.r_18 c arg8 k f8) (trip2_frame.sl.r_20 c arg8 k f8) = _; rw [xr_18, xr_20]; exact (pay373_x21 _).trans (by simp only [it_add, Nat.reduceAdd])
theorem pay374_x22 (W : FVec F S128x128 .f32) : k0_pay374 (k0_pay283 (F := F)) (W) (bm W) = (it true W 2) := rfl
theorem xr_22 (k : Fin k0_t2_loop.trips) (f8 : Bf (F := F) c arg8) : trip2_frame.sl.r_22 c arg8 k f8 = (it true (sq (ld44 c arg8 k f8)) 15) := by
  show k0_pay374 (k0_pay283 (F := F)) (trip2_frame.sl.r_18 c arg8 k f8) (trip2_frame.sl.r_20 c arg8 k f8) = _; rw [xr_18, xr_20]; exact (pay374_x22 _).trans (by simp only [it_add, Nat.reduceAdd])
theorem pay384_x23 (w : Vec F S1x128x128 .f32) : k0_pay384 w = (sq w) := rfl
theorem xr_23 (k : Fin k0_t2_loop.trips) (f8 : Bf (F := F) c arg8) : trip2_frame.sl.r_23 c arg8 k f8 = (it true (sq (ld45 c arg8 k f8)) 0) := by
  show k0_pay384 (ld45 c arg8 k f8) = _; exact (pay384_x23 _)
theorem pay386_x24 (w : Vec F S1x128x128 .f32) : k0_pay386 w = mxr (sq w) := rfl
theorem xr_24 (k : Fin k0_t2_loop.trips) (f8 : Bf (F := F) c arg8) : trip2_frame.sl.r_24 c arg8 k f8 = mxr (it true (sq (ld45 c arg8 k f8)) 0) := by
  show k0_pay386 (ld45 c arg8 k f8) = _; exact (pay386_x24 _)
theorem pay387_x25 (w : Vec F S1x128x128 .f32) : k0_pay387 w = sel (sq w) := rfl
theorem xr_25 (k : Fin k0_t2_loop.trips) (f8 : Bf (F := F) c arg8) : trip2_frame.sl.r_25 c arg8 k f8 = sel (it true (sq (ld45 c arg8 k f8)) 0) := by
  show k0_pay387 (ld45 c arg8 k f8) = _; exact (pay387_x25 _)
theorem pay394_x26 (W : FVec F S128x128 .f32) : k0_pay394 (W) (k0_pay385 (F := F)) (sel W) = pick true (it true W 1) := rfl
theorem xr_26 (k : Fin k0_t2_loop.trips) (f8 : Bf (F := F) c arg8) : trip2_frame.sl.r_26 c arg8 k f8 = pick true (it true (sq (ld45 c arg8 k f8)) 1) := by
  show k0_pay394 (trip2_frame.sl.r_23 c arg8 k f8) (k0_pay385 (F := F)) (trip2_frame.sl.r_25 c arg8 k f8) = _; rw [xr_23, xr_25]; exact (pay394_x26 _).trans (by simp only [it_add, Nat.reduceAdd])
theorem pay395_x27 (W : FVec F S128x128 .f32) : k0_pay395 (W) (k0_pay385 (F := F)) (sel W) = (it true W 2) := rfl
theorem xr_27 (k : Fin k0_t2_loop.trips) (f8 : Bf (F := F) c arg8) : trip2_frame.sl.r_27 c arg8 k f8 = (it true (sq (ld45 c arg8 k f8)) 2) := by
  show k0_pay395 (trip2_frame.sl.r_23 c arg8 k f8) (k0_pay385 (F := F)) (trip2_frame.sl.r_25 c arg8 k f8) = _; rw [xr_23, xr_25]; exact (pay395_x27 _).trans (by simp only [it_add, Nat.reduceAdd])
theorem pay406_x28 (W : FVec F S128x128 .f32) : k0_pay406 (k0_pay385 (F := F)) (W) = mxr (it true W 1) := rfl
theorem xr_28 (k : Fin k0_t2_loop.trips) (f8 : Bf (F := F) c arg8) : trip2_frame.sl.r_28 c arg8 k f8 = mxr (it true (sq (ld45 c arg8 k f8)) 3) := by
  show k0_pay406 (k0_pay385 (F := F)) (trip2_frame.sl.r_27 c arg8 k f8) = _; rw [xr_27]; exact (pay406_x28 _).trans (by simp only [it_add, Nat.reduceAdd])
theorem pay407_x29 (W : FVec F S128x128 .f32) : k0_pay407 (k0_pay385 (F := F)) (W) = pick true (it true W 1) := rfl
theorem xr_29 (k : Fin k0_t2_loop.trips) (f8 : Bf (F := F) c arg8) : trip2_frame.sl.r_29 c arg8 k f8 = pick true (it true (sq (ld45 c arg8 k f8)) 3) := by
  show k0_pay407 (k0_pay385 (F := F)) (trip2_frame.sl.r_27 c arg8 k f8) = _; rw [xr_27]; exact (pay407_x29 _).trans (by simp only [it_add, Nat.reduceAdd])
theorem pay408_x30 (W : FVec F S128x128 .f32) : k0_pay408 (k0_pay385 (F := F)) (W) = (it true W 2) := rfl
theorem xr_30 (k : Fin k0_t2_loop.trips) (f8 : Bf (F := F) c arg8) : trip2_frame.sl.r_30 c arg8 k f8 = (it true (sq (ld45 c arg8 k f8)) 4) := by
  show k0_pay408 (k0_pay385 (F := F)) (trip2_frame.sl.r_27 c arg8 k f8) = _; rw [xr_27]; exact (pay408_x30 _).trans (by simp only [it_add, Nat.reduceAdd])
theorem pay414_x31 (W : FVec F S128x128 .f32) : k0_pay414 (k0_pay385 (F := F)) (W) = (it true W 1) := rfl
theorem xr_31 (k : Fin k0_t2_loop.trips) (f8 : Bf (F := F) c arg8) : trip2_frame.sl.r_31 c arg8 k f8 = (it true (sq (ld45 c arg8 k f8)) 5) := by
  show k0_pay414 (k0_pay385 (F := F)) (trip2_frame.sl.r_30 c arg8 k f8) = _; rw [xr_30]; exact (pay414_x31 _).trans (by simp only [it_add, Nat.reduceAdd])
theorem pay418_x32 (W : FVec F S128x128 .f32) : k0_pay418 (k0_pay385 (F := F)) (W) = mxr (it true W 1) := rfl
theorem xr_32 (k : Fin k0_t2_loop.trips) (f8 : Bf (F := F) c arg8) : trip2_frame.sl.r_32 c arg8 k f8 = mxr (it true (sq (ld45 c arg8 k f8)) 5) := by
  show k0_pay418 (k0_pay385 (F := F)) (trip2_frame.sl.r_30 c arg8 k f8) = _; rw [xr_30]; exact (pay418_x32 _).trans (by simp only [it_add, Nat.reduceAdd])
theorem pay419_x33 (W : FVec F S128x128 .f32) : k0_pay419 (k0_pay385 (F := F)) (W) = wmn (it true W 1) := rfl
theorem xr_33 (k : Fin k0_t2_loop.trips) (f8 : Bf (F := F) c arg8) : trip2_frame.sl.r_33 c arg8 k f8 = wmn (it true (sq (ld45 c arg8 k f8)) 5) := by
  show k0_pay419 (k0_pay385 (F := F)) (trip2_frame.sl.r_30 c arg8 k f8) = _; rw [xr_30]; exact (pay419_x33 _).trans (by simp only [it_add, Nat.reduceAdd])
theorem pay427_x34 (W : FVec F S128x128 .f32) : k0_pay427 (k0_pay385 (F := F)) (W) (wmn W) = (it true W 2) := rfl
theorem xr_34 (k : Fin k0_t2_loop.trips) (f8 : Bf (F := F) c arg8) : trip2_frame.sl.r_34 c arg8 k f8 = (it true (sq (ld45 c arg8 k f8)) 7) := by
  show k0_pay427 (k0_pay385 (F := F)) (trip2_frame.sl.r_31 c arg8 k f8) (trip2_frame.sl.r_33 c arg8 k f8) = _; rw [xr_31, xr_33]; exact (pay427_x34 _).trans (by simp only [it_add, Nat.reduceAdd])
theorem pay438_x35 (W : FVec F S128x128 .f32) : k0_pay438 (k0_pay385 (F := F)) (W) = pick true (it true W 1) := rfl
theorem xr_35 (k : Fin k0_t2_loop.trips) (f8 : Bf (F := F) c arg8) : trip2_frame.sl.r_35 c arg8 k f8 = pick true (it true (sq (ld45 c arg8 k f8)) 8) := by
  show k0_pay438 (k0_pay385 (F := F)) (trip2_frame.sl.r_34 c arg8 k f8) = _; rw [xr_34]; exact (pay438_x35 _).trans (by simp only [it_add, Nat.reduceAdd])
theorem pay439_x36 (W : FVec F S128x128 .f32) : k0_pay439 (k0_pay385 (F := F)) (W) = (it true W 2) := rfl
theorem xr_36 (k : Fin k0_t2_loop.trips) (f8 : Bf (F := F) c arg8) : trip2_frame.sl.r_36 c arg8 k f8 = (it true (sq (ld45 c arg8 k f8)) 9) := by
  show k0_pay439 (k0_pay385 (F := F)) (trip2_frame.sl.r_34 c arg8 k f8) = _; rw [xr_34]; exact (pay439_x36 _).trans (by simp only [it_add, Nat.reduceAdd])
theorem pay445_x37 (W : FVec F S128x128 .f32) : k0_pay445 (k0_pay385 (F := F)) (W) = (it true W 1) := rfl
theorem xr_37 (k : Fin k0_t2_loop.trips) (f8 : Bf (F := F) c arg8) : trip2_frame.sl.r_37 c arg8 k f8 = (it true (sq (ld45 c arg8 k f8)) 10) := by
  show k0_pay445 (k0_pay385 (F := F)) (trip2_frame.sl.r_36 c arg8 k f8) = _; rw [xr_36]; exact (pay445_x37 _).trans (by simp only [it_add, Nat.reduceAdd])
theorem pay449_x38 (W : FVec F S128x128 .f32) : k0_pay449 (k0_pay385 (F := F)) (W) = mxr (it true W 1) := rfl
theorem xr_38 (k : Fin k0_t2_loop.trips) (f8 : Bf (F := F) c arg8) : trip2_frame.sl.r_38 c arg8 k f8 = mxr (it true (sq (ld45 c arg8 k f8)) 10) := by
  show k0_pay449 (k0_pay385 (F := F)) (trip2_frame.sl.r_36 c arg8 k f8) = _; rw [xr_36]; exact (pay449_x38 _).trans (by simp only [it_add, Nat.reduceAdd])
theorem pay450_x39 (W : FVec F S128x128 .f32) : k0_pay450 (k0_pay385 (F := F)) (W) = pick true (it true W 1) := rfl
theorem xr_39 (k : Fin k0_t2_loop.trips) (f8 : Bf (F := F) c arg8) : trip2_frame.sl.r_39 c arg8 k f8 = pick true (it true (sq (ld45 c arg8 k f8)) 10) := by
  show k0_pay450 (k0_pay385 (F := F)) (trip2_frame.sl.r_36 c arg8 k f8) = _; rw [xr_36]; exact (pay450_x39 _).trans (by simp only [it_add, Nat.reduceAdd])
theorem pay458_x40 (W : FVec F S128x128 .f32) : k0_pay458 (k0_pay385 (F := F)) (W) (pick true W) (k0_pay451 (F := F)) = (it true W 2) := rfl
theorem xr_40 (k : Fin k0_t2_loop.trips) (f8 : Bf (F := F) c arg8) : trip2_frame.sl.r_40 c arg8 k f8 = (it true (sq (ld45 c arg8 k f8)) 12) := by
  show k0_pay458 (k0_pay385 (F := F)) (trip2_frame.sl.r_37 c arg8 k f8) (trip2_frame.sl.r_39 c arg8 k f8) (k0_pay451 (F := F)) = _; rw [xr_37, xr_39]; exact (pay458_x40 _).trans (by simp only [it_add, Nat.reduceAdd])
theorem pay462_x41 (W : FVec F S128x128 .f32) : k0_pay462 (k0_pay385 (F := F)) (W) (pick true W) (k0_pay451 (F := F)) = mxr (it true W 2) := rfl
theorem xr_41 (k : Fin k0_t2_loop.trips) (f8 : Bf (F := F) c arg8) : trip2_frame.sl.r_41 c arg8 k f8 = mxr (it true (sq (ld45 c arg8 k f8)) 12) := by
  show k0_pay462 (k0_pay385 (F := F)) (trip2_frame.sl.r_37 c arg8 k f8) (trip2_frame.sl.r_39 c arg8 k f8) (k0_pay451 (F := F)) = _; rw [xr_37, xr_39]; exact (pay462_x41 _).trans (by simp only [it_add, Nat.reduceAdd])
theorem pay463_x42 (W : FVec F S128x128 .f32) : k0_pay463 (k0_pay385 (F := F)) (W) (pick true W) (k0_pay451 (F := F)) = sel (it true W 2) := rfl
theorem xr_42 (k : Fin k0_t2_loop.trips) (f8 : Bf (F := F) c arg8) : trip2_frame.sl.r_42 c arg8 k f8 = sel (it true (sq (ld45 c arg8 k f8)) 12) := by
  show k0_pay463 (k0_pay385 (F := F)) (trip2_frame.sl.r_37 c arg8 k f8) (trip2_frame.sl.r_39 c arg8 k f8) (k0_pay451 (F := F)) = _; rw [xr_37, xr_39]; exact (pay463_x42 _).trans (by simp only [it_add, Nat.reduceAdd])
theorem pay470_x43 (W : FVec F S128x128 .f32) : k0_pay470 (k0_pay385 (F := F)) (W) (sel W) = pick true (it true W 1) := rfl
theorem xr_43 (k : Fin k0_t2_loop.trips) (f8 : Bf (F := F) c arg8) : trip2_frame.sl.r_43 c arg8 k f8 = pick true (it true (sq (ld45 c arg8 k f8)) 13) := by
  show k0_pay470 (k0_pay385 (F := F)) (trip2_frame.sl.r_40 c arg8 k f8) (trip2_frame.sl.r_42 c arg8 k f8) = _; rw [xr_40, xr_42]; exact (pay470_x43 _).trans (by simp only [it_add, Nat.reduceAdd])
theorem pay471_x44 (W : FVec F S128x128 .f32) : k0_pay471 (k0_pay385 (F := F)) (W) (sel W) = (it true W 2) := rfl
theorem xr_44 (k : Fin k0_t2_loop.trips) (f8 : Bf (F := F) c arg8) : trip2_frame.sl.r_44 c arg8 k f8 = (it true (sq (ld45 c arg8 k f8)) 14) := by
  show k0_pay471 (k0_pay385 (F := F)) (trip2_frame.sl.r_40 c arg8 k f8) (trip2_frame.sl.r_42 c arg8 k f8) = _; rw [xr_40, xr_42]; exact (pay471_x44 _).trans (by simp only [it_add, Nat.reduceAdd])
theorem pay483_x45 (W : FVec F S128x128 .f32) : k0_pay483 (k0_pay385 (F := F)) (W) = pick true (it true W 1) := rfl
theorem xr_45 (k : Fin k0_t2_loop.trips) (f8 : Bf (F := F) c arg8) : trip2_frame.sl.r_45 c arg8 k f8 = pick true (it true (sq (ld45 c arg8 k f8)) 15) := by
  show k0_pay483 (k0_pay385 (F := F)) (trip2_frame.sl.r_44 c arg8 k f8) = _; rw [xr_44]; exact (pay483_x45 _).trans (by simp only [it_add, Nat.reduceAdd])
theorem pay484_x46 (W : FVec F S128x128 .f32) : k0_pay484 (k0_pay385 (F := F)) (W) = rowv (it true W 1) := rfl
theorem xr_46 (k : Fin k0_t2_loop.trips) (f8 : Bf (F := F) c arg8) : trip2_frame.sl.r_46 c arg8 k f8 = rowv (it true (sq (ld45 c arg8 k f8)) 15) := by
  show k0_pay484 (k0_pay385 (F := F)) (trip2_frame.sl.r_44 c arg8 k f8) = _; rw [xr_44]; exact (pay484_x46 _).trans (by simp only [it_add, Nat.reduceAdd])
theorem lit2_1 : ((k0_pay288 (F := F)) : FVec F S1x1x128x128 .f32) = litv (lit 0) := rfl
theorem pay289_x47 (w : Vec F S1x128x128 .f32) : k0_pay289 w = mskv (pick true (sq w)) := rfl
theorem msk2_1 (k : Fin k0_t2_loop.trips) (f8 : Bf (F := F) c arg8) : (k0_pay289 (ld44 c arg8 k f8)) = mskv (pick true (it true (sq (ld44 c arg8 k f8)) 0)) := by
  show k0_pay289 (ld44 c arg8 k f8) = _; exact (pay289_x47 _)
theorem lit2_2 : ((k0_pay295 (F := F)) : FVec F S1x1x128x128 .f32) = litv (lit 1) := rfl
theorem pay296_x48 (W : FVec F S128x128 .f32) : k0_pay296 (k0_pay283 (F := F)) (W) (bm W) = mskv (pick true W) := rfl
theorem msk2_2 (k : Fin k0_t2_loop.trips) (f8 : Bf (F := F) c arg8) : (k0_pay296 (k0_pay283 (F := F)) (trip2_frame.sl.r c arg8 k f8) (trip2_frame.sl.r_2 c arg8 k f8)) = mskv (pick true (it true (sq (ld44 c arg8 k f8)) 1)) := by
  show k0_pay296 (k0_pay283 (F := F)) (trip2_frame.sl.r c arg8 k f8) (trip2_frame.sl.r_2 c arg8 k f8) = _; rw [xr, xr_2]; exact (pay296_x48 _)
theorem lit2_3 : ((k0_pay302 (k0_pay301 (F := F))) : FVec F S1x1x128x128 .f32) = litv (lit 2) := rfl
theorem pay303_x49 (W : FVec F S128x128 .f32) : k0_pay303 (pick true W) = mskv (pick true W) := rfl
theorem msk2_3 (k : Fin k0_t2_loop.trips) (f8 : Bf (F := F) c arg8) : (k0_pay303 (trip2_frame.sl.r_3 c arg8 k f8)) = mskv (pick true (it true (sq (ld44 c arg8 k f8)) 2)) := by
  show k0_pay303 (trip2_frame.sl.r_3 c arg8 k f8) = _; rw [xr_3]; exact (pay303_x49 _)
theorem lit2_4 : ((k0_pay308 (F := F)) : FVec F S1x1x128x128 .f32) = litv (lit 3) := rfl
theorem pay309_x50 (W : FVec F S128x128 .f32) : k0_pay309 (k0_pay283 (F := F)) (W) = mskv (pick true W) := rfl
theorem msk2_4 (k : Fin k0_t2_loop.trips) (f8 : Bf (F := F) c arg8) : (k0_pay309 (k0_pay283 (F := F)) (trip2_frame.sl.r_4 c arg8 k f8)) = mskv (pick true (it true (sq (ld44 c arg8 k f8)) 3)) := by
  show k0_pay309 (k0_pay283 (F := F)) (trip2_frame.sl.r_4 c arg8 k f8) = _; rw [xr_4]; exact (pay309_x50 _)
theorem lit2_5 : ((k0_pay314 (F := F)) : FVec F S1x1x128x128 .f32) = litv (lit 4) := rfl
theorem pay315_x51 (W : FVec F S128x128 .f32) : k0_pay315 (pick true W) = mskv (pick true W) := rfl
theorem msk2_5 (k : Fin k0_t2_loop.trips) (f8 : Bf (F := F) c arg8) : (k0_pay315 (trip2_frame.sl.r_6 c arg8 k f8)) = mskv (pick true (it true (sq (ld44 c arg8 k f8)) 4)) := by
  show k0_pay315 (trip2_frame.sl.r_6 c arg8 k f8) = _; rw [xr_6]; exact (pay315_x51 _)
theorem lit2_6 : ((k0_pay320 (F := F)) : FVec F S1x1x128x128 .f32) = litv (lit 5) := rfl
theorem pay321_x52 (W : FVec F S128x128 .f32) : k0_pay321 (k0_pay283 (F := F)) (W) = mskv (pick true W) := rfl
theorem msk2_6 (k : Fin k0_t2_loop.trips) (f8 : Bf (F := F) c arg8) : (k0_pay321 (k0_pay283 (F := F)) (trip2_frame.sl.r_7 c arg8 k f8)) = mskv (pick true (it true (sq (ld44 c arg8 k f8)) 5)) := by
  show k0_pay321 (k0_pay283 (F := F)) (trip2_frame.sl.r_7 c arg8 k f8) = _; rw [xr_7]; exact (pay321_x52 _)
theorem lit2_7 : ((k0_pay327 (F := F)) : FVec F S1x1x128x128 .f32) = litv (lit 6) := rfl
theorem pay328_x53 (W : FVec F S128x128 .f32) : k0_pay328 (k0_pay283 (F := F)) (wv W) = mskv (pick true W) := rfl
theorem msk2_7 (k : Fin k0_t2_loop.trips) (f8 : Bf (F := F) c arg8) : (k0_pay328 (k0_pay283 (F := F)) (trip2_frame.sl.r_10 c arg8 k f8)) = mskv (pick true (it true (sq (ld44 c arg8 k f8)) 6)) := by
  show k0_pay328 (k0_pay283 (F := F)) (trip2_frame.sl.r_10 c arg8 k f8) = _; rw [xr_10]; exact (pay328_x53 _)
theorem lit2_8 : ((k0_pay333 (F := F)) : FVec F S1x1x128x128 .f32) = litv (lit 7) := rfl
theorem msk2_8 (k : Fin k0_t2_loop.trips) (f8 : Bf (F := F) c arg8) : (trip2_frame.sl.r_12 c arg8 k f8) = mskv (pick true (it true (sq (ld44 c arg8 k f8)) 7)) := xr_12 c arg8 k f8
theorem lit2_9 : ((k0_pay339 (F := F)) : FVec F S1x1x128x128 .f32) = litv (lit 8) := rfl
theorem pay340_x54 (W : FVec F S128x128 .f32) : k0_pay340 (k0_pay283 (F := F)) (W) = mskv (pick true W) := rfl
theorem msk2_9 (k : Fin k0_t2_loop.trips) (f8 : Bf (F := F) c arg8) : (k0_pay340 (k0_pay283 (F := F)) (trip2_frame.sl.r_11 c arg8 k f8)) = mskv (pick true (it true (sq (ld44 c arg8 k f8)) 8)) := by
  show k0_pay340 (k0_pay283 (F := F)) (trip2_frame.sl.r_11 c arg8 k f8) = _; rw [xr_11]; exact (pay340_x54 _)
theorem lit2_10 : ((k0_pay345 (F := F)) : FVec F S1x1x128x128 .f32) = litv (lit 9) := rfl
theorem pay346_x55 (W : FVec F S128x128 .f32) : k0_pay346 (pick true W) = mskv (pick true W) := rfl
theorem msk2_10 (k : Fin k0_t2_loop.trips) (f8 : Bf (F := F) c arg8) : (k0_pay346 (trip2_frame.sl.r_13 c arg8 k f8)) = mskv (pick true (it true (sq (ld44 c arg8 k f8)) 9)) := by
  show k0_pay346 (trip2_frame.sl.r_13 c arg8 k f8) = _; rw [xr_13]; exact (pay346_x55 _)
theorem lit2_11 : ((k0_pay351 (F := F)) : FVec F S1x1x128x128 .f32) = litv (lit 10) := rfl
theorem pay352_x56 (W : FVec F S128x128 .f32) : k0_pay352 (k0_pay283 (F := F)) (W) = mskv (pick true W) := rfl
theorem msk2_11 (k : Fin k0_t2_loop.trips) (f8 : Bf (F := F) c arg8) : (k0_pay352 (k0_pay283 (F := F)) (trip2_frame.sl.r_14 c arg8 k f8)) = mskv (pick true (it true (sq (ld44 c arg8 k f8)) 10)) := by
  show k0_pay352 (k0_pay283 (F := F)) (trip2_frame.sl.r_14 c arg8 k f8) = _; rw [xr_14]; exact (pay352_x56 _)
theorem lit2_12 : ((k0_pay357 (F := F)) : FVec F S1x1x128x128 .f32) = litv (lit 11) := rfl
theorem pay358_x57 (W : FVec F S128x128 .f32) : k0_pay358 (pick true W) = mskv (pick true W) := rfl
theorem msk2_12 (k : Fin k0_t2_loop.trips) (f8 : Bf (F := F) c arg8) : (k0_pay358 (trip2_frame.sl.r_17 c arg8 k f8)) = mskv (pick true (it true (sq (ld44 c arg8 k f8)) 11)) := by
  show k0_pay358 (trip2_frame.sl.r_17 c arg8 k f8) = _; rw [xr_17]; exact (pay358_x57 _)
theorem lit2_13 : ((k0_pay363 (F := F)) : FVec F S1x1x128x128 .f32) = litv (lit 12) := rfl
theorem pay364_x58 (W : FVec F S128x128 .f32) : k0_pay364 (k0_pay283 (F := F)) (W) (pick true W) (trip2_frame.sl.cst_177) = mskv (pick true (it true W 1)) := rfl
theorem msk2_13 (k : Fin k0_t2_loop.trips) (f8 : Bf (F := F) c arg8) : (k0_pay364 (k0_pay283 (F := F)) (trip2_frame.sl.r_15 c arg8 k f8) (trip2_frame.sl.r_17 c arg8 k f8) trip2_frame.sl.cst_177) = mskv (pick true (it true (sq (ld44 c arg8 k f8)) 12)) := by
  show k0_pay364 (k0_pay283 (F := F)) (trip2_frame.sl.r_15 c arg8 k f8) (trip2_frame.sl.r_17 c arg8 k f8) trip2_frame.sl.cst_177 = _; rw [xr_15, xr_17]; exact (pay364_x58 _).trans (by simp only [it_add, Nat.reduceAdd])
theorem lit2_14 : ((k0_pay370 (F := F)) : FVec F S1x1x128x128 .f32) = litv (lit 13) := rfl
theorem pay371_x59 (W : FVec F S128x128 .f32) : k0_pay371 (k0_pay283 (F := F)) (W) (bm W) = mskv (pick true W) := rfl
theorem msk2_14 (k : Fin k0_t2_loop.trips) (f8 : Bf (F := F) c arg8) : (k0_pay371 (k0_pay283 (F := F)) (trip2_frame.sl.r_18 c arg8 k f8) (trip2_frame.sl.r_20 c arg8 k f8)) = mskv (pick true (it true (sq (ld44 c arg8 k f8)) 13)) := by
  show k0_pay371 (k0_pay283 (F := F)) (trip2_frame.sl.r_18 c arg8 k f8) (trip2_frame.sl.r_20 c arg8 k f8) = _; rw [xr_18, xr_20]; exact (pay371_x59 _)
theorem lit2_15 : ((k0_pay377 (k0_pay376 (F := F))) : FVec F S1x1x128x128 .f32) = litv (lit 14) := rfl
theorem pay378_x60 (W : FVec F S128x128 .f32) : k0_pay378 (pick true W) = mskv (pick true W) := rfl
theorem msk2_15 (k : Fin k0_t2_loop.trips) (f8 : Bf (F := F) c arg8) : (k0_pay378 (trip2_frame.sl.r_21 c arg8 k f8)) = mskv (pick true (it true (sq (ld44 c arg8 k f8)) 14)) := by
  show k0_pay378 (trip2_frame.sl.r_21 c arg8 k f8) = _; rw [xr_21]; exact (pay378_x60 _)
theorem lit2_16 : ((k0_pay381 (F := F)) : FVec F S1x1x128x128 .f32) = litv (lit 15) := rfl
theorem pay382_x61 (W : FVec F S128x128 .f32) : k0_pay382 (k0_pay283 (F := F)) (W) = mskv (pick true W) := rfl
theorem msk2_16 (k : Fin k0_t2_loop.trips) (f8 : Bf (F := F) c arg8) : (k0_pay382 (k0_pay283 (F := F)) (trip2_frame.sl.r_22 c arg8 k f8)) = mskv (pick true (it true (sq (ld44 c arg8 k f8)) 15)) := by
  show k0_pay382 (k0_pay283 (F := F)) (trip2_frame.sl.r_22 c arg8 k f8) = _; rw [xr_22]; exact (pay382_x61 _)
theorem lit2_17 : ((k0_pay391 (F := F)) : FVec F S1x1x128x128 .f32) = litv (lit 0) := rfl
theorem pay392_x62 (W : FVec F S128x128 .f32) : k0_pay392 (k0_pay385 (F := F)) (sel W) = mskv (pick true W) := rfl
theorem msk2_17 (k : Fin k0_t2_loop.trips) (f8 : Bf (F := F) c arg8) : (k0_pay392 (k0_pay385 (F := F)) (trip2_frame.sl.r_25 c arg8 k f8)) = mskv (pick true (it true (sq (ld45 c arg8 k f8)) 0)) := by
  show k0_pay392 (k0_pay385 (F := F)) (trip2_frame.sl.r_25 c arg8 k f8) = _; rw [xr_25]; exact (pay392_x62 _)
theorem lit2_18 : ((k0_pay398 (k0_pay397 (F := F))) : FVec F S1x1x128x128 .f32) = litv (lit 1) := rfl
theorem pay399_x63 (W : FVec F S128x128 .f32) : k0_pay399 (pick true W) = mskv (pick true W) := rfl
theorem msk2_18 (k : Fin k0_t2_loop.trips) (f8 : Bf (F := F) c arg8) : (k0_pay399 (trip2_frame.sl.r_26 c arg8 k f8)) = mskv (pick true (it true (sq (ld45 c arg8 k f8)) 1)) := by
  show k0_pay399 (trip2_frame.sl.r_26 c arg8 k f8) = _; rw [xr_26]; exact (pay399_x63 _)
theorem lit2_19 : ((k0_pay404 (F := F)) : FVec F S1x1x128x128 .f32) = litv (lit 2) := rfl
theorem pay405_x64 (W : FVec F S128x128 .f32) : k0_pay405 (k0_pay385 (F := F)) (W) = mskv (pick true W) := rfl
theorem msk2_19 (k : Fin k0_t2_loop.trips) (f8 : Bf (F := F) c arg8) : (k0_pay405 (k0_pay385 (F := F)) (trip2_frame.sl.r_27 c arg8 k f8)) = mskv (pick true (it true (sq (ld45 c arg8 k f8)) 2)) := by
  show k0_pay405 (k0_pay385 (F := F)) (trip2_frame.sl.r_27 c arg8 k f8) = _; rw [xr_27]; exact (pay405_x64 _)
theorem lit2_20 : ((k0_pay410 (F := F)) : FVec F S1x1x128x128 .f32) = litv (lit 3) := rfl
theorem pay411_x65 (W : FVec F S128x128 .f32) : k0_pay411 (pick true W) = mskv (pick true W) := rfl
theorem msk2_20 (k : Fin k0_t2_loop.trips) (f8 : Bf (F := F) c arg8) : (k0_pay411 (trip2_frame.sl.r_29 c arg8 k f8)) = mskv (pick true (it true (sq (ld45 c arg8 k f8)) 3)) := by
  show k0_pay411 (trip2_frame.sl.r_29 c arg8 k f8) = _; rw [xr_29]; exact (pay411_x65 _)
theorem lit2_21 : ((k0_pay416 (F := F)) : FVec F S1x1x128x128 .f32) = litv (lit 4) := rfl
theorem pay417_x66 (W : FVec F S128x128 .f32) : k0_pay417 (k0_pay385 (F := F)) (W) = mskv (pick true W) := rfl
theorem msk2_21 (k : Fin k0_t2_loop.trips) (f8 : Bf (F := F) c arg8) : (k0_pay417 (k0_pay385 (F := F)) (trip2_frame.sl.r_30 c arg8 k f8)) = mskv (pick true (it true (sq (ld45 c arg8 k f8)) 4)) := by
  show k0_pay417 (k0_pay385 (F := F)) (trip2_frame.sl.r_30 c arg8 k f8) = _; rw [xr_30]; exact (pay417_x66 _)
theorem lit2_22 : ((k0_pay423 (F := F)) : FVec F S1x1x128x128 .f32) = litv (lit 5) := rfl
theorem pay424_x67 (W : FVec F S128x128 .f32) : k0_pay424 (k0_pay385 (F := F)) (wmn W) = mskv (pick true W) := rfl
theorem msk2_22 (k : Fin k0_t2_loop.trips) (f8 : Bf (F := F) c arg8) : (k0_pay424 (k0_pay385 (F := F)) (trip2_frame.sl.r_33 c arg8 k f8)) = mskv (pick true (it true (sq (ld45 c arg8 k f8)) 5)) := by
  show k0_pay424 (k0_pay385 (F := F)) (trip2_frame.sl.r_33 c arg8 k f8) = _; rw [xr_33]; exact (pay424_x67 _)
theorem lit2_23 : ((k0_pay429 (F := F)) : FVec F S1x1x128x128 .f32) = litv (lit 6) := rfl
theorem pay430_x68 (W : FVec F S128x128 .f32) : k0_pay430 (k0_pay385 (F := F)) (W) (wmn W) = mskv (pick true (it true W 1)) := rfl
theorem msk2_23 (k : Fin k0_t2_loop.trips) (f8 : Bf (F := F) c arg8) : (k0_pay430 (k0_pay385 (F := F)) (trip2_frame.sl.r_31 c arg8 k f8) (trip2_frame.sl.r_33 c arg8 k f8)) = mskv (pick true (it true (sq (ld45 c arg8 k f8)) 6)) := by
  show k0_pay430 (k0_pay385 (F := F)) (trip2_frame.sl.r_31 c arg8 k f8) (trip2_frame.sl.r_33 c arg8 k f8) = _; rw [xr_31, xr_33]; exact (pay430_x68 _).trans (by simp only [it_add, Nat.reduceAdd])
theorem lit2_24 : ((k0_pay435 (F := F)) : FVec F S1x1x128x128 .f32) = litv (lit 7) := rfl
theorem pay436_x69 (W : FVec F S128x128 .f32) : k0_pay436 (k0_pay385 (F := F)) (W) = mskv (pick true W) := rfl
theorem msk2_24 (k : Fin k0_t2_loop.trips) (f8 : Bf (F := F) c arg8) : (k0_pay436 (k0_pay385 (F := F)) (trip2_frame.sl.r_34 c arg8 k f8)) = mskv (pick true (it true (sq (ld45 c arg8 k f8)) 7)) := by
  show k0_pay436 (k0_pay385 (F := F)) (trip2_frame.sl.r_34 c arg8 k f8) = _; rw [xr_34]; exact (pay436_x69 _)
theorem lit2_25 : ((k0_pay441 trip2_frame.sl.cst_352) : FVec F S1x1x128x128 .f32) = litv (lit 8) := rfl
theorem pay442_x70 (W : FVec F S128x128 .f32) : k0_pay442 (pick true W) = mskv (pick true W) := rfl
theorem msk2_25 (k : Fin k0_t2_loop.trips) (f8 : Bf (F := F) c arg8) : (k0_pay442 (trip2_frame.sl.r_35 c arg8 k f8)) = mskv (pick true (it true (sq (ld45 c arg8 k f8)) 8)) := by
  show k0_pay442 (trip2_frame.sl.r_35 c arg8 k f8) = _; rw [xr_35]; exact (pay442_x70 _)
theorem lit2_26 : ((k0_pay447 (F := F)) : FVec F S1x1x128x128 .f32) = litv (lit 9) := rfl
theorem pay448_x71 (W : FVec F S128x128 .f32) : k0_pay448 (k0_pay385 (F := F)) (W) = mskv (pick true W) := rfl
theorem msk2_26 (k : Fin k0_t2_loop.trips) (f8 : Bf (F := F) c arg8) : (k0_pay448 (k0_pay385 (F := F)) (trip2_frame.sl.r_36 c arg8 k f8)) = mskv (pick true (it true (sq (ld45 c arg8 k f8)) 9)) := by
  show k0_pay448 (k0_pay385 (F := F)) (trip2_frame.sl.r_36 c arg8 k f8) = _; rw [xr_36]; exact (pay448_x71 _)
theorem lit2_27 : ((k0_pay454 (F := F)) : FVec F S1x1x128x128 .f32) = litv (lit 10) := rfl
theorem pay455_x72 (W : FVec F S128x128 .f32) : k0_pay455 (pick true W) = mskv (pick true W) := rfl
theorem msk2_27 (k : Fin k0_t2_loop.trips) (f8 : Bf (F := F) c arg8) : (k0_pay455 (trip2_frame.sl.r_39 c arg8 k f8)) = mskv (pick true (it true (sq (ld45 c arg8 k f8)) 10)) := by
  show k0_pay455 (trip2_frame.sl.r_39 c arg8 k f8) = _; rw [xr_39]; exact (pay455_x72 _)
theorem lit2_28 : ((k0_pay460 (F := F)) : FVec F S1x1x128x128 .f32) = litv (lit 11) := rfl
theorem pay461_x73 (W : FVec F S128x128 .f32) : k0_pay461 (k0_pay385 (F := F)) (W) (pick true W) (k0_pay451 (F := F)) = mskv (pick true (it true W 1)) := rfl
theorem msk2_28 (k : Fin k0_t2_loop.trips) (f8 : Bf (F := F) c arg8) : (k0_pay461 (k0_pay385 (F := F)) (trip2_frame.sl.r_37 c arg8 k f8) (trip2_frame.sl.r_39 c arg8 k f8) (k0_pay451 (F := F))) = mskv (pick true (it true (sq (ld45 c arg8 k f8)) 11)) := by
  show k0_pay461 (k0_pay385 (F := F)) (trip2_frame.sl.r_37 c arg8 k f8) (trip2_frame.sl.r_39 c arg8 k f8) (k0_pay451 (F := F)) = _; rw [xr_37, xr_39]; exact (pay461_x73 _).trans (by simp only [it_add, Nat.reduceAdd])
theorem lit2_29 : ((k0_pay467 (F := F)) : FVec F S1x1x128x128 .f32) = litv (lit 12) := rfl
theorem pay468_x74 (W : FVec F S128x128 .f32) : k0_pay468 (k0_pay385 (F := F)) (sel W) = mskv (pick true W) := rfl
theorem msk2_29 (k : Fin k0_t2_loop.trips) (f8 : Bf (F := F) c arg8) : (k0_pay468 (k0_pay385 (F := F)) (trip2_frame.sl.r_42 c arg8 k f8)) = mskv (pick true (it true (sq (ld45 c arg8 k f8)) 12)) := by
  show k0_pay468 (k0_pay385 (F := F)) (trip2_frame.sl.r_42 c arg8 k f8) = _; rw [xr_42]; exact (pay468_x74 _)
theorem lit2_30 : ((k0_pay474 (k0_pay473 (F := F))) : FVec F S1x1x128x128 .f32) = litv (lit 13) := rfl
theorem pay475_x75 (W : FVec F S128x128 .f32) : k0_pay475 (pick true W) = mskv (pick true W) := rfl
theorem msk2_30 (k : Fin k0_t2_loop.trips) (f8 : Bf (F := F) c arg8) : (k0_pay475 (trip2_frame.sl.r_43 c arg8 k f8)) = mskv (pick true (it true (sq (ld45 c arg8 k f8)) 13)) := by
  show k0_pay475 (trip2_frame.sl.r_43 c arg8 k f8) = _; rw [xr_43]; exact (pay475_x75 _)
theorem lit2_31 : ((k0_pay480 (F := F)) : FVec F S1x1x128x128 .f32) = litv (lit 14) := rfl
theorem pay481_x76 (W : FVec F S128x128 .f32) : k0_pay481 (k0_pay385 (F := F)) (W) = mskv (pick true W) := rfl
theorem msk2_31 (k : Fin k0_t2_loop.trips) (f8 : Bf (F := F) c arg8) : (k0_pay481 (k0_pay385 (F := F)) (trip2_frame.sl.r_44 c arg8 k f8)) = mskv (pick true (it true (sq (ld45 c arg8 k f8)) 14)) := by
  show k0_pay481 (k0_pay385 (F := F)) (trip2_frame.sl.r_44 c arg8 k f8) = _; rw [xr_44]; exact (pay481_x76 _)
theorem lit2_32 : ((k0_pay485 (F := F)) : FVec F S1x1x128x128 .f32) = litv (lit 15) := rfl
theorem pay486_x77 (W : FVec F S128x128 .f32) : k0_pay486 (pick true W) = mskv (pick true W) := rfl
theorem msk2_32 (k : Fin k0_t2_loop.trips) (f8 : Bf (F := F) c arg8) : (k0_pay486 (trip2_frame.sl.r_45 c arg8 k f8)) = mskv (pick true (it true (sq (ld45 c arg8 k f8)) 15)) := by
  show k0_pay486 (trip2_frame.sl.r_45 c arg8 k f8) = _; rw [xr_45]; exact (pay486_x77 _)
theorem pay332_x78 (W : FVec F S128x128 .f32) : k0_pay332 (k0_pay283 (F := F)) (W) (wv W) = rowv (it true W 1) := rfl
theorem row2_0_7 (k : Fin k0_t2_loop.trips) (f8 : Bf (F := F) c arg8) : k0_pay332 (k0_pay283 (F := F)) (trip2_frame.sl.r_8 c arg8 k f8) (trip2_frame.sl.r_10 c arg8 k f8) = rowv (it true (sq (ld44 c arg8 k f8)) 7) := by
  show k0_pay332 (k0_pay283 (F := F)) (trip2_frame.sl.r_8 c arg8 k f8) (trip2_frame.sl.r_10 c arg8 k f8) = _; rw [xr_8, xr_10]; exact (pay332_x78 _).trans (by simp only [it_add, Nat.reduceAdd])
theorem pay326_x79 (W : FVec F S128x128 .f32) : k0_pay326 (mxr W) = rowv W := rfl
theorem row2_0_6 (k : Fin k0_t2_loop.trips) (f8 : Bf (F := F) c arg8) : k0_pay326 (trip2_frame.sl.r_9 c arg8 k f8) = rowv (it true (sq (ld44 c arg8 k f8)) 6) := by
  show k0_pay326 (trip2_frame.sl.r_9 c arg8 k f8) = _; rw [xr_9]; exact (pay326_x79 _)
theorem pay319_x80 (W : FVec F S128x128 .f32) : k0_pay319 (W) = rowv W := rfl
theorem row2_0_5 (k : Fin k0_t2_loop.trips) (f8 : Bf (F := F) c arg8) : k0_pay319 (trip2_frame.sl.r_7 c arg8 k f8) = rowv (it true (sq (ld44 c arg8 k f8)) 5) := by
  show k0_pay319 (trip2_frame.sl.r_7 c arg8 k f8) = _; rw [xr_7]; exact (pay319_x80 _)
theorem pay313_x81 (W : FVec F S128x128 .f32) : k0_pay313 (mxr W) = rowv W := rfl
theorem row2_0_4 (k : Fin k0_t2_loop.trips) (f8 : Bf (F := F) c arg8) : k0_pay313 (trip2_frame.sl.r_5 c arg8 k f8) = rowv (it true (sq (ld44 c arg8 k f8)) 4) := by
  show k0_pay313 (trip2_frame.sl.r_5 c arg8 k f8) = _; rw [xr_5]; exact (pay313_x81 _)
theorem pay307_x82 (W : FVec F S128x128 .f32) : k0_pay307 (W) = rowv W := rfl
theorem row2_0_3 (k : Fin k0_t2_loop.trips) (f8 : Bf (F := F) c arg8) : k0_pay307 (trip2_frame.sl.r_4 c arg8 k f8) = rowv (it true (sq (ld44 c arg8 k f8)) 3) := by
  show k0_pay307 (trip2_frame.sl.r_4 c arg8 k f8) = _; rw [xr_4]; exact (pay307_x82 _)
theorem row2_1_15 (k : Fin k0_t2_loop.trips) (f8 : Bf (F := F) c arg8) : trip2_frame.sl.r_46 c arg8 k f8 = rowv (it true (sq (ld45 c arg8 k f8)) 15) := xr_46 c arg8 k f8
theorem pay479_x83 (W : FVec F S128x128 .f32) : k0_pay479 (W) = rowv W := rfl
theorem row2_1_14 (k : Fin k0_t2_loop.trips) (f8 : Bf (F := F) c arg8) : k0_pay479 (trip2_frame.sl.r_44 c arg8 k f8) = rowv (it true (sq (ld45 c arg8 k f8)) 14) := by
  show k0_pay479 (trip2_frame.sl.r_44 c arg8 k f8) = _; rw [xr_44]; exact (pay479_x83 _)
theorem pay472_x84 (W : FVec F S128x128 .f32) : k0_pay472 (k0_pay385 (F := F)) (W) (sel W) = rowv (it true W 1) := rfl
theorem row2_1_13 (k : Fin k0_t2_loop.trips) (f8 : Bf (F := F) c arg8) : k0_pay472 (k0_pay385 (F := F)) (trip2_frame.sl.r_40 c arg8 k f8) (trip2_frame.sl.r_42 c arg8 k f8) = rowv (it true (sq (ld45 c arg8 k f8)) 13) := by
  show k0_pay472 (k0_pay385 (F := F)) (trip2_frame.sl.r_40 c arg8 k f8) (trip2_frame.sl.r_42 c arg8 k f8) = _; rw [xr_40, xr_42]; exact (pay472_x84 _).trans (by simp only [it_add, Nat.reduceAdd])
theorem pay466_x85 (W : FVec F S128x128 .f32) : k0_pay466 (mxr W) = rowv W := rfl
theorem row2_1_12 (k : Fin k0_t2_loop.trips) (f8 : Bf (F := F) c arg8) : k0_pay466 (trip2_frame.sl.r_41 c arg8 k f8) = rowv (it true (sq (ld45 c arg8 k f8)) 12) := by
  show k0_pay466 (trip2_frame.sl.r_41 c arg8 k f8) = _; rw [xr_41]; exact (pay466_x85 _)
theorem pay300_x86 (W : FVec F S128x128 .f32) : k0_pay300 (k0_pay283 (F := F)) (W) (bm W) = rowv (it true W 1) := rfl
theorem row2_0_2 (k : Fin k0_t2_loop.trips) (f8 : Bf (F := F) c arg8) : k0_pay300 (k0_pay283 (F := F)) (trip2_frame.sl.r c arg8 k f8) (trip2_frame.sl.r_2 c arg8 k f8) = rowv (it true (sq (ld44 c arg8 k f8)) 2) := by
  show k0_pay300 (k0_pay283 (F := F)) (trip2_frame.sl.r c arg8 k f8) (trip2_frame.sl.r_2 c arg8 k f8) = _; rw [xr, xr_2]; exact (pay300_x86 _).trans (by simp only [it_add, Nat.reduceAdd])
theorem pay294_x87 (W : FVec F S128x128 .f32) : k0_pay294 (mxr W) = rowv W := rfl
theorem row2_0_1 (k : Fin k0_t2_loop.trips) (f8 : Bf (F := F) c arg8) : k0_pay294 (trip2_frame.sl.r_1 c arg8 k f8) = rowv (it true (sq (ld44 c arg8 k f8)) 1) := by
  show k0_pay294 (trip2_frame.sl.r_1 c arg8 k f8) = _; rw [xr_1]; exact (pay294_x87 _)
theorem pay459_x88 (W : FVec F S128x128 .f32) : k0_pay459 (W) (pick true W) (k0_pay451 (F := F)) = rowv (it true W 1) := rfl
theorem row2_1_11 (k : Fin k0_t2_loop.trips) (f8 : Bf (F := F) c arg8) : k0_pay459 (trip2_frame.sl.r_37 c arg8 k f8) (trip2_frame.sl.r_39 c arg8 k f8) (k0_pay451 (F := F)) = rowv (it true (sq (ld45 c arg8 k f8)) 11) := by
  show k0_pay459 (trip2_frame.sl.r_37 c arg8 k f8) (trip2_frame.sl.r_39 c arg8 k f8) (k0_pay451 (F := F)) = _; rw [xr_37, xr_39]; exact (pay459_x88 _).trans (by simp only [it_add, Nat.reduceAdd])
theorem pay453_x89 (W : FVec F S128x128 .f32) : k0_pay453 (mxr W) = rowv W := rfl
theorem row2_1_10 (k : Fin k0_t2_loop.trips) (f8 : Bf (F := F) c arg8) : k0_pay453 (trip2_frame.sl.r_38 c arg8 k f8) = rowv (it true (sq (ld45 c arg8 k f8)) 10) := by
  show k0_pay453 (trip2_frame.sl.r_38 c arg8 k f8) = _; rw [xr_38]; exact (pay453_x89 _)
theorem pay446_x90 (W : FVec F S128x128 .f32) : k0_pay446 (W) = rowv W := rfl
theorem row2_1_9 (k : Fin k0_t2_loop.trips) (f8 : Bf (F := F) c arg8) : k0_pay446 (trip2_frame.sl.r_36 c arg8 k f8) = rowv (it true (sq (ld45 c arg8 k f8)) 9) := by
  show k0_pay446 (trip2_frame.sl.r_36 c arg8 k f8) = _; rw [xr_36]; exact (pay446_x90 _)
theorem pay440_x91 (W : FVec F S128x128 .f32) : k0_pay440 (k0_pay385 (F := F)) (W) = rowv (it true W 1) := rfl
theorem row2_1_8 (k : Fin k0_t2_loop.trips) (f8 : Bf (F := F) c arg8) : k0_pay440 (k0_pay385 (F := F)) (trip2_frame.sl.r_34 c arg8 k f8) = rowv (it true (sq (ld45 c arg8 k f8)) 8) := by
  show k0_pay440 (k0_pay385 (F := F)) (trip2_frame.sl.r_34 c arg8 k f8) = _; rw [xr_34]; exact (pay440_x91 _).trans (by simp only [it_add, Nat.reduceAdd])
theorem pay434_x92 (W : FVec F S128x128 .f32) : k0_pay434 (W) = rowv W := rfl
theorem row2_1_7 (k : Fin k0_t2_loop.trips) (f8 : Bf (F := F) c arg8) : k0_pay434 (trip2_frame.sl.r_34 c arg8 k f8) = rowv (it true (sq (ld45 c arg8 k f8)) 7) := by
  show k0_pay434 (trip2_frame.sl.r_34 c arg8 k f8) = _; rw [xr_34]; exact (pay434_x92 _)
theorem pay428_x93 (W : FVec F S128x128 .f32) : k0_pay428 (k0_pay385 (F := F)) (W) (wmn W) = rowv (it true W 1) := rfl
theorem row2_1_6 (k : Fin k0_t2_loop.trips) (f8 : Bf (F := F) c arg8) : k0_pay428 (k0_pay385 (F := F)) (trip2_frame.sl.r_31 c arg8 k f8) (trip2_frame.sl.r_33 c arg8 k f8) = rowv (it true (sq (ld45 c arg8 k f8)) 6) := by
  show k0_pay428 (k0_pay385 (F := F)) (trip2_frame.sl.r_31 c arg8 k f8) (trip2_frame.sl.r_33 c arg8 k f8) = _; rw [xr_31, xr_33]; exact (pay428_x93 _).trans (by simp only [it_add, Nat.reduceAdd])
theorem pay422_x94 (W : FVec F S128x128 .f32) : k0_pay422 (mxr W) = rowv W := rfl
theorem row2_1_5 (k : Fin k0_t2_loop.trips) (f8 : Bf (F := F) c arg8) : k0_pay422 (trip2_frame.sl.r_32 c arg8 k f8) = rowv (it true (sq (ld45 c arg8 k f8)) 5) := by
  show k0_pay422 (trip2_frame.sl.r_32 c arg8 k f8) = _; rw [xr_32]; exact (pay422_x94 _)
theorem pay415_x95 (W : FVec F S128x128 .f32) : k0_pay415 (W) = rowv W := rfl
theorem row2_1_4 (k : Fin k0_t2_loop.trips) (f8 : Bf (F := F) c arg8) : k0_pay415 (trip2_frame.sl.r_30 c arg8 k f8) = rowv (it true (sq (ld45 c arg8 k f8)) 4) := by
  show k0_pay415 (trip2_frame.sl.r_30 c arg8 k f8) = _; rw [xr_30]; exact (pay415_x95 _)
theorem pay409_x96 (W : FVec F S128x128 .f32) : k0_pay409 (mxr W) = rowv W := rfl
theorem row2_1_3 (k : Fin k0_t2_loop.trips) (f8 : Bf (F := F) c arg8) : k0_pay409 (trip2_frame.sl.r_28 c arg8 k f8) = rowv (it true (sq (ld45 c arg8 k f8)) 3) := by
  show k0_pay409 (trip2_frame.sl.r_28 c arg8 k f8) = _; rw [xr_28]; exact (pay409_x96 _)
theorem pay403_x97 (W : FVec F S128x128 .f32) : k0_pay403 (W) = rowv W := rfl
theorem row2_1_2 (k : Fin k0_t2_loop.trips) (f8 : Bf (F := F) c arg8) : k0_pay403 (trip2_frame.sl.r_27 c arg8 k f8) = rowv (it true (sq (ld45 c arg8 k f8)) 2) := by
  show k0_pay403 (trip2_frame.sl.r_27 c arg8 k f8) = _; rw [xr_27]; exact (pay403_x97 _)
theorem pay396_x98 (W : FVec F S128x128 .f32) : k0_pay396 (W) (k0_pay385 (F := F)) (sel W) = rowv (it true W 1) := rfl
theorem row2_1_1 (k : Fin k0_t2_loop.trips) (f8 : Bf (F := F) c arg8) : k0_pay396 (trip2_frame.sl.r_23 c arg8 k f8) (k0_pay385 (F := F)) (trip2_frame.sl.r_25 c arg8 k f8) = rowv (it true (sq (ld45 c arg8 k f8)) 1) := by
  show k0_pay396 (trip2_frame.sl.r_23 c arg8 k f8) (k0_pay385 (F := F)) (trip2_frame.sl.r_25 c arg8 k f8) = _; rw [xr_23, xr_25]; exact (pay396_x98 _).trans (by simp only [it_add, Nat.reduceAdd])
theorem pay390_x99 (W : FVec F S128x128 .f32) : k0_pay390 (mxr W) = rowv W := rfl
theorem row2_1_0 (k : Fin k0_t2_loop.trips) (f8 : Bf (F := F) c arg8) : k0_pay390 (trip2_frame.sl.r_24 c arg8 k f8) = rowv (it true (sq (ld45 c arg8 k f8)) 0) := by
  show k0_pay390 (trip2_frame.sl.r_24 c arg8 k f8) = _; rw [xr_24]; exact (pay390_x99 _)
theorem pay380_x100 (W : FVec F S128x128 .f32) : k0_pay380 (W) = rowv W := rfl
theorem row2_0_15 (k : Fin k0_t2_loop.trips) (f8 : Bf (F := F) c arg8) : k0_pay380 (trip2_frame.sl.r_22 c arg8 k f8) = rowv (it true (sq (ld44 c arg8 k f8)) 15) := by
  show k0_pay380 (trip2_frame.sl.r_22 c arg8 k f8) = _; rw [xr_22]; exact (pay380_x100 _)
theorem pay375_x101 (W : FVec F S128x128 .f32) : k0_pay375 (k0_pay283 (F := F)) (W) (bm W) = rowv (it true W 1) := rfl
theorem row2_0_14 (k : Fin k0_t2_loop.trips) (f8 : Bf (F := F) c arg8) : k0_pay375 (k0_pay283 (F := F)) (trip2_frame.sl.r_18 c arg8 k f8) (trip2_frame.sl.r_20 c arg8 k f8) = rowv (it true (sq (ld44 c arg8 k f8)) 14) := by
  show k0_pay375 (k0_pay283 (F := F)) (trip2_frame.sl.r_18 c arg8 k f8) (trip2_frame.sl.r_20 c arg8 k f8) = _; rw [xr_18, xr_20]; exact (pay375_x101 _).trans (by simp only [it_add, Nat.reduceAdd])
theorem pay369_x102 (W : FVec F S128x128 .f32) : k0_pay369 (mxr W) = rowv W := rfl
theorem row2_0_13 (k : Fin k0_t2_loop.trips) (f8 : Bf (F := F) c arg8) : k0_pay369 (trip2_frame.sl.r_19 c arg8 k f8) = rowv (it true (sq (ld44 c arg8 k f8)) 13) := by
  show k0_pay369 (trip2_frame.sl.r_19 c arg8 k f8) = _; rw [xr_19]; exact (pay369_x102 _)
theorem pay362_x103 (W : FVec F S128x128 .f32) : k0_pay362 (W) (pick true W) (trip2_frame.sl.cst_177) = rowv (it true W 1) := rfl
theorem row2_0_12 (k : Fin k0_t2_loop.trips) (f8 : Bf (F := F) c arg8) : k0_pay362 (trip2_frame.sl.r_15 c arg8 k f8) (trip2_frame.sl.r_17 c arg8 k f8) trip2_frame.sl.cst_177 = rowv (it true (sq (ld44 c arg8 k f8)) 12) := by
  show k0_pay362 (trip2_frame.sl.r_15 c arg8 k f8) (trip2_frame.sl.r_17 c arg8 k f8) trip2_frame.sl.cst_177 = _; rw [xr_15, xr_17]; exact (pay362_x103 _).trans (by simp only [it_add, Nat.reduceAdd])
theorem pay356_x104 (W : FVec F S128x128 .f32) : k0_pay356 (mxr W) = rowv W := rfl
theorem row2_0_11 (k : Fin k0_t2_loop.trips) (f8 : Bf (F := F) c arg8) : k0_pay356 (trip2_frame.sl.r_16 c arg8 k f8) = rowv (it true (sq (ld44 c arg8 k f8)) 11) := by
  show k0_pay356 (trip2_frame.sl.r_16 c arg8 k f8) = _; rw [xr_16]; exact (pay356_x104 _)
theorem pay350_x105 (W : FVec F S128x128 .f32) : k0_pay350 (W) = rowv W := rfl
theorem row2_0_10 (k : Fin k0_t2_loop.trips) (f8 : Bf (F := F) c arg8) : k0_pay350 (trip2_frame.sl.r_14 c arg8 k f8) = rowv (it true (sq (ld44 c arg8 k f8)) 10) := by
  show k0_pay350 (trip2_frame.sl.r_14 c arg8 k f8) = _; rw [xr_14]; exact (pay350_x105 _)
theorem pay344_x106 (W : FVec F S128x128 .f32) : k0_pay344 (k0_pay283 (F := F)) (W) = rowv (it true W 1) := rfl
theorem row2_0_9 (k : Fin k0_t2_loop.trips) (f8 : Bf (F := F) c arg8) : k0_pay344 (k0_pay283 (F := F)) (trip2_frame.sl.r_11 c arg8 k f8) = rowv (it true (sq (ld44 c arg8 k f8)) 9) := by
  show k0_pay344 (k0_pay283 (F := F)) (trip2_frame.sl.r_11 c arg8 k f8) = _; rw [xr_11]; exact (pay344_x106 _).trans (by simp only [it_add, Nat.reduceAdd])
theorem pay338_x107 (W : FVec F S128x128 .f32) : k0_pay338 (W) = rowv W := rfl
theorem row2_0_8 (k : Fin k0_t2_loop.trips) (f8 : Bf (F := F) c arg8) : k0_pay338 (trip2_frame.sl.r_11 c arg8 k f8) = rowv (it true (sq (ld44 c arg8 k f8)) 8) := by
  show k0_pay338 (trip2_frame.sl.r_11 c arg8 k f8) = _; rw [xr_11]; exact (pay338_x107 _)
theorem pay287_x108 (w : Vec F S1x128x128 .f32) : k0_pay287 w = rowv (sq w) := rfl
theorem row2_0_0 (k : Fin k0_t2_loop.trips) (f8 : Bf (F := F) c arg8) : k0_pay287 (ld44 c arg8 k f8) = rowv (it true (sq (ld44 c arg8 k f8)) 0) := by
  show k0_pay287 (ld44 c arg8 k f8) = _; exact (pay287_x108 _)
end Cert.Proof.Topk

end

end
-- ==== Proof.Reads2.lean ====
/-
  The exact loop: what a trip leaves in the buffers of ranks and of maxima.
-/
module

public import proofs.«01_k».proof.Proof.Eqs2
public import proofs.«01_k».proof.Proof.Mem
public import proofs.«01_k».proof.Proof.Offs

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)
theorem nw2_1 (k : Fin k0_t2_loop.trips) (f8 : Bf (F := F) c arg8) (f9 : Bf (F := F) c arg9) : NestP arg9.view f9 (trip2_frame.sl.H9_w1 c arg8 arg9 k f8 f9) true (sq (ld44 c arg8 k f8)) 0 0 1 :=
  nestS arg9.view f9 _ true (sq (ld44 c arg8 k f8)) 0 0 0 (nest0 arg9.view f9 true (sq (ld44 c arg8 k f8)) 0 0 ![0, 0, 0, 0] inb_S2x2x128x128_S1x1x128x128_0_0_0_0 rfl _ rfl) ![0, 0, 0, 0] inb_S2x2x128x128_S1x1x128x128_0_0_0_0 rfl _ lit2_1 _ (msk2_1 c arg8 k f8)
theorem nw2_2 (k : Fin k0_t2_loop.trips) (f8 : Bf (F := F) c arg8) (f9 : Bf (F := F) c arg9) : NestP arg9.view f9 (trip2_frame.sl.H9_w2 c arg8 arg9 k f8 f9) true (sq (ld44 c arg8 k f8)) 0 0 2 :=
  nestS arg9.view f9 _ true (sq (ld44 c arg8 k f8)) 0 0 1 (nw2_1 c arg8 arg9 k f8 f9) ![0, 0, 0, 0] inb_S2x2x128x128_S1x1x128x128_0_0_0_0 rfl _ lit2_2 _ (msk2_2 c arg8 k f8)
theorem nw2_3 (k : Fin k0_t2_loop.trips) (f8 : Bf (F := F) c arg8) (f9 : Bf (F := F) c arg9) : NestP arg9.view f9 (trip2_frame.sl.H9_w3 c arg8 arg9 k f8 f9) true (sq (ld44 c arg8 k f8)) 0 0 3 :=
  nestS arg9.view f9 _ true (sq (ld44 c arg8 k f8)) 0 0 2 (nw2_2 c arg8 arg9 k f8 f9) ![0, 0, 0, 0] inb_S2x2x128x128_S1x1x128x128_0_0_0_0 rfl _ lit2_3 _ (msk2_3 c arg8 k f8)
theorem nw2_4 (k : Fin k0_t2_loop.trips) (f8 : Bf (F := F) c arg8) (f9 : Bf (F := F) c arg9) : NestP arg9.view f9 (trip2_frame.sl.H9_w4 c arg8 arg9 k f8 f9) true (sq (ld44 c arg8 k f8)) 0 0 4 :=
  nestS arg9.view f9 _ true (sq (ld44 c arg8 k f8)) 0 0 3 (nw2_3 c arg8 arg9 k f8 f9) ![0, 0, 0, 0] inb_S2x2x128x128_S1x1x128x128_0_0_0_0 rfl _ lit2_4 _ (msk2_4 c arg8 k f8)
theorem nw2_5 (k : Fin k0_t2_loop.trips) (f8 : Bf (F := F) c arg8) (f9 : Bf (F := F) c arg9) : NestP arg9.view f9 (trip2_frame.sl.H9_w5 c arg8 arg9 k f8 f9) true (sq (ld44 c arg8 k f8)) 0 0 5 :=
  nestS arg9.view f9 _ true (sq (ld44 c arg8 k f8)) 0 0 4 (nw2_4 c arg8 arg9 k f8 f9) ![0, 0, 0, 0] inb_S2x2x128x128_S1x1x128x128_0_0_0_0 rfl _ lit2_5 _ (msk2_5 c arg8 k f8)
theorem nw2_6 (k : Fin k0_t2_loop.trips) (f8 : Bf (F := F) c arg8) (f9 : Bf (F := F) c arg9) : NestP arg9.view f9 (trip2_frame.sl.H9_w6 c arg8 arg9 k f8 f9) true (sq (ld44 c arg8 k f8)) 0 0 6 :=
  nestS arg9.view f9 _ true (sq (ld44 c arg8 k f8)) 0 0 5 (nw2_5 c arg8 arg9 k f8 f9) ![0, 0, 0, 0] inb_S2x2x128x128_S1x1x128x128_0_0_0_0 rfl _ lit2_6 _ (msk2_6 c arg8 k f8)
theorem nw2_7 (k : Fin k0_t2_loop.trips) (f8 : Bf (F := F) c arg8) (f9 : Bf (F := F) c arg9) : NestP arg9.view f9 (trip2_frame.sl.H9_w7 c arg8 arg9 k f8 f9) true (sq (ld44 c arg8 k f8)) 0 0 7 :=
  nestS arg9.view f9 _ true (sq (ld44 c arg8 k f8)) 0 0 6 (nw2_6 c arg8 arg9 k f8 f9) ![0, 0, 0, 0] inb_S2x2x128x128_S1x1x128x128_0_0_0_0 rfl _ lit2_7 _ (msk2_7 c arg8 k f8)
theorem nw2_8 (k : Fin k0_t2_loop.trips) (f8 : Bf (F := F) c arg8) (f9 : Bf (F := F) c arg9) : NestP arg9.view f9 (trip2_frame.sl.H9_w8 c arg8 arg9 k f8 f9) true (sq (ld44 c arg8 k f8)) 0 0 8 :=
  nestS arg9.view f9 _ true (sq (ld44 c arg8 k f8)) 0 0 7 (nw2_7 c arg8 arg9 k f8 f9) ![0, 0, 0, 0] inb_S2x2x128x128_S1x1x128x128_0_0_0_0 rfl _ lit2_8 _ (msk2_8 c arg8 k f8)
theorem nw2_9 (k : Fin k0_t2_loop.trips) (f8 : Bf (F := F) c arg8) (f9 : Bf (F := F) c arg9) : NestP arg9.view f9 (trip2_frame.sl.H9_w9 c arg8 arg9 k f8 f9) true (sq (ld44 c arg8 k f8)) 0 0 9 :=
  nestS arg9.view f9 _ true (sq (ld44 c arg8 k f8)) 0 0 8 (nw2_8 c arg8 arg9 k f8 f9) ![0, 0, 0, 0] inb_S2x2x128x128_S1x1x128x128_0_0_0_0 rfl _ lit2_9 _ (msk2_9 c arg8 k f8)
theorem nw2_10 (k : Fin k0_t2_loop.trips) (f8 : Bf (F := F) c arg8) (f9 : Bf (F := F) c arg9) : NestP arg9.view f9 (trip2_frame.sl.H9_w10 c arg8 arg9 k f8 f9) true (sq (ld44 c arg8 k f8)) 0 0 10 :=
  nestS arg9.view f9 _ true (sq (ld44 c arg8 k f8)) 0 0 9 (nw2_9 c arg8 arg9 k f8 f9) ![0, 0, 0, 0] inb_S2x2x128x128_S1x1x128x128_0_0_0_0 rfl _ lit2_10 _ (msk2_10 c arg8 k f8)
theorem nw2_11 (k : Fin k0_t2_loop.trips) (f8 : Bf (F := F) c arg8) (f9 : Bf (F := F) c arg9) : NestP arg9.view f9 (trip2_frame.sl.H9_w11 c arg8 arg9 k f8 f9) true (sq (ld44 c arg8 k f8)) 0 0 11 :=
  nestS arg9.view f9 _ true (sq (ld44 c arg8 k f8)) 0 0 10 (nw2_10 c arg8 arg9 k f8 f9) ![0, 0, 0, 0] inb_S2x2x128x128_S1x1x128x128_0_0_0_0 rfl _ lit2_11 _ (msk2_11 c arg8 k f8)
theorem nw2_12 (k : Fin k0_t2_loop.trips) (f8 : Bf (F := F) c arg8) (f9 : Bf (F := F) c arg9) : NestP arg9.view f9 (trip2_frame.sl.H9_w12 c arg8 arg9 k f8 f9) true (sq (ld44 c arg8 k f8)) 0 0 12 :=
  nestS arg9.view f9 _ true (sq (ld44 c arg8 k f8)) 0 0 11 (nw2_11 c arg8 arg9 k f8 f9) ![0, 0, 0, 0] inb_S2x2x128x128_S1x1x128x128_0_0_0_0 rfl _ lit2_12 _ (msk2_12 c arg8 k f8)
theorem nw2_13 (k : Fin k0_t2_loop.trips) (f8 : Bf (F := F) c arg8) (f9 : Bf (F := F) c arg9) : NestP arg9.view f9 (trip2_frame.sl.H9_w13 c arg8 arg9 k f8 f9) true (sq (ld44 c arg8 k f8)) 0 0 13 :=
  nestS arg9.view f9 _ true (sq (ld44 c arg8 k f8)) 0 0 12 (nw2_12 c arg8 arg9 k f8 f9) ![0, 0, 0, 0] inb_S2x2x128x128_S1x1x128x128_0_0_0_0 rfl _ lit2_13 _ (msk2_13 c arg8 k f8)
theorem nw2_14 (k : Fin k0_t2_loop.trips) (f8 : Bf (F := F) c arg8) (f9 : Bf (F := F) c arg9) : NestP arg9.view f9 (trip2_frame.sl.H9_w14 c arg8 arg9 k f8 f9) true (sq (ld44 c arg8 k f8)) 0 0 14 :=
  nestS arg9.view f9 _ true (sq (ld44 c arg8 k f8)) 0 0 13 (nw2_13 c arg8 arg9 k f8 f9) ![0, 0, 0, 0] inb_S2x2x128x128_S1x1x128x128_0_0_0_0 rfl _ lit2_14 _ (msk2_14 c arg8 k f8)
theorem nw2_15 (k : Fin k0_t2_loop.trips) (f8 : Bf (F := F) c arg8) (f9 : Bf (F := F) c arg9) : NestP arg9.view f9 (trip2_frame.sl.H9_w15 c arg8 arg9 k f8 f9) true (sq (ld44 c arg8 k f8)) 0 0 15 :=
  nestS arg9.view f9 _ true (sq (ld44 c arg8 k f8)) 0 0 14 (nw2_14 c arg8 arg9 k f8 f9) ![0, 0, 0, 0] inb_S2x2x128x128_S1x1x128x128_0_0_0_0 rfl _ lit2_15 _ (msk2_15 c arg8 k f8)
theorem nw2_16 (k : Fin k0_t2_loop.trips) (f8 : Bf (F := F) c arg8) (f9 : Bf (F := F) c arg9) : NestP arg9.view f9 (trip2_frame.sl.H9_w16 c arg8 arg9 k f8 f9) true (sq (ld44 c arg8 k f8)) 0 0 16 :=
  nestS arg9.view f9 _ true (sq (ld44 c arg8 k f8)) 0 0 15 (nw2_15 c arg8 arg9 k f8 f9) ![0, 0, 0, 0] inb_S2x2x128x128_S1x1x128x128_0_0_0_0 rfl _ lit2_16 _ (msk2_16 c arg8 k f8)
theorem nw2_17 (k : Fin k0_t2_loop.trips) (f8 : Bf (F := F) c arg8) (f9 : Bf (F := F) c arg9) : NestP arg9.view (trip2_frame.sl.H9_w16 c arg8 arg9 k f8 f9) (trip2_frame.sl.H9_w17 c arg8 arg9 k f8 f9) true (sq (ld45 c arg8 k f8)) 0 1 1 :=
  nestS arg9.view (trip2_frame.sl.H9_w16 c arg8 arg9 k f8 f9) _ true (sq (ld45 c arg8 k f8)) 0 1 0 (nest0 arg9.view (trip2_frame.sl.H9_w16 c arg8 arg9 k f8 f9) true (sq (ld45 c arg8 k f8)) 0 1 ![0, 1, 0, 0] inb_S2x2x128x128_S1x1x128x128_0_1_0_0 rfl _ rfl) ![0, 1, 0, 0] inb_S2x2x128x128_S1x1x128x128_0_1_0_0 rfl _ lit2_17 _ (msk2_17 c arg8 k f8)
theorem nw2_18 (k : Fin k0_t2_loop.trips) (f8 : Bf (F := F) c arg8) (f9 : Bf (F := F) c arg9) : NestP arg9.view (trip2_frame.sl.H9_w16 c arg8 arg9 k f8 f9) (trip2_frame.sl.H9_w18 c arg8 arg9 k f8 f9) true (sq (ld45 c arg8 k f8)) 0 1 2 :=
  nestS arg9.view (trip2_frame.sl.H9_w16 c arg8 arg9 k f8 f9) _ true (sq (ld45 c arg8 k f8)) 0 1 1 (nw2_17 c arg8 arg9 k f8 f9) ![0, 1, 0, 0] inb_S2x2x128x128_S1x1x128x128_0_1_0_0 rfl _ lit2_18 _ (msk2_18 c arg8 k f8)
theorem nw2_19 (k : Fin k0_t2_loop.trips) (f8 : Bf (F := F) c arg8) (f9 : Bf (F := F) c arg9) : NestP arg9.view (trip2_frame.sl.H9_w16 c arg8 arg9 k f8 f9) (trip2_frame.sl.H9_w19 c arg8 arg9 k f8 f9) true (sq (ld45 c arg8 k f8)) 0 1 3 :=
  nestS arg9.view (trip2_frame.sl.H9_w16 c arg8 arg9 k f8 f9) _ true (sq (ld45 c arg8 k f8)) 0 1 2 (nw2_18 c arg8 arg9 k f8 f9) ![0, 1, 0, 0] inb_S2x2x128x128_S1x1x128x128_0_1_0_0 rfl _ lit2_19 _ (msk2_19 c arg8 k f8)
theorem nw2_20 (k : Fin k0_t2_loop.trips) (f8 : Bf (F := F) c arg8) (f9 : Bf (F := F) c arg9) : NestP arg9.view (trip2_frame.sl.H9_w16 c arg8 arg9 k f8 f9) (trip2_frame.sl.H9_w20 c arg8 arg9 k f8 f9) true (sq (ld45 c arg8 k f8)) 0 1 4 :=
  nestS arg9.view (trip2_frame.sl.H9_w16 c arg8 arg9 k f8 f9) _ true (sq (ld45 c arg8 k f8)) 0 1 3 (nw2_19 c arg8 arg9 k f8 f9) ![0, 1, 0, 0] inb_S2x2x128x128_S1x1x128x128_0_1_0_0 rfl _ lit2_20 _ (msk2_20 c arg8 k f8)
theorem nw2_21 (k : Fin k0_t2_loop.trips) (f8 : Bf (F := F) c arg8) (f9 : Bf (F := F) c arg9) : NestP arg9.view (trip2_frame.sl.H9_w16 c arg8 arg9 k f8 f9) (trip2_frame.sl.H9_w21 c arg8 arg9 k f8 f9) true (sq (ld45 c arg8 k f8)) 0 1 5 :=
  nestS arg9.view (trip2_frame.sl.H9_w16 c arg8 arg9 k f8 f9) _ true (sq (ld45 c arg8 k f8)) 0 1 4 (nw2_20 c arg8 arg9 k f8 f9) ![0, 1, 0, 0] inb_S2x2x128x128_S1x1x128x128_0_1_0_0 rfl _ lit2_21 _ (msk2_21 c arg8 k f8)
theorem nw2_22 (k : Fin k0_t2_loop.trips) (f8 : Bf (F := F) c arg8) (f9 : Bf (F := F) c arg9) : NestP arg9.view (trip2_frame.sl.H9_w16 c arg8 arg9 k f8 f9) (trip2_frame.sl.H9_w22 c arg8 arg9 k f8 f9) true (sq (ld45 c arg8 k f8)) 0 1 6 :=
  nestS arg9.view (trip2_frame.sl.H9_w16 c arg8 arg9 k f8 f9) _ true (sq (ld45 c arg8 k f8)) 0 1 5 (nw2_21 c arg8 arg9 k f8 f9) ![0, 1, 0, 0] inb_S2x2x128x128_S1x1x128x128_0_1_0_0 rfl _ lit2_22 _ (msk2_22 c arg8 k f8)
theorem nw2_23 (k : Fin k0_t2_loop.trips) (f8 : Bf (F := F) c arg8) (f9 : Bf (F := F) c arg9) : NestP arg9.view (trip2_frame.sl.H9_w16 c arg8 arg9 k f8 f9) (trip2_frame.sl.H9_w23 c arg8 arg9 k f8 f9) true (sq (ld45 c arg8 k f8)) 0 1 7 :=
  nestS arg9.view (trip2_frame.sl.H9_w16 c arg8 arg9 k f8 f9) _ true (sq (ld45 c arg8 k f8)) 0 1 6 (nw2_22 c arg8 arg9 k f8 f9) ![0, 1, 0, 0] inb_S2x2x128x128_S1x1x128x128_0_1_0_0 rfl _ lit2_23 _ (msk2_23 c arg8 k f8)
theorem nw2_24 (k : Fin k0_t2_loop.trips) (f8 : Bf (F := F) c arg8) (f9 : Bf (F := F) c arg9) : NestP arg9.view (trip2_frame.sl.H9_w16 c arg8 arg9 k f8 f9) (trip2_frame.sl.H9_w24 c arg8 arg9 k f8 f9) true (sq (ld45 c arg8 k f8)) 0 1 8 :=
  nestS arg9.view (trip2_frame.sl.H9_w16 c arg8 arg9 k f8 f9) _ true (sq (ld45 c arg8 k f8)) 0 1 7 (nw2_23 c arg8 arg9 k f8 f9) ![0, 1, 0, 0] inb_S2x2x128x128_S1x1x128x128_0_1_0_0 rfl _ lit2_24 _ (msk2_24 c arg8 k f8)
theorem nw2_25 (k : Fin k0_t2_loop.trips) (f8 : Bf (F := F) c arg8) (f9 : Bf (F := F) c arg9) : NestP arg9.view (trip2_frame.sl.H9_w16 c arg8 arg9 k f8 f9) (trip2_frame.sl.H9_w25 c arg8 arg9 k f8 f9) true (sq (ld45 c arg8 k f8)) 0 1 9 :=
  nestS arg9.view (trip2_frame.sl.H9_w16 c arg8 arg9 k f8 f9) _ true (sq (ld45 c arg8 k f8)) 0 1 8 (nw2_24 c arg8 arg9 k f8 f9) ![0, 1, 0, 0] inb_S2x2x128x128_S1x1x128x128_0_1_0_0 rfl _ lit2_25 _ (msk2_25 c arg8 k f8)
theorem nw2_26 (k : Fin k0_t2_loop.trips) (f8 : Bf (F := F) c arg8) (f9 : Bf (F := F) c arg9) : NestP arg9.view (trip2_frame.sl.H9_w16 c arg8 arg9 k f8 f9) (trip2_frame.sl.H9_w26 c arg8 arg9 k f8 f9) true (sq (ld45 c arg8 k f8)) 0 1 10 :=
  nestS arg9.view (trip2_frame.sl.H9_w16 c arg8 arg9 k f8 f9) _ true (sq (ld45 c arg8 k f8)) 0 1 9 (nw2_25 c arg8 arg9 k f8 f9) ![0, 1, 0, 0] inb_S2x2x128x128_S1x1x128x128_0_1_0_0 rfl _ lit2_26 _ (msk2_26 c arg8 k f8)
theorem nw2_27 (k : Fin k0_t2_loop.trips) (f8 : Bf (F := F) c arg8) (f9 : Bf (F := F) c arg9) : NestP arg9.view (trip2_frame.sl.H9_w16 c arg8 arg9 k f8 f9) (trip2_frame.sl.H9_w27 c arg8 arg9 k f8 f9) true (sq (ld45 c arg8 k f8)) 0 1 11 :=
  nestS arg9.view (trip2_frame.sl.H9_w16 c arg8 arg9 k f8 f9) _ true (sq (ld45 c arg8 k f8)) 0 1 10 (nw2_26 c arg8 arg9 k f8 f9) ![0, 1, 0, 0] inb_S2x2x128x128_S1x1x128x128_0_1_0_0 rfl _ lit2_27 _ (msk2_27 c arg8 k f8)
theorem nw2_28 (k : Fin k0_t2_loop.trips) (f8 : Bf (F := F) c arg8) (f9 : Bf (F := F) c arg9) : NestP arg9.view (trip2_frame.sl.H9_w16 c arg8 arg9 k f8 f9) (trip2_frame.sl.H9_w28 c arg8 arg9 k f8 f9) true (sq (ld45 c arg8 k f8)) 0 1 12 :=
  nestS arg9.view (trip2_frame.sl.H9_w16 c arg8 arg9 k f8 f9) _ true (sq (ld45 c arg8 k f8)) 0 1 11 (nw2_27 c arg8 arg9 k f8 f9) ![0, 1, 0, 0] inb_S2x2x128x128_S1x1x128x128_0_1_0_0 rfl _ lit2_28 _ (msk2_28 c arg8 k f8)
theorem nw2_29 (k : Fin k0_t2_loop.trips) (f8 : Bf (F := F) c arg8) (f9 : Bf (F := F) c arg9) : NestP arg9.view (trip2_frame.sl.H9_w16 c arg8 arg9 k f8 f9) (trip2_frame.sl.H9_w29 c arg8 arg9 k f8 f9) true (sq (ld45 c arg8 k f8)) 0 1 13 :=
  nestS arg9.view (trip2_frame.sl.H9_w16 c arg8 arg9 k f8 f9) _ true (sq (ld45 c arg8 k f8)) 0 1 12 (nw2_28 c arg8 arg9 k f8 f9) ![0, 1, 0, 0] inb_S2x2x128x128_S1x1x128x128_0_1_0_0 rfl _ lit2_29 _ (msk2_29 c arg8 k f8)
theorem nw2_30 (k : Fin k0_t2_loop.trips) (f8 : Bf (F := F) c arg8) (f9 : Bf (F := F) c arg9) : NestP arg9.view (trip2_frame.sl.H9_w16 c arg8 arg9 k f8 f9) (trip2_frame.sl.H9_w30 c arg8 arg9 k f8 f9) true (sq (ld45 c arg8 k f8)) 0 1 14 :=
  nestS arg9.view (trip2_frame.sl.H9_w16 c arg8 arg9 k f8 f9) _ true (sq (ld45 c arg8 k f8)) 0 1 13 (nw2_29 c arg8 arg9 k f8 f9) ![0, 1, 0, 0] inb_S2x2x128x128_S1x1x128x128_0_1_0_0 rfl _ lit2_30 _ (msk2_30 c arg8 k f8)
theorem nw2_31 (k : Fin k0_t2_loop.trips) (f8 : Bf (F := F) c arg8) (f9 : Bf (F := F) c arg9) : NestP arg9.view (trip2_frame.sl.H9_w16 c arg8 arg9 k f8 f9) (trip2_frame.sl.H9_w31 c arg8 arg9 k f8 f9) true (sq (ld45 c arg8 k f8)) 0 1 15 :=
  nestS arg9.view (trip2_frame.sl.H9_w16 c arg8 arg9 k f8 f9) _ true (sq (ld45 c arg8 k f8)) 0 1 14 (nw2_30 c arg8 arg9 k f8 f9) ![0, 1, 0, 0] inb_S2x2x128x128_S1x1x128x128_0_1_0_0 rfl _ lit2_31 _ (msk2_31 c arg8 k f8)
theorem nw2_32 (k : Fin k0_t2_loop.trips) (f8 : Bf (F := F) c arg8) (f9 : Bf (F := F) c arg9) : NestP arg9.view (trip2_frame.sl.H9_w16 c arg8 arg9 k f8 f9) (trip2_frame.sl.H9_w32 c arg8 arg9 k f8 f9) true (sq (ld45 c arg8 k f8)) 0 1 16 :=
  nestS arg9.view (trip2_frame.sl.H9_w16 c arg8 arg9 k f8 f9) _ true (sq (ld45 c arg8 k f8)) 0 1 15 (nw2_31 c arg8 arg9 k f8 f9) ![0, 1, 0, 0] inb_S2x2x128x128_S1x1x128x128_0_1_0_0 rfl _ lit2_32 _ (msk2_32 c arg8 k f8)
/-- The rows of the two halves. -/
abbrev vv2 (k : Fin k0_t2_loop.trips) (f8 : Bf (F := F) c arg8) : ℕ → FVec F S128x128 .f32
  | 0 => (sq (ld44 c arg8 k f8))
  | _ + 1 => (sq (ld45 c arg8 k f8))
theorem h2_1 (k : Fin k0_t2_loop.trips) (f8 : Bf (F := F) c arg8) (f10 : Bf (F := F) c arg10) : RowsP arg10.view f10 (arg10.view.writes (Elt F) f10 (trip2_frame.sl.H10_1 c arg8 k f8)) true (vv2 c arg8 k f8) 0 1 :=
  (rowsS arg10.view f10 _ true (vv2 c arg8 k f8) 0 0 (rows0 arg10.view f10 true (vv2 c arg8 k f8) 0) ![0, 0, 0, 0] inb_S2x2x16x128_S1x1x1x128_0_0_0_0 0 0 (by decide) rfl rfl _ (row2_0_0 c arg8 k f8))
theorem h2_3 (k : Fin k0_t2_loop.trips) (f8 : Bf (F := F) c arg8) (f10 : Bf (F := F) c arg10) : RowsP arg10.view f10 (arg10.view.writes (Elt F) f10 (trip2_frame.sl.H10_3 c arg8 k f8)) true (vv2 c arg8 k f8) 0 3 :=
  (rowsS arg10.view f10 _ true (vv2 c arg8 k f8) 0 2 (rowsS arg10.view f10 _ true (vv2 c arg8 k f8) 0 1 (h2_1 c arg8 arg10 k f8 f10) ![0, 0, 1, 0] inb_S2x2x16x128_S1x1x1x128_0_0_1_0 0 1 (by decide) rfl rfl _ (row2_0_1 c arg8 k f8)) ![0, 0, 2, 0] inb_S2x2x16x128_S1x1x1x128_0_0_2_0 0 2 (by decide) rfl rfl _ (row2_0_2 c arg8 k f8))
theorem h2_4 (k : Fin k0_t2_loop.trips) (f8 : Bf (F := F) c arg8) (f10 : Bf (F := F) c arg10) : RowsP arg10.view f10 (arg10.view.writes (Elt F) f10 (trip2_frame.sl.H10_4 c arg8 k f8)) true (vv2 c arg8 k f8) 0 4 :=
  (rowsS arg10.view f10 _ true (vv2 c arg8 k f8) 0 3 (h2_3 c arg8 arg10 k f8 f10) ![0, 0, 3, 0] inb_S2x2x16x128_S1x1x1x128_0_0_3_0 0 3 (by decide) rfl rfl _ (row2_0_3 c arg8 k f8))
theorem h2_6 (k : Fin k0_t2_loop.trips) (f8 : Bf (F := F) c arg8) (f10 : Bf (F := F) c arg10) : RowsP arg10.view f10 (arg10.view.writes (Elt F) f10 (trip2_frame.sl.H10_6 c arg8 k f8)) true (vv2 c arg8 k f8) 0 6 :=
  (rowsS arg10.view f10 _ true (vv2 c arg8 k f8) 0 5 (rowsS arg10.view f10 _ true (vv2 c arg8 k f8) 0 4 (h2_4 c arg8 arg10 k f8 f10) ![0, 0, 4, 0] inb_S2x2x16x128_S1x1x1x128_0_0_4_0 0 4 (by decide) rfl rfl _ (row2_0_4 c arg8 k f8)) ![0, 0, 5, 0] inb_S2x2x16x128_S1x1x1x128_0_0_5_0 0 5 (by decide) rfl rfl _ (row2_0_5 c arg8 k f8))
theorem h2_8 (k : Fin k0_t2_loop.trips) (f8 : Bf (F := F) c arg8) (f10 : Bf (F := F) c arg10) : RowsP arg10.view f10 (arg10.view.writes (Elt F) f10 (trip2_frame.sl.H10_8 c arg8 k f8)) true (vv2 c arg8 k f8) 0 8 :=
  (rowsS arg10.view f10 _ true (vv2 c arg8 k f8) 0 7 (rowsS arg10.view f10 _ true (vv2 c arg8 k f8) 0 6 (h2_6 c arg8 arg10 k f8 f10) ![0, 0, 6, 0] inb_S2x2x16x128_S1x1x1x128_0_0_6_0 0 6 (by decide) rfl rfl _ (row2_0_6 c arg8 k f8)) ![0, 0, 7, 0] inb_S2x2x16x128_S1x1x1x128_0_0_7_0 0 7 (by decide) rfl rfl _ (row2_0_7 c arg8 k f8))
theorem h2_10 (k : Fin k0_t2_loop.trips) (f8 : Bf (F := F) c arg8) (f10 : Bf (F := F) c arg10) : RowsP arg10.view f10 (arg10.view.writes (Elt F) f10 (trip2_frame.sl.H10_10 c arg8 k f8)) true (vv2 c arg8 k f8) 0 10 :=
  (rowsS arg10.view f10 _ true (vv2 c arg8 k f8) 0 9 (rowsS arg10.view f10 _ true (vv2 c arg8 k f8) 0 8 (h2_8 c arg8 arg10 k f8 f10) ![0, 0, 8, 0] inb_S2x2x16x128_S1x1x1x128_0_0_8_0 0 8 (by decide) rfl rfl _ (row2_0_8 c arg8 k f8)) ![0, 0, 9, 0] inb_S2x2x16x128_S1x1x1x128_0_0_9_0 0 9 (by decide) rfl rfl _ (row2_0_9 c arg8 k f8))
theorem h2_11 (k : Fin k0_t2_loop.trips) (f8 : Bf (F := F) c arg8) (f10 : Bf (F := F) c arg10) : RowsP arg10.view f10 (arg10.view.writes (Elt F) f10 (trip2_frame.sl.H10_11 c arg8 k f8)) true (vv2 c arg8 k f8) 0 11 :=
  (rowsS arg10.view f10 _ true (vv2 c arg8 k f8) 0 10 (h2_10 c arg8 arg10 k f8 f10) ![0, 0, 10, 0] inb_S2x2x16x128_S1x1x1x128_0_0_10_0 0 10 (by decide) rfl rfl _ (row2_0_10 c arg8 k f8))
theorem h2_13 (k : Fin k0_t2_loop.trips) (f8 : Bf (F := F) c arg8) (f10 : Bf (F := F) c arg10) : RowsP arg10.view f10 (arg10.view.writes (Elt F) f10 (trip2_frame.sl.H10_13 c arg8 k f8)) true (vv2 c arg8 k f8) 0 13 :=
  (rowsS arg10.view f10 _ true (vv2 c arg8 k f8) 0 12 (rowsS arg10.view f10 _ true (vv2 c arg8 k f8) 0 11 (h2_11 c arg8 arg10 k f8 f10) ![0, 0, 11, 0] inb_S2x2x16x128_S1x1x1x128_0_0_11_0 0 11 (by decide) rfl rfl _ (row2_0_11 c arg8 k f8)) ![0, 0, 12, 0] inb_S2x2x16x128_S1x1x1x128_0_0_12_0 0 12 (by decide) rfl rfl _ (row2_0_12 c arg8 k f8))
theorem h2_15 (k : Fin k0_t2_loop.trips) (f8 : Bf (F := F) c arg8) (f10 : Bf (F := F) c arg10) : RowsP arg10.view f10 (arg10.view.writes (Elt F) f10 (trip2_frame.sl.H10_15 c arg8 k f8)) true (vv2 c arg8 k f8) 0 15 :=
  (rowsS arg10.view f10 _ true (vv2 c arg8 k f8) 0 14 (rowsS arg10.view f10 _ true (vv2 c arg8 k f8) 0 13 (h2_13 c arg8 arg10 k f8 f10) ![0, 0, 13, 0] inb_S2x2x16x128_S1x1x1x128_0_0_13_0 0 13 (by decide) rfl rfl _ (row2_0_13 c arg8 k f8)) ![0, 0, 14, 0] inb_S2x2x16x128_S1x1x1x128_0_0_14_0 0 14 (by decide) rfl rfl _ (row2_0_14 c arg8 k f8))
theorem h2_16 (k : Fin k0_t2_loop.trips) (f8 : Bf (F := F) c arg8) (f10 : Bf (F := F) c arg10) : RowsP arg10.view f10 (arg10.view.writes (Elt F) f10 (trip2_frame.sl.H10_16 c arg8 k f8)) true (vv2 c arg8 k f8) 0 16 :=
  (rowsS arg10.view f10 _ true (vv2 c arg8 k f8) 0 15 (h2_15 c arg8 arg10 k f8 f10) ![0, 0, 15, 0] inb_S2x2x16x128_S1x1x1x128_0_0_15_0 0 15 (by decide) rfl rfl _ (row2_0_15 c arg8 k f8))
theorem h2_18 (k : Fin k0_t2_loop.trips) (f8 : Bf (F := F) c arg8) (f10 : Bf (F := F) c arg10) : RowsP arg10.view f10 (arg10.view.writes (Elt F) f10 (trip2_frame.sl.H10_18 c arg8 k f8)) true (vv2 c arg8 k f8) 0 18 :=
  (rowsS arg10.view f10 _ true (vv2 c arg8 k f8) 0 17 (rowsS arg10.view f10 _ true (vv2 c arg8 k f8) 0 16 (h2_16 c arg8 arg10 k f8 f10) ![0, 1, 0, 0] inb_S2x2x16x128_S1x1x1x128_0_1_0_0 1 0 (by decide) rfl rfl _ (row2_1_0 c arg8 k f8)) ![0, 1, 1, 0] inb_S2x2x16x128_S1x1x1x128_0_1_1_0 1 1 (by decide) rfl rfl _ (row2_1_1 c arg8 k f8))
theorem h2_19 (k : Fin k0_t2_loop.trips) (f8 : Bf (F := F) c arg8) (f10 : Bf (F := F) c arg10) : RowsP arg10.view f10 (arg10.view.writes (Elt F) f10 (trip2_frame.sl.H10_19 c arg8 k f8)) true (vv2 c arg8 k f8) 0 19 :=
  (rowsS arg10.view f10 _ true (vv2 c arg8 k f8) 0 18 (h2_18 c arg8 arg10 k f8 f10) ![0, 1, 2, 0] inb_S2x2x16x128_S1x1x1x128_0_1_2_0 1 2 (by decide) rfl rfl _ (row2_1_2 c arg8 k f8))
theorem h2_21 (k : Fin k0_t2_loop.trips) (f8 : Bf (F := F) c arg8) (f10 : Bf (F := F) c arg10) : RowsP arg10.view f10 (arg10.view.writes (Elt F) f10 (trip2_frame.sl.H10_21 c arg8 k f8)) true (vv2 c arg8 k f8) 0 21 :=
  (rowsS arg10.view f10 _ true (vv2 c arg8 k f8) 0 20 (rowsS arg10.view f10 _ true (vv2 c arg8 k f8) 0 19 (h2_19 c arg8 arg10 k f8 f10) ![0, 1, 3, 0] inb_S2x2x16x128_S1x1x1x128_0_1_3_0 1 3 (by decide) rfl rfl _ (row2_1_3 c arg8 k f8)) ![0, 1, 4, 0] inb_S2x2x16x128_S1x1x1x128_0_1_4_0 1 4 (by decide) rfl rfl _ (row2_1_4 c arg8 k f8))
theorem h2_23 (k : Fin k0_t2_loop.trips) (f8 : Bf (F := F) c arg8) (f10 : Bf (F := F) c arg10) : RowsP arg10.view f10 (arg10.view.writes (Elt F) f10 (trip2_frame.sl.H10_23 c arg8 k f8)) true (vv2 c arg8 k f8) 0 23 :=
  (rowsS arg10.view f10 _ true (vv2 c arg8 k f8) 0 22 (rowsS arg10.view f10 _ true (vv2 c arg8 k f8) 0 21 (h2_21 c arg8 arg10 k f8 f10) ![0, 1, 5, 0] inb_S2x2x16x128_S1x1x1x128_0_1_5_0 1 5 (by decide) rfl rfl _ (row2_1_5 c arg8 k f8)) ![0, 1, 6, 0] inb_S2x2x16x128_S1x1x1x128_0_1_6_0 1 6 (by decide) rfl rfl _ (row2_1_6 c arg8 k f8))
theorem h2_25 (k : Fin k0_t2_loop.trips) (f8 : Bf (F := F) c arg8) (f10 : Bf (F := F) c arg10) : RowsP arg10.view f10 (arg10.view.writes (Elt F) f10 (trip2_frame.sl.H10_25 c arg8 k f8)) true (vv2 c arg8 k f8) 0 25 :=
  (rowsS arg10.view f10 _ true (vv2 c arg8 k f8) 0 24 (rowsS arg10.view f10 _ true (vv2 c arg8 k f8) 0 23 (h2_23 c arg8 arg10 k f8 f10) ![0, 1, 7, 0] inb_S2x2x16x128_S1x1x1x128_0_1_7_0 1 7 (by decide) rfl rfl _ (row2_1_7 c arg8 k f8)) ![0, 1, 8, 0] inb_S2x2x16x128_S1x1x1x128_0_1_8_0 1 8 (by decide) rfl rfl _ (row2_1_8 c arg8 k f8))
theorem h2_26 (k : Fin k0_t2_loop.trips) (f8 : Bf (F := F) c arg8) (f10 : Bf (F := F) c arg10) : RowsP arg10.view f10 (arg10.view.writes (Elt F) f10 (trip2_frame.sl.H10_26 c arg8 k f8)) true (vv2 c arg8 k f8) 0 26 :=
  (rowsS arg10.view f10 _ true (vv2 c arg8 k f8) 0 25 (h2_25 c arg8 arg10 k f8 f10) ![0, 1, 9, 0] inb_S2x2x16x128_S1x1x1x128_0_1_9_0 1 9 (by decide) rfl rfl _ (row2_1_9 c arg8 k f8))
theorem h2_28 (k : Fin k0_t2_loop.trips) (f8 : Bf (F := F) c arg8) (f10 : Bf (F := F) c arg10) : RowsP arg10.view f10 (arg10.view.writes (Elt F) f10 (trip2_frame.sl.H10_28 c arg8 k f8)) true (vv2 c arg8 k f8) 0 28 :=
  (rowsS arg10.view f10 _ true (vv2 c arg8 k f8) 0 27 (rowsS arg10.view f10 _ true (vv2 c arg8 k f8) 0 26 (h2_26 c arg8 arg10 k f8 f10) ![0, 1, 10, 0] inb_S2x2x16x128_S1x1x1x128_0_1_10_0 1 10 (by decide) rfl rfl _ (row2_1_10 c arg8 k f8)) ![0, 1, 11, 0] inb_S2x2x16x128_S1x1x1x128_0_1_11_0 1 11 (by decide) rfl rfl _ (row2_1_11 c arg8 k f8))
theorem h2_30 (k : Fin k0_t2_loop.trips) (f8 : Bf (F := F) c arg8) (f10 : Bf (F := F) c arg10) : RowsP arg10.view f10 (arg10.view.writes (Elt F) f10 (trip2_frame.sl.H10_30 c arg8 k f8)) true (vv2 c arg8 k f8) 0 30 :=
  (rowsS arg10.view f10 _ true (vv2 c arg8 k f8) 0 29 (rowsS arg10.view f10 _ true (vv2 c arg8 k f8) 0 28 (h2_28 c arg8 arg10 k f8 f10) ![0, 1, 12, 0] inb_S2x2x16x128_S1x1x1x128_0_1_12_0 1 12 (by decide) rfl rfl _ (row2_1_12 c arg8 k f8)) ![0, 1, 13, 0] inb_S2x2x16x128_S1x1x1x128_0_1_13_0 1 13 (by decide) rfl rfl _ (row2_1_13 c arg8 k f8))
theorem h2_31 (k : Fin k0_t2_loop.trips) (f8 : Bf (F := F) c arg8) (f10 : Bf (F := F) c arg10) : RowsP arg10.view f10 (arg10.view.writes (Elt F) f10 (trip2_frame.sl.H10_31 c arg8 k f8)) true (vv2 c arg8 k f8) 0 31 :=
  (rowsS arg10.view f10 _ true (vv2 c arg8 k f8) 0 30 (h2_30 c arg8 arg10 k f8 f10) ![0, 1, 14, 0] inb_S2x2x16x128_S1x1x1x128_0_1_14_0 1 14 (by decide) rfl rfl _ (row2_1_14 c arg8 k f8))
theorem h2_32 (k : Fin k0_t2_loop.trips) (f8 : Bf (F := F) c arg8) (f10 : Bf (F := F) c arg10) : RowsP arg10.view f10 (arg10.view.writes (Elt F) f10 (trip2_frame.sl.H10_32 c arg8 k f8)) true (vv2 c arg8 k f8) 0 32 :=
  (rowsS arg10.view f10 _ true (vv2 c arg8 k f8) 0 31 (h2_31 c arg8 arg10 k f8 f10) ![0, 1, 15, 0] inb_S2x2x16x128_S1x1x1x128_0_1_15_0 1 15 (by decide) rfl rfl _ (row2_1_15 c arg8 k f8))

end Cert.Proof.Topk

end

end
-- ==== Proof.Eqs3.lean ====
/-
  The pipelined loop: what each named stage of its second half is.
-/
module

public import proofs.«01_k».proof.Proof.Run
public import proofs.«01_k».proof.Proof.Spec

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)
abbrev ldt1 (k : Fin k0_t1_loop.trips) (f10 : Bf (F := F) c arg10) : Vec F S1x1x16x128 .f32 :=
  View.readAt (Elt F) arg10.view (Rect.unit (s := S2x2x16x128) (k0_off1 k) S1x1x16x128.size (k0_off1_inb k)).toLoadRect f10
abbrev ldt2 (k : Fin k0_t1_loop.trips) (f10 : Bf (F := F) c arg10) : Vec F S1x1x16x128 .f32 :=
  View.readAt (Elt F) arg10.view (Rect.unit (s := S2x2x16x128) (k0_off2 k) S1x1x16x128.size (k0_off2_inb k)).toLoadRect f10
abbrev ld5 (k : Fin k0_t1_loop.trips) (f8 : Bf (F := F) c arg8) : Vec F S1x128x128 .f32 :=
  View.readAt (Elt F) arg8.view (Rect.unit (s := S2x128x1024) (k0_off5 k) S1x128x128.size (k0_off5_inb k)).toLoadRect f8
abbrev ld6 (k : Fin k0_t1_loop.trips) (f8 : Bf (F := F) c arg8) : Vec F S1x128x128 .f32 :=
  View.readAt (Elt F) arg8.view (Rect.unit (s := S2x128x1024) (k0_off6 k) S1x128x128.size (k0_off6_inb k)).toLoadRect f8
abbrev ldr3 (k : Fin k0_t1_loop.trips) (f9 : Bf (F := F) c arg9) : Vec F S1x1x128x128 .f32 :=
  View.readAt (Elt F) arg9.view (Rect.unit (s := S2x2x128x128) (k0_off3 k) S1x1x128x128.size (k0_off3_inb k)).toLoadRect f9
abbrev ldr7 (k : Fin k0_t1_loop.trips) (f9 : Bf (F := F) c arg9) : Vec F S1x1x128x128 .f32 :=
  View.readAt (Elt F) arg9.view (Rect.unit (s := S2x2x128x128) (k0_off7 k) S1x1x128x128.size (k0_off7_inb k)).toLoadRect f9
theorem ff7 (k : Fin k0_t1_loop.trips) (v23 : IVec S8x128 32) (f10 : Bf (F := F) c arg10) : trip1_frame.sl.r_7 c arg10 k v23 f10 = (cnd v23 (ldt1 c arg10 k f10) (ldt2 c arg10 k f10)) := rfl
theorem ff8 (k : Fin k0_t1_loop.trips) (v23 : IVec S8x128 32) (f10 : Bf (F := F) c arg10) : trip1_frame.sl.r_8 c arg10 k v23 f10 = mxr8 (it8 false (cnd v23 (ldt1 c arg10 k f10) (ldt2 c arg10 k f10)) 0) := rfl
theorem ff9 (k : Fin k0_t1_loop.trips) (v23 : IVec S8x128 32) (f10 : Bf (F := F) c arg10) : trip1_frame.sl.r_9 c arg10 k v23 f10 = it8 false (cnd v23 (ldt1 c arg10 k f10) (ldt2 c arg10 k f10)) 1 := rfl
theorem ff10 (k : Fin k0_t1_loop.trips) (v23 : IVec S8x128 32) (f10 : Bf (F := F) c arg10) : trip1_frame.sl.r_10 c arg10 k v23 f10 = mx18 (it8 false (cnd v23 (ldt1 c arg10 k f10) (ldt2 c arg10 k f10)) 1) := rfl
theorem pay17_f0 (W : FVec F S80x128 .f32) : k0_pay17 (mx18 W) = mxr8 W := rfl
theorem ff11 (k : Fin k0_t1_loop.trips) (v23 : IVec S8x128 32) (f10 : Bf (F := F) c arg10) : trip1_frame.sl.r_11 c arg10 k v23 f10 = mxr8 (it8 false (cnd v23 (ldt1 c arg10 k f10) (ldt2 c arg10 k f10)) 1) := by
  show k0_pay17 (trip1_frame.sl.r_10 c arg10 k v23 f10) = _; rw [ff10]; exact (pay17_f0 _)
theorem pay19_f1 (W : FVec F S80x128 .f32) : k0_pay19 (W) (mx18 W) = mxr8 (it8 false W 1) := rfl
theorem ff12 (k : Fin k0_t1_loop.trips) (v23 : IVec S8x128 32) (f10 : Bf (F := F) c arg10) : trip1_frame.sl.r_12 c arg10 k v23 f10 = mxr8 (it8 false (cnd v23 (ldt1 c arg10 k f10) (ldt2 c arg10 k f10)) 2) := by
  show k0_pay19 (trip1_frame.sl.r_9 c arg10 k v23 f10) (trip1_frame.sl.r_10 c arg10 k v23 f10) = _; rw [ff9, ff10]; exact (pay19_f1 _).trans (by simp only [it8_add, Nat.reduceAdd])
theorem pay21_f2 (W : FVec F S80x128 .f32) : k0_pay21 (W) (mx18 W) = mxr8 (it8 false W 2) := rfl
theorem ff13 (k : Fin k0_t1_loop.trips) (v23 : IVec S8x128 32) (f10 : Bf (F := F) c arg10) : trip1_frame.sl.r_13 c arg10 k v23 f10 = mxr8 (it8 false (cnd v23 (ldt1 c arg10 k f10) (ldt2 c arg10 k f10)) 3) := by
  show k0_pay21 (trip1_frame.sl.r_9 c arg10 k v23 f10) (trip1_frame.sl.r_10 c arg10 k v23 f10) = _; rw [ff9, ff10]; exact (pay21_f2 _).trans (by simp only [it8_add, Nat.reduceAdd])
theorem pay23_f3 (W : FVec F S80x128 .f32) : k0_pay23 (W) (mx18 W) = mxr8 (it8 false W 3) := rfl
theorem ff14 (k : Fin k0_t1_loop.trips) (v23 : IVec S8x128 32) (f10 : Bf (F := F) c arg10) : trip1_frame.sl.r_14 c arg10 k v23 f10 = mxr8 (it8 false (cnd v23 (ldt1 c arg10 k f10) (ldt2 c arg10 k f10)) 4) := by
  show k0_pay23 (trip1_frame.sl.r_9 c arg10 k v23 f10) (trip1_frame.sl.r_10 c arg10 k v23 f10) = _; rw [ff9, ff10]; exact (pay23_f3 _).trans (by simp only [it8_add, Nat.reduceAdd])
theorem pay25_f4 (W : FVec F S80x128 .f32) : k0_pay25 (W) (mx18 W) = mxr8 (it8 false W 4) := rfl
theorem ff15 (k : Fin k0_t1_loop.trips) (v23 : IVec S8x128 32) (f10 : Bf (F := F) c arg10) : trip1_frame.sl.r_15 c arg10 k v23 f10 = mxr8 (it8 false (cnd v23 (ldt1 c arg10 k f10) (ldt2 c arg10 k f10)) 5) := by
  show k0_pay25 (trip1_frame.sl.r_9 c arg10 k v23 f10) (trip1_frame.sl.r_10 c arg10 k v23 f10) = _; rw [ff9, ff10]; exact (pay25_f4 _).trans (by simp only [it8_add, Nat.reduceAdd])
theorem pay27_f5 (W : FVec F S80x128 .f32) : k0_pay27 (W) (mx18 W) = mxr8 (it8 false W 5) := rfl
theorem ff16 (k : Fin k0_t1_loop.trips) (v23 : IVec S8x128 32) (f10 : Bf (F := F) c arg10) : trip1_frame.sl.r_16 c arg10 k v23 f10 = mxr8 (it8 false (cnd v23 (ldt1 c arg10 k f10) (ldt2 c arg10 k f10)) 6) := by
  show k0_pay27 (trip1_frame.sl.r_9 c arg10 k v23 f10) (trip1_frame.sl.r_10 c arg10 k v23 f10) = _; rw [ff9, ff10]; exact (pay27_f5 _).trans (by simp only [it8_add, Nat.reduceAdd])
theorem pay29_f6 (W : FVec F S80x128 .f32) : k0_pay29 (W) (mx18 W) = mxr8 (it8 false W 6) := rfl
theorem ff17 (k : Fin k0_t1_loop.trips) (v23 : IVec S8x128 32) (f10 : Bf (F := F) c arg10) : trip1_frame.sl.r_17 c arg10 k v23 f10 = mxr8 (it8 false (cnd v23 (ldt1 c arg10 k f10) (ldt2 c arg10 k f10)) 7) := by
  show k0_pay29 (trip1_frame.sl.r_9 c arg10 k v23 f10) (trip1_frame.sl.r_10 c arg10 k v23 f10) = _; rw [ff9, ff10]; exact (pay29_f6 _).trans (by simp only [it8_add, Nat.reduceAdd])
theorem pay30_f7 (W : FVec F S80x128 .f32) : k0_pay30 (W) (mx18 W) = (it8 false W 7) := rfl
theorem ff18 (k : Fin k0_t1_loop.trips) (v23 : IVec S8x128 32) (f10 : Bf (F := F) c arg10) : trip1_frame.sl.r_18 c arg10 k v23 f10 = (it8 false (cnd v23 (ldt1 c arg10 k f10) (ldt2 c arg10 k f10)) 8) := by
  show k0_pay30 (trip1_frame.sl.r_9 c arg10 k v23 f10) (trip1_frame.sl.r_10 c arg10 k v23 f10) = _; rw [ff9, ff10]; exact (pay30_f7 _).trans (by simp only [it8_add, Nat.reduceAdd])
theorem pay31_f8 (W : FVec F S80x128 .f32) : k0_pay31 (W) (mx18 W) = mxr8 (it8 false W 7) := rfl
theorem ff19 (k : Fin k0_t1_loop.trips) (v23 : IVec S8x128 32) (f10 : Bf (F := F) c arg10) : trip1_frame.sl.r_19 c arg10 k v23 f10 = mxr8 (it8 false (cnd v23 (ldt1 c arg10 k f10) (ldt2 c arg10 k f10)) 8) := by
  show k0_pay31 (trip1_frame.sl.r_9 c arg10 k v23 f10) (trip1_frame.sl.r_10 c arg10 k v23 f10) = _; rw [ff9, ff10]; exact (pay31_f8 _).trans (by simp only [it8_add, Nat.reduceAdd])
theorem pay32_f9 (W : FVec F S80x128 .f32) : k0_pay32 (W) (mx18 W) = pick8 false (it8 false W 7) := rfl
theorem ff20 (k : Fin k0_t1_loop.trips) (v23 : IVec S8x128 32) (f10 : Bf (F := F) c arg10) : trip1_frame.sl.r_20 c arg10 k v23 f10 = pick8 false (it8 false (cnd v23 (ldt1 c arg10 k f10) (ldt2 c arg10 k f10)) 8) := by
  show k0_pay32 (trip1_frame.sl.r_9 c arg10 k v23 f10) (trip1_frame.sl.r_10 c arg10 k v23 f10) = _; rw [ff9, ff10]; exact (pay32_f9 _).trans (by simp only [it8_add, Nat.reduceAdd])
theorem pay34_f10 (W : FVec F S80x128 .f32) : k0_pay34 (W) (pick8 false W) (trip1_frame.sl.cst_70) = mxr8 (it8 false W 1) := rfl
theorem ff21 (k : Fin k0_t1_loop.trips) (v23 : IVec S8x128 32) (f10 : Bf (F := F) c arg10) : trip1_frame.sl.r_21 c arg10 k v23 f10 = mxr8 (it8 false (cnd v23 (ldt1 c arg10 k f10) (ldt2 c arg10 k f10)) 9) := by
  show k0_pay34 (trip1_frame.sl.r_18 c arg10 k v23 f10) (trip1_frame.sl.r_20 c arg10 k v23 f10) trip1_frame.sl.cst_70 = _; rw [ff18, ff20]; exact (pay34_f10 _).trans (by simp only [it8_add, Nat.reduceAdd])
theorem pay36_f11 (W : FVec F S80x128 .f32) : k0_pay36 (W) (pick8 false W) (trip1_frame.sl.cst_70) = mxr8 (it8 false W 2) := rfl
theorem ff22 (k : Fin k0_t1_loop.trips) (v23 : IVec S8x128 32) (f10 : Bf (F := F) c arg10) : trip1_frame.sl.r_22 c arg10 k v23 f10 = mxr8 (it8 false (cnd v23 (ldt1 c arg10 k f10) (ldt2 c arg10 k f10)) 10) := by
  show k0_pay36 (trip1_frame.sl.r_18 c arg10 k v23 f10) (trip1_frame.sl.r_20 c arg10 k v23 f10) trip1_frame.sl.cst_70 = _; rw [ff18, ff20]; exact (pay36_f11 _).trans (by simp only [it8_add, Nat.reduceAdd])
theorem pay38_f12 (W : FVec F S80x128 .f32) : k0_pay38 (W) (pick8 false W) (trip1_frame.sl.cst_70) = mxr8 (it8 false W 3) := rfl
theorem ff23 (k : Fin k0_t1_loop.trips) (v23 : IVec S8x128 32) (f10 : Bf (F := F) c arg10) : trip1_frame.sl.r_23 c arg10 k v23 f10 = mxr8 (it8 false (cnd v23 (ldt1 c arg10 k f10) (ldt2 c arg10 k f10)) 11) := by
  show k0_pay38 (trip1_frame.sl.r_18 c arg10 k v23 f10) (trip1_frame.sl.r_20 c arg10 k v23 f10) trip1_frame.sl.cst_70 = _; rw [ff18, ff20]; exact (pay38_f12 _).trans (by simp only [it8_add, Nat.reduceAdd])
theorem pay40_f13 (W : FVec F S80x128 .f32) : k0_pay40 (W) (pick8 false W) (trip1_frame.sl.cst_70) = mxr8 (it8 false W 4) := rfl
theorem ff24 (k : Fin k0_t1_loop.trips) (v23 : IVec S8x128 32) (f10 : Bf (F := F) c arg10) : trip1_frame.sl.r_24 c arg10 k v23 f10 = mxr8 (it8 false (cnd v23 (ldt1 c arg10 k f10) (ldt2 c arg10 k f10)) 12) := by
  show k0_pay40 (trip1_frame.sl.r_18 c arg10 k v23 f10) (trip1_frame.sl.r_20 c arg10 k v23 f10) trip1_frame.sl.cst_70 = _; rw [ff18, ff20]; exact (pay40_f13 _).trans (by simp only [it8_add, Nat.reduceAdd])
theorem pay42_f14 (W : FVec F S80x128 .f32) : k0_pay42 (W) (pick8 false W) (trip1_frame.sl.cst_70) = mxr8 (it8 false W 5) := rfl
theorem ff25 (k : Fin k0_t1_loop.trips) (v23 : IVec S8x128 32) (f10 : Bf (F := F) c arg10) : trip1_frame.sl.r_25 c arg10 k v23 f10 = mxr8 (it8 false (cnd v23 (ldt1 c arg10 k f10) (ldt2 c arg10 k f10)) 13) := by
  show k0_pay42 (trip1_frame.sl.r_18 c arg10 k v23 f10) (trip1_frame.sl.r_20 c arg10 k v23 f10) trip1_frame.sl.cst_70 = _; rw [ff18, ff20]; exact (pay42_f14 _).trans (by simp only [it8_add, Nat.reduceAdd])
theorem pay44_f15 (W : FVec F S80x128 .f32) : k0_pay44 (W) (pick8 false W) (trip1_frame.sl.cst_70) = mxr8 (it8 false W 6) := rfl
theorem ff26 (k : Fin k0_t1_loop.trips) (v23 : IVec S8x128 32) (f10 : Bf (F := F) c arg10) : trip1_frame.sl.r_26 c arg10 k v23 f10 = mxr8 (it8 false (cnd v23 (ldt1 c arg10 k f10) (ldt2 c arg10 k f10)) 14) := by
  show k0_pay44 (trip1_frame.sl.r_18 c arg10 k v23 f10) (trip1_frame.sl.r_20 c arg10 k v23 f10) trip1_frame.sl.cst_70 = _; rw [ff18, ff20]; exact (pay44_f15 _).trans (by simp only [it8_add, Nat.reduceAdd])
theorem pay46_f16 (W : FVec F S80x128 .f32) : k0_pay46 (W) (pick8 false W) (trip1_frame.sl.cst_70) = mxr8 (it8 false W 7) := rfl
theorem ff27 (k : Fin k0_t1_loop.trips) (v23 : IVec S8x128 32) (f10 : Bf (F := F) c arg10) : trip1_frame.sl.r_27 c arg10 k v23 f10 = mxr8 (it8 false (cnd v23 (ldt1 c arg10 k f10) (ldt2 c arg10 k f10)) 15) := by
  show k0_pay46 (trip1_frame.sl.r_18 c arg10 k v23 f10) (trip1_frame.sl.r_20 c arg10 k v23 f10) trip1_frame.sl.cst_70 = _; rw [ff18, ff20]; exact (pay46_f16 _).trans (by simp only [it8_add, Nat.reduceAdd])
theorem pay47_f17 (W : FVec F S80x128 .f32) : k0_pay47 (W) (pick8 false W) (trip1_frame.sl.cst_70) = (it8 false W 8) := rfl
theorem ff28 (k : Fin k0_t1_loop.trips) (v23 : IVec S8x128 32) (f10 : Bf (F := F) c arg10) : trip1_frame.sl.r_28 c arg10 k v23 f10 = (it8 false (cnd v23 (ldt1 c arg10 k f10) (ldt2 c arg10 k f10)) 16) := by
  show k0_pay47 (trip1_frame.sl.r_18 c arg10 k v23 f10) (trip1_frame.sl.r_20 c arg10 k v23 f10) trip1_frame.sl.cst_70 = _; rw [ff18, ff20]; exact (pay47_f17 _).trans (by simp only [it8_add, Nat.reduceAdd])
theorem ff29 (k : Fin k0_t1_loop.trips) (v23 : IVec S8x128 32) (f10 : Bf (F := F) c arg10) : trip1_frame.sl.r_29 c arg10 k v23 f10 = smk (cnd v23 (ldt1 c arg10 k f10) (ldt2 c arg10 k f10)) (it8 false (cnd v23 (ldt1 c arg10 k f10) (ldt2 c arg10 k f10)) 16) := by
  show k0_pay49 (trip1_frame.sl.r_7 c arg10 k v23 f10) (trip1_frame.sl.r_28 c arg10 k v23 f10) k0_pay48 = _; rw [ff7, ff28]; rfl
theorem ff30 (k : Fin k0_t1_loop.trips) (v23 : IVec S8x128 32) (f10 : Bf (F := F) c arg10) : trip1_frame.sl.r_30 c arg10 k v23 f10 = inz fun i => mxr8 (it8 false (cnd v23 (ldt1 c arg10 k f10) (ldt2 c arg10 k f10)) i) := by
  show k0_pay50 (trip1_frame.sl.r_8 c arg10 k v23 f10) (trip1_frame.sl.r_11 c arg10 k v23 f10) (trip1_frame.sl.r_12 c arg10 k v23 f10) (trip1_frame.sl.r_13 c arg10 k v23 f10) (trip1_frame.sl.r_14 c arg10 k v23 f10) (trip1_frame.sl.r_15 c arg10 k v23 f10) (trip1_frame.sl.r_16 c arg10 k v23 f10) (trip1_frame.sl.r_17 c arg10 k v23 f10) (trip1_frame.sl.r_19 c arg10 k v23 f10) (trip1_frame.sl.r_21 c arg10 k v23 f10) (trip1_frame.sl.r_22 c arg10 k v23 f10) (trip1_frame.sl.r_23 c arg10 k v23 f10) (trip1_frame.sl.r_24 c arg10 k v23 f10) (trip1_frame.sl.r_25 c arg10 k v23 f10) (trip1_frame.sl.r_26 c arg10 k v23 f10) (trip1_frame.sl.r_27 c arg10 k v23 f10) = _
  rw [ff8, ff11, ff12, ff13, ff14, ff15, ff16, ff17, ff19, ff21, ff22, ff23, ff24, ff25, ff26, ff27]; rfl
theorem ff53 (k : Fin k0_t1_loop.trips) (v23 : IVec S8x128 32) (f10 : Bf (F := F) c arg10) : trip1_frame.sl.r_53 c arg10 k v23 f10 = ex2 v23 (ldt1 c arg10 k f10) (ldt2 c arg10 k f10) := by
  show k0_pay76 (k0_pay67 (trip1_frame.sl.r_29 c arg10 k v23 f10)) = _; rw [ff29]; rfl
theorem out4_1 (k : Fin k0_t1_loop.trips) (v23 : IVec S8x128 32) (f10 : Bf (F := F) c arg10) (f8 : Bf (F := F) c arg8) : k0_pay73 (trip1_frame.sl.r_52 c arg8 arg10 k v23 f8 f10)
    = o4 false v23 (ldt1 c arg10 k f10) (ldt2 c arg10 k f10) (ld5 c arg8 k f8) := by
  show k0_pay73 (k0_pay72 (k0_pay5 (ldt1 c arg10 k f10)) (trip1_frame.sl.r_30 c arg10 k v23 f10) (ld5 c arg8 k f8)) = _; rw [ff30]; rfl
theorem out5_1 (k : Fin k0_t1_loop.trips) (v23 : IVec S8x128 32) (f10 : Bf (F := F) c arg10) (f9 : Bf (F := F) c arg9) : k0_pay71 (trip1_frame.sl.r_40 c arg10 k v23 f10) (trip1_frame.sl.r_41 c arg10 k v23 f10) (trip1_frame.sl.r_42 c arg10 k v23 f10) (trip1_frame.sl.r_43 c arg10 k v23 f10) (trip1_frame.sl.r_44 c arg10 k v23 f10) (trip1_frame.sl.r_45 c arg10 k v23 f10) (trip1_frame.sl.r_46 c arg10 k v23 f10) (trip1_frame.sl.r_49 c arg9 k f9) (trip1_frame.sl.r_50 c arg9 arg10 k v23 f9 f10) (trip1_frame.sl.r_51 c arg9 k f9)
    = o5 false v23 (ldt1 c arg10 k f10) (ldt2 c arg10 k f10) (ldr3 c arg9 k f9) := by
  show n1o (trip1_frame.sl.r_29 c arg10 k v23 f10) (ldr3 c arg9 k f9) = _; rw [ff29]; rfl
end Cert.Proof.Topk

end

end
-- ==== Proof.Eqs4.lean ====
/-
  The exact loop: what each named stage of its second half is.
-/
module

public import proofs.«01_k».proof.Proof.Run
public import proofs.«01_k».proof.Proof.Spec

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)
theorem xx55 (k : Fin k0_t2_loop.trips) (v23 : IVec S8x128 32) (f8 : Bf (F := F) c arg8) : trip2_frame.sl.r_55 c arg8 arg10 k v23 f8 = (cnd v23 (trip2_frame.sl.v693 c arg8 arg10 k f8) (trip2_frame.sl.v695 c arg8 arg10 k f8)) := rfl
theorem xx56 (k : Fin k0_t2_loop.trips) (v23 : IVec S8x128 32) (f8 : Bf (F := F) c arg8) : trip2_frame.sl.r_56 c arg8 arg10 k v23 f8 = mxr8 (it8 true (cnd v23 (trip2_frame.sl.v693 c arg8 arg10 k f8) (trip2_frame.sl.v695 c arg8 arg10 k f8)) 0) := rfl
theorem xx57 (k : Fin k0_t2_loop.trips) (v23 : IVec S8x128 32) (f8 : Bf (F := F) c arg8) : trip2_frame.sl.r_57 c arg8 arg10 k v23 f8 = it8 true (cnd v23 (trip2_frame.sl.v693 c arg8 arg10 k f8) (trip2_frame.sl.v695 c arg8 arg10 k f8)) 1 := rfl
theorem xx58 (k : Fin k0_t2_loop.trips) (v23 : IVec S8x128 32) (f8 : Bf (F := F) c arg8) : trip2_frame.sl.r_58 c arg8 arg10 k v23 f8 = mxr8 (it8 true (cnd v23 (trip2_frame.sl.v693 c arg8 arg10 k f8) (trip2_frame.sl.v695 c arg8 arg10 k f8)) 1) := rfl
theorem pay502_x0 (W : FVec F S80x128 .f32) : k0_pay502 (k0_pay497 (F := F)) (W) (mxr8 W) = mxr8 (it8 true W 1) := rfl
theorem xx59 (k : Fin k0_t2_loop.trips) (v23 : IVec S8x128 32) (f8 : Bf (F := F) c arg8) : trip2_frame.sl.r_59 c arg8 arg10 k v23 f8 = mxr8 (it8 true (cnd v23 (trip2_frame.sl.v693 c arg8 arg10 k f8) (trip2_frame.sl.v695 c arg8 arg10 k f8)) 2) := by
  show k0_pay502 (k0_pay497 (F := F)) (trip2_frame.sl.r_57 c arg8 arg10 k v23 f8) (trip2_frame.sl.r_58 c arg8 arg10 k v23 f8) = _; rw [xx57, xx58]; exact (pay502_x0 _).trans (by simp only [it8_add, Nat.reduceAdd])
theorem pay504_x1 (W : FVec F S80x128 .f32) : k0_pay504 (k0_pay497 (F := F)) (W) (mxr8 W) = mxr8 (it8 true W 2) := rfl
theorem xx60 (k : Fin k0_t2_loop.trips) (v23 : IVec S8x128 32) (f8 : Bf (F := F) c arg8) : trip2_frame.sl.r_60 c arg8 arg10 k v23 f8 = mxr8 (it8 true (cnd v23 (trip2_frame.sl.v693 c arg8 arg10 k f8) (trip2_frame.sl.v695 c arg8 arg10 k f8)) 3) := by
  show k0_pay504 (k0_pay497 (F := F)) (trip2_frame.sl.r_57 c arg8 arg10 k v23 f8) (trip2_frame.sl.r_58 c arg8 arg10 k v23 f8) = _; rw [xx57, xx58]; exact (pay504_x1 _).trans (by simp only [it8_add, Nat.reduceAdd])
theorem pay505_x2 (W : FVec F S80x128 .f32) : k0_pay505 (k0_pay497 (F := F)) (W) (mxr8 W) = (it8 true W 3) := rfl
theorem xx61 (k : Fin k0_t2_loop.trips) (v23 : IVec S8x128 32) (f8 : Bf (F := F) c arg8) : trip2_frame.sl.r_61 c arg8 arg10 k v23 f8 = (it8 true (cnd v23 (trip2_frame.sl.v693 c arg8 arg10 k f8) (trip2_frame.sl.v695 c arg8 arg10 k f8)) 4) := by
  show k0_pay505 (k0_pay497 (F := F)) (trip2_frame.sl.r_57 c arg8 arg10 k v23 f8) (trip2_frame.sl.r_58 c arg8 arg10 k v23 f8) = _; rw [xx57, xx58]; exact (pay505_x2 _).trans (by simp only [it8_add, Nat.reduceAdd])
theorem pay506_x3 (W : FVec F S80x128 .f32) : k0_pay506 (k0_pay497 (F := F)) (W) (mxr8 W) = mxr8 (it8 true W 3) := rfl
theorem xx62 (k : Fin k0_t2_loop.trips) (v23 : IVec S8x128 32) (f8 : Bf (F := F) c arg8) : trip2_frame.sl.r_62 c arg8 arg10 k v23 f8 = mxr8 (it8 true (cnd v23 (trip2_frame.sl.v693 c arg8 arg10 k f8) (trip2_frame.sl.v695 c arg8 arg10 k f8)) 4) := by
  show k0_pay506 (k0_pay497 (F := F)) (trip2_frame.sl.r_57 c arg8 arg10 k v23 f8) (trip2_frame.sl.r_58 c arg8 arg10 k v23 f8) = _; rw [xx57, xx58]; exact (pay506_x3 _).trans (by simp only [it8_add, Nat.reduceAdd])
theorem pay507_x4 (W : FVec F S80x128 .f32) : k0_pay507 (k0_pay497 (F := F)) (W) (mxr8 W) = pick8 true (it8 true W 3) := rfl
theorem xx63 (k : Fin k0_t2_loop.trips) (v23 : IVec S8x128 32) (f8 : Bf (F := F) c arg8) : trip2_frame.sl.r_63 c arg8 arg10 k v23 f8 = pick8 true (it8 true (cnd v23 (trip2_frame.sl.v693 c arg8 arg10 k f8) (trip2_frame.sl.v695 c arg8 arg10 k f8)) 4) := by
  show k0_pay507 (k0_pay497 (F := F)) (trip2_frame.sl.r_57 c arg8 arg10 k v23 f8) (trip2_frame.sl.r_58 c arg8 arg10 k v23 f8) = _; rw [xx57, xx58]; exact (pay507_x4 _).trans (by simp only [it8_add, Nat.reduceAdd])
theorem pay510_x5 (W : FVec F S80x128 .f32) : k0_pay510 (W) (pick8 true W) (k0_pay508 (F := F)) = mxr8 (it8 true W 1) := rfl
theorem xx64 (k : Fin k0_t2_loop.trips) (v23 : IVec S8x128 32) (f8 : Bf (F := F) c arg8) : trip2_frame.sl.r_64 c arg8 arg10 k v23 f8 = mxr8 (it8 true (cnd v23 (trip2_frame.sl.v693 c arg8 arg10 k f8) (trip2_frame.sl.v695 c arg8 arg10 k f8)) 5) := by
  show k0_pay510 (trip2_frame.sl.r_61 c arg8 arg10 k v23 f8) (trip2_frame.sl.r_63 c arg8 arg10 k v23 f8) (k0_pay508 (F := F)) = _; rw [xx61, xx63]; exact (pay510_x5 _).trans (by simp only [it8_add, Nat.reduceAdd])
theorem pay512_x6 (W : FVec F S80x128 .f32) : k0_pay512 (k0_pay497 (F := F)) (W) (pick8 true W) (k0_pay508 (F := F)) = mxr8 (it8 true W 2) := rfl
theorem xx65 (k : Fin k0_t2_loop.trips) (v23 : IVec S8x128 32) (f8 : Bf (F := F) c arg8) : trip2_frame.sl.r_65 c arg8 arg10 k v23 f8 = mxr8 (it8 true (cnd v23 (trip2_frame.sl.v693 c arg8 arg10 k f8) (trip2_frame.sl.v695 c arg8 arg10 k f8)) 6) := by
  show k0_pay512 (k0_pay497 (F := F)) (trip2_frame.sl.r_61 c arg8 arg10 k v23 f8) (trip2_frame.sl.r_63 c arg8 arg10 k v23 f8) (k0_pay508 (F := F)) = _; rw [xx61, xx63]; exact (pay512_x6 _).trans (by simp only [it8_add, Nat.reduceAdd])
theorem pay514_x7 (W : FVec F S80x128 .f32) : k0_pay514 (k0_pay497 (F := F)) (W) (pick8 true W) (k0_pay508 (F := F)) = mxr8 (it8 true W 3) := rfl
theorem xx66 (k : Fin k0_t2_loop.trips) (v23 : IVec S8x128 32) (f8 : Bf (F := F) c arg8) : trip2_frame.sl.r_66 c arg8 arg10 k v23 f8 = mxr8 (it8 true (cnd v23 (trip2_frame.sl.v693 c arg8 arg10 k f8) (trip2_frame.sl.v695 c arg8 arg10 k f8)) 7) := by
  show k0_pay514 (k0_pay497 (F := F)) (trip2_frame.sl.r_61 c arg8 arg10 k v23 f8) (trip2_frame.sl.r_63 c arg8 arg10 k v23 f8) (k0_pay508 (F := F)) = _; rw [xx61, xx63]; exact (pay514_x7 _).trans (by simp only [it8_add, Nat.reduceAdd])
theorem pay515_x8 (W : FVec F S80x128 .f32) : k0_pay515 (k0_pay497 (F := F)) (W) (pick8 true W) (k0_pay508 (F := F)) = (it8 true W 4) := rfl
theorem xx67 (k : Fin k0_t2_loop.trips) (v23 : IVec S8x128 32) (f8 : Bf (F := F) c arg8) : trip2_frame.sl.r_67 c arg8 arg10 k v23 f8 = (it8 true (cnd v23 (trip2_frame.sl.v693 c arg8 arg10 k f8) (trip2_frame.sl.v695 c arg8 arg10 k f8)) 8) := by
  show k0_pay515 (k0_pay497 (F := F)) (trip2_frame.sl.r_61 c arg8 arg10 k v23 f8) (trip2_frame.sl.r_63 c arg8 arg10 k v23 f8) (k0_pay508 (F := F)) = _; rw [xx61, xx63]; exact (pay515_x8 _).trans (by simp only [it8_add, Nat.reduceAdd])
theorem pay516_x9 (W : FVec F S80x128 .f32) : k0_pay516 (k0_pay497 (F := F)) (W) (pick8 true W) (k0_pay508 (F := F)) = mxr8 (it8 true W 4) := rfl
theorem xx68 (k : Fin k0_t2_loop.trips) (v23 : IVec S8x128 32) (f8 : Bf (F := F) c arg8) : trip2_frame.sl.r_68 c arg8 arg10 k v23 f8 = mxr8 (it8 true (cnd v23 (trip2_frame.sl.v693 c arg8 arg10 k f8) (trip2_frame.sl.v695 c arg8 arg10 k f8)) 8) := by
  show k0_pay516 (k0_pay497 (F := F)) (trip2_frame.sl.r_61 c arg8 arg10 k v23 f8) (trip2_frame.sl.r_63 c arg8 arg10 k v23 f8) (k0_pay508 (F := F)) = _; rw [xx61, xx63]; exact (pay516_x9 _).trans (by simp only [it8_add, Nat.reduceAdd])
theorem pay517_x10 (W : FVec F S80x128 .f32) : k0_pay517 (k0_pay497 (F := F)) (W) (pick8 true W) (k0_pay508 (F := F)) = shapeCast S1x128 (wmn8 (it8 true W 4)) shapeCasts_S128_S1x128 := rfl
theorem xx69 (k : Fin k0_t2_loop.trips) (v23 : IVec S8x128 32) (f8 : Bf (F := F) c arg8) : trip2_frame.sl.r_69 c arg8 arg10 k v23 f8 = shapeCast S1x128 (wmn8 (it8 true (cnd v23 (trip2_frame.sl.v693 c arg8 arg10 k f8) (trip2_frame.sl.v695 c arg8 arg10 k f8)) 8)) shapeCasts_S128_S1x128 := by
  show k0_pay517 (k0_pay497 (F := F)) (trip2_frame.sl.r_61 c arg8 arg10 k v23 f8) (trip2_frame.sl.r_63 c arg8 arg10 k v23 f8) (k0_pay508 (F := F)) = _; rw [xx61, xx63]; exact (pay517_x10 _).trans (by simp only [it8_add, Nat.reduceAdd])
theorem pay519_x11 (W : FVec F S80x128 .f32) : k0_pay519 (k0_pay497 (F := F)) (W) (shapeCast S1x128 (wmn8 W) shapeCasts_S128_S1x128) = mxr8 (it8 true W 1) := rfl
theorem xx70 (k : Fin k0_t2_loop.trips) (v23 : IVec S8x128 32) (f8 : Bf (F := F) c arg8) : trip2_frame.sl.r_70 c arg8 arg10 k v23 f8 = mxr8 (it8 true (cnd v23 (trip2_frame.sl.v693 c arg8 arg10 k f8) (trip2_frame.sl.v695 c arg8 arg10 k f8)) 9) := by
  show k0_pay519 (k0_pay497 (F := F)) (trip2_frame.sl.r_67 c arg8 arg10 k v23 f8) (trip2_frame.sl.r_69 c arg8 arg10 k v23 f8) = _; rw [xx67, xx69]; exact (pay519_x11 _).trans (by simp only [it8_add, Nat.reduceAdd])
theorem pay521_x12 (W : FVec F S80x128 .f32) : k0_pay521 (k0_pay497 (F := F)) (W) (shapeCast S1x128 (wmn8 W) shapeCasts_S128_S1x128) = mxr8 (it8 true W 2) := rfl
theorem xx71 (k : Fin k0_t2_loop.trips) (v23 : IVec S8x128 32) (f8 : Bf (F := F) c arg8) : trip2_frame.sl.r_71 c arg8 arg10 k v23 f8 = mxr8 (it8 true (cnd v23 (trip2_frame.sl.v693 c arg8 arg10 k f8) (trip2_frame.sl.v695 c arg8 arg10 k f8)) 10) := by
  show k0_pay521 (k0_pay497 (F := F)) (trip2_frame.sl.r_67 c arg8 arg10 k v23 f8) (trip2_frame.sl.r_69 c arg8 arg10 k v23 f8) = _; rw [xx67, xx69]; exact (pay521_x12 _).trans (by simp only [it8_add, Nat.reduceAdd])
theorem pay523_x13 (W : FVec F S80x128 .f32) : k0_pay523 (k0_pay497 (F := F)) (W) (shapeCast S1x128 (wmn8 W) shapeCasts_S128_S1x128) = mxr8 (it8 true W 3) := rfl
theorem xx72 (k : Fin k0_t2_loop.trips) (v23 : IVec S8x128 32) (f8 : Bf (F := F) c arg8) : trip2_frame.sl.r_72 c arg8 arg10 k v23 f8 = mxr8 (it8 true (cnd v23 (trip2_frame.sl.v693 c arg8 arg10 k f8) (trip2_frame.sl.v695 c arg8 arg10 k f8)) 11) := by
  show k0_pay523 (k0_pay497 (F := F)) (trip2_frame.sl.r_67 c arg8 arg10 k v23 f8) (trip2_frame.sl.r_69 c arg8 arg10 k v23 f8) = _; rw [xx67, xx69]; exact (pay523_x13 _).trans (by simp only [it8_add, Nat.reduceAdd])
theorem pay524_x14 (W : FVec F S80x128 .f32) : k0_pay524 (k0_pay497 (F := F)) (W) (shapeCast S1x128 (wmn8 W) shapeCasts_S128_S1x128) = (it8 true W 4) := rfl
theorem xx73 (k : Fin k0_t2_loop.trips) (v23 : IVec S8x128 32) (f8 : Bf (F := F) c arg8) : trip2_frame.sl.r_73 c arg8 arg10 k v23 f8 = (it8 true (cnd v23 (trip2_frame.sl.v693 c arg8 arg10 k f8) (trip2_frame.sl.v695 c arg8 arg10 k f8)) 12) := by
  show k0_pay524 (k0_pay497 (F := F)) (trip2_frame.sl.r_67 c arg8 arg10 k v23 f8) (trip2_frame.sl.r_69 c arg8 arg10 k v23 f8) = _; rw [xx67, xx69]; exact (pay524_x14 _).trans (by simp only [it8_add, Nat.reduceAdd])
theorem pay525_x15 (W : FVec F S80x128 .f32) : k0_pay525 (k0_pay497 (F := F)) (W) (shapeCast S1x128 (wmn8 W) shapeCasts_S128_S1x128) = mxr8 (it8 true W 4) := rfl
theorem xx74 (k : Fin k0_t2_loop.trips) (v23 : IVec S8x128 32) (f8 : Bf (F := F) c arg8) : trip2_frame.sl.r_74 c arg8 arg10 k v23 f8 = mxr8 (it8 true (cnd v23 (trip2_frame.sl.v693 c arg8 arg10 k f8) (trip2_frame.sl.v695 c arg8 arg10 k f8)) 12) := by
  show k0_pay525 (k0_pay497 (F := F)) (trip2_frame.sl.r_67 c arg8 arg10 k v23 f8) (trip2_frame.sl.r_69 c arg8 arg10 k v23 f8) = _; rw [xx67, xx69]; exact (pay525_x15 _).trans (by simp only [it8_add, Nat.reduceAdd])
theorem pay526_x16 (W : FVec F S80x128 .f32) : k0_pay526 (k0_pay497 (F := F)) (W) (shapeCast S1x128 (wmn8 W) shapeCasts_S128_S1x128) = sel8 (it8 true W 4) := rfl
theorem xx75 (k : Fin k0_t2_loop.trips) (v23 : IVec S8x128 32) (f8 : Bf (F := F) c arg8) : trip2_frame.sl.r_75 c arg8 arg10 k v23 f8 = sel8 (it8 true (cnd v23 (trip2_frame.sl.v693 c arg8 arg10 k f8) (trip2_frame.sl.v695 c arg8 arg10 k f8)) 12) := by
  show k0_pay526 (k0_pay497 (F := F)) (trip2_frame.sl.r_67 c arg8 arg10 k v23 f8) (trip2_frame.sl.r_69 c arg8 arg10 k v23 f8) = _; rw [xx67, xx69]; exact (pay526_x16 _).trans (by simp only [it8_add, Nat.reduceAdd])
theorem pay529_x17 (W : FVec F S80x128 .f32) : k0_pay529 (k0_pay497 (F := F)) (W) (sel8 W) (k0_pay527 (F := F)) = mxr8 (it8 true W 1) := rfl
theorem xx76 (k : Fin k0_t2_loop.trips) (v23 : IVec S8x128 32) (f8 : Bf (F := F) c arg8) : trip2_frame.sl.r_76 c arg8 arg10 k v23 f8 = mxr8 (it8 true (cnd v23 (trip2_frame.sl.v693 c arg8 arg10 k f8) (trip2_frame.sl.v695 c arg8 arg10 k f8)) 13) := by
  show k0_pay529 (k0_pay497 (F := F)) (trip2_frame.sl.r_73 c arg8 arg10 k v23 f8) (trip2_frame.sl.r_75 c arg8 arg10 k v23 f8) (k0_pay527 (F := F)) = _; rw [xx73, xx75]; exact (pay529_x17 _).trans (by simp only [it8_add, Nat.reduceAdd])
theorem pay531_x18 (W : FVec F S80x128 .f32) : k0_pay531 (k0_pay497 (F := F)) (W) (sel8 W) (k0_pay527 (F := F)) = mxr8 (it8 true W 2) := rfl
theorem xx77 (k : Fin k0_t2_loop.trips) (v23 : IVec S8x128 32) (f8 : Bf (F := F) c arg8) : trip2_frame.sl.r_77 c arg8 arg10 k v23 f8 = mxr8 (it8 true (cnd v23 (trip2_frame.sl.v693 c arg8 arg10 k f8) (trip2_frame.sl.v695 c arg8 arg10 k f8)) 14) := by
  show k0_pay531 (k0_pay497 (F := F)) (trip2_frame.sl.r_73 c arg8 arg10 k v23 f8) (trip2_frame.sl.r_75 c arg8 arg10 k v23 f8) (k0_pay527 (F := F)) = _; rw [xx73, xx75]; exact (pay531_x18 _).trans (by simp only [it8_add, Nat.reduceAdd])
theorem pay533_x19 (W : FVec F S80x128 .f32) : k0_pay533 (k0_pay497 (F := F)) (W) (sel8 W) (k0_pay527 (F := F)) = mxr8 (it8 true W 3) := rfl
theorem xx78 (k : Fin k0_t2_loop.trips) (v23 : IVec S8x128 32) (f8 : Bf (F := F) c arg8) : trip2_frame.sl.r_78 c arg8 arg10 k v23 f8 = mxr8 (it8 true (cnd v23 (trip2_frame.sl.v693 c arg8 arg10 k f8) (trip2_frame.sl.v695 c arg8 arg10 k f8)) 15) := by
  show k0_pay533 (k0_pay497 (F := F)) (trip2_frame.sl.r_73 c arg8 arg10 k v23 f8) (trip2_frame.sl.r_75 c arg8 arg10 k v23 f8) (k0_pay527 (F := F)) = _; rw [xx73, xx75]; exact (pay533_x19 _).trans (by simp only [it8_add, Nat.reduceAdd])
theorem pay534_x20 (W : FVec F S80x128 .f32) : k0_pay534 (k0_pay497 (F := F)) (W) (sel8 W) (k0_pay527 (F := F)) = gone8 (it8 true W 4) := rfl
theorem xx79 (k : Fin k0_t2_loop.trips) (v23 : IVec S8x128 32) (f8 : Bf (F := F) c arg8) : trip2_frame.sl.r_79 c arg8 arg10 k v23 f8 = gone8 (it8 true (cnd v23 (trip2_frame.sl.v693 c arg8 arg10 k f8) (trip2_frame.sl.v695 c arg8 arg10 k f8)) 16) := by
  show k0_pay534 (k0_pay497 (F := F)) (trip2_frame.sl.r_73 c arg8 arg10 k v23 f8) (trip2_frame.sl.r_75 c arg8 arg10 k v23 f8) (k0_pay527 (F := F)) = _; rw [xx73, xx75]; exact (pay534_x20 _).trans (by simp only [it8_add, Nat.reduceAdd])
theorem xx80 (k : Fin k0_t2_loop.trips) (v23 : IVec S8x128 32) (f8 : Bf (F := F) c arg8) : trip2_frame.sl.r_80 c arg8 arg10 k v23 f8 = smk (cnd v23 (trip2_frame.sl.v693 c arg8 arg10 k f8) (trip2_frame.sl.v695 c arg8 arg10 k f8)) (it8 true (cnd v23 (trip2_frame.sl.v693 c arg8 arg10 k f8) (trip2_frame.sl.v695 c arg8 arg10 k f8)) 16) := by
  show k0_pay535 (trip2_frame.sl.r_55 c arg8 arg10 k v23 f8) (trip2_frame.sl.r_79 c arg8 arg10 k v23 f8) = _; rw [xx55, xx79]; rfl
theorem xx81 (k : Fin k0_t2_loop.trips) (v23 : IVec S8x128 32) (f8 : Bf (F := F) c arg8) : trip2_frame.sl.r_81 c arg8 arg10 k v23 f8 = inz fun i => mxr8 (it8 true (cnd v23 (trip2_frame.sl.v693 c arg8 arg10 k f8) (trip2_frame.sl.v695 c arg8 arg10 k f8)) i) := by
  show k0_pay536 (trip2_frame.sl.r_56 c arg8 arg10 k v23 f8) (trip2_frame.sl.r_58 c arg8 arg10 k v23 f8) (trip2_frame.sl.r_59 c arg8 arg10 k v23 f8) (trip2_frame.sl.r_60 c arg8 arg10 k v23 f8) (trip2_frame.sl.r_62 c arg8 arg10 k v23 f8) (trip2_frame.sl.r_64 c arg8 arg10 k v23 f8) (trip2_frame.sl.r_65 c arg8 arg10 k v23 f8) (trip2_frame.sl.r_66 c arg8 arg10 k v23 f8) (trip2_frame.sl.r_68 c arg8 arg10 k v23 f8) (trip2_frame.sl.r_70 c arg8 arg10 k v23 f8) (trip2_frame.sl.r_71 c arg8 arg10 k v23 f8) (trip2_frame.sl.r_72 c arg8 arg10 k v23 f8) (trip2_frame.sl.r_74 c arg8 arg10 k v23 f8) (trip2_frame.sl.r_76 c arg8 arg10 k v23 f8) (trip2_frame.sl.r_77 c arg8 arg10 k v23 f8) (trip2_frame.sl.r_78 c arg8 arg10 k v23 f8) = _
  rw [xx56, xx58, xx59, xx60, xx62, xx64, xx65, xx66, xx68, xx70, xx71, xx72, xx74, xx76, xx77, xx78]; rfl
theorem out4_2 (k : Fin k0_t2_loop.trips) (v23 : IVec S8x128 32) (f8 : Bf (F := F) c arg8) (s : Vec F S1x128x128 .f32) : k0_pay556 (trip2_frame.sl.r_47 c arg8 arg10 k f8) (trip2_frame.sl.r_81 c arg8 arg10 k v23 f8) s
    = o4 true v23 (trip2_frame.sl.v693 c arg8 arg10 k f8) (trip2_frame.sl.v695 c arg8 arg10 k f8) s := by
  rw [xx81]; rfl
theorem out5_2 (k : Fin k0_t2_loop.trips) (v23 : IVec S8x128 32) (f8 : Bf (F := F) c arg8) (f9 : Bf (F := F) c arg9) : k0_pay555 (trip2_frame.sl.r_93 c arg8 arg10 k v23 f8) (trip2_frame.sl.r_94 c arg8 arg10 k v23 f8) (trip2_frame.sl.r_95 c arg8 arg10 k v23 f8) (trip2_frame.sl.r_96 c arg8 arg10 k v23 f8) (trip2_frame.sl.r_97 c arg8 arg9 k f8 f9) (trip2_frame.sl.r_99 c arg8 arg9 arg10 k v23 f8 f9) trip2_frame.sl.cst_559
    = o5 true v23 (trip2_frame.sl.v693 c arg8 arg10 k f8) (trip2_frame.sl.v695 c arg8 arg10 k f8) (View.readAt (Elt F) arg9.view (Rect.unit (s := S2x2x128x128) ![0, 0, 0, 0] S1x1x128x128.size inb_S2x2x128x128_S1x1x128x128_0_0_0_0).toLoadRect (trip2_frame.sl.H9_w32 c arg8 arg9 k f8 f9)) := by
  show n1o (trip2_frame.sl.r_80 c arg8 arg10 k v23 f8) _ = _; rw [xx80]; rfl
theorem out6_2 (k : Fin k0_t2_loop.trips) (f8 : Bf (F := F) c arg8) : k0_pay3 (trip2_frame.sl.r_100 c arg8 arg10 k f8)
    = o6 (trip2_frame.sl.v695 c arg8 arg10 k f8) (View.readAt (Elt F) arg8.view (Rect.unit (s := S2x128x1024) (k0_off45 k) S1x128x128.size (k0_off45_inb k)).toLoadRect f8) := rfl
theorem out7_2 (r : Vec F S1x1x128x128 .f32) : k0_pay4 r = o7 r := rfl
end Cert.Proof.Topk

end

end
-- ==== Proof.Trips.lean ====
/-
  One trip of each loop with what it leaves.
-/
module

public import proofs.«01_k».proof.Proof.Reads1
public import proofs.«01_k».proof.Proof.Reads2
public import proofs.«01_k».proof.Proof.Eqs3
public import proofs.«01_k».proof.Proof.Eqs4

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)
local notation "𝕄" => MT nD τ sig Unit (Elt F) ℕ (UR sig nD τ) ℕ

theorem trip1_value (k : Fin k0_t1_loop.trips) (acc : FVec F S1x128 .f32) (v23 : IVec S8x128 32)
    (f4 : Bf (F := F) c arg4) (f5 : Bf (F := F) c arg5) (f6 : Bf (F := F) c arg6) (f7 : Bf (F := F) c arg7)
    (f8 : Bf (F := F) c arg8) (f9 : Bf (F := F) c arg9) (f10 : Bf (F := F) c arg10) (Q : FVec F S1x128 .f32 → sProp 𝕄) :
    iprop(pt c arg4 f4 ∗ pt c arg5 f5 ∗ pt c arg6 f6 ∗ pt c arg7 f7 ∗ pt c arg8 f8 ∗ pt c arg9 f9 ∗ pt c arg10 f10
      ∗ (∀ r, iprop(⌜r = k0_pay1 (trip1_frame.sl.r_93 c arg10 k acc v23 f10) (trip1_frame.sl.r_94 c arg8 k f8)⌝ ∗ pt c arg4 (arg4.view.writes (Elt F) f4 (trip1_frame.sl.H4_1 c arg8 arg10 k v23 f8 f10))
            ∗ pt c arg5 (arg5.view.writes (Elt F) f5 (trip1_frame.sl.H5_1 c arg9 arg10 k v23 f9 f10))
            ∗ pt c arg6 (arg6.view.writes (Elt F) f6 (trip1_frame.sl.H6_1 c arg8 arg10 k f8 f10))
            ∗ pt c arg7 (arg7.view.writes (Elt F) f7 (trip1_frame.sl.H7_1 c arg9 k f9)) ∗ pt c arg8 f8
            ∗ pt c arg9 (trip1_frame.sl.H9_w32 c arg8 arg9 k f8 f9)
            ∗ pt c arg10 (arg10.view.writes (Elt F) f10 (⟨Rect.unit (s := S2x2x16x128) (k0_off43 k) S1x1x1x128.size (k0_off43_inb k), k0_pay276 (trip1_frame.sl.r_90 c arg8 k f8)⟩ :: ⟨Rect.unit (s := S2x2x16x128) (k0_off42 k) S1x1x1x128.size (k0_off42_inb k), k0_pay270 (trip1_frame.sl.r_90 c arg8 k f8)⟩ :: ⟨Rect.unit (s := S2x2x16x128) (k0_off41 k) S1x1x1x128.size (k0_off41_inb k), k0_pay264 (trip1_frame.sl.r_88 c arg8 k f8)⟩ :: trip1_frame.sl.H10_29 c arg8 k f8)))
          -∗ Q r))
    ⊢ wp frame (wpE (defs₀ (F := F)) Variants.none c none) Set.univ
        (k0_t1_body (F := F) i arg2 harg2 arg3 harg3 arg4 harg4 arg5 harg5 arg6 harg6 arg7 harg7 arg8 harg8 arg9 harg9 arg10 harg10 v23 k acc) Q := by
  unfold k0_t1_body
  iintro ⟨H4, H5, H6, H7, H8, H9, H10, Hk⟩
  sl_exec_parts
  sl_step
  iapply Hk
  isplitr; · ipureintro; rfl
  isplitl [H4]; · iexact H4
  isplitl [H5]; · iexact H5
  isplitl [H6]; · iexact H6
  isplitl [H7]; · iexact H7
  isplitl [H8]; · iexact H8
  isplitl [H9]; · iexact H9
  iexact H10

theorem trip2_value (k : Fin k0_t2_loop.trips) (acc : PUnit) (v23 : IVec S8x128 32)
    (f4 : Bf (F := F) c arg4) (f5 : Bf (F := F) c arg5) (f6 : Bf (F := F) c arg6) (f7 : Bf (F := F) c arg7)
    (f8 : Bf (F := F) c arg8) (f9 : Bf (F := F) c arg9) (f10 : Bf (F := F) c arg10) (Q : PUnit → sProp 𝕄) :
    iprop(pt c arg4 f4 ∗ pt c arg5 f5 ∗ pt c arg6 f6 ∗ pt c arg7 f7 ∗ pt c arg8 f8 ∗ pt c arg9 f9 ∗ pt c arg10 f10
      ∗ (∀ r, iprop(pt c arg4 (arg4.view.writes (Elt F) f4 [⟨Rect.unit (s := S1x128x1024) (k0_off46 k) S1x128x128.size (k0_off46_inb k), k0_pay556 (trip2_frame.sl.r_47 c arg8 arg10 k f8) (trip2_frame.sl.r_81 c arg8 arg10 k v23 f8) (View.readAt (Elt F) arg8.view (Rect.unit (s := S2x128x1024) (k0_off44 k) S1x128x128.size (k0_off44_inb k)).toLoadRect f8)⟩])
            ∗ pt c arg5 (arg5.view.writes (Elt F) f5 [⟨Rect.unit (s := S1x128x1024) (k0_off46 k) S1x128x128.size (k0_off46_inb k), k0_pay555 (trip2_frame.sl.r_93 c arg8 arg10 k v23 f8) (trip2_frame.sl.r_94 c arg8 arg10 k v23 f8) (trip2_frame.sl.r_95 c arg8 arg10 k v23 f8) (trip2_frame.sl.r_96 c arg8 arg10 k v23 f8) (trip2_frame.sl.r_97 c arg8 arg9 k f8 f9) (trip2_frame.sl.r_99 c arg8 arg9 arg10 k v23 f8 f9) trip2_frame.sl.cst_559⟩])
            ∗ pt c arg6 (arg6.view.writes (Elt F) f6 [⟨Rect.unit (s := S1x128x1024) (k0_off46 k) S1x128x128.size (k0_off46_inb k), k0_pay3 (trip2_frame.sl.r_100 c arg8 arg10 k f8)⟩])
            ∗ pt c arg7 (arg7.view.writes (Elt F) f7 [⟨Rect.unit (s := S1x128x1024) (k0_off46 k) S1x128x128.size (k0_off46_inb k), k0_pay4 (View.readAt (Elt F) arg9.view (Rect.unit (s := S2x2x128x128) ![0, 1, 0, 0] S1x1x128x128.size inb_S2x2x128x128_S1x1x128x128_0_1_0_0).toLoadRect (trip2_frame.sl.H9_w32 c arg8 arg9 k f8 f9))⟩]) ∗ pt c arg8 f8
            ∗ pt c arg9 (trip2_frame.sl.H9_w32 c arg8 arg9 k f8 f9)
            ∗ pt c arg10 (arg10.view.writes (Elt F) f10 (trip2_frame.sl.H10_32 c arg8 k f8)))
          -∗ Q r))
    ⊢ wp frame (wpE (defs₀ (F := F)) Variants.none c none) Set.univ
        (k0_t2_body (F := F) i arg2 harg2 arg3 harg3 arg4 harg4 arg5 harg5 arg6 harg6 arg7 harg7 arg8 harg8 arg9 harg9 arg10 harg10 v23 k acc) Q := by
  unfold k0_t2_body
  iintro ⟨H4, H5, H6, H7, H8, H9, H10, Hk⟩
  sl_exec_parts
  sl_step
  iapply Hk
  isplitl [H4]; · iexact H4
  isplitl [H5]; · iexact H5
  isplitl [H6]; · iexact H6
  isplitl [H7]; · iexact H7
  isplitl [H8]; · iexact H8
  isplitl [H9]; · iexact H9
  iexact H10

end Cert.Proof.Topk

end

end
-- ==== Proof.Inv.lean ====
/-
  What the buffers hold between the trips of the two loops, and that a trip keeps it.
-/
module

public import proofs.«01_k».proof.Proof.Trips

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.View

/-- Slot `sl` of the rank buffer, and of the buffer of maxima, holds those of group `g`. -/
def SlotR {sp : Space} (v : View sig .tc sp S2x2x128x128 .f32) (f : v.ty.Contents (Elt F)) (x : Bool) (s : Vec F S2x128x1024 .f32) (sl : Fin 2) (g : Fin 8) : Prop :=
  ∀ (h : Fin 2) (a b : Fin 128), v.read (Elt F) f (ix4 sl h a b) = rkc x (sq (grp s h g)) 16 (ix2 a b)
def SlotT {sp : Space} (v : View sig .tc sp S2x2x16x128 .f32) (f : v.ty.Contents (Elt F)) (x : Bool) (s : Vec F S2x128x1024 .f32) (sl : Fin 2) (g : Fin 8) : Prop :=
  ∀ (h : Fin 2) (r : Fin 16) (b : Fin 128), v.read (Elt F) f (ix4 sl h r b) = mxr (it x (sq (grp s h g)) r.val) (ix2 0 b)

/-- The four outputs of group `g`. -/
def G4 (x : Bool) (v23 : IVec S8x128 32) (s : Vec F S2x128x1024 .f32) (g : Fin 8) : FVec F S1x128x128 .f32 :=
  o4 x v23 (topv x (sq (grp s 0 g))) (topv x (sq (grp s 1 g))) (grp s 0 g)
def G5 (x : Bool) (v23 : IVec S8x128 32) (s : Vec F S2x128x1024 .f32) (g : Fin 8) : FVec F S1x128x128 .f32 :=
  o5 x v23 (topv x (sq (grp s 0 g))) (topv x (sq (grp s 1 g))) (rnkv x (sq (grp s 0 g)))
def G6 (x : Bool) (v23 : IVec S8x128 32) (s : Vec F S2x128x1024 .f32) (g : Fin 8) : FVec F S1x128x128 .bf16 :=
  o6 (topv x (sq (grp s 1 g))) (grp s 1 g)
def G7 (x : Bool) (v23 : IVec S8x128 32) (s : Vec F S2x128x1024 .f32) (g : Fin 8) : FVec F S1x128x128 .bf16 :=
  o7 (rnkv x (sq (grp s 1 g)))
/-- The first `n` groups of columns hold `G`. -/
def ColP {sp : Space} {φ : EltTy} (v : View sig .tc sp S1x128x1024 φ) (f : v.ty.Contents (Elt F)) (G : Fin 8 → S1x128x128.Idx → Elt F φ) (n : ℕ) : Prop :=
  ∀ (a : Fin 128) (t : Fin 1024), t.val / 128 < n →
    v.read (Elt F) f (ix3 0 a t) = G ⟨t.val / 128, by have := t.isLt; omega⟩ (ix3 0 a ⟨t.val % 128, Nat.mod_lt _ (by decide)⟩)

theorem colP_step {sp : Space} {φ : EltTy} (v : View sig .tc sp S1x128x1024 φ) (f : v.ty.Contents (Elt F)) (G : Fin 8 → S1x128x128.Idx → Elt F φ) (n : ℕ)
    (hP : ColP v f G n) (g : Fin 8) (hg : g.val = n) (off : Fin 3 → ℕ) (inb) (hoff : off = ![0, 0, 128 * g.val]) (w : S1x128x128.Idx → Elt F φ) (hw : w = G g) :
    ColP v (v.writes (Elt F) f [⟨Rect.unit (s := S1x128x1024) off S1x128x128.size inb, w⟩]) G (n + 1) := by
  intro a t ht
  rw [read_cols v f off inb g.val hoff w a t]
  split
  · rename_i hh
    rw [hw]
    congr 1
    exact Fin.ext hh.symm
  · exact hP a t (by omega)

theorem slotR_of {sp : Space} (v : View sig .tc sp S2x2x128x128 .f32) (f0 f1 f2 : v.ty.Contents (Elt F)) (x : Bool) (s : Vec F S2x128x1024 .f32) (sl : Fin 2) (g : Fin 8)
    (A B : FVec F S128x128 .f32) (n : ℕ) (hn : sl.val = n) (h1 : NestP v f0 f1 x A n 0 16) (h2 : NestP v f1 f2 x B n 1 16) (hA : A = sq (grp s 0 g)) (hB : B = sq (grp s 1 g)) : SlotR v f2 x s sl g := by
  intro h a b
  rw [h2 sl h a b]
  match h with
  | ⟨0, _⟩ =>
    rw [if_neg (fun q => absurd q.2 (by show ¬ (0 : ℕ) = 1; decide)), h1 sl _ a b, if_pos ⟨hn, rfl⟩, hA]; rfl
  | ⟨1, _⟩ => rw [if_pos ⟨hn, rfl⟩, hB]; rfl
theorem slotT_of {sp : Space} (v : View sig .tc sp S2x2x16x128 .f32) (f0 f1 : v.ty.Contents (Elt F)) (x : Bool) (s : Vec F S2x128x1024 .f32) (sl : Fin 2) (g : Fin 8)
    (V : ℕ → FVec F S128x128 .f32) (n : ℕ) (hn : sl.val = n) (h1 : RowsP v f0 f1 x V n 32) (hA : V 0 = sq (grp s 0 g)) (hB : V 1 = sq (grp s 1 g)) : SlotT v f1 x s sl g := by
  intro h r b
  rw [h1 sl h r b, if_pos ⟨hn, by have := h.isLt; have := r.isLt; omega⟩]
  match h with
  | ⟨0, _⟩ => rw [hA]; rfl
  | ⟨1, _⟩ => rw [hB]; rfl

theorem top_of_slot {sp : Space} (v : View sig .tc sp S2x2x16x128 .f32) (f : v.ty.Contents (Elt F)) (x : Bool) (s : Vec F S2x128x1024 .f32) (sl : Fin 2) (g : Fin 8)
    (hS : SlotT v f x s sl g) (h : Fin 2) (off : Fin 4 → ℕ) (inb) (hoff : off = ![sl.val, h.val, 0, 0]) :
    v.readAt (Elt F) (Rect.unit (s := S2x2x16x128) off S1x1x16x128.size inb).toLoadRect f = topv x (sq (grp s h g)) := by
  rw [ld_top v f off inb sl h hoff]
  funext j
  exact hS h _ _
theorem rnk_of_slot {sp : Space} (v : View sig .tc sp S2x2x128x128 .f32) (f : v.ty.Contents (Elt F)) (x : Bool) (s : Vec F S2x128x1024 .f32) (sl : Fin 2) (g : Fin 8)
    (hS : SlotR v f x s sl g) (h : Fin 2) (off : Fin 4 → ℕ) (inb) (hoff : off = ![sl.val, h.val, 0, 0]) :
    v.readAt (Elt F) (Rect.unit (s := S2x2x128x128) off S1x1x128x128.size inb).toLoadRect f = rnkv x (sq (grp s h g)) := by
  rw [ld_rnk v f off inb sl h hoff]
  funext j
  exact hS h _ _

variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)

/-- The group a trip of the pipelined loop ranks, and the one whose outputs it stores. -/
def gk (k : ℕ) : Fin 8 := ⟨min k 7, by omega⟩
def gp (k : ℕ) : Fin 8 := ⟨min (k - 1) 7, by omega⟩
def sk (k : ℕ) : Fin 2 := ⟨k % 2, Nat.mod_lt _ (by decide)⟩

theorem k_le (k : Fin k0_t1_loop.trips) : k.val ≤ 8 := by have h := k.isLt; have h9 := tr1; omega
theorem k2_le (k : Fin k0_t2_loop.trips) : k.val ≤ 7 := by have h := k.isLt; have h9 := tr2; omega

theorem eq9 (k : Fin k0_t1_loop.trips) (f8 : Bf (F := F) c arg8) : ld9 c arg8 k f8 = grp (arg8.view.read (Elt F) f8) 0 (gk k.val) :=
  ld_grp arg8.view f8 _ (k0_off9_inb k) 0 (gk k.val) (cl9 k)
theorem eq27 (k : Fin k0_t1_loop.trips) (f8 : Bf (F := F) c arg8) : ld27 c arg8 k f8 = grp (arg8.view.read (Elt F) f8) 1 (gk k.val) :=
  ld_grp arg8.view f8 _ (k0_off27_inb k) 1 (gk k.val) (cl27 k)
theorem eq5 (k : Fin k0_t1_loop.trips) (f8 : Bf (F := F) c arg8) : ld5 c arg8 k f8 = grp (arg8.view.read (Elt F) f8) 0 (gp k.val) :=
  ld_grp arg8.view f8 _ (k0_off5_inb k) 0 (gp k.val) ((cl5 k).trans (by have := k_le k; show ![0, 0, 128 * (k.val - 1)] = ![0, 0, 128 * min (k.val - 1) 7]; rw [Nat.min_eq_left (by omega)]))
theorem eq6 (k : Fin k0_t1_loop.trips) (f8 : Bf (F := F) c arg8) : ld6 c arg8 k f8 = grp (arg8.view.read (Elt F) f8) 1 (gp k.val) :=
  ld_grp arg8.view f8 _ (k0_off6_inb k) 1 (gp k.val) ((cl6 k).trans (by have := k_le k; show ![1, 0, 128 * (k.val - 1)] = ![1, 0, 128 * min (k.val - 1) 7]; rw [Nat.min_eq_left (by omega)]))
theorem eq44 (k : Fin k0_t2_loop.trips) (f8 : Bf (F := F) c arg8) : ld44 c arg8 k f8 = grp (arg8.view.read (Elt F) f8) 0 (gk k.val) :=
  ld_grp arg8.view f8 _ (k0_off44_inb k) 0 (gk k.val) ((cl44 k).trans (by have := k2_le k; show ![0, 0, 128 * k.val] = ![0, 0, 128 * min k.val 7]; rw [Nat.min_eq_left (by omega)]))
theorem eq45 (k : Fin k0_t2_loop.trips) (f8 : Bf (F := F) c arg8) : ld45 c arg8 k f8 = grp (arg8.view.read (Elt F) f8) 1 (gk k.val) :=
  ld_grp arg8.view f8 _ (k0_off45_inb k) 1 (gk k.val) ((cl45 k).trans (by have := k2_le k; show ![1, 0, 128 * k.val] = ![1, 0, 128 * min k.val 7]; rw [Nat.min_eq_left (by omega)]))

/-- Before trip `k` of the pipelined loop: the last slot written holds group `k - 1`, the columns of the earlier groups hold their outputs. -/
def I1 (v23 : IVec S8x128 32) (f8 : Bf (F := F) c arg8) (k : ℕ) (f4 : Bf (F := F) c arg4) (f5 : Bf (F := F) c arg5) (f6 : Bf (F := F) c arg6) (f7 : Bf (F := F) c arg7)
    (f9 : Bf (F := F) c arg9) (f10 : Bf (F := F) c arg10) : Prop :=
  (1 ≤ k → SlotR arg9.view f9 false (arg8.view.read (Elt F) f8) (sk (k + 1)) (gp k) ∧ SlotT arg10.view f10 false (arg8.view.read (Elt F) f8) (sk (k + 1)) (gp k))
  ∧ ColP arg4.view f4 (G4 false v23 (arg8.view.read (Elt F) f8)) (k - 1) ∧ ColP arg5.view f5 (G5 false v23 (arg8.view.read (Elt F) f8)) (k - 1)
  ∧ ColP arg6.view f6 (G6 false v23 (arg8.view.read (Elt F) f8)) (k - 1) ∧ ColP arg7.view f7 (G7 false v23 (arg8.view.read (Elt F) f8)) (k - 1)

theorem I1_step (v23 : IVec S8x128 32) (f8 : Bf (F := F) c arg8) (k : Fin k0_t1_loop.trips) (f4 : Bf (F := F) c arg4) (f5 : Bf (F := F) c arg5) (f6 : Bf (F := F) c arg6) (f7 : Bf (F := F) c arg7)
    (f9 : Bf (F := F) c arg9) (f10 : Bf (F := F) c arg10) (hI : I1 c arg4 arg5 arg6 arg7 arg8 arg9 arg10 v23 f8 k.val f4 f5 f6 f7 f9 f10) :
    I1 c arg4 arg5 arg6 arg7 arg8 arg9 arg10 v23 f8 (k.val + 1) (arg4.view.writes (Elt F) f4 (trip1_frame.sl.H4_1 c arg8 arg10 k v23 f8 f10))
      (arg5.view.writes (Elt F) f5 (trip1_frame.sl.H5_1 c arg9 arg10 k v23 f9 f10)) (arg6.view.writes (Elt F) f6 (trip1_frame.sl.H6_1 c arg8 arg10 k f8 f10))
      (arg7.view.writes (Elt F) f7 (trip1_frame.sl.H7_1 c arg9 k f9)) (trip1_frame.sl.H9_w32 c arg8 arg9 k f8 f9)
      (arg10.view.writes (Elt F) f10 (⟨Rect.unit (s := S2x2x16x128) (k0_off43 k) S1x1x1x128.size (k0_off43_inb k), k0_pay276 (trip1_frame.sl.r_90 c arg8 k f8)⟩ :: ⟨Rect.unit (s := S2x2x16x128) (k0_off42 k) S1x1x1x128.size (k0_off42_inb k), k0_pay270 (trip1_frame.sl.r_90 c arg8 k f8)⟩ :: ⟨Rect.unit (s := S2x2x16x128) (k0_off41 k) S1x1x1x128.size (k0_off41_inb k), k0_pay264 (trip1_frame.sl.r_88 c arg8 k f8)⟩ :: trip1_frame.sl.H10_29 c arg8 k f8)) := by
  obtain ⟨hs, h4, h5, h6, h7⟩ := hI
  have hk := k_le k
  have hsk : (sk (k.val + 1 + 1)).val = k.val % 2 := by show (k.val + 1 + 1) % 2 = _; omega
  have hgk : gp (k.val + 1) = gk k.val := rfl
  refine ⟨fun _ => ⟨?_, ?_⟩, ?_⟩
  · exact slotR_of arg9.view f9 _ _ false _ _ _ _ _ _ hsk (nw1_16 c arg8 arg9 k f8 f9) (nw1_32 c arg8 arg9 k f8 f9) (by rw [eq9, hgk]) (by rw [eq27, hgk])
  · exact slotT_of arg10.view f10 _ false _ _ _ (vv1 c arg8 k f8) _ hsk (h1_32 c arg8 arg10 k f8 f10) (by show sq _ = _; rw [eq9, hgk]) (by show sq _ = _; rw [eq27, hgk])
  · rw [Nat.add_sub_cancel]
    by_cases h1 : 1 ≤ k.val
    · obtain ⟨hR, hT⟩ := hs h1
      have e1 : ldt1 c arg10 k f10 = _ := top_of_slot arg10.view f10 false _ _ _ hT 0 _ (k0_off1_inb k) (cl1 k)
      have e2 : ldt2 c arg10 k f10 = _ := top_of_slot arg10.view f10 false _ _ _ hT 1 _ (k0_off2_inb k) (cl2 k)
      have e3 : ldr3 c arg9 k f9 = _ := rnk_of_slot arg9.view f9 false _ _ _ hR 0 _ (k0_off3_inb k) (cl3 k)
      have e7 : ldr7 c arg9 k f9 = _ := rnk_of_slot arg9.view f9 false _ _ _ hR 1 _ (k0_off7_inb k) (cl7 k)
      have hg : (gp k.val).val = k.val - 1 := Nat.min_eq_left (by omega)
      have hoff := (cl4 k).trans (show ![0, 0, 128 * (k.val - 1)] = ![0, 0, 128 * (gp k.val).val] by rw [hg])
      have hk1 : k.val = k.val - 1 + 1 := by omega
      have h4' := colP_step arg4.view f4 _ _ h4 (gp k.val) hg _ (k0_off4_inb k) hoff (k0_pay73 (trip1_frame.sl.r_52 c arg8 arg10 k v23 f8 f10))
        (by rw [out4_1, e1, e2, eq5]; rfl)
      have h5' := colP_step arg5.view f5 _ _ h5 (gp k.val) hg _ (k0_off4_inb k) hoff _
        ((out5_1 c arg9 arg10 k v23 f10 f9).trans (by rw [e1, e2, e3]; rfl))
      have h6' := colP_step arg6.view f6 _ _ h6 (gp k.val) hg _ (k0_off4_inb k) hoff (o6 (ldt2 c arg10 k f10) (ld6 c arg8 k f8))
        (by rw [e2, eq6]; rfl)
      have h7' := colP_step arg7.view f7 _ _ h7 (gp k.val) hg _ (k0_off4_inb k) hoff (o7 (ldr7 c arg9 k f9))
        (by rw [e7]; rfl)
      rw [← hk1] at h4' h5' h6' h7'
      exact ⟨h4', h5', h6', h7'⟩
    · have h0 : k.val = 0 := by omega
      rw [h0]
      exact ⟨fun a t ht => absurd ht (Nat.not_lt_zero _), fun a t ht => absurd ht (Nat.not_lt_zero _), fun a t ht => absurd ht (Nat.not_lt_zero _), fun a t ht => absurd ht (Nat.not_lt_zero _)⟩

/-- Before trip `k` of the exact loop: the columns of the earlier groups hold their exact outputs. -/
def I2 (v23 : IVec S8x128 32) (f8 : Bf (F := F) c arg8) (k : ℕ) (f4 : Bf (F := F) c arg4) (f5 : Bf (F := F) c arg5) (f6 : Bf (F := F) c arg6) (f7 : Bf (F := F) c arg7) : Prop :=
  ColP arg4.view f4 (G4 true v23 (arg8.view.read (Elt F) f8)) k ∧ ColP arg5.view f5 (G5 true v23 (arg8.view.read (Elt F) f8)) k
  ∧ ColP arg6.view f6 (G6 true v23 (arg8.view.read (Elt F) f8)) k ∧ ColP arg7.view f7 (G7 true v23 (arg8.view.read (Elt F) f8)) k

end Cert.Proof.Topk

end

end
-- ==== Proof.Target.lean ====
/-
  The outputs of a lane as functions of its scores.
-/
module

public import proofs.«01_k».proof.Proof.Lanes2
public import proofs.«01_k».proof.Proof.Inv
public import Idealize.ShloMosaic.Lib.Pointwise

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.Rank

/-- The outputs of a lane as functions of its two columns of scores. -/
def tE1 (f g : Fin 128 → EReal) (i : Fin 128) : EReal :=
  Ideal.div (Ideal.exp (f i - srt f 0)) (∑ k : Fin 16, Ideal.exp (srt (C256 (srt f) (srt g)) k.val - srt (C256 (srt f) (srt g)) 0))
open Classical in
def tN1 (f g : Fin 128 → EReal) (i : Fin 128) : EReal :=
  if rk f i < 16 then ∑ p : Fin 256, if p.val / 16 = rk f i ∧ rk (C256 (srt f) (srt g)) p < 16 then (1 : EReal) else 0 else 0
def tE2 (g : Fin 128 → EReal) (i : Fin 128) : EReal := Ideal.exp (g i - srt g 0)
def tR2 (g : Fin 128 → EReal) (i : Fin 128) : EReal := if rk g i < 16 then ((rk g i : ℝ) : EReal) else ((99 : ℝ) : EReal)

theorem coe_sum {ι : Type} (s : Finset ι) (h : ι → ℝ) : ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]
def Good {n : ℕ} (x : Bool) (f : Fin n → EReal) : Prop := ∀ r, r ≤ 16 → cit x f r = cit true f r ∧ (r < 16 → ∀ a, pk x (cit x f r) a ↔ pk true (cit true f r) a)
theorem good_true {n : ℕ} (f : Fin n → EReal) : Good true f := fun _ _ => ⟨rfl, fun _ _ => Iff.rfl⟩
theorem good_mx {n : ℕ} (x : Bool) (f : Fin n → EReal) (h : Good x f) (hv : 16 < vld f) (hn : 16 < n) (r : ℕ) (hr : r < 16) : mxc (cit x f r) = srt f r := by
  rw [(h r hr.le).1, srt_exact f r (by omega) (by omega)]
theorem good_pk {n : ℕ} (x : Bool) (f : Fin n → EReal) (h : Good x f) (hv : 16 < vld f) (r : ℕ) (hr : r < 16) (a : Fin n) : pk x (cit x f r) a ↔ rk f a = r :=
  ((h r hr.le).2 hr a).trans (pk_exact f r (by omega) a)

section
variable (f g : Fin 128 → EReal) (hf : ∀ i, ∃ r : ℝ, f i = r) (hg : ∀ i, ∃ r : ℝ, g i = r)
include hf
theorem ne_bot (i : Fin 128) : f i ≠ ⊥ := by
  obtain ⟨r, hr⟩ := hf i
  rw [hr]; exact EReal.coe_ne_bot r
theorem vld_real : vld f = 128 := vld_all f (ne_bot f hf)
theorem srt_real (k : ℕ) (hk : k < 128) : ∃ r : ℝ, srt f k = r := by
  obtain ⟨j, hj⟩ := srt_mem f k hk
  rw [hj]; exact hf j
theorem srt_ne (k : ℕ) (hk : k < 16) : srt f k ≠ ⊥ := by
  obtain ⟨r, hr⟩ := srt_real f hf k (by omega)
  rw [hr]; exact EReal.coe_ne_bot r
theorem topv_at (x : Bool) (W : FVec Ideal S128x128 .f32) (l : Fin 128) (hW : col W l = f) (hx : Good x f) (k : Fin 16) : topv x W (ix4 0 0 k l) = srt f k.val := by
  show mxr (it x W k.val) (ix2 0 l) = _
  rw [mxit_at, hW]
  exact good_mx x f hx (by rw [vld_real f hf]; omega) (by omega) k.val k.isLt
theorem rnkv_at (x : Bool) (W : FVec Ideal S128x128 .f32) (l : Fin 128) (hW : col W l = f) (hx : Good x f) (a : Fin 128) : rnkv x W (ix4 0 0 a l) = tR2 f a := by
  show rkc x W 16 (ix2 a l) = _
  rw [rkc_at x W a l (by rw [hW]; exact fun r hr => good_pk x f hx (by rw [vld_real f hf]; omega) r hr a) 16 le_rfl, hW]
  rfl
include hg
theorem C256_real (p : Fin 256) : ∃ r : ℝ, C256 (srt f) (srt g) p = r := by
  have := p.isLt
  obtain ⟨u, hu⟩ := srt_real f hf (p.val / 16) (by omega)
  obtain ⟨v, hv⟩ := srt_real g hg (p.val % 16) (by omega)
  exact ⟨u + v, by rw [C256, hu, hv, EReal.coe_add]⟩
theorem best_real (k : ℕ) (hk : k < 16) : ∃ r : ℝ, srt (C256 (srt f) (srt g)) k = r := by
  obtain ⟨j, hj⟩ := srt_mem (C256 (srt f) (srt g)) k (by omega)
  rw [hj]; exact C256_real f g hf hg j
theorem exp_best0 : Ideal.exp (srt (C256 (srt f) (srt g)) 0 - srt (C256 (srt f) (srt g)) 0) = 1 := by
  obtain ⟨r, hr⟩ := best_real f g hf hg 0 (by omega)
  rw [hr, ← EReal.coe_sub, sub_self, Ideal.exp_coe, Real.exp_zero, EReal.coe_one]
theorem norm_ne : (∑ k : Fin 16, Ideal.exp (srt (C256 (srt f) (srt g)) k.val - srt (C256 (srt f) (srt g)) 0)) ≠ 0 := by
  obtain ⟨r0, hr0⟩ := best_real f g hf hg 0 (by omega)
  choose r hr using fun k : Fin 16 => best_real f g hf hg k.val k.isLt
  have : ∀ k : Fin 16, Ideal.exp (srt (C256 (srt f) (srt g)) k.val - srt (C256 (srt f) (srt g)) 0) = ((Real.exp (r k - r0) : ℝ) : EReal) := fun k => by
    rw [hr k, hr0, ← EReal.coe_sub, Ideal.exp_coe]
  rw [Finset.sum_congr rfl fun k _ => this k, ← coe_sum, ← EReal.coe_zero, Ne, EReal.coe_eq_coe_iff]
  exact ne_of_gt (Finset.sum_pos (fun k _ => Real.exp_pos _) Finset.univ_nonempty)
theorem C80_vld : vld (C80 (srt f) (srt g)) = 50 := vld_C80 _ _ (srt_ne f hf) (srt_ne g hg)
theorem srt80 (k : ℕ) (hk : k < 16) : srt (C80 (srt f) (srt g)) k = srt (C256 (srt f) (srt g)) k :=
  srt_pair _ _ (fun a b h1 h2 => srt_anti f a b h1 (by omega)) (fun a b h1 h2 => srt_anti g a b h1 (by omega)) (srt_ne f hf) (srt_ne g hg) k hk
/-- The lanes of the candidates. -/
theorem col_cnd (x : Bool) (V W : FVec Ideal S128x128 .f32) (l : Fin 128) (hV : col V l = f) (hW : col W l = g) (hx : Good x f) (hy : Good x g) :
    col8 (cnd (iota .tc S8x128 32 [0] iota_S8x128_d0_w32) (topv x V) (topv x W)) l = C80 (srt f) (srt g) :=
  funext fun r => cnd_at _ _ l _ _ (topv_at f hf x V l hV hx) (topv_at g hg x W l hW hy) r
theorem o4_val (x : Bool) (V W : FVec Ideal S128x128 .f32) (l : Fin 128) (hV : col V l = f) (hW : col W l = g) (hx : Good x f) (hy : Good x g) (hz : Good x (C80 (srt f) (srt g)))
    (s : Vec Ideal S1x128x128 .f32) (j : Fin 128) (hs : s (ix3 0 j l) = f j) :
    o4 x (iota .tc S8x128 32 [0] iota_S8x128_d0_w32) (topv x V) (topv x W) s (ix3 0 j l) = tE1 f g j := by
  rw [o4_at, inz_at _ l (srt (C256 (srt f) (srt g))) (fun k hk => ?_) (exp_best0 f g hf hg), hs, show topv x V (ix4 0 0 0 l) = srt f 0 from topv_at f hf x V l hV hx 0]
  · unfold tE1 Ideal.div
    rw [if_neg (norm_ne f g hf hg), if_neg (norm_ne f g hf hg), one_mul]
  · rw [mxit8_at, col_cnd f g hf hg x V W l hV hW hx hy, good_mx x _ hz (by rw [C80_vld f g hf hg]; omega) (by omega) k hk, srt80 f g hf hg k hk]
omit hf hg in
open Classical in
theorem smk_val (x : Bool) (C : FVec Ideal S80x128 .f32) (l : Fin 128) (r : Fin 80) :
    smk C (it8 x C 16) (ix2 r l) = if cit x (col8 C l) 16 r = ⊥ ∧ col8 C l r ≠ ⊥ then 1 else 0 := by
  rw [smk_at, ← it8_at]
open Classical in
theorem o5_val (x : Bool) (V W : FVec Ideal S128x128 .f32) (l : Fin 128) (hV : col V l = f) (hW : col W l = g) (hx : Good x f) (hy : Good x g) (hz : Good x (C80 (srt f) (srt g))) (j : Fin 128) :
    o5 x (iota .tc S8x128 32 [0] iota_S8x128_d0_w32) (topv x V) (topv x W) (rnkv x V) (ix3 0 j l) = tN1 f g j := by
  unfold o5
  have hc := col_cnd f g hf hg x V W l hV hW hx hy
  have hv := C80_vld f g hf hg
  have hsel : ∀ r : Fin 80, (cit x (C80 (srt f) (srt g)) 16 r = ⊥ ∧ C80 (srt f) (srt g) r ≠ ⊥) ↔ rk (C80 (srt f) (srt g)) r < 16 := fun r => by
    rw [(hz 16 le_rfl).1, cit_exact _ 16 (by rw [hv]; omega)]
    by_cases h : rk (C80 (srt f) (srt g)) r < 16
    · rw [if_pos h]
      exact ⟨fun _ => h, fun _ => ⟨rfl, ne_bot_of_rk _ r (by rw [hv]; omega)⟩⟩
    · rw [if_neg h]
      exact ⟨fun h1 => absurd h1.1 h1.2, fun h1 => absurd h1 h⟩
  rw [n1o_at _ _ j l (fun n => if h : n < 80 then (if rk (C80 (srt f) (srt g)) ⟨n, h⟩ < 16 then 1 else 0) else 0) (fun r => ?_) (rk f j) (rnkv_at f hf x V l hV hx j)]
  · unfold tN1
    congr 1
    rw [← cnt_pair _ _ (fun a b h1 h2 => srt_anti f a b h1 (by omega)) (fun a b h1 h2 => srt_anti g a b h1 (by omega)) (srt_ne f hf) (srt_ne g hg)]
    refine Finset.sum_congr rfl fun r _ => ?_
    rw [dif_pos r.isLt, ite_and]
  · rw [smk_val, hc, dif_pos r.isLt]
    exact if_congr (hsel r) rfl rfl
omit hf in
theorem o6_val (x : Bool) (W : FVec Ideal S128x128 .f32) (l : Fin 128) (hW : col W l = g) (hy : Good x g) (s : Vec Ideal S1x128x128 .f32) (j : Fin 128) (hs : s (ix3 0 j l) = g j) :
    o6 (topv x W) s (ix3 0 j l) = tE2 g j := by
  rw [o6_at, hs, show topv x W (ix4 0 0 0 l) = srt g 0 from topv_at g hg x W l hW hy 0]
  rfl
omit hf in
theorem o7_val (x : Bool) (W : FVec Ideal S128x128 .f32) (l : Fin 128) (hW : col W l = g) (hy : Good x g) (j : Fin 128) : o7 (rnkv x W) (ix3 0 j l) = tR2 g j := by
  rw [o7_at, rnkv_at g hg x W l hW hy j]

omit hf hg
theorem tk_ge {n : ℕ} (f : Fin n → EReal) (h : 16 ≤ vld f) : 16 ≤ tk f 16 := by
  rcases (tk_le_vld f 16).lt_or_eq with h1 | h1
  · have := tk_mono f 0 16 (by rw [Nat.zero_add]; exact h1)
    rw [Nat.zero_add] at this; omega
  · omega
include hf
theorem exc_val (V : FVec Ideal S128x128 .f32) (l : Fin 128) (hV : col V l = f) : exc (it false V 16) (ix2 0 l) = ((tk f 16 : ℝ) : EReal) - ((16 : ℝ) : EReal) := by
  classical
  rw [exc_at]
  suffices h : (Finset.univ.filter fun a : Fin 128 => it false V 16 (ix2 a l) = ⊥) = Finset.univ.filter fun a => f a ≠ ⊥ ∧ cit false f 16 a = ⊥ by
    unfold tk
    rw [← h]
  ext a
  simp only [Finset.mem_filter, Finset.mem_univ, _root_.true_and]
  rw [← hV, ← it_at]
  exact ⟨fun h => ⟨by have := ne_bot f hf a; rw [← hV] at this; exact this, h⟩, fun h => h.2⟩
omit hf in
theorem ex2_val (C : FVec Ideal S80x128 .f32) (l : Fin 128) : k0_pay76 (k0_pay67 (smk C (it8 false C 16))) (ix2 0 l) = ((tk (col8 C l) 16 : ℝ) : EReal) - ((16 : ℝ) : EReal) := by
  classical
  have h := sum80 (smk C (it8 false C 16)) l (fun n => if h : n < 80 then (if cit false (col8 C l) 16 ⟨n, h⟩ = ⊥ ∧ col8 C l ⟨n, h⟩ ≠ ⊥ then 1 else 0) else 0)
    (fun r => by rw [smk_val, dif_pos r.isLt])
  have h2 : (∑ x : Fin 80, (fun n => if h : n < 80 then (if cit false (col8 C l) 16 ⟨n, h⟩ = ⊥ ∧ col8 C l ⟨n, h⟩ ≠ ⊥ then (1 : EReal) else 0) else 0) x.val) = ((tk (col8 C l) 16 : ℝ) : EReal) := by
    unfold tk
    rw [← fold_count]
    refine Finset.sum_congr rfl fun r _ => ?_
    simp only
    rw [dif_pos r.isLt]
    exact if_congr and_comm rfl rfl
  rw [h2] at h
  generalize k0_pay67 (smk C (it8 false C 16)) = m at h
  pointwise [k0_pay76]
  rw [h, ofBits_16]
include hg
/-- Where the measures are not positive the fast rounds are the exact ones. -/
theorem good_of (V W : FVec Ideal S128x128 .f32) (l : Fin 128) (hV : col V l = f) (hW : col W l = g)
    (h1 : 0 + exc (it false V 16) (ix2 0 l) + exc (it false W 16) (ix2 0 l) ≤ 0)
    (h2 : ex2 (iota .tc S8x128 32 [0] iota_S8x128_d0_w32) (topv false V) (topv false W) (ix2 0 l) ≤ 0) :
    Good false f ∧ Good false g ∧ Good false (C80 (srt f) (srt g)) := by
  rw [exc_val f hf V l hV, exc_val g hg W l hW, zero_add, ← EReal.coe_sub, ← EReal.coe_sub, ← EReal.coe_add, ← EReal.coe_zero, EReal.coe_le_coe_iff] at h1
  have h1' : tk f 16 + tk g 16 ≤ 32 := by
    have : ((tk f 16 : ℝ) + (tk g 16 : ℝ)) ≤ 32 := by linarith
    exact_mod_cast this
  have hvf := vld_real f hf
  have hvg := vld_real g hg
  have a1 := tk_ge f (by omega)
  have a2 := tk_ge g (by omega)
  have gf : Good false f := fast_exact f 16 (by omega) (by omega)
  have gg : Good false g := fast_exact g 16 (by omega) (by omega)
  refine ⟨gf, gg, ?_⟩
  unfold ex2 at h2
  rw [ex2_val, col_cnd f g hf hg false V W l hV hW gf gg, ← EReal.coe_sub, ← EReal.coe_zero, EReal.coe_le_coe_iff] at h2
  have h2' : tk (C80 (srt f) (srt g)) 16 ≤ 16 := by
    have : (tk (C80 (srt f) (srt g)) 16 : ℝ) ≤ 16 := by linarith
    exact_mod_cast this
  exact fast_exact _ 16 (by rw [C80_vld f g hf hg]; omega) h2'
end

end Cert.Proof.Topk

end

end
-- ==== Proof.Acc.lean ====
/-
  The running measure of ties over the trips of the pipelined loop.
-/
module

public import proofs.«01_k».proof.Proof.Inv
public import Idealize.ShloMosaic.Lib.Pointwise
public import Idealize.ShloMosaic.Lib.WritesUnit
public import Idealize.ShloMosaic.Lib.TopK.GroupedStream

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)
theorem arg11_eq (k : Fin k0_t1_loop.trips) : trip1_frame.sl.arg11 k = BitVec.ofNat 32 k.val := by
  show Scf.iv 0#32 1#32 k.val = _
  have := k_le k
  unfold Scf.iv
  simp

theorem r72_eq  (k : Fin k0_t1_loop.trips) (f8 : Bf (F := F) c arg8) :
    trip1_frame.sl.r_72 c arg8 k f8 = addf (broadcast S1x128 (Scalar.ofBits .f32 0#32)) (exc (it false (sq (ld9 c arg8 k f8)) 16)) := by
  unfold trip1_frame.sl.r_72
  rw [show trip1_frame.sl.r_70 c arg8 k f8 = it false (sq (ld9 c arg8 k f8)) 15 from fr_70 c arg8 k f8]
  rfl
theorem r94_eq  (k : Fin k0_t1_loop.trips) (f8 : Bf (F := F) c arg8) :
    trip1_frame.sl.r_94 c arg8 k f8 = Scalar.select (Scalar.cmpi .slt (BitVec.ofNat 32 k.val) 8#32)
      (addf (addf (broadcast S1x128 (Scalar.ofBits .f32 0#32)) (exc (it false (sq (ld9 c arg8 k f8)) 16))) (exc (it false (sq (ld27 c arg8 k f8)) 16))) (broadcast S1x128 (Scalar.ofBits .f32 0#32)) := by
  unfold trip1_frame.sl.r_94
  rw [show trip1_frame.sl.r_92 c arg8 k f8 = it false (sq (ld27 c arg8 k f8)) 16 from fr_92 c arg8 k f8, r72_eq, arg11_eq]
  rfl
theorem r93_eq  (k : Fin k0_t1_loop.trips) (acc : FVec F S1x128 .f32) (v23 : IVec S8x128 32) (f10 : Bf (F := F) c arg10) :
    trip1_frame.sl.r_93 c arg10 k acc v23 f10 = maximumf acc (Scalar.select (Scalar.cmpi .sge (BitVec.ofNat 32 k.val) 1#32) (ex2 v23 (ldt1 c arg10 k f10) (ldt2 c arg10 k f10)) (broadcast S1x128 (Scalar.ofBits .f32 0#32))) := by
  unfold trip1_frame.sl.r_93
  rw [ff53, arg11_eq]
  rfl

/-- The measures of the groups seen so far are at most the running one. -/
def EX1 (s : Vec Ideal S2x128x1024 .f32) (g : Fin 8) (l : Fin 128) : EReal :=
  0 + exc (it false (sq (grp s 0 g)) 16) (ix2 0 l) + exc (it false (sq (grp s 1 g)) 16) (ix2 0 l)
def EX2 (v23 : IVec S8x128 32) (s : Vec Ideal S2x128x1024 .f32) (g : Fin 8) (l : Fin 128) : EReal :=
  ex2 v23 (topv false (sq (grp s 0 g))) (topv false (sq (grp s 1 g))) (ix2 0 l)
def AccP (v23 : IVec S8x128 32) (s : Vec Ideal S2x128x1024 .f32) (k : ℕ) (acc : FVec Ideal S1x128 .f32) : Prop :=
  ∀ (g : Fin 8) (l : Fin 128), (g.val < k → EX1 s g l ≤ acc (ix2 0 l)) ∧ (g.val + 1 < k → EX2 v23 s g l ≤ acc (ix2 0 l))

theorem acc_step (v23 : IVec S8x128 32) (s : Vec Ideal S2x128x1024 .f32) (k : ℕ) (hk : k ≤ 8) (acc E X : FVec Ideal S1x128 .f32)
    (hE : 1 ≤ k → ∀ l, E (ix2 0 l) = EX2 v23 s (gp k) l) (hX : ∀ l, X (ix2 0 l) = EX1 s (gk k) l) (hA : AccP v23 s k acc) :
    AccP v23 s (k + 1) (maximumf (maximumf acc (Scalar.select (Scalar.cmpi .sge (BitVec.ofNat 32 k) 1#32) E (broadcast S1x128 (Scalar.ofBits .f32 0#32))))
      (Scalar.select (Scalar.cmpi .slt (BitVec.ofNat 32 k) 8#32) X (broadcast S1x128 (Scalar.ofBits .f32 0#32)))) := by
  intro g l
  have key : ∀ (u v w : FVec Ideal S1x128 .f32) (j : S1x128.Idx), (maximumf (maximumf u v) w : FVec Ideal S1x128 .f32) j = max (max (u j : EReal) (v j)) (w j) := by
    intro u v w j
    rfl
  rw [key]
  constructor
  · intro h
    rcases Nat.lt_or_ge g.val k with h1 | h1
    · exact le_trans ((hA g l).1 h1) (le_trans (le_max_left _ _) (le_max_left _ _))
    · have hg := g.isLt
      have h2 : k < 8 := by omega
      have e : gk k = g := Fin.ext (by show min k 7 = g.val; omega)
      have hc : Scalar.cmpi .slt (BitVec.ofNat 32 k) 8#32 = 1#1 := by interval_cases k <;> rfl
      rw [hc]
      refine le_trans (le_of_eq ?_) (le_max_right _ _)
      rw [← e]; exact (hX l).symm
  · intro h
    rcases Nat.lt_or_ge (g.val + 1) k with h1 | h1
    · exact le_trans ((hA g l).2 h1) (le_trans (le_max_left _ _) (le_max_left _ _))
    · have hg := g.isLt
      have h2 : 1 ≤ k := by omega
      have e : gp k = g := Fin.ext (by show min (k - 1) 7 = g.val; omega)
      have hc : Scalar.cmpi .sge (BitVec.ofNat 32 k) 1#32 = 1#1 := by interval_cases k <;> first | rfl | omega
      rw [hc]
      refine le_trans (le_trans (le_of_eq ?_) (le_max_right _ _)) (le_max_left _ _)
      rw [← e]; exact (hE h2 l).symm

theorem acc_top (acc : FVec Ideal S1x128 .f32) (l : Fin 128) : (acc (ix2 0 l) : EReal) ≤ k0_pay2 acc := by
  pointwise [k0_pay2]
  exact (Finset.le_fold_max _).2 (Or.inr ⟨(0, l), Finset.mem_univ _, le_rfl⟩)

end Cert.Proof.Topk

end

end
-- ==== Proof.Body.lean ====
/-
  One grid step of the retrieval call with what it leaves: the columns of every lane group of the block, by the
  exact trips or by the fast ones where no group has a tie.
-/
module

public import proofs.«01_k».proof.Proof.Acc
public import Idealize.ShloMosaic.Lib.Pointwise
public import Idealize.ShloMosaic.Lib.WritesUnit
public import Idealize.ShloMosaic.Lib.TopK.GroupedStream

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S1024x256 .bf16) (harg2 : arg2.IsWhole) (arg3 : Memref sig .tc .vmem S1x2x128x128 .bf16) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S2x128x1024 .f32) (harg8 : arg8.IsWhole) (arg9 : Memref sig .tc .vmem S2x2x128x128 .f32) (harg9 : arg9.IsWhole) (arg10 : Memref sig .tc .vmem S2x2x16x128 .f32) (harg10 : arg10.IsWhole)
local notation "𝕄" => MT nD τ sig Unit (Elt Ideal) ℕ (UR sig nD τ) ℕ
open Idealize.ShloMosaic.View

theorem I2_step (v23 : IVec S8x128 32) (f8 : Bf (F := F) c arg8) (k : Fin k0_t2_loop.trips) (f4 : Bf (F := F) c arg4) (f5 : Bf (F := F) c arg5) (f6 : Bf (F := F) c arg6) (f7 : Bf (F := F) c arg7)
    (f9 : Bf (F := F) c arg9) (hI : I2 c arg4 arg5 arg6 arg7 arg8 v23 f8 k.val f4 f5 f6 f7) :
    I2 c arg4 arg5 arg6 arg7 arg8 v23 f8 (k.val + 1) (arg4.view.writes (Elt F) f4 [⟨Rect.unit (s := S1x128x1024) (k0_off46 k) S1x128x128.size (k0_off46_inb k), k0_pay556 (trip2_frame.sl.r_47 c arg8 arg10 k f8) (trip2_frame.sl.r_81 c arg8 arg10 k v23 f8) (View.readAt (Elt F) arg8.view (Rect.unit (s := S2x128x1024) (k0_off44 k) S1x128x128.size (k0_off44_inb k)).toLoadRect f8)⟩])
      (arg5.view.writes (Elt F) f5 [⟨Rect.unit (s := S1x128x1024) (k0_off46 k) S1x128x128.size (k0_off46_inb k), k0_pay555 (trip2_frame.sl.r_93 c arg8 arg10 k v23 f8) (trip2_frame.sl.r_94 c arg8 arg10 k v23 f8) (trip2_frame.sl.r_95 c arg8 arg10 k v23 f8) (trip2_frame.sl.r_96 c arg8 arg10 k v23 f8) (trip2_frame.sl.r_97 c arg8 arg9 k f8 f9) (trip2_frame.sl.r_99 c arg8 arg9 arg10 k v23 f8 f9) trip2_frame.sl.cst_559⟩])
      (arg6.view.writes (Elt F) f6 [⟨Rect.unit (s := S1x128x1024) (k0_off46 k) S1x128x128.size (k0_off46_inb k), k0_pay3 (trip2_frame.sl.r_100 c arg8 arg10 k f8)⟩])
      (arg7.view.writes (Elt F) f7 [⟨Rect.unit (s := S1x128x1024) (k0_off46 k) S1x128x128.size (k0_off46_inb k), k0_pay4 (View.readAt (Elt F) arg9.view (Rect.unit (s := S2x2x128x128) ![0, 1, 0, 0] S1x1x128x128.size inb_S2x2x128x128_S1x1x128x128_0_1_0_0).toLoadRect (trip2_frame.sl.H9_w32 c arg8 arg9 k f8 f9))⟩]) := by
  obtain ⟨h4, h5, h6, h7⟩ := hI
  have hk := k2_le k
  have hR : SlotR arg9.view (trip2_frame.sl.H9_w32 c arg8 arg9 k f8 f9) true (arg8.view.read (Elt F) f8) 0 (gk k.val) :=
    slotR_of arg9.view f9 _ _ true _ _ _ _ _ _ rfl (nw2_16 c arg8 arg9 k f8 f9) (nw2_32 c arg8 arg9 k f8 f9) (by rw [eq44]) (by rw [eq45])
  have hT : SlotT arg10.view (arg10.view.writes (Elt F) arg10.view.junk (trip2_frame.sl.H10_32 c arg8 k f8)) true (arg8.view.read (Elt F) f8) 0 (gk k.val) :=
    slotT_of arg10.view _ _ true _ _ _ (vv2 c arg8 k f8) _ rfl (h2_32 c arg8 arg10 k f8 _) (by show sq _ = _; rw [eq44]) (by show sq _ = _; rw [eq45])
  have e1 : trip2_frame.sl.v693 c arg8 arg10 k f8 = _ := top_of_slot arg10.view _ true _ _ _ hT 0 _ inb_S2x2x16x128_S1x1x16x128_0_0_0_0 rfl
  have e2 : trip2_frame.sl.v695 c arg8 arg10 k f8 = _ := top_of_slot arg10.view _ true _ _ _ hT 1 _ inb_S2x2x16x128_S1x1x16x128_0_1_0_0 rfl
  have e3 := rnk_of_slot arg9.view _ true _ _ _ hR 0 _ inb_S2x2x128x128_S1x1x128x128_0_0_0_0 rfl
  have e7 := rnk_of_slot arg9.view _ true _ _ _ hR 1 _ inb_S2x2x128x128_S1x1x128x128_0_1_0_0 rfl
  have hg : (gk k.val).val = k.val := Nat.min_eq_left (by omega)
  have hoff := (cl46 k).trans (show ![0, 0, 128 * k.val] = ![0, 0, 128 * (gk k.val).val] by rw [hg])
  have e44 : View.readAt (Elt F) arg8.view (Rect.unit (s := S2x128x1024) (k0_off44 k) S1x128x128.size (k0_off44_inb k)).toLoadRect f8 = _ := eq44 c arg8 k f8
  have e45 : View.readAt (Elt F) arg8.view (Rect.unit (s := S2x128x1024) (k0_off45 k) S1x128x128.size (k0_off45_inb k)).toLoadRect f8 = _ := eq45 c arg8 k f8
  refine ⟨colP_step arg4.view f4 _ _ h4 (gk k.val) hg _ (k0_off46_inb k) hoff _ ?_, colP_step arg5.view f5 _ _ h5 (gk k.val) hg _ (k0_off46_inb k) hoff _ ?_,
    colP_step arg6.view f6 _ _ h6 (gk k.val) hg _ (k0_off46_inb k) hoff _ ?_, colP_step arg7.view f7 _ _ h7 (gk k.val) hg _ (k0_off46_inb k) hoff _ ?_⟩
  · rw [out4_2, e1, e2, e44]; rfl
  · rw [out5_2, e1, e2, e3]; rfl
  · rw [out6_2, e2, e45]; rfl
  · rw [out7_2, e7]; rfl

theorem A1_step (v23 : IVec S8x128 32) (f8 : Bf (F := Ideal) c arg8) (k : Fin k0_t1_loop.trips) (acc : FVec Ideal S1x128 .f32) (f10 : Bf (F := Ideal) c arg10)
    (hT : 1 ≤ k.val → SlotT arg10.view f10 false (arg8.view.read (Elt Ideal) f8) (sk (k.val + 1)) (gp k.val)) (hA : AccP v23 (arg8.view.read (Elt Ideal) f8) k.val acc) :
    AccP v23 (arg8.view.read (Elt Ideal) f8) (k.val + 1) (k0_pay1 (trip1_frame.sl.r_93 c arg10 k acc v23 f10) (trip1_frame.sl.r_94 c arg8 k f8)) := by
  rw [r93_eq, r94_eq, eq9, eq27]
  refine acc_step v23 _ k.val (k_le k) acc _ _ (fun h1 l => ?_) (fun l => ?_) hA
  · have hT := hT h1
    have e1 : ldt1 c arg10 k f10 = _ := top_of_slot arg10.view f10 false _ _ _ hT 0 _ (k0_off1_inb k) (cl1 k)
    have e2 : ldt2 c arg10 k f10 = _ := top_of_slot arg10.view f10 false _ _ _ hT 1 _ (k0_off2_inb k) (cl2 k)
    rw [e1, e2]; rfl
  · show (Ideal.ofBits .f32 0#32 : EReal) + _ + _ = _
    rw [show (Ideal.ofBits .f32 0#32 : EReal) = 0 from by pointwise]
    rfl

def J1 (v23 : IVec S8x128 32) (f8 : Bf (F := Ideal) c arg8) (k : ℕ) (acc : FVec Ideal S1x128 .f32) : sProp 𝕄 :=
  iprop(∃ (f4 : Bf (F := Ideal) c arg4) (f5 : Bf (F := Ideal) c arg5) (f6 : Bf (F := Ideal) c arg6) (f7 : Bf (F := Ideal) c arg7) (f9 : Bf (F := Ideal) c arg9) (f10 : Bf (F := Ideal) c arg10),
    ⌜I1 c arg4 arg5 arg6 arg7 arg8 arg9 arg10 v23 f8 k f4 f5 f6 f7 f9 f10 ∧ AccP v23 (arg8.view.read (Elt Ideal) f8) k acc⌝
      ∗ pt c arg4 f4 ∗ pt c arg5 f5 ∗ pt c arg6 f6 ∗ pt c arg7 f7 ∗ pt c arg8 f8 ∗ pt c arg9 f9 ∗ pt c arg10 f10)

def J2 (v23 : IVec S8x128 32) (f8 : Bf (F := Ideal) c arg8) (k : ℕ) : sProp 𝕄 :=
  iprop(∃ (f4 : Bf (F := Ideal) c arg4) (f5 : Bf (F := Ideal) c arg5) (f6 : Bf (F := Ideal) c arg6) (f7 : Bf (F := Ideal) c arg7) (f9 : Bf (F := Ideal) c arg9) (f10 : Bf (F := Ideal) c arg10),
    ⌜I2 c arg4 arg5 arg6 arg7 arg8 v23 f8 k f4 f5 f6 f7⌝
      ∗ pt c arg4 f4 ∗ pt c arg5 f5 ∗ pt c arg6 f6 ∗ pt c arg7 f7 ∗ pt c arg8 f8 ∗ pt c arg9 f9 ∗ pt c arg10 f10)

@[instance_reducible] def inv1 (v23 : IVec S8x128 32) (init : FVec Ideal S1x128 .f32) (f8 : Bf (F := Ideal) c arg8) :
    LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 v23 init where
  inv := fun k acc => J1 c arg4 arg5 arg6 arg7 arg8 arg9 arg10 v23 f8 k acc
  step := fun k acc => by
    unfold J1
    iintro ⟨%f4, %f5, %f6, %f7, %f9, %f10, %hp, H4, H5, H6, H7, H8, H9, H10⟩
    obtain ⟨hI, hA⟩ := hp
    iapply (trip1_value c i arg2 harg2 arg3 harg3 arg4 harg4 arg5 harg5 arg6 harg6 arg7 harg7 arg8 harg8 arg9 harg9 arg10 harg10 k acc v23 f4 f5 f6 f7 f8 f9 f10 _)
    isplitl [H4]; · iexact H4
    isplitl [H5]; · iexact H5
    isplitl [H6]; · iexact H6
    isplitl [H7]; · iexact H7
    isplitl [H8]; · iexact H8
    isplitl [H9]; · iexact H9
    isplitl [H10]; · iexact H10
    iintro %r ⟨%hr, G4, G5, G6, G7, G8, G9, G10⟩
    iexists _, _, _, _, _, _
    isplitr; swap
    · isplitl [G4]; · iexact G4
      isplitl [G5]; · iexact G5
      isplitl [G6]; · iexact G6
      isplitl [G7]; · iexact G7
      isplitl [G8]; · iexact G8
      isplitl [G9]; · iexact G9
      iexact G10
    ipureintro
    refine ⟨I1_step c arg4 arg5 arg6 arg7 arg8 arg9 arg10 v23 f8 k f4 f5 f6 f7 f9 f10 hI, ?_⟩
    rw [hr]
    exact A1_step c arg8 arg10 v23 f8 k acc f10 (fun h => (hI.1 h).2) hA

@[instance_reducible] def inv2 (v23 : IVec S8x128 32) (f8 : Bf (F := Ideal) c arg8) :
    LoopInvTy_k0_t2 (F := Ideal) Unit ℕ (UR sig nD τ) ℕ Variants.none c none Set.univ i arg2 harg2 arg3 harg3 arg4 harg4 arg5 harg5 arg6 harg6 arg7 harg7 arg8 harg8 arg9 harg9 arg10 harg10 v23 where
  inv := fun k _ => J2 c arg4 arg5 arg6 arg7 arg8 arg9 arg10 v23 f8 k
  step := fun k acc => by
    unfold J2
    iintro ⟨%f4, %f5, %f6, %f7, %f9, %f10, %hp, H4, H5, H6, H7, H8, H9, H10⟩
    iapply (trip2_value c i arg2 harg2 arg3 harg3 arg4 harg4 arg5 harg5 arg6 harg6 arg7 harg7 arg8 harg8 arg9 harg9 arg10 harg10 k acc v23 f4 f5 f6 f7 f8 f9 f10 _)
    isplitl [H4]; · iexact H4
    isplitl [H5]; · iexact H5
    isplitl [H6]; · iexact H6
    isplitl [H7]; · iexact H7
    isplitl [H8]; · iexact H8
    isplitl [H9]; · iexact H9
    isplitl [H10]; · iexact H10
    iintro %r ⟨G4, G5, G6, G7, G8, G9, G10⟩
    iexists _, _, _, _, _, _
    isplitr; swap
    · isplitl [G4]; · iexact G4
      isplitl [G5]; · iexact G5
      isplitl [G6]; · iexact G6
      isplitl [G7]; · iexact G7
      isplitl [G8]; · iexact G8
      isplitl [G9]; · iexact G9
      iexact G10
    ipureintro
    exact I2_step c arg4 arg5 arg6 arg7 arg8 arg9 arg10 v23 f8 k f4 f5 f6 f7 f9 hp

theorem loop1 (v23 : IVec S8x128 32) (init : FVec Ideal S1x128 .f32) (f8 : Bf (F := Ideal) c arg8) {β : Type} {kk : FVec Ideal S1x128 .f32 → Prog (TpuEff nD τ sig (Elt Ideal) Λ₀ .tc) β} {Q : β → sProp 𝕄} :
    J1 c arg4 arg5 arg6 arg7 arg8 arg9 arg10 v23 f8 0 init ⊢ iprop((∀ acc, J1 c arg4 arg5 arg6 arg7 arg8 arg9 arg10 v23 f8 9 acc -∗ wp frame (wpE (defs₀ (F := Ideal)) Variants.none c none) Set.univ (kk acc) Q)
      -∗ wp frame (wpE (defs₀ (F := Ideal)) Variants.none c none) Set.univ (Scf.Loop.for k0_t1_loop k0_t1_ok init (k0_t1_body (F := Ideal) i arg2 harg2 arg3 harg3 arg4 harg4 arg5 harg5 arg6 harg6 arg7 harg7 arg8 harg8 arg9 harg9 arg10 harg10 v23) >>= kk) Q) :=
  exec_loop (L := inv1 c i arg2 harg2 arg3 harg3 arg4 harg4 arg5 harg5 arg6 harg6 arg7 harg7 arg8 harg8 arg9 harg9 arg10 harg10 v23 init f8)
theorem loop2 (v23 : IVec S8x128 32) (f8 : Bf (F := Ideal) c arg8) {β : Type} {kk : PUnit → Prog (TpuEff nD τ sig (Elt Ideal) Λ₀ .tc) β} {Q : β → sProp 𝕄} :
    J2 c arg4 arg5 arg6 arg7 arg8 arg9 arg10 v23 f8 0 ⊢ iprop((∀ acc, J2 c arg4 arg5 arg6 arg7 arg8 arg9 arg10 v23 f8 8 -∗ wp frame (wpE (defs₀ (F := Ideal)) Variants.none c none) Set.univ (kk acc) Q)
      -∗ wp frame (wpE (defs₀ (F := Ideal)) Variants.none c none) Set.univ (Scf.Loop.for k0_t2_loop k0_t2_ok ⟨⟩ (k0_t2_body (F := Ideal) i arg2 harg2 arg3 harg3 arg4 harg4 arg5 harg5 arg6 harg6 arg7 harg7 arg8 harg8 arg9 harg9 arg10 harg10 v23) >>= kk) Q) :=
  exec_loop (L := inv2 c i arg2 harg2 arg3 harg3 arg4 harg4 arg5 harg5 arg6 harg6 arg7 harg7 arg8 harg8 arg9 harg9 arg10 harg10 v23 f8)

/-- The scores of a block: the two stores of the scratch. -/
def SC (q : Vec Ideal S1024x256 .bf16) (ky : Vec Ideal S1x2x128x128 .bf16) : Vec Ideal S2x128x1024 .f32 := fun j =>
  if (j 0).val = 0 then k0_pay558 q (fun y => ky (ix4 0 0 (y 2) (y 3))) (ix3 0 (j 1) (j 2)) else k0_pay559 q (fun y => ky (ix4 0 1 (y 2) (y 3))) (ix3 0 (j 1) (j 2))
/-- No group of the block has a tie that a fast trip would treat wrongly. -/
def NoTie (v23 : IVec S8x128 32) (s : Vec Ideal S2x128x1024 .f32) : Prop := ∀ (g : Fin 8) (l : Fin 128), EX1 s g l ≤ 0 ∧ EX2 v23 s g l ≤ 0
abbrev VI : IVec S8x128 32 := iota .tc S8x128 32 [0] iota_S8x128_d0_w32
/-- The four outputs of a block. -/
def Outs (x : Bool) (s : Vec Ideal S2x128x1024 .f32) (g4 : Bf (F := Ideal) c arg4) (g5 : Bf (F := Ideal) c arg5) (g6 : Bf (F := Ideal) c arg6) (g7 : Bf (F := Ideal) c arg7) : Prop :=
  ColP arg4.view g4 (G4 x VI s) 8 ∧ ColP arg5.view g5 (G5 x VI s) 8 ∧ ColP arg6.view g6 (G6 x VI s) 8 ∧ ColP arg7.view g7 (G7 x VI s) 8

theorem cond_neg (a : Ideal .f32) (h : ¬ Scalar.cmpi .ne (Scalar.extui (Scalar.cmpf .ogt a (FloatOps.ofBits .f32 0#32)) : BitVec 32) 0#32 = 1#1) : (a : EReal) ≤ 0 := by
  by_contra hc
  apply h
  have : Scalar.cmpf .ogt a (FloatOps.ofBits .f32 0#32) = 1#1 := by
    pointwise
    rw [decide_eq_true (not_le.mp hc)]; rfl
  rw [this]; rfl

theorem read_sc {sp : Space} (v : View sig .tc sp S2x128x1024 .f32) (f : v.ty.Contents (Elt F)) (w0 w1 : S1x128x1024.Idx → Elt F .f32) (h : Fin 2) (a : Fin 128) (t : Fin 1024) :
    v.read (Elt F) (v.writes (Elt F) f [⟨Rect.unit (s := S2x128x1024) ![1, 0, 0] S1x128x1024.size inb_S2x128x1024_S1x128x1024_1_0_0, w1⟩,
      ⟨Rect.unit (s := S2x128x1024) ![0, 0, 0] S1x128x1024.size inb_S2x128x1024_S1x128x1024_0_0_0, w0⟩]) (ix3 h a t)
      = if h.val = 0 then w0 (ix3 0 a t) else w1 (ix3 0 a t) := by
  split
  · rename_i hh
    rw [read_writes_cons_unit_of_not_mem v f inb_S2x128x1024_S1x128x1024_1_0_0 w1 _ (ix3 h a t) rfl 0 (by show h.val < 1 ∨ 1 + 1 ≤ h.val; omega),
      read_writes_cons_unit_of_mem v f inb_S2x128x1024_S1x128x1024_0_0_0 w0 [] (ix3 h a t) (ix3 0 a t : S1x128x1024.Idx) rfl]
    intro u
    match u with
    | ⟨0, _⟩ => exact hh
    | ⟨1, _⟩ => exact (Nat.zero_add _).symm
    | ⟨2, _⟩ => exact (Nat.zero_add _).symm
  · rename_i hh
    rw [read_writes_cons_unit_of_mem v f inb_S2x128x1024_S1x128x1024_1_0_0 w1 _ (ix3 h a t) (ix3 0 a t : S1x128x1024.Idx) rfl]
    intro u
    match u with
    | ⟨0, _⟩ => show h.val = 1 + 0; have := h.isLt; omega
    | ⟨1, _⟩ => exact (Nat.zero_add _).symm
    | ⟨2, _⟩ => exact (Nat.zero_add _).symm

theorem ld_q {sp : Space} (v : View sig .tc sp S1024x256 .bf16) (f : v.ty.Contents (Elt F)) :
    v.readAt (Elt F) (Rect.unit (s := S1024x256) ![0, 0] S1024x256.size inb_S1024x256_S1024x256_0_0).toLoadRect f = v.read (Elt F) f := by
  funext j
  show v.read (Elt F) f _ = v.read (Elt F) f _
  congr 1
  funext u
  apply Fin.ext
  match u with
  | ⟨0, _⟩ => show 0 + 1 * (j 0).val = (j 0).val; omega
  | ⟨1, _⟩ => show 0 + 1 * (j 1).val = (j 1).val; omega
theorem ld_ky {sp : Space} (v : View sig .tc sp S1x2x128x128 .bf16) (f : v.ty.Contents (Elt F)) (off : Fin 4 → ℕ) (inb) (h : Fin 2) (hoff : off = ![0, h.val, 0, 0]) :
    v.readAt (Elt F) (Rect.unit (s := S1x2x128x128) off S1x1x128x128.size inb).toLoadRect f = fun y => v.read (Elt F) f (ix4 0 h (y 2) (y 3)) := by
  funext j
  subst hoff
  show v.read (Elt F) f _ = v.read (Elt F) f _
  congr 1
  funext u
  apply Fin.ext
  match u with
  | ⟨0, _⟩ => show 0 + 1 * (j 0).val = 0; have : (j 0).val < 1 := (j 0).isLt; omega
  | ⟨1, _⟩ => show h.val + 1 * (j 1).val = h.val; have : (j 1).val < 1 := (j 1).isLt; omega
  | ⟨2, _⟩ => show 0 + 1 * (j 2).val = (j 2).val; omega
  | ⟨3, _⟩ => show 0 + 1 * (j 3).val = (j 3).val; omega

theorem body_value (f2 : Bf (F := Ideal) c arg2) (f3 : Bf (F := Ideal) c arg3)
    (f4 : Bf (F := Ideal) c arg4) (f5 : Bf (F := Ideal) c arg5) (f6 : Bf (F := Ideal) c arg6) (f7 : Bf (F := Ideal) c arg7)
    (f8 : Bf (F := Ideal) c arg8) (f9 : Bf (F := Ideal) c arg9) (f10 : Bf (F := Ideal) c arg10) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
      ∗ (∀ (g4 : Bf (F := Ideal) c arg4) (g5 : Bf (F := Ideal) c arg5) (g6 : Bf (F := Ideal) c arg6) (g7 : Bf (F := Ideal) c arg7),
          iprop(⌜∃ x : Bool, (x = true ∨ NoTie VI (SC (arg2.view.read (Elt Ideal) f2) (arg3.view.read (Elt Ideal) f3)))
              ∧ Outs c arg4 arg5 arg6 arg7 x (SC (arg2.view.read (Elt Ideal) f2) (arg3.view.read (Elt Ideal) f3)) g4 g5 g6 g7⌝
            ∗ pt c arg2 f2 ∗ pt c arg3 f3 ∗ pt c arg4 g4 ∗ pt c arg5 g5 ∗ pt c arg6 g6 ∗ pt c arg7 g7 ∗ (∃ f, pt c arg8 f)
            ∗ (∃ f, pt c arg9 f) ∗ (∃ f, pt c arg10 f)) -∗ Q ⟨⟩))
    ⊢ wp frame (wpE (defs₀ (F := Ideal)) Variants.none c none) Set.univ
        (cc0_peer_topk (F := Ideal) i arg2 harg2 arg3 harg3 arg4 harg4 arg5 harg5 arg6 harg6 arg7 harg7 arg8 harg8 arg9 harg9 arg10 harg10) Q := by
  rw [cc0_peer_topk_eq_skeleton]
  unfold cc0_peer_topk_skel
  iintro ⟨H2, H3, H4, H5, H6, H7, H8, H9, H10, Hk⟩
  sl_exec_parts
  have hS : arg8.view.read (Elt Ideal) (arg8.view.writes (Elt Ideal) arg8.view.junk (body_value.sl.H8_2 c arg2 arg3 f2 f3)) = SC (arg2.view.read (Elt Ideal) f2) (arg3.view.read (Elt Ideal) f3) := by
    funext j
    rw [← ix3_eta j]
    refine (read_sc arg8.view _ _ _ (j 0) (j 1) (j 2)).trans ?_
    have e0 := ld_ky arg3.view f3 ![0, 0, 0, 0] inb_S1x2x128x128_S1x1x128x128_0_0_0_0 0 rfl
    have e1 := ld_ky arg3.view f3 ![0, 1, 0, 0] inb_S1x2x128x128_S1x1x128x128_0_1_0_0 1 rfl
    rw [ld_q, e0, e1]
    rfl
  iapply (loop1 c i arg2 harg2 arg3 harg3 arg4 harg4 arg5 harg5 arg6 harg6 arg7 harg7 arg8 harg8 arg9 harg9 arg10 harg10 VI k0_pay562 (arg8.view.writes (Elt Ideal) arg8.view.junk (body_value.sl.H8_2 c arg2 arg3 f2 f3))) $$ [H4 H5 H6 H7 H8 H9 H10]
  · unfold J1
    iexists _, _, _, _, _, _
    isplitr; swap
    · isplitl [H4]; · iexact H4
      isplitl [H5]; · iexact H5
      isplitl [H6]; · iexact H6
      isplitl [H7]; · iexact H7
      isplitl [H8]; · iexact H8
      isplitl [H9]; · iexact H9
      iexact H10
    ipureintro
    exact ⟨⟨fun h => absurd h (by decide), fun a t h => absurd h (Nat.not_lt_zero _), fun a t h => absurd h (Nat.not_lt_zero _), fun a t h => absurd h (Nat.not_lt_zero _), fun a t h => absurd h (Nat.not_lt_zero _)⟩,
      fun g l => ⟨fun h => absurd h (Nat.not_lt_zero _), fun h => absurd h (Nat.not_lt_zero _)⟩⟩
  unfold J1
  iintro %acc ⟨%g4, %g5, %g6, %g7, %g9, %g10, %hp, H4, H5, H6, H7, H8, H9, H10⟩
  obtain ⟨hI, hA⟩ := hp
  rw [hS] at hA
  simp only
  split
  · iapply (loop2 c i arg2 harg2 arg3 harg3 arg4 harg4 arg5 harg5 arg6 harg6 arg7 harg7 arg8 harg8 arg9 harg9 arg10 harg10 VI (arg8.view.writes (Elt Ideal) arg8.view.junk (body_value.sl.H8_2 c arg2 arg3 f2 f3))) $$ [H4 H5 H6 H7 H8 H9 H10]
    · unfold J2
      iexists _, _, _, _, _, _
      isplitr; swap
      · isplitl [H4]; · iexact H4
        isplitl [H5]; · iexact H5
        isplitl [H6]; · iexact H6
        isplitl [H7]; · iexact H7
        isplitl [H8]; · iexact H8
        isplitl [H9]; · iexact H9
        iexact H10
      ipureintro
      exact ⟨fun a t h => absurd h (Nat.not_lt_zero _), fun a t h => absurd h (Nat.not_lt_zero _), fun a t h => absurd h (Nat.not_lt_zero _), fun a t h => absurd h (Nat.not_lt_zero _)⟩
    unfold J2
    iintro %acc2 ⟨%g4, %g5, %g6, %g7, %g9, %g10, %hp, H4, H5, H6, H7, H8, H9, H10⟩
    unfold I2 at hp
    rw [hS] at hp
    sl_step
    iapply Hk $$ %g4 %g5 %g6 %g7
    isplitr; · ipureintro; exact ⟨true, Or.inl rfl, hp⟩
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10
  · rename_i hc
    unfold I1 at hI
    rw [hS] at hI
    have hz := cond_neg _ hc
    sl_step
    iapply Hk $$ %g4 %g5 %g6 %g7
    isplitr
    · ipureintro
      exact ⟨false, Or.inr fun g l => ⟨((hA g l).1 (by have := g.isLt; omega)).trans ((acc_top acc l).trans hz), ((hA g l).2 (by have := g.isLt; omega)).trans ((acc_top acc l).trans hz)⟩, hI.2⟩
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10

end Cert.Proof.Topk

end

end
-- ==== Proof.Block.lean ====
/-
  The outputs of a block as functions of its scores.
-/
module

public import proofs.«01_k».proof.Proof.Target
public import proofs.«01_k».proof.Proof.Body
public import Idealize.ShloMosaic.Lib.Pointwise

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.Rank

section
variable (s : Vec Ideal S2x128x1024 .f32)
/-- A column of scores. -/
abbrev cs (p : Fin 2) (t : Fin 1024) : Fin 128 → EReal := fun i => s (ix3 p i t)
theorem col_grp (p : Fin 2) (t : Fin 1024) : col (sq (grp s p ⟨t.val / 128, by have := t.isLt; omega⟩)) ⟨t.val % 128, Nat.mod_lt _ (by decide)⟩ = cs s p t := by
  funext i
  show sq _ (ix2 i _) = _
  rw [sq_at]
  show s (ix3 p i _) = s (ix3 p i t)
  congr 2
  exact Fin.ext (by show 128 * (t.val / 128) + t.val % 128 = t.val; omega)
theorem grp_at (p : Fin 2) (t : Fin 1024) (i : Fin 128) : grp s p ⟨t.val / 128, by have := t.isLt; omega⟩ (ix3 0 i ⟨t.val % 128, Nat.mod_lt _ (by decide)⟩) = cs s p t i := by
  have h := congrFun (col_grp s p t) i
  rw [← h]
  exact (sq_at _ _ _).symm
variable (hs : ∀ j, ∃ r : ℝ, s j = r)
include hs
theorem good_cols (x : Bool) (hx : x = true ∨ NoTie VI s) (t : Fin 1024) :
    Good x (cs s 0 t) ∧ Good x (cs s 1 t) ∧ Good x (C80 (srt (cs s 0 t)) (srt (cs s 1 t))) := by
  cases x with
  | true => exact ⟨good_true _, good_true _, good_true _⟩
  | false =>
    have hn : NoTie VI s := hx.resolve_left (by decide)
    obtain ⟨h1, h2⟩ := hn ⟨t.val / 128, by have := t.isLt; omega⟩ ⟨t.val % 128, Nat.mod_lt _ (by decide)⟩
    exact good_of _ _ (fun i => hs _) (fun i => hs _) _ _ _ (col_grp s 0 t) (col_grp s 1 t) h1 h2
theorem G4_val (x : Bool) (hx : x = true ∨ NoTie VI s) (t : Fin 1024) (i : Fin 128) :
    G4 x VI s ⟨t.val / 128, by have := t.isLt; omega⟩ (ix3 0 i ⟨t.val % 128, Nat.mod_lt _ (by decide)⟩) = tE1 (cs s 0 t) (cs s 1 t) i := by
  obtain ⟨h0, h1, h2⟩ := good_cols s hs x hx t
  exact o4_val _ _ (fun i => hs _) (fun i => hs _) x _ _ _ (col_grp s 0 t) (col_grp s 1 t) h0 h1 h2 _ _ (grp_at s 0 t i)
theorem G5_val (x : Bool) (hx : x = true ∨ NoTie VI s) (t : Fin 1024) (i : Fin 128) :
    G5 x VI s ⟨t.val / 128, by have := t.isLt; omega⟩ (ix3 0 i ⟨t.val % 128, Nat.mod_lt _ (by decide)⟩) = tN1 (cs s 0 t) (cs s 1 t) i := by
  obtain ⟨h0, h1, h2⟩ := good_cols s hs x hx t
  exact o5_val _ _ (fun i => hs _) (fun i => hs _) x _ _ _ (col_grp s 0 t) (col_grp s 1 t) h0 h1 h2 _
theorem G6_val (x : Bool) (hx : x = true ∨ NoTie VI s) (t : Fin 1024) (i : Fin 128) :
    G6 x VI s ⟨t.val / 128, by have := t.isLt; omega⟩ (ix3 0 i ⟨t.val % 128, Nat.mod_lt _ (by decide)⟩) = tE2 (cs s 1 t) i := by
  obtain ⟨h0, h1, h2⟩ := good_cols s hs x hx t
  exact o6_val _ (fun i => hs _) x _ _ (col_grp s 1 t) h1 _ _ (grp_at s 1 t i)
theorem G7_val (x : Bool) (hx : x = true ∨ NoTie VI s) (t : Fin 1024) (i : Fin 128) :
    G7 x VI s ⟨t.val / 128, by have := t.isLt; omega⟩ (ix3 0 i ⟨t.val % 128, Nat.mod_lt _ (by decide)⟩) = tR2 (cs s 1 t) i := by
  obtain ⟨h0, h1, h2⟩ := good_cols s hs x hx t
  exact o7_val _ (fun i => hs _) x _ _ (col_grp s 1 t) h1 _
end

/-- The scores of a block, entry by entry. -/
theorem SC_at (q : Vec Ideal S1024x256 .bf16) (ky : Vec Ideal S1x2x128x128 .bf16) (p : Fin 2) (i : Fin 128) (t : Fin 1024) :
    SC q ky (ix3 p i t) = ∑ d : Fin 128, ky (ix4 0 p i d) * q (ix2 t ⟨128 * p.val + d.val, by have := p.isLt; have := d.isLt; omega⟩) := by
  match p with
  | ⟨0, _⟩ =>
    show k0_pay558 q _ (ix3 0 i t) = _
    pointwise [k0_pay558]
  | ⟨1, _⟩ =>
    show k0_pay559 q _ (ix3 0 i t) = _
    pointwise [k0_pay559]

end Cert.Proof.Topk

end

end
-- ==== Proof.Launch.lean ====
/-
  The launch at exact values: every block of the outputs at its target.
-/
module

public import proofs.«01_k».proof.Proof.Block
public import Idealize.ShloMosaic.Lib.Pointwise

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.Rank
open Idealize.ShloMosaic.Pipeline (Dat BodyObligation)
local notation "𝕄" => MT nD τ sig Unit (Elt Ideal) ℕ (UR sig nD τ) ℕ

/-- The first groups of columns filled, the block read is the target. -/
theorem read_of_colP {sp : Space} {φ : EltTy} (v : View sig .tc sp S1x128x1024 φ) (f : v.ty.Contents (Elt Ideal)) (G : Fin 8 → S1x128x128.Idx → Elt Ideal φ)
    (hP : ColP v f G 8) (T : S1x128x1024.Idx → Elt Ideal φ)
    (hT : ∀ (a : Fin 128) (t : Fin 1024), G ⟨t.val / 128, by have := t.isLt; omega⟩ (ix3 0 a ⟨t.val % 128, Nat.mod_lt _ (by decide)⟩) = T (ix3 0 a t)) :
    v.read (Elt Ideal) f = T := by
  funext j
  rw [← ix3_eta j, show (j 0) = (0 : Fin 1) from Fin.ext (by have : (j 0).val < 1 := (j 0).isLt; show (j 0).val = 0; omega)]
  exact (hP (j 1) (j 2) (by have : (j 2).val < 1024 := (j 2).isLt; omega)).trans (hT (j 1) (j 2))

variable (m : (ℓ : Loc nD τ sig) → Buf (Elt Ideal) ℓ) (ρ : Dev nD → PrngReg)

/-- The scores of a block. -/
def bs (c : Dev nD) (t : Fin cfg0.N) : Vec Ideal S2x128x1024 .f32 := SC (iblk m c 0 t) (iblk m c 1 t)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun j : S1x128x1024.Idx => tE1 (cs (bs m c t) 0 (j 2)) (cs (bs m c t) 1 (j 2)) (j 1)
    | ⟨3, _⟩ => fun j : S1x128x1024.Idx => tN1 (cs (bs m c t) 0 (j 2)) (cs (bs m c t) 1 (j 2)) (j 1)
    | ⟨4, _⟩ => fun j : S1x128x1024.Idx => tE2 (cs (bs m c t) 1 (j 2)) (j 1)
    | ⟨5, _⟩ => fun j : S1x128x1024.Idx => tR2 (cs (bs m c t) 1 (j 2)) (j 1)
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = fun j : S1x128x1024.Idx => tE1 (cs (bs m c t) 0 (j 2)) (cs (bs m c t) 1 (j 2)) (j 1) := by dsimp only [dats]
theorem after0_3 (c : Dev nD) (t : Fin cfg0.N) : (dats m 0 c).after 3 t = fun j : S1x128x1024.Idx => tN1 (cs (bs m c t) 0 (j 2)) (cs (bs m c t) 1 (j 2)) (j 1) := by dsimp only [dats]
theorem after0_4 (c : Dev nD) (t : Fin cfg0.N) : (dats m 0 c).after 4 t = fun j : S1x128x1024.Idx => tE2 (cs (bs m c t) 1 (j 2)) (j 1) := by dsimp only [dats]
theorem after0_5 (c : Dev nD) (t : Fin cfg0.N) : (dats m 0 c).after 5 t = fun j : S1x128x1024.Idx => tR2 (cs (bs m c t) 1 (j 2)) (j 1) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

variable (hB : ∀ (c : Dev nD) (t : Fin cfg0.N) (j : S2x128x1024.Idx), ∃ r : ℝ, bs m c t j = r)
include hB

theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
    ⊢ wp frame (wpE (defs₀ (F := Ideal)) Variants.none c none) Set.univ (bodyAt0 t) (fun _ =>
     iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))) := by
  unfold bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold owns
  iintro ⟨⟨⟨⟨%d8, %f8, %e8, HS0⟩, ⟨%d9, %f9, %e9, HS1⟩, ⟨%d10, %f10, %e10, HS2⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  iapply (body_value c (grid0.coords t) _ _ _ _ _ _ _ _ _ _ _ _ _ _ _ _ _ _ f0 f1 f2 f3 f4 f5 f8 f9 f10 _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro %g2 %g3 %g4 %g5 ⟨%hx, G0, G1, G2, G3, G4, G5, ⟨%g8, S0⟩, ⟨%g9, S1⟩, ⟨%g10, S2⟩⟩
  have hs : SC ((st0_0 t).view.read (Elt Ideal) f0) ((st0_1 t).view.read (Elt Ideal) f1) = bs m c t := by
    rw [e0, e1]; rfl
  rw [hs] at hx
  obtain ⟨x, hx, o2, o3, o4, o5⟩ := hx
  isplitl [S0 S1 S2 Hg]
  · isplitl [S0 S1 S2]
    · isplitl [S0]
      · iexists _, _; isplitr; swap; · iexact S0
        ipureintro; rfl
      isplitl [S1]
      · iexists _, _; isplitr; swap; · iexact S1
        ipureintro; rfl
      iexists _, _; isplitr; swap; · iexact S2
      ipureintro; rfl
    iexact Hg
  isplitl [Ho]; · iexact Ho
  isplitl [G0]
  · iexists _; isplitr; swap; · iexact G0
    ipureintro; exact e0
  isplitl [G1]
  · iexists _; isplitr; swap; · iexact G1
    ipureintro; exact e1
  isplitl [G2]
  · iexists _; isplitr; swap; · iexact G2
    ipureintro; exact read_of_colP _ _ _ o2 _ (fun a u => G4_val (bs m c t) (hB c t) x hx u a)
  isplitl [G3]
  · iexists _; isplitr; swap; · iexact G3
    ipureintro; exact read_of_colP _ _ _ o3 _ (fun a u => G5_val (bs m c t) (hB c t) x hx u a)
  isplitl [G4]
  · iexists _; isplitr; swap; · iexact G4
    ipureintro; exact read_of_colP _ _ _ o4 _ (fun a u => G6_val (bs m c t) (hB c t) x hx u a)
  iexists _; isplitr; swap; · iexact G5
  ipureintro; exact read_of_colP _ _ _ o5 _ (fun a u => G7_val (bs m c t) (hB c t) x hx u a)

theorem body_obligation (c : Dev nD) : BodyObligation (dats m 0 c) (defs₀ (F := Ideal)) Variants.none () Set.univ := fun t => by
  rw [bigSep_W0, bigSep_W0, defs₀_row]
  exact triple_restated (sound_body m hB c t) rfl .rfl fun _ => .rfl

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hB c).loose) (hshare := fun c => (dats m 0 c).share_full fun _ => rfl)
    (howed := fun _ _ => rfl) (V := V m) (hmain := hmain m Variants.none) (hA := A_eq m) (hΦ := fun _ _ => rfl)
theorem run_main : θ_run defs (onTc (τ := τ) (main (F := Ideal))) (s₀ m ρ) (Pipeline.FramePost cfgs (dats m) 0 (V m)) :=
  (θ_run defs _ _).mono (fun _ h => h.1) (run_main_quiescent m ρ hB)

end Cert.Proof.Topk

end

end
-- ==== Proof.Arrays.lean ====
/-
  The arrays after the launch.
-/
module

public import proofs.«01_k».proof.Proof.Launch
public import Idealize.ShloMosaic.Lib.Pointwise
public import Idealize.ShloMosaic.Lib.Pipeline.ValueKit

@[expose] public section

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.Rank

/-- The score of key `i` of half `p` of head `hd` for token `t`. -/
def sc (q : FVec Ideal S16384x2048 .bf16) (ky : FVec Ideal S1x8x2x128x128 .f32) (hd : Fin 8) (p : Fin 2) (t : Fin 16384) (i : Fin 128) : EReal :=
  ∑ d : Fin 128, ky (ix5 0 hd p i d) * q (ix2 t ⟨256 * hd.val + 128 * p.val + d.val, by have := hd.isLt; have := p.isLt; have := d.isLt; omega⟩)
theorem sc_real (q : FVec Ideal S16384x2048 .bf16) (ky : FVec Ideal S1x8x2x128x128 .f32) (hq : ∀ j, ∃ r : ℝ, q j = r) (hk : ∀ j, ∃ r : ℝ, ky j = r)
    (hd : Fin 8) (p : Fin 2) (t : Fin 16384) (i : Fin 128) : ∃ r : ℝ, sc q ky hd p t i = r := by
  choose a ha using hk
  choose b hb using hq
  refine ⟨∑ d : Fin 128, a (ix5 0 hd p i d) * b (ix2 t ⟨256 * hd.val + 128 * p.val + d.val, by have := hd.isLt; have := p.isLt; have := d.isLt; omega⟩), ?_⟩
  rw [coe_sum]
  refine Finset.sum_congr rfl fun d _ => ?_
  rw [ha, hb, EReal.coe_mul]

variable (m : (ℓ : Loc nD τ sig) → Buf (Elt Ideal) ℓ) (ρ : Dev nD → PrngReg)
abbrev qA (c : Dev nD) : FVec Ideal S16384x2048 .bf16 := m ((c.tc : Thread nD τ).loc main_arg0)
abbrev kA (c : Dev nD) : FVec Ideal S1x8x2x128x128 .f32 := m ((c.tc : Thread nD τ).loc main_arg1)

/-- Point `t` is the block of tokens `tb t` and the head `hd t`. -/
theorem tb_lt (t : Fin cfg0.N) : (grid0.coords t 0).val < 16 := (grid0.coords t 0).isLt
theorem hd_lt (t : Fin cfg0.N) : (grid0.coords t 1).val < 8 := (grid0.coords t 1).isLt
theorem ix_0 : ∀ t : Fin cfg0.N, win0_0.index t = ![(grid0.coords t 0).val, (grid0.coords t 1).val] := (by decide +kernel : ∀ t : Fin grid0.N, _)
theorem ix_1 : ∀ t : Fin cfg0.N, win0_1.index t = ![(grid0.coords t 1).val, 0, 0, 0] := (by decide +kernel : ∀ t : Fin grid0.N, _)
theorem ix_2 : ∀ t : Fin cfg0.N, win0_2.index t = ![(grid0.coords t 1).val, 0, (grid0.coords t 0).val] := (by decide +kernel : ∀ t : Fin grid0.N, _)
theorem ix_3 : ∀ t : Fin cfg0.N, win0_3.index t = ![(grid0.coords t 1).val, 0, (grid0.coords t 0).val] := (by decide +kernel : ∀ t : Fin grid0.N, _)
theorem ix_4 : ∀ t : Fin cfg0.N, win0_4.index t = ![(grid0.coords t 1).val, 0, (grid0.coords t 0).val] := (by decide +kernel : ∀ t : Fin grid0.N, _)
theorem ix_5 : ∀ t : Fin cfg0.N, win0_5.index t = ![(grid0.coords t 1).val, 0, (grid0.coords t 0).val] := (by decide +kernel : ∀ t : Fin grid0.N, _)

theorem q_blk (c : Dev nD) (t : Fin cfg0.N) (u : Fin 1024) (d : Fin 256) : (iblk m c 0 t : Vec Ideal S1024x256 .bf16) (ix2 u d)
    = qA m c (ix2 ⟨1024 * (grid0.coords t 0).val + u.val, by have := tb_lt t; have := u.isLt; omega⟩ ⟨256 * (grid0.coords t 1).val + d.val, by have := hd_lt t; have := d.isLt; omega⟩) := by
  blk_ext! [iblk, V_main_arg0, ix_0 t]
theorem k_blk (c : Dev nD) (t : Fin cfg0.N) (p : Fin 2) (i d : Fin 128) : (iblk m c 1 t : Vec Ideal S1x2x128x128 .bf16) (ix4 0 p i d)
    = kA m c (ix5 0 ⟨(grid0.coords t 1).val, hd_lt t⟩ p i d) := by
  blk_ext! [iblk, V, ix_1 t]
theorem bs_at (c : Dev nD) (t : Fin cfg0.N) (p : Fin 2) (u : Fin 1024) (i : Fin 128) : bs m c t (ix3 p i u)
    = sc (qA m c) (kA m c) ⟨(grid0.coords t 1).val, hd_lt t⟩ p ⟨1024 * (grid0.coords t 0).val + u.val, by have := tb_lt t; have := u.isLt; omega⟩ i := by
  unfold bs
  rw [SC_at]
  unfold sc
  refine Finset.sum_congr rfl fun d _ => ?_
  rw [k_blk, q_blk]
  congr 3
  exact Fin.ext (by simp only []; omega)

variable (hq : ∀ c : Dev nD, ∀ j, ∃ r : ℝ, qA m c j = r) (hk : ∀ c : Dev nD, ∀ j, ∃ r : ℝ, kA m c j = r)
include hq hk in
theorem bs_real : ∀ (c : Dev nD) (t : Fin cfg0.N) j, ∃ r : ℝ, bs m c t j = r := by
  intro c t j
  obtain ⟨r, hr⟩ := sc_real _ _ (hq c) (hk c) ⟨(grid0.coords t 1).val, hd_lt t⟩ (j 0) ⟨1024 * (grid0.coords t 0).val + (j 2).val, by have := tb_lt t; have : (j 2).val < 1024 := (j 2).isLt; omega⟩ (j 1)
  exact ⟨r, hr ▸ (congrArg (bs m c t) (ix3_eta j).symm).trans (bs_at m c t (j 0) (j 2) (j 1))⟩

theorem cs_bs (c : Dev nD) (t : Fin cfg0.N) (p : Fin 2) (u : Fin 1024) : cs (bs m c t) p u
    = sc (qA m c) (kA m c) ⟨(grid0.coords t 1).val, hd_lt t⟩ p ⟨1024 * (grid0.coords t 0).val + u.val, by have := tb_lt t; have := u.isLt; omega⟩ := by
  funext i
  exact bs_at m c t p u i

/-- The results, of the two arguments. -/
def fE1 (q : FVec Ideal S16384x2048 .bf16) (ky : FVec Ideal S1x8x2x128x128 .f32) : Vec Ideal S8x128x16384 .f32 :=
  fun j => tE1 (sc q ky (j 0) 0 (j 2)) (sc q ky (j 0) 1 (j 2)) (j 1)
def fN1 (q : FVec Ideal S16384x2048 .bf16) (ky : FVec Ideal S1x8x2x128x128 .f32) : Vec Ideal S8x128x16384 .f32 :=
  fun j => tN1 (sc q ky (j 0) 0 (j 2)) (sc q ky (j 0) 1 (j 2)) (j 1)
def fE2 (q : FVec Ideal S16384x2048 .bf16) (ky : FVec Ideal S1x8x2x128x128 .f32) : Vec Ideal S8x128x16384 .f32 :=
  fun j => tE2 (sc q ky (j 0) 1 (j 2)) (j 1)
def fR2 (q : FVec Ideal S16384x2048 .bf16) (ky : FVec Ideal S1x8x2x128x128 .f32) : Vec Ideal S8x128x16384 .f32 :=
  fun j => tR2 (sc q ky (j 0) 1 (j 2)) (j 1)

theorem pt_2 (c : Dev nD) (t : Fin cfg0.N) (i : Fin 128) (u : Fin 1024) : tE1 (cs (bs m c t) 0 u) (cs (bs m c t) 1 u) i
    = fE1 (qA m c) (kA m c) (ix3 (⟨(grid0.coords t 1).val, hd_lt t⟩ : Fin 8) i (⟨1024 * (grid0.coords t 0).val + u.val, by have := tb_lt t; omega⟩ : Fin 16384)) := by
  rw [cs_bs, cs_bs]
  rfl
theorem arr_2 (c : Dev nD) : (dats m 0 c).arrAt 2 cfg0.N = fE1 (qA m c) (kA m c) := by
  refine (dats m 0 c).arrAt_eq_of_covers 2 _ (by decide +kernel) fun t hf y => ?_
  blk_simp
  rw [after0_2]
  have hy0 : (y 0).val < 1 := (y 0).isLt
  have hy1 : (y 1).val < 128 := (y 1).isLt
  have hy2 : (y 2).val < 1024 := (y 2).isLt
  have e0 : ((win0_2.blk t).view.emb y) = ix3 (⟨(grid0.coords t 1).val, hd_lt t⟩ : Fin 8) (y 1 : Fin 128) (⟨1024 * (grid0.coords t 0).val + (y 2).val, by have := tb_lt t; omega⟩ : Fin 16384) := by
    blk_ext! [ix_2 t]
  exact (pt_2 m c t (y 1) (y 2)).trans (congrArg (fun z : S8x128x16384.Idx => fE1 (qA m c) (kA m c) z) e0.symm)

theorem pt_3 (c : Dev nD) (t : Fin cfg0.N) (i : Fin 128) (u : Fin 1024) : tN1 (cs (bs m c t) 0 u) (cs (bs m c t) 1 u) i
    = fN1 (qA m c) (kA m c) (ix3 (⟨(grid0.coords t 1).val, hd_lt t⟩ : Fin 8) i (⟨1024 * (grid0.coords t 0).val + u.val, by have := tb_lt t; omega⟩ : Fin 16384)) := by
  rw [cs_bs, cs_bs]
  rfl
theorem arr_3 (c : Dev nD) : (dats m 0 c).arrAt 3 cfg0.N = fN1 (qA m c) (kA m c) := by
  refine (dats m 0 c).arrAt_eq_of_covers 3 _ (by decide +kernel) fun t hf y => ?_
  blk_simp
  rw [after0_3]
  have hy0 : (y 0).val < 1 := (y 0).isLt
  have hy1 : (y 1).val < 128 := (y 1).isLt
  have hy2 : (y 2).val < 1024 := (y 2).isLt
  have e0 : ((win0_3.blk t).view.emb y) = ix3 (⟨(grid0.coords t 1).val, hd_lt t⟩ : Fin 8) (y 1 : Fin 128) (⟨1024 * (grid0.coords t 0).val + (y 2).val, by have := tb_lt t; omega⟩ : Fin 16384) := by
    blk_ext! [ix_3 t]
  exact (pt_3 m c t (y 1) (y 2)).trans (congrArg (fun z : S8x128x16384.Idx => fN1 (qA m c) (kA m c) z) e0.symm)

theorem pt_4 (c : Dev nD) (t : Fin cfg0.N) (i : Fin 128) (u : Fin 1024) : tE2 (cs (bs m c t) 1 u) i
    = fE2 (qA m c) (kA m c) (ix3 (⟨(grid0.coords t 1).val, hd_lt t⟩ : Fin 8) i (⟨1024 * (grid0.coords t 0).val + u.val, by have := tb_lt t; omega⟩ : Fin 16384)) := by
  rw [cs_bs]
  rfl
theorem arr_4 (c : Dev nD) : (dats m 0 c).arrAt 4 cfg0.N = fE2 (qA m c) (kA m c) := by
  refine (dats m 0 c).arrAt_eq_of_covers 4 _ (by decide +kernel) fun t hf y => ?_
  blk_simp
  rw [after0_4]
  have hy0 : (y 0).val < 1 := (y 0).isLt
  have hy1 : (y 1).val < 128 := (y 1).isLt
  have hy2 : (y 2).val < 1024 := (y 2).isLt
  have e0 : ((win0_4.blk t).view.emb y) = ix3 (⟨(grid0.coords t 1).val, hd_lt t⟩ : Fin 8) (y 1 : Fin 128) (⟨1024 * (grid0.coords t 0).val + (y 2).val, by have := tb_lt t; omega⟩ : Fin 16384) := by
    blk_ext! [ix_4 t]
  exact (pt_4 m c t (y 1) (y 2)).trans (congrArg (fun z : S8x128x16384.Idx => fE2 (qA m c) (kA m c) z) e0.symm)

theorem pt_5 (c : Dev nD) (t : Fin cfg0.N) (i : Fin 128) (u : Fin 1024) : tR2 (cs (bs m c t) 1 u) i
    = fR2 (qA m c) (kA m c) (ix3 (⟨(grid0.coords t 1).val, hd_lt t⟩ : Fin 8) i (⟨1024 * (grid0.coords t 0).val + u.val, by have := tb_lt t; omega⟩ : Fin 16384)) := by
  rw [cs_bs]
  rfl
theorem arr_5 (c : Dev nD) : (dats m 0 c).arrAt 5 cfg0.N = fR2 (qA m c) (kA m c) := by
  refine (dats m 0 c).arrAt_eq_of_covers 5 _ (by decide +kernel) fun t hf y => ?_
  blk_simp
  rw [after0_5]
  have hy0 : (y 0).val < 1 := (y 0).isLt
  have hy1 : (y 1).val < 128 := (y 1).isLt
  have hy2 : (y 2).val < 1024 := (y 2).isLt
  have e0 : ((win0_5.blk t).view.emb y) = ix3 (⟨(grid0.coords t 1).val, hd_lt t⟩ : Fin 8) (y 1 : Fin 128) (⟨1024 * (grid0.coords t 0).val + (y 2).val, by have := tb_lt t; omega⟩ : Fin 16384) := by
    blk_ext! [ix_5 t]
  exact (pt_5 m c t (y 1) (y 2)).trans (congrArg (fun z : S8x128x16384.Idx => fR2 (qA m c) (kA m c) z) e0.symm)

end Cert.Proof.Topk

end

end
-- ==== Proof.Ref.lean ====
/-
  The reference: its scores, and its two top-k.
-/
module

public import proofs.«01_k».proof.Proof.Sort
public import proofs.«01_k».proof.Proof.Arrays
public import proofs.«01_k».proof.Proof.Gen.ReferenceIdeal
public import Idealize.ShloMosaic.Lib.Pointwise

@[expose] public section

set_option maxRecDepth 16384

noncomputable section

namespace Cert.Proof.RefVal

open Cert.ReferenceIdeal Cert.ReferenceIdeal.Gen
open Idealize.ShloMosaic Idealize.ShloMosaic.Tactic
open Cert.Proof.Rank
variable {n : ℕ}
open Cert.Proof.Topk (sc tE1 tN1 tE2 tR2 fE1 fN1 fE2 fR2)

/-- The scores, token by token. -/
def Xs (q : FVec Ideal S16384x2048 .bf16) (ky : FVec Ideal S1x8x2x128x128 .f32) : FVec Ideal S16384x8x2x128 .f32 :=
  transpose S16384x8x2x128 [3, 0, 1, 2] (Host.dotGeneral dot_S8x2x128x128_S16384x8x2x128_S8x2x128x16384_3_3_2_0_01_12 none (extf .f32 (truncf .bf16 (shapeCast _ ky shapeCasts_S1x8x2x128x128_S8x2x128x128) bitsLt_bf16_f32) bitsLt_bf16_f32) (shapeCast _ (extf .f32 q bitsLt_bf16_f32) shapeCasts_S16384x2048_S16384x8x2x128)) transposes_S8x2x128x16384_S16384x8x2x128_3_0_1_2

theorem Xs_at (q : FVec Ideal S16384x2048 .bf16) (ky : FVec Ideal S1x8x2x128x128 .f32) (t : Fin 16384) (h : Fin 8) (p : Fin 2) (k : Fin 128) :
    Xs q ky (ix4 t h p k) = sc q ky h p t k := by
  unfold Xs sc
  pointwise
  refine Finset.sum_congr rfl fun d _ => ?_
  congr 3
  exact Fin.ext (by simp only []; omega)

theorem gt_eq (a b : EReal) : (FloatOps.cmpfTotal (F := Ideal) (φ := .f32) .gt a b == 1#1) = decide (b < a) := by
  rw [Ideal.cmpfTotal_def]
  by_cases h : b < a <;> simp [Ideal.cmp, CmpDirection.ordered, h]

theorem src_of (f : Fin n → EReal) (k : Fin n) (B : Fin n → Fin n → Bool) (hB : ∀ a b, B a b = decide (f b < f a)) : sortedFrom B k = src f k := by
  have : B = fun a b => decide (f b < f a) := by funext a b; exact hB a b
  subst this
  unfold src
  congr

abbrev ax1 : Fin S16384x8x2x128.rank := ⟨3, by decide⟩
abbrev ax2 : Fin S16384x8x256.rank := ⟨2, by decide⟩
theorem along4 (t : Fin 16384) (h : Fin 8) (p : Fin 2) (r k : Fin 128) :
    Shape.Idx.along (s := S16384x8x2x128) (ix4 t h p r) ax1 k = ix4 t h p k := by
  funext a
  fin_cases a <;> rfl
theorem along3 (t : Fin 16384) (h : Fin 8) (r k : Fin 256) :
    Shape.Idx.along (s := S16384x8x256) (ix3 t h r) ax2 k = ix3 t h k := by
  funext a
  fin_cases a <;> rfl

theorem slice4 {α : Type} (x : S16384x8x2x128.Idx → α) (t : Fin 16384) (h : Fin 8) (p : Fin 2) (r : Fin 16) :
    extractStridedSlice S16384x8x2x16 (fun _ => 0) x sliceFits_S16384x8x2x128_S16384x8x2x16 (ix4 t h p r) = x (ix4 t h p ⟨r.val, by omega⟩) := by
  unfold extractStridedSlice
  refine congrArg x (funext fun a => Fin.ext ?_)
  fin_cases a <;> exact Nat.zero_add _
theorem slice3 {α : Type} (x : S16384x8x256.Idx → α) (t : Fin 16384) (h : Fin 8) (r : Fin 16) :
    extractStridedSlice S16384x8x16 (fun _ => 0) x sliceFits_S16384x8x256_S16384x8x16 (ix3 t h r) = x (ix3 t h ⟨r.val, by omega⟩) := by
  unfold extractStridedSlice
  refine congrArg x (funext fun a => Fin.ext ?_)
  fin_cases a <;> exact Nat.zero_add _

/-- The element 1 picks. -/
abbrev at1 (X : FVec Ideal S16384x8x2x128 .f32) (t : Fin 16384) (h : Fin 8) (p : Fin 2) (r : Fin 16) : Fin 128 := src (fun k : Fin 128 => X (ix4 t h p k)) ⟨r.val, by omega⟩
def iot1 : IVec S16384x8x2x128 32 := fun i => if hd : 3 < S16384x8x2x128.rank then iotaInDim S16384x8x2x128 32 ⟨3, hd⟩ i else 0#32
theorem iot1_at (t : Fin 16384) (h : Fin 8) (p : Fin 2) (k : Fin 128) : iot1 (ix4 t h p k) = BitVec.ofNat 32 k.val := by
  unfold iot1
  rw [dif_pos (by decide : 3 < S16384x8x2x128.rank)]
  rfl
theorem pos1 (X : FVec Ideal S16384x8x2x128 .f32) (y : IVec S16384x8x2x128 32) (t : Fin 16384) (h : Fin 8) (p : Fin 2) (r : Fin 128) :
    sortedFrom (fun k k' : Fin 128 => (fun l r : EReal × BitVec 32 => FloatOps.cmpfTotal (F := Ideal) (φ := .f32) .gt l.1 r.1) (X (Shape.Idx.along (s := S16384x8x2x128) (ix4 t h p r) ax1 k), y (Shape.Idx.along (s := S16384x8x2x128) (ix4 t h p r) ax1 k)) (X (Shape.Idx.along (s := S16384x8x2x128) (ix4 t h p r) ax1 k'), y (Shape.Idx.along (s := S16384x8x2x128) (ix4 t h p r) ax1 k')) == 1#1) r
    = src (fun k : Fin 128 => X (ix4 t h p k)) r := by
  refine src_of _ _ _ fun a b => ?_
  rw [along4 t h p r a, along4 t h p r b]
  exact gt_eq _ _
theorem val1 (X : FVec Ideal S16384x8x2x128 .f32) (t : Fin 16384) (h : Fin 8) (p : Fin 2) (r : Fin 16) :
    (Host.topK S16384x8x2x16 3 (FloatOps.cmpfTotal (F := Ideal) (φ := .f32) .gt) X sliceFits_S16384x8x2x128_S16384x8x2x16).1 (ix4 t h p r) = srt (fun k : Fin 128 => X (ix4 t h p k)) r.val := by
  rw [← f_src (fun k : Fin 128 => X (ix4 t h p k)) ⟨r.val, by omega⟩]
  unfold Host.topK
  dsimp only
  refine (slice4 _ _ _ p r).trans ?_
  unfold Host.sort2
  rw [dif_pos (by decide : 3 < S16384x8x2x128.rank)]
  refine (congrArg (fun z => X (Shape.Idx.along (s := S16384x8x2x128) (ix4 t h p ⟨r.val, by omega⟩) ax1 z)) (pos1 X iot1 t h p ⟨r.val, by omega⟩)).trans ?_
  exact congrArg X (along4 t h p _ _)
theorem idx1 (X : FVec Ideal S16384x8x2x128 .f32) (t : Fin 16384) (h : Fin 8) (p : Fin 2) (r : Fin 16) :
    (Host.topK S16384x8x2x16 3 (FloatOps.cmpfTotal (F := Ideal) (φ := .f32) .gt) X sliceFits_S16384x8x2x128_S16384x8x2x16).2 (ix4 t h p r) = BitVec.ofNat 32 (src (fun k : Fin 128 => X (ix4 t h p k)) ⟨r.val, by omega⟩).val := by
  unfold Host.topK
  dsimp only
  refine (slice4 _ _ _ p r).trans ?_
  unfold Host.sort2
  rw [dif_pos (by decide : 3 < S16384x8x2x128.rank)]
  refine (congrArg (fun z => iot1 (Shape.Idx.along (s := S16384x8x2x128) (ix4 t h p ⟨r.val, by omega⟩) ax1 z)) (pos1 X iot1 t h p ⟨r.val, by omega⟩)).trans ?_
  exact (congrArg iot1 (along4 t h p _ _)).trans (iot1_at t h p _)

/-- The element 2 picks. -/
abbrev at2 (X : FVec Ideal S16384x8x256 .f32) (t : Fin 16384) (h : Fin 8) (r : Fin 16) : Fin 256 := src (fun k : Fin 256 => X (ix3 t h k)) ⟨r.val, by omega⟩
def iot2 : IVec S16384x8x256 32 := fun i => if hd : 2 < S16384x8x256.rank then iotaInDim S16384x8x256 32 ⟨2, hd⟩ i else 0#32
theorem iot2_at (t : Fin 16384) (h : Fin 8) (k : Fin 256) : iot2 (ix3 t h k) = BitVec.ofNat 32 k.val := by
  unfold iot2
  rw [dif_pos (by decide : 2 < S16384x8x256.rank)]
  rfl
theorem pos2 (X : FVec Ideal S16384x8x256 .f32) (y : IVec S16384x8x256 32) (t : Fin 16384) (h : Fin 8) (r : Fin 256) :
    sortedFrom (fun k k' : Fin 256 => (fun l r : EReal × BitVec 32 => FloatOps.cmpfTotal (F := Ideal) (φ := .f32) .gt l.1 r.1) (X (Shape.Idx.along (s := S16384x8x256) (ix3 t h r) ax2 k), y (Shape.Idx.along (s := S16384x8x256) (ix3 t h r) ax2 k)) (X (Shape.Idx.along (s := S16384x8x256) (ix3 t h r) ax2 k'), y (Shape.Idx.along (s := S16384x8x256) (ix3 t h r) ax2 k')) == 1#1) r
    = src (fun k : Fin 256 => X (ix3 t h k)) r := by
  refine src_of _ _ _ fun a b => ?_
  rw [along3 t h r a, along3 t h r b]
  exact gt_eq _ _
theorem val2 (X : FVec Ideal S16384x8x256 .f32) (t : Fin 16384) (h : Fin 8) (r : Fin 16) :
    (Host.topK S16384x8x16 2 (FloatOps.cmpfTotal (F := Ideal) (φ := .f32) .gt) X sliceFits_S16384x8x256_S16384x8x16).1 (ix3 t h r) = srt (fun k : Fin 256 => X (ix3 t h k)) r.val := by
  rw [← f_src (fun k : Fin 256 => X (ix3 t h k)) ⟨r.val, by omega⟩]
  unfold Host.topK
  dsimp only
  refine (slice3 _ _ _ r).trans ?_
  unfold Host.sort2
  rw [dif_pos (by decide : 2 < S16384x8x256.rank)]
  refine (congrArg (fun z => X (Shape.Idx.along (s := S16384x8x256) (ix3 t h ⟨r.val, by omega⟩) ax2 z)) (pos2 X iot2 t h  ⟨r.val, by omega⟩)).trans ?_
  exact congrArg X (along3 t h _ _)
theorem idx2 (X : FVec Ideal S16384x8x256 .f32) (t : Fin 16384) (h : Fin 8) (r : Fin 16) :
    (Host.topK S16384x8x16 2 (FloatOps.cmpfTotal (F := Ideal) (φ := .f32) .gt) X sliceFits_S16384x8x256_S16384x8x16).2 (ix3 t h r) = BitVec.ofNat 32 (src (fun k : Fin 256 => X (ix3 t h k)) ⟨r.val, by omega⟩).val := by
  unfold Host.topK
  dsimp only
  refine (slice3 _ _ _ r).trans ?_
  unfold Host.sort2
  rw [dif_pos (by decide : 2 < S16384x8x256.rank)]
  refine (congrArg (fun z => iot2 (Shape.Idx.along (s := S16384x8x256) (ix3 t h ⟨r.val, by omega⟩) ax2 z)) (pos2 X iot2 t h  ⟨r.val, by omega⟩)).trans ?_
  exact (congrArg iot2 (along3 t h _ _)).trans (iot2_at t h  _)

end Cert.Proof.RefVal

end

end
-- ==== Proof.RefOut.lean ====
/-
  The reference, read at an index: its scores, its ranks and its four results.
-/
module

public import proofs.«01_k».proof.Proof.Ref
public import proofs.«01_k».proof.Proof.Arrays
public import proofs.«01_k».proof.Proof.Gen.ReferenceIdeal
public import Idealize.ShloMosaic.Lib.Pointwise

@[expose] public section

set_option maxRecDepth 16384

noncomputable section

namespace Cert.Proof.RefVal

open Cert.ReferenceIdeal Cert.ReferenceIdeal.Gen
open Idealize.ShloMosaic Idealize.ShloMosaic.Tactic
open Cert.Proof.Rank
open Cert.Proof.Topk (sc tE1 tN1 tE2 tR2 fE1 fN1 fE2 fR2)
def V1 (q : FVec Ideal S16384x2048 .bf16) (ky : FVec Ideal S1x8x2x128x128 .f32) : FVec Ideal S16384x8x2x16 .f32 :=
  (Host.topK S16384x8x2x16 3 (FloatOps.cmpfTotal .gt) (Xs q ky) sliceFits_S16384x8x2x128_S16384x8x2x16).1
def I1 (q : FVec Ideal S16384x2048 .bf16) (ky : FVec Ideal S1x8x2x128x128 .f32) : IVec S16384x8x2x16 32 :=
  (Host.topK S16384x8x2x16 3 (FloatOps.cmpfTotal .gt) (Xs q ky) sliceFits_S16384x8x2x128_S16384x8x2x16).2
def Cs (q : FVec Ideal S16384x2048 .bf16) (ky : FVec Ideal S1x8x2x128x128 .f32) : FVec Ideal S16384x8x256 .f32 :=
  shapeCast _ (addf (broadcastInDim S16384x8x16x16 ![0, 1, 2, 3] bcast_S16384x8x16x1_S16384x8x16x16_0_1_2_3 (broadcastInDim S16384x8x16x1 ![0, 1, 2] bcast_S16384x8x16_S16384x8x16x1_0_1_2 (shapeCast _ (extractStridedSlice S16384x8x1x16 ![0, 0, 0, 0] (V1 q ky) slices_S16384x8x2x16_S16384x8x1x16_0_0_0_0) shapeCasts_S16384x8x1x16_S16384x8x16))) (broadcastInDim S16384x8x16x16 ![0, 1, 2, 3] bcast_S16384x8x1x16_S16384x8x16x16_0_1_2_3 (broadcastInDim S16384x8x1x16 ![0, 1, 3] bcast_S16384x8x16_S16384x8x1x16_0_1_3 (shapeCast _ (extractStridedSlice S16384x8x1x16 ![0, 0, 1, 0] (V1 q ky) slices_S16384x8x2x16_S16384x8x1x16_0_0_1_0) shapeCasts_S16384x8x1x16_S16384x8x16)))) shapeCasts_S16384x8x16x16_S16384x8x256
def V2 (q : FVec Ideal S16384x2048 .bf16) (ky : FVec Ideal S1x8x2x128x128 .f32) : FVec Ideal S16384x8x16 .f32 :=
  (Host.topK S16384x8x16 2 (FloatOps.cmpfTotal .gt) (Cs q ky) sliceFits_S16384x8x256_S16384x8x16).1
def I2 (q : FVec Ideal S16384x2048 .bf16) (ky : FVec Ideal S1x8x2x128x128 .f32) : IVec S16384x8x16 32 :=
  (Host.topK S16384x8x16 2 (FloatOps.cmpfTotal .gt) (Cs q ky) sliceFits_S16384x8x256_S16384x8x16).2
def Pr (q : FVec Ideal S16384x2048 .bf16) (ky : FVec Ideal S1x8x2x128x128 .f32) : FVec Ideal S16384x8x16 .f32 :=
  Host.reduceAdd (uitofp .f32 (cmpi .eq (broadcastInDim S16384x8x16x16 ![0, 1, 2, 3] bcast_S16384x8x16x1_S16384x8x16x16_0_1_2_3 (broadcastInDim S16384x8x16x1 ![0, 1, 2] bcast_S16384x8x16_S16384x8x16x1_0_1_2 (Host.divsi (I2 q ky) (broadcastInDim S16384x8x16 ![] bcast_S_S16384x8x16 (constantI S_ 32 16#32))))) (broadcastInDim S16384x8x16x16 ![0, 1, 2, 3] bcast_S1x1x1x16_S16384x8x16x16_0_1_2_3 (broadcastInDim S1x1x1x16 ![3] bcast_S16_S1x1x1x16_3 (iotaInDim S16 32 0))))) (constant S_ .f32 0x00000000#32) reducesTo_S16384x8x16x16_S16384x8x16_d2 h_S_
def o71 (q : FVec Ideal S16384x2048 .bf16) (ky : FVec Ideal S1x8x2x128x128 .f32) : FVec Ideal S8x128x16384 .f32 :=
  transpose S8x128x16384 [1, 2, 0] (Host.divf (Host.exp (subf (shapeCast _ (extractStridedSlice S16384x8x1x128 ![0, 0, 0, 0] (Xs q ky) slices_S16384x8x2x128_S16384x8x1x128_0_0_0_0) shapeCasts_S16384x8x1x128_S16384x8x128) (broadcastInDim S16384x8x128 ![0, 1, 2] bcast_S16384x8x1_S16384x8x128_0_1_2 (shapeCast _ (extractStridedSlice S16384x8x1x1 ![0, 0, 0, 0] (V1 q ky) slices_S16384x8x2x16_S16384x8x1x1_0_0_0_0) shapeCasts_S16384x8x1x1_S16384x8x1)))) (broadcastInDim S16384x8x128 ![0, 1, 2] bcast_S16384x8x1_S16384x8x128_0_1_2 (broadcastInDim S16384x8x1 ![0, 1] bcast_S16384x8_S16384x8x1_0_1 (Host.reduceAdd (Host.exp (subf (V2 q ky) (broadcastInDim S16384x8x16 ![0, 1, 2] bcast_S16384x8x1_S16384x8x16_0_1_2 (extractStridedSlice S16384x8x1 ![0, 0, 0] (V2 q ky) slices_S16384x8x16_S16384x8x1_0_0_0)))) (constant S_ .f32 0x00000000#32) reducesTo_S16384x8x16_S16384x8_d2 h_S_)))) transposes_S16384x8x128_S8x128x16384_1_2_0
def o72 (q : FVec Ideal S16384x2048 .bf16) (ky : FVec Ideal S1x8x2x128x128 .f32) : FVec Ideal S8x128x16384 .f32 :=
  transpose S8x128x16384 [1, 2, 0] (Host.reduceAdd (select (cmpi .eq (broadcastInDim S16384x8x16x128 ![0, 1, 2, 3] bcast_S16384x8x16x1_S16384x8x16x128_0_1_2_3 (broadcastInDim S16384x8x16x1 ![0, 1, 2] bcast_S16384x8x16_S16384x8x16x1_0_1_2 (shapeCast _ (extractStridedSlice S16384x8x1x16 ![0, 0, 0, 0] (I1 q ky) slices_S16384x8x2x16_S16384x8x1x16_0_0_0_0) shapeCasts_S16384x8x1x16_S16384x8x16))) (broadcastInDim S16384x8x16x128 ![0, 1, 2, 3] bcast_S1x1x1x128_S16384x8x16x128_0_1_2_3 (broadcastInDim S1x1x1x128 ![3] bcast_S128_S1x1x1x128_3 (iotaInDim S128 32 0)))) (broadcastInDim S16384x8x16x128 ![0, 1, 2, 3] bcast_S16384x8x16x1_S16384x8x16x128_0_1_2_3 (broadcastInDim S16384x8x16x1 ![0, 1, 2] bcast_S16384x8x16_S16384x8x16x1_0_1_2 (Pr q ky))) (broadcastInDim S16384x8x16x128 ![] bcast_S_S16384x8x16x128 (id (constant S_ .f32 0x00000000#32)))) (constant S_ .f32 0x00000000#32) reducesTo_S16384x8x16x128_S16384x8x128_d2 h_S_) transposes_S16384x8x128_S8x128x16384_1_2_0
def o74 (q : FVec Ideal S16384x2048 .bf16) (ky : FVec Ideal S1x8x2x128x128 .f32) : FVec Ideal S8x128x16384 .bf16 :=
  truncf .bf16 (transpose S8x128x16384 [1, 2, 0] (Host.exp (subf (shapeCast _ (extractStridedSlice S16384x8x1x128 ![0, 0, 1, 0] (Xs q ky) slices_S16384x8x2x128_S16384x8x1x128_0_0_1_0) shapeCasts_S16384x8x1x128_S16384x8x128) (broadcastInDim S16384x8x128 ![0, 1, 2] bcast_S16384x8x1_S16384x8x128_0_1_2 (shapeCast _ (extractStridedSlice S16384x8x1x1 ![0, 0, 1, 0] (V1 q ky) slices_S16384x8x2x16_S16384x8x1x1_0_0_1_0) shapeCasts_S16384x8x1x1_S16384x8x1)))) transposes_S16384x8x128_S8x128x16384_1_2_0) bitsLt_bf16_f32
def o76 (q : FVec Ideal S16384x2048 .bf16) (ky : FVec Ideal S1x8x2x128x128 .f32) : FVec Ideal S8x128x16384 .bf16 :=
  truncf .bf16 (transpose S8x128x16384 [1, 2, 0] (Host.reduce FloatOps.minimumf (select (cmpi .eq (broadcastInDim S16384x8x16x128 ![0, 1, 2, 3] bcast_S16384x8x16x1_S16384x8x16x128_0_1_2_3 (broadcastInDim S16384x8x16x1 ![0, 1, 2] bcast_S16384x8x16_S16384x8x16x1_0_1_2 (shapeCast _ (extractStridedSlice S16384x8x1x16 ![0, 0, 1, 0] (I1 q ky) slices_S16384x8x2x16_S16384x8x1x16_0_0_1_0) shapeCasts_S16384x8x1x16_S16384x8x16))) (broadcastInDim S16384x8x16x128 ![0, 1, 2, 3] bcast_S1x1x1x128_S16384x8x16x128_0_1_2_3 (broadcastInDim S1x1x1x128 ![3] bcast_S128_S1x1x1x128_3 (iotaInDim S128 32 0)))) (broadcastInDim S16384x8x16x128 ![2, 3] bcast_S16x1_S16384x8x16x128_2_3 (sitofp .f32 (broadcastInDim S16x1 ![0] bcast_S16_S16x1_0 (iotaInDim S16 32 0)))) (broadcastInDim S16384x8x16x128 ![] bcast_S_S16384x8x16x128 (id (constant S_ .f32 0x42C60000#32)))) (constant S_ .f32 0x7F800000#32) reducesTo_S16384x8x16x128_S16384x8x128_d2 h_S_) transposes_S16384x8x128_S8x128x16384_1_2_0) bitsLt_bf16_f32

variable (q : FVec Ideal S16384x2048 .bf16) (ky : FVec Ideal S1x8x2x128x128 .f32)
theorem V1_at (t : Fin 16384) (h : Fin 8) (p : Fin 2) (r : Fin 16) : V1 q ky (ix4 t h p r) = srt (sc q ky h p t) r.val := by
  unfold V1
  rw [val1]
  refine congrArg (fun f => srt f r.val) (funext fun k => Xs_at q ky t h p k)
theorem I1_at (t : Fin 16384) (h : Fin 8) (p : Fin 2) (r : Fin 16) : I1 q ky (ix4 t h p r) = BitVec.ofNat 32 (src (sc q ky h p t) ⟨r.val, by omega⟩).val := by
  unfold I1
  rw [idx1]
  refine congrArg (fun f => BitVec.ofNat 32 (src f ⟨r.val, by omega⟩ : Fin 128).val) (funext fun k => Xs_at q ky t h p k)
/-- The sums of pairs, of one token and one head. -/
abbrev cc (h : Fin 8) (t : Fin 16384) : Fin 256 → EReal := C256 (srt (sc q ky h 0 t)) (srt (sc q ky h 1 t))
theorem Cs_at (t : Fin 16384) (h : Fin 8) (k : Fin 256) : Cs q ky (ix3 t h k) = cc q ky h t k := by
  unfold Cs
  pointwise
  rw [V1_at, V1_at]
  rfl
theorem V2_at (t : Fin 16384) (h : Fin 8) (r : Fin 16) : V2 q ky (ix3 t h r) = srt (cc q ky h t) r.val := by
  unfold V2
  rw [val2]
  refine congrArg (fun f => srt f r.val) (funext fun k => Cs_at q ky t h k)
theorem I2_at (t : Fin 16384) (h : Fin 8) (r : Fin 16) : I2 q ky (ix3 t h r) = BitVec.ofNat 32 (src (cc q ky h t) ⟨r.val, by omega⟩).val := by
  unfold I2
  rw [idx2]
  refine congrArg (fun f => BitVec.ofNat 32 (src f ⟨r.val, by omega⟩ : Fin 256).val) (funext fun k => Cs_at q ky t h k)
theorem sel_eq (a b : ℕ) (ha : a < 256) (hb : b < 256) (u v : EReal) : Scalar.select (IntOp.cmpi .eq (BitVec.ofNat 32 a) (BitVec.ofNat 32 b)) u v = if a = b then u else v := by
  have h : (BitVec.ofNat 32 a = BitVec.ofNat 32 b) ↔ a = b := by
    rw [← BitVec.toNat_inj, BitVec.toNat_ofNat, BitVec.toNat_ofNat]
    omega
  unfold Scalar.select IntOp.cmpi
  by_cases e : a = b
  · simp [e]
  · have h2 : (BitVec.ofNat 32 a == BitVec.ofNat 32 b) = false := beq_false_of_ne fun q => e (h.1 q)
    simp [e, h2]
theorem uit_eq (a b : ℕ) (ha : a < 256) (hb : b < 256) : (FloatOps.uitofp (F := Ideal) .f32 (IntOp.cmpi .eq (BitVec.ofNat 32 a) (BitVec.ofNat 32 b)) : EReal) = if a = b then 1 else 0 := by
  have h : (BitVec.ofNat 32 a = BitVec.ofNat 32 b) ↔ a = b := by
    rw [← BitVec.toNat_inj, BitVec.toNat_ofNat, BitVec.toNat_ofNat]
    omega
  show (((IntOp.cmpi .eq (BitVec.ofNat 32 a) (BitVec.ofNat 32 b)).toNat : ℝ) : EReal) = _
  unfold IntOp.cmpi
  by_cases e : a = b <;> simp [e, h]
theorem div16 : ∀ k : Fin 256, IntOp.divsi ArithUnit.host (BitVec.ofNat 32 k.val) 16#32 = BitVec.ofNat 32 (k.val / 16) := by decide +kernel

/-- A sum over the first places is one over the elements ranked there. -/
theorem sum_src {n m : ℕ} (hm : m ≤ n) (f : Fin n → EReal) (g : Fin n → EReal) :
    ∑ x : Fin m, g (src f ⟨x.val, by omega⟩) = ∑ p : Fin n, if rk f p < m then g p else 0 := by
  rw [← Finset.sum_filter]
  refine Finset.sum_bij (fun x _ => src f ⟨x.val, by omega⟩) (fun x _ => ?_) (fun x _ y _ e => ?_) (fun p hp => ?_) (fun x _ => rfl)
  · rw [Finset.mem_filter, rk_src]
    exact ⟨Finset.mem_univ _, x.isLt⟩
  · have := congrArg (rk f) e
    rw [rk_src, rk_src] at this
    exact Fin.ext this
  · rw [Finset.mem_filter] at hp
    exact ⟨⟨rk f p, hp.2⟩, Finset.mem_univ _, src_rk f p⟩
theorem Pr_at (t : Fin 16384) (h : Fin 8) (a : Fin 16) : Pr q ky (ix3 t h a) = ∑ p : Fin 256, if rk (cc q ky h t) p < 16 then (if p.val / 16 = a.val then (1 : EReal) else 0) else 0 := by
  unfold Pr
  pointwise
  simp only [I2_at, div16]
  rw [← sum_src (by decide) (cc q ky h t) fun p => if p.val / 16 = a.val then (1 : EReal) else 0]
  exact Finset.sum_congr rfl fun x _ => uit_eq _ _ (by have := (src (cc q ky h t) ⟨x.val, by omega⟩).isLt; omega) (by omega)
theorem o71_at (h : Fin 8) (i : Fin 128) (t : Fin 16384) : o71 q ky (ix3 h i t) = tE1 (sc q ky h 0 t) (sc q ky h 1 t) i := by
  unfold o71
  pointwise
  simp only [V2_at, V1_at, Xs_at]
  rfl
theorem o72_at (h : Fin 8) (i : Fin 128) (t : Fin 16384) : o72 q ky (ix3 h i t) = tN1 (sc q ky h 0 t) (sc q ky h 1 t) i := by
  classical
  unfold o72
  pointwise
  simp only [I1_at, id]
  pointwise
  have e : ∀ x : Fin 16, Scalar.select (IntOp.cmpi .eq (BitVec.ofNat 32 (src (sc q ky h 0 t) ⟨x.val, by omega⟩).val) (BitVec.ofNat 32 i.val)) (Pr q ky (ix3 t h x)) (0 : EReal)
      = if rk (sc q ky h 0 t) i = x.val then Pr q ky (ix3 t h x) else 0 := by
    intro x
    rw [sel_eq _ _ (by have := (src (sc q ky h 0 t) ⟨x.val, by omega⟩).isLt; omega) (by omega)]
    exact if_congr (by rw [← Fin.ext_iff, src_eq]) rfl rfl
  rw [Finset.sum_congr rfl fun x _ => e x]
  unfold tN1
  by_cases hr : rk (sc q ky h 0 t) i < 16
  · rw [if_pos hr, Finset.sum_eq_single (⟨rk (sc q ky h 0 t) i, hr⟩ : Fin 16), if_pos rfl, Pr_at]
    · refine Finset.sum_congr rfl fun p _ => ?_
      by_cases h1 : rk (cc q ky h t) p < 16 <;> by_cases h2 : p.val / 16 = rk (sc q ky h 0 t) i <;> simp [h1, h2]
    · intro x _ hx
      rw [if_neg fun e => hx (Fin.ext e.symm)]
    · intro hx
      exact absurd (Finset.mem_univ _) hx
  · rw [if_neg hr]
    refine Finset.sum_eq_zero fun x _ => ?_
    rw [if_neg (by omega)]
theorem o74_at (h : Fin 8) (i : Fin 128) (t : Fin 16384) : o74 q ky (ix3 h i t) = tE2 (sc q ky h 1 t) i := by
  unfold o74
  pointwise
  simp only [V1_at, Xs_at]
  rfl
theorem o76_at (h : Fin 8) (i : Fin 128) (t : Fin 16384) : o76 q ky (ix3 h i t) = tR2 (sc q ky h 1 t) i := by
  classical
  unfold o76
  pointwise
  simp only [I1_at, id]
  pointwise
  have e : ∀ x : Fin 16, Scalar.select (IntOp.cmpi .eq (BitVec.ofNat 32 (src (sc q ky h 1 t) ⟨x.val, by omega⟩).val) (BitVec.ofNat 32 i.val)) (FloatOps.sitofp (F := Ideal) .f32 (BitVec.ofNat 32 x.val)) (Ideal.ofBits .f32 1120272384#32)
      = if rk (sc q ky h 1 t) i = x.val then ((x.val : ℝ) : EReal) else ((99 : ℝ) : EReal) := by
    intro x
    rw [sel_eq _ _ (by have := (src (sc q ky h 1 t) ⟨x.val, by omega⟩).isLt; omega) (by omega), Cert.Proof.Topk.ofBits_99, Cert.Proof.Topk.sitofp_ofNat _ (by omega)]
    exact if_congr (by rw [← Fin.ext_iff, src_eq]) rfl rfl
  simp only [e, Cert.Proof.Topk.ofBits_pinf]
  unfold tR2
  refine le_antisymm ?_ ?_
  · rw [Finset.fold_min_le]
    by_cases hr : rk (sc q ky h 1 t) i < 16
    · refine Or.inr ⟨⟨rk (sc q ky h 1 t) i, hr⟩, Finset.mem_univ _, ?_⟩
      rw [if_pos rfl, if_pos hr]
    · refine Or.inr ⟨0, Finset.mem_univ _, ?_⟩
      rw [if_neg (by simp only [Fin.val_zero]; omega), if_neg hr]
  · rw [Finset.le_fold_min]
    refine ⟨le_top, fun x _ => ?_⟩
    by_cases hx : rk (sc q ky h 1 t) i = x.val
    · rw [if_pos hx, if_pos (by omega), hx]
    · rw [if_neg hx]
      by_cases hr : rk (sc q ky h 1 t) i < 16
      · rw [if_pos hr, EReal.coe_le_coe_iff]
        have : rk (sc q ky h 1 t) i ≤ 99 := by omega
        exact_mod_cast this
      · rw [if_neg hr]

end Cert.Proof.RefVal

end

end
-- ==== Proof.Final.lean ====
/-
  The value claim: on finite inputs the kernel and the reference end with the same four arrays.
-/
module

public import proofs.«01_k».proof.Defs
public import proofs.«01_k».proof.Proof.RefOut
public import proofs.«01_k».proof.Proof.Gen.Kernel
public import proofs.«01_k».proof.Proof.Gen.ReferenceIdeal.Run
public import proofs.«01_k».proof.Proof.Gen.Pre_finite_inputs
public import Idealize.ShloMosaic.Lib.Claim
public import Idealize.ShloMosaic.Lib.ReduceAll

@[expose] public section

set_option maxRecDepth 16384

noncomputable section

namespace Cert.Proof.Final

open Idealize.ShloMosaic Idealize.ShloMosaic.TcCoe Idealize.ShloMosaic.Tactic Idealize.SL.Sem
open Cert.Proof.Topk Cert.Proof.RefVal

attribute [local instance] Cert.Kernel.Gen.facts Cert.KernelIdeal.Gen.facts Cert.ReferenceIdeal.Gen.facts Cert.Pre_finite_inputs.Gen.facts

instance : Subsingleton Cert.Pre_finite_inputs.S_.Idx := ⟨fun a b => funext fun i => i.elim0⟩

theorem real_of_lt (x : EReal) (h : Ideal.cmp .olt (max x (-x)) ⊤ = 1#1) : ∃ r : ℝ, x = r := by
  have h' : max x (-x) < ⊤ := by
    by_contra hn
    simp [Ideal.cmp, hn] at h
  induction x with
  | bot => simp at h'
  | top => simp at h'
  | coe r => exact ⟨r, rfl⟩

/-- Finite inputs are real. -/
theorem pre_real (q : FVec Ideal Cert.KernelIdeal.S16384x2048 .bf16) (ky : FVec Ideal Cert.KernelIdeal.S1x8x2x128x128 .f32)
    (h : Cert.Pre_finite_inputs.fn (F := Ideal) q ky = fun _ => 1#1) : (∀ j, ∃ r : ℝ, q j = r) ∧ ∀ j, ∃ r : ℝ, ky j = r := by
  have h0 := congrFun h (fun i => i.elim0)
  unfold Cert.Pre_finite_inputs.fn at h0
  obtain ⟨h1, h2⟩ := IntOp.andi_eq_one.1 h0
  refine ⟨fun j => ?_, fun j => ?_⟩
  · have := Host.reduce_andi_all _ _ _ _ _ h1 j
    refine real_of_lt _ ?_
    rw [← this]
    rw [← ofBits_pinf]
    rfl
  · have := Host.reduce_andi_all _ _ _ _ _ h2 j
    refine real_of_lt _ ?_
    rw [← this]
    rw [← ofBits_pinf]
    rfl

theorem out_v71 (q : FVec Ideal Cert.KernelIdeal.S16384x2048 .bf16) (ky : FVec Ideal Cert.KernelIdeal.S1x8x2x128x128 .f32) : o71 q ky = fE1 q ky := by
  funext j
  rw [← ix3_eta j]
  exact o71_at q ky (j 0) (j 1) (j 2)
theorem out_v72 (q : FVec Ideal Cert.KernelIdeal.S16384x2048 .bf16) (ky : FVec Ideal Cert.KernelIdeal.S1x8x2x128x128 .f32) : o72 q ky = fN1 q ky := by
  funext j
  rw [← ix3_eta j]
  exact o72_at q ky (j 0) (j 1) (j 2)
theorem out_v74 (q : FVec Ideal Cert.KernelIdeal.S16384x2048 .bf16) (ky : FVec Ideal Cert.KernelIdeal.S1x8x2x128x128 .f32) : o74 q ky = fE2 q ky := by
  funext j
  rw [← ix3_eta j]
  exact o74_at q ky (j 0) (j 1) (j 2)
theorem out_v76 (q : FVec Ideal Cert.KernelIdeal.S16384x2048 .bf16) (ky : FVec Ideal Cert.KernelIdeal.S1x8x2x128x128 .f32) : o76 q ky = fR2 q ky := by
  funext j
  rw [← ix3_eta j]
  exact o76_at q ky (j 0) (j 1) (j 2)

theorem algebraic : Cert.algebraic_KernelIdeal_ReferenceIdeal_pre_finite_inputs := by
  intro m g m' g' hpre hagree
  have hq : ∀ c, ∀ j, ∃ r : ℝ, qA m c j = r := fun c => (pre_real _ _ (hpre c)).1
  have hk : ∀ c, ∀ j, ∃ r : ℝ, kA m c j = r := fun c => (pre_real _ _ (hpre c)).2
  refine ⟨fun c => fE1 (qA m c) (kA m c), fun c => fN1 (qA m c) (kA m c), fun c => fE2 (qA m c) (kA m c), fun c => fR2 (qA m c) (kA m c), ?_, ?_⟩
  · run_from (Cert.Proof.Topk.run_main m g (bs_real m hq hk))
    · exact arr_2 m c
    · exact arr_3 m c
    · exact arr_4 m c
    · exact arr_5 m c
  · refine (θ_run Cert.ReferenceIdeal.defs _ _).mono (fun r h c => ?_) (Cert.ReferenceIdeal.Value.run (F := Ideal) m' g')
    obtain ⟨h1, h2, h3, h4, h5, h6⟩ := h c
    have e0 := (hagree c).1
    have e1 := (hagree c).2
    refine ⟨h1.trans ?_, h2.trans ?_, h3.trans ?_, h4.trans ?_, h5, h6⟩
    · refine Eq.trans ?_ (out_v71 (qA m c) (kA m c))
      unfold qA kA
      rw [← e0, ← e1]
      rfl
    · refine Eq.trans ?_ (out_v72 (qA m c) (kA m c))
      unfold qA kA
      rw [← e0, ← e1]
      rfl
    · refine Eq.trans ?_ (out_v74 (qA m c) (kA m c))
      unfold qA kA
      rw [← e0, ← e1]
      rfl
    · refine Eq.trans ?_ (out_v76 (qA m c) (kA m c))
      unfold qA kA
      rw [← e0, ← e1]
      rfl

theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run (F := Ideal) m g)

end Cert.Proof.Final

end

end
-- ==== Proof.Gelu.lean ====
/-
  The gate function two ways: through `tanh`, as the reference has it, and through `exp2`, as the kernel has it.
-/
module

public import Idealize.ShloMosaic.PureOps
public import Idealize.ShloMosaic.PureOps.Ideal
public import Mathlib.Analysis.SpecialFunctions.Pow.Real
public import Mathlib.Analysis.SpecialFunctions.Trigonometric.DerivHyp

@[expose] public section

noncomputable section

namespace Cert.Proof.Experts

open Idealize.ShloMosaic

/-- The two constants of the approximation, as the reference's words hold them. -/
def gc : ℝ := 6693141 / 8388608
def gd : ℝ := 12003091 / 268435456
/-- The kernel's two constants. -/
def k0 : ℝ := ((-2) * (6693141 / 8388608)) * (Real.log 2)⁻¹
def k1 : ℝ := (((-2) * (6693141 / 8388608)) * (Real.log 2)⁻¹) * (12003091 / 268435456)

theorem ofBits_gc : Ideal.ofBits .f32 0x3F4C422A#32 = ((gc : ℝ) : EReal) := by
  simp [Ideal.ofBits, Ideal.ieee, gc, -EReal.coe_mul]; norm_num
theorem ofBits_gd : Ideal.ofBits .f32 0x3D372713#32 = ((gd : ℝ) : EReal) := by
  simp [Ideal.ofBits, Ideal.ieee, gd, -EReal.coe_mul]; norm_num
theorem ofBits_half : Ideal.ofBits .f32 0x3F000000#32 = (((1 / 2 : ℝ)) : EReal) := by
  simp [Ideal.ofBits, Ideal.ieee, -EReal.coe_mul]; norm_num
theorem ofBits_zero : Ideal.ofBits .f32 0#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

/-- The reference's form. -/
def gelu (x : EReal) : EReal :=
  x * (((1 / 2 : ℝ) : EReal) * (((1 : ℝ) : EReal) + Ideal.tanh ((gc : EReal) * (x + (gd : EReal) * (x * x * x)))))
/-- The kernel's form. -/
def geluK (x : EReal) : EReal :=
  Ideal.div x (((1 : ℝ) : EReal) + Ideal.exp2 (x * (x * x * (k1 : EReal) + (k0 : EReal))))

theorem half_tanh (z : ℝ) : 1 / 2 * (1 + Real.tanh z) = 1 / (1 + Real.exp (-2 * z)) := by
  rw [Real.tanh_eq_sinh_div_cosh, Real.sinh_eq, Real.cosh_eq]
  have h1 := Real.exp_pos z
  have h2 : Real.exp (-2 * z) = Real.exp (-z) * Real.exp (-z) := by rw [← Real.exp_add]; ring_nf
  have h3 : Real.exp (-z) * Real.exp z = 1 := by rw [← Real.exp_add]; simp
  have h4 := Real.exp_pos (-z)
  rw [h2]
  generalize Real.exp z = a at *
  generalize Real.exp (-z) = b at *
  have : a = b⁻¹ := by field_simp; linarith
  subst this
  field_simp
  ring

theorem two_rpow (x : ℝ) : (2 : ℝ) ^ (x * (x * x * k1 + k0)) = Real.exp (-2 * (gc * (x + gd * (x * x * x)))) := by
  have hl : Real.log 2 ≠ 0 := (Real.log_pos (by norm_num)).ne'
  rw [Real.rpow_def_of_pos (by norm_num)]
  congr 1
  unfold k1 k0 gc gd
  field_simp
  ring

theorem k0_neg : k0 < 0 := by
  unfold k0
  have := inv_pos.2 (Real.log_pos (show (1 : ℝ) < 2 by norm_num))
  nlinarith
theorem k1_neg : k1 < 0 := by
  have := k0_neg
  unfold k1
  unfold k0 at this
  nlinarith

/-- The two forms are one function. -/
theorem geluK_eq (x : EReal) : geluK x = gelu x := by
  unfold geluK gelu
  have hc : (0 : ℝ) < gc := by unfold gc; norm_num
  have hd : (0 : ℝ) < gd := by unfold gd; norm_num
  induction x with
  | bot =>
    rw [EReal.bot_mul_bot, EReal.top_mul_coe_of_neg k1_neg, EReal.bot_add, EReal.bot_mul_bot, Ideal.exp2_top,
      EReal.coe_add_top, EReal.top_mul_bot, EReal.coe_mul_bot_of_pos hd, EReal.bot_add, EReal.coe_mul_bot_of_pos hc,
      Ideal.tanh_bot]
    have : (((1 : ℝ) : EReal) + -1) = 0 := by
      rw [show (-1 : EReal) = ((-1 : ℝ) : EReal) from rfl, ← EReal.coe_add]; norm_num
    rw [this]
    simp [Ideal.div]
  | top =>
    rw [EReal.top_mul_top, EReal.top_mul_coe_of_neg k1_neg, EReal.bot_add, EReal.top_mul_bot, Ideal.exp2_bot,
      EReal.top_mul_top, EReal.coe_mul_top_of_pos hd, EReal.top_add_top, EReal.coe_mul_top_of_pos hc, Ideal.tanh_top]
    have e1 : (((1 : ℝ) : EReal) + 1) = ((2 : ℝ) : EReal) := by
      rw [show (1 : EReal) = ((1 : ℝ) : EReal) from rfl, ← EReal.coe_add]; norm_num
    have e2 : (((1 : ℝ) : EReal) + 0) = ((1 : ℝ) : EReal) := by simp
    rw [e1, e2, Ideal.div_coe (by norm_num), ← EReal.coe_mul]
    norm_num
  | coe r =>
    have e : ((r : EReal) * ((r : EReal) * (r : EReal) * (k1 : EReal) + (k0 : EReal))) = ((r * (r * r * k1 + k0) : ℝ) : EReal) := by
      push_cast; rfl
    have e' : ((gc : EReal) * ((r : EReal) + (gd : EReal) * ((r : EReal) * (r : EReal) * (r : EReal)))) = ((gc * (r + gd * (r * r * r)) : ℝ) : EReal) := by
      push_cast; rfl
    rw [e, e', Ideal.exp2_coe, Ideal.tanh_coe]
    have p : (0 : ℝ) < 1 + (2 : ℝ) ^ (r * (r * r * k1 + k0)) := by
      have := Real.rpow_pos_of_pos (show (0 : ℝ) < 2 by norm_num) (r * (r * r * k1 + k0))
      linarith
    rw [← EReal.coe_add, ← EReal.coe_add, ← EReal.coe_mul, ← EReal.coe_mul]
    refine (Ideal.div_coe (y := 1 + (2 : ℝ) ^ (r * (r * r * k1 + k0))) p.ne' _).trans ?_
    rw [← EReal.coe_mul, half_tanh, two_rpow]

end Cert.Proof.Experts

end

end
-- ==== Proof.ExpertsRef.lean ====
/-
  The reference of the experts' call, read at an index.
-/
module

public import proofs.«01_k».proof.Proof.Gelu
public import proofs.«01_k».proof.Proof.Gen.Reference2Ideal
public import Idealize.ShloMosaic.Lib.Pointwise

@[expose] public section

set_option maxRecDepth 16384

noncomputable section

namespace Cert.Proof.Experts

open Idealize.ShloMosaic Idealize.ShloMosaic.Tactic

/-! What the layer's experts compute, at an index. -/

/-- The weight of expert `e` for token `t`. -/
def gate (e1 n1 : FVec Ideal ⟨3, ![8, 128, 16384]⟩ .f32) (e2 r2 : FVec Ideal ⟨3, ![8, 128, 16384]⟩ .bf16) (e t : Fin 16384) : EReal :=
  ∑ k : Fin 8, if r2 (ix3 k ⟨e.val % 128, by omega⟩ t) < n1 (ix3 k ⟨e.val / 128, by omega⟩ t)
      then e1 (ix3 k ⟨e.val / 128, by omega⟩ t) * e2 (ix3 k ⟨e.val % 128, by omega⟩ t) else 0
/-- The product of expert `e`'s first vector and token `t`. -/
def pre (h : FVec Ideal ⟨2, ![1024, 16384]⟩ .bf16) (u : FVec Ideal ⟨3, ![1, 16384, 1024]⟩ .f32) (e t : Fin 16384) : EReal :=
  ∑ d : Fin 1024, h (ix2 d t) * u (ix3 0 e d)
/-- What expert `e` adds at `(t, d)`. -/
def term (h : FVec Ideal ⟨2, ![1024, 16384]⟩ .bf16) (u v : FVec Ideal ⟨3, ![1, 16384, 1024]⟩ .f32)
    (e1 n1 : FVec Ideal ⟨3, ![8, 128, 16384]⟩ .f32) (e2 r2 : FVec Ideal ⟨3, ![8, 128, 16384]⟩ .bf16) (t : Fin 16384) (d : Fin 1024) (e : Fin 16384) : EReal :=
  gate e1 n1 e2 r2 e t * gelu (pre h u e t) * v (ix3 0 e d)
/-- The residual with the experts' sum. -/
def yv (h : FVec Ideal ⟨2, ![1024, 16384]⟩ .bf16) (u v : FVec Ideal ⟨3, ![1, 16384, 1024]⟩ .f32)
    (e1 n1 : FVec Ideal ⟨3, ![8, 128, 16384]⟩ .f32) (e2 r2 : FVec Ideal ⟨3, ![8, 128, 16384]⟩ .bf16) (x : FVec Ideal ⟨2, ![16384, 1024]⟩ .f32) (t : Fin 16384) (d : Fin 1024) : EReal :=
  x (ix2 t d) + ∑ e : Fin 16384, term h u v e1 n1 e2 r2 t d e
/-- A row, normalised by its root mean square. -/
def nrm (y : Fin 1024 → EReal) (g : EReal) (d : Fin 1024) : EReal :=
  y d * Ideal.rsqrt (Ideal.div (∑ k : Fin 1024, y k * y k) (Ideal.ofBits .f32 0x44800000#32) + Ideal.ofBits .f32 0x358637BD#32) * g

end Cert.Proof.Experts

namespace Cert.Proof.ExpertsRef

open Cert.Reference2Ideal Cert.Reference2Ideal.Gen
open Idealize.ShloMosaic Idealize.ShloMosaic.Tactic
open Cert.Proof.Experts

def gateR (e1 n1 : FVec Ideal S8x128x16384 .f32) (e2 r2 : FVec Ideal S8x128x16384 .bf16) : FVec Ideal S16384x16384 .f32 :=
  transpose S16384x16384 [1, 0] (shapeCast _ (Host.reduceAdd (select (cmpf .olt (broadcastInDim S8x128x128x16384 ![0, 1, 2, 3] bcast_S8x1x128x16384_S8x128x128x16384_0_1_2_3 (broadcastInDim S8x1x128x16384 ![0, 2, 3] bcast_S8x128x16384_S8x1x128x16384_0_2_3 (extf .f32 r2 bitsLt_bf16_f32))) (broadcastInDim S8x128x128x16384 ![0, 1, 2, 3] bcast_S8x128x1x16384_S8x128x128x16384_0_1_2_3 (broadcastInDim S8x128x1x16384 ![0, 1, 3] bcast_S8x128x16384_S8x128x1x16384_0_1_3 n1))) (mulf (broadcastInDim S8x128x128x16384 ![0, 1, 2, 3] bcast_S8x128x1x16384_S8x128x128x16384_0_1_2_3 (broadcastInDim S8x128x1x16384 ![0, 1, 3] bcast_S8x128x16384_S8x128x1x16384_0_1_3 e1)) (broadcastInDim S8x128x128x16384 ![0, 1, 2, 3] bcast_S8x1x128x16384_S8x128x128x16384_0_1_2_3 (broadcastInDim S8x1x128x16384 ![0, 2, 3] bcast_S8x128x16384_S8x1x128x16384_0_2_3 (extf .f32 e2 bitsLt_bf16_f32)))) (broadcastInDim S8x128x128x16384 ![] bcast_S_S8x128x128x16384 (id (constant S_ .f32 0x00000000#32)))) (constant S_ .f32 0x00000000#32) reducesTo_S8x128x128x16384_S128x128x16384_d0 h_S_) shapeCasts_S128x128x16384_S16384x16384) transposes_S16384x16384_S16384x16384_1_0
def dotR (h : FVec Ideal S1024x16384 .bf16) (u : FVec Ideal S1x16384x1024 .f32) : FVec Ideal S16384x16384 .f32 :=
  Host.dotGeneral dot_S1024x16384_S16384x1024_S16384x16384_0_1_1_0_n_n none (extf .f32 h bitsLt_bf16_f32) (shapeCast _ u shapeCasts_S1x16384x1024_S16384x1024)
def actR (h : FVec Ideal S1024x16384 .bf16) (u : FVec Ideal S1x16384x1024 .f32) : FVec Ideal S16384x16384 .f32 :=
  mulf (dotR h u) (mulf (broadcastInDim S16384x16384 ![] bcast_S_S16384x16384 (constant S_ .f32 0x3F000000#32)) (addf (broadcastInDim S16384x16384 ![] bcast_S_S16384x16384 (constant S_ .f32 0x3F800000#32)) (Host.tanh (mulf (broadcastInDim S16384x16384 ![] bcast_S_S16384x16384 (constant S_ .f32 0x3F4C422A#32)) (addf (dotR h u) (mulf (broadcastInDim S16384x16384 ![] bcast_S_S16384x16384 (constant S_ .f32 0x3D372713#32)) (mulf (mulf (dotR h u) (dotR h u)) (dotR h u))))))))
def yR (h : FVec Ideal S1024x16384 .bf16) (u : FVec Ideal S1x16384x1024 .f32) (v : FVec Ideal S1x16384x1024 .f32) (e1 n1 : FVec Ideal S8x128x16384 .f32) (e2 r2 : FVec Ideal S8x128x16384 .bf16) (x : FVec Ideal S16384x1024 .f32) : FVec Ideal S16384x1024 .f32 :=
  addf x (Host.dotGeneral dot_S16384x16384_S16384x1024_S16384x1024_1_0_0_1_n_n none (mulf (gateR e1 n1 e2 r2) (actR h u)) (shapeCast _ v shapeCasts_S1x16384x1024_S16384x1024))
def outR (h : FVec Ideal S1024x16384 .bf16) (u : FVec Ideal S1x16384x1024 .f32) (v : FVec Ideal S1x16384x1024 .f32) (e1 n1 : FVec Ideal S8x128x16384 .f32) (e2 r2 : FVec Ideal S8x128x16384 .bf16) (x : FVec Ideal S16384x1024 .f32) (w : FVec Ideal S1024 .f32) : FVec Ideal S16384x1024 .f32 :=
  mulf (mulf (yR h u v e1 n1 e2 r2 x) (broadcastInDim S16384x1024 ![0, 1] bcast_S16384x1_S16384x1024_0_1 (Host.rsqrt (addf (Host.divf (broadcastInDim S16384x1 ![0] bcast_S16384_S16384x1_0 (Host.reduceAdd (mulf (yR h u v e1 n1 e2 r2 x) (yR h u v e1 n1 e2 r2 x)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 w))

theorem gateR_at (e1 n1 : FVec Ideal S8x128x16384 .f32) (e2 r2 : FVec Ideal S8x128x16384 .bf16) (t e : Fin 16384) :
    gateR e1 n1 e2 r2 (ix2 t e) = gate e1 n1 e2 r2 e t := by
  classical
  unfold gateR gate
  pointwise
  refine Finset.sum_congr rfl fun k _ => ?_
  have z : id (constant (F := Ideal) S_ FTy.f32 0#32) ix0 = 0 := ofBits_zero
  rw [z]
theorem dotR_at (h : FVec Ideal S1024x16384 .bf16) (u : FVec Ideal S1x16384x1024 .f32) (t e : Fin 16384) :
    dotR h u (ix2 t e) = pre h u e t := by
  unfold dotR pre
  pointwise
theorem actR_at (h : FVec Ideal S1024x16384 .bf16) (u : FVec Ideal S1x16384x1024 .f32) (t e : Fin 16384) :
    actR h u (ix2 t e) = gelu (pre h u e t) := by
  unfold actR gelu
  pointwise
  simp only [dotR_at, ofBits_gc, ofBits_gd, ofBits_half]
  rfl
theorem yR_at (h : FVec Ideal S1024x16384 .bf16) (u v : FVec Ideal S1x16384x1024 .f32) (e1 n1 : FVec Ideal S8x128x16384 .f32)
    (e2 r2 : FVec Ideal S8x128x16384 .bf16) (x : FVec Ideal S16384x1024 .f32) (t : Fin 16384) (d : Fin 1024) :
    yR h u v e1 n1 e2 r2 x (ix2 t d) = yv h u v e1 n1 e2 r2 x t d := by
  unfold yR yv term
  pointwise
  simp only [gateR_at, actR_at]
theorem outR_at (h : FVec Ideal S1024x16384 .bf16) (u v : FVec Ideal S1x16384x1024 .f32) (e1 n1 : FVec Ideal S8x128x16384 .f32)
    (e2 r2 : FVec Ideal S8x128x16384 .bf16) (x : FVec Ideal S16384x1024 .f32) (w : FVec Ideal S1024 .f32) (t : Fin 16384) (d : Fin 1024) :
    outR h u v e1 n1 e2 r2 x w (ix2 t d) = nrm (yv h u v e1 n1 e2 r2 x t) (w (ix1 d)) d := by
  unfold outR nrm
  pointwise
  simp only [yR_at]

end Cert.Proof.ExpertsRef

end

end
-- ==== Proof.ExpertsBlk.lean ====
/-
  The experts' kernel at one point of its grid: the rows its body stores into the block of weighted
  activations, written as one function of the row of tiles, and their values at an index.
-/
module

public import proofs.«01_k».proof.Proof.ExpertsRef
public import proofs.«01_k».proof.Proof.Gen.Kernel2Ideal.Skeleton
public import Idealize.ShloMosaic.Lib.Pipeline.ValueKit

@[expose] public section

set_option maxRecDepth 16384

noncomputable section

namespace Cert.Proof.ExpertsBlk

open Cert.Kernel2Ideal Cert.Kernel2Ideal.Gen
open Idealize.ShloMosaic Idealize.ShloMosaic.TcCoe Idealize.ShloMosaic.Tactic
open Cert.Proof.Experts

theorem inbN (h a : ℕ) (hh : h < 8) (ha : a < 16) : ∀ j, (![h, a, 0] : Fin 3 → ℕ) j + S1x1x512.size j ≤ S8x16x512.size j := by
  intro j; fin_cases j <;> simp [S1x1x512, S8x16x512] <;> omega
theorem inbR (h b : ℕ) (hh : h < 8) (hb : b < 8) : ∀ j, (![h, 16 * b, 0] : Fin 3 → ℕ) j + S1x16x512.size j ≤ S8x128x512.size j := by
  intro j; fin_cases j <;> simp [S1x16x512, S8x128x512] <;> omega
theorem inbP (k : ℕ) (hk : k < 128) : ∀ j, (![16 * k, 0] : Fin 2 → ℕ) j + S16x512.size j ≤ S2048x512.size j := by
  intro j; fin_cases j <;> simp [S16x512, S2048x512] <;> omega
theorem slcP (k : ℕ) (hk : k < 128) : S2048x512.Slices ![16 * k, 0] S16x512 := by
  refine ⟨rfl, ?_⟩
  intro j; fin_cases j <;> simp [S16x512, S2048x512] <;> omega

section
variable {F : FTy → Type} [FloatOps F] [Named F]

/-- A row of `e1` or `n1`, over 16 rows. -/
def bN (v : Vec F S1x1x512 .f32) : FVec F S16x512 .bf16 :=
  truncf .bf16 (broadcastTo S16x512 (shapeCast S1x512 (shapeCast S1x512 v shapeCasts_S1x1x512_S1x512) shapeCasts_S1x512_S1x512) broadcasts_S1x512_S16x512) bitsLt_bf16_f32
/-- The first head's weight. -/
def first (r e : Vec F S1x16x512 .bf16) (n1 e1 : Vec F S1x1x512 .f32) : FVec F S16x512 .bf16 :=
  select (cmpf .olt (shapeCast S16x512 r shapeCasts_S1x16x512_S16x512) (bN n1)) (mulf (shapeCast S16x512 e shapeCasts_S1x16x512_S16x512) (bN e1)) k0_pay6
/-- A further head's weight, added. -/
def nxt (w : FVec F S16x512 .bf16) (r e : Vec F S1x16x512 .bf16) (n1 e1 : Vec F S1x1x512 .f32) : FVec F S16x512 .bf16 :=
  select (cmpf .olt (shapeCast S16x512 r shapeCasts_S1x16x512_S16x512) (bN n1)) (addf w (mulf (shapeCast S16x512 e shapeCasts_S1x16x512_S16x512) (bN e1))) w
/-- The weighted activations of one row of tiles. -/
def prow (R E : Fin 8 → Vec F S1x16x512 .bf16) (N1 E1 : Fin 8 → Vec F S1x1x512 .f32) (act : FVec F S2048x512 .bf16) (k : ℕ) (hk : k < 128) : FVec F S16x512 .bf16 :=
  shapeCast S16x512 (mulf (nxt (nxt (nxt (nxt (nxt (nxt (nxt (first (R 0) (E 0) (N1 0) (E1 0)) (R 1) (E 1) (N1 1) (E1 1)) (R 2) (E 2) (N1 2) (E1 2)) (R 3) (E 3) (N1 3) (E1 3))
    (R 4) (E 4) (N1 4) (E1 4)) (R 5) (E 5) (N1 5) (E1 5)) (R 6) (E 6) (N1 6) (E1 6)) (R 7) (E 7) (N1 7) (E1 7)) (extractStridedSlice S16x512 ![16 * k, 0] act (slcP k hk))) shapeCasts_S16x512_S16x512

variable (arg2 : Memref sig .tc .vmem S1024x512 .bf16) (harg2 : arg2.IsWhole) (arg3 : Memref sig .tc .vmem S2048x1024 .bf16) (harg3 : arg3.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole)
    (x0 : Vec F S1024x512 .bf16) (x1 : Vec F S2048x1024 .bf16) (x3 : Vec F S8x16x512 .f32) (x4 : Vec F S8x16x512 .f32) (x5 : Vec F S8x128x512 .bf16) (x6 : Vec F S8x128x512 .bf16)

/-- One row of tiles, over the point's blocks as they are read. -/
def pc (k : ℕ) (hk : k < 128) : FVec F S16x512 .bf16 :=
  prow (fun h => View.readAt (Elt F) arg8.view (Rect.unit (s := S8x128x512) ![h.val, 16 * (k % 8), 0] S1x16x512.size (inbR h.val (k % 8) h.isLt (Nat.mod_lt _ (by decide)))).toLoadRect (harg8.unread x6))
    (fun h => View.readAt (Elt F) arg7.view (Rect.unit (s := S8x128x512) ![h.val, 16 * (k % 8), 0] S1x16x512.size (inbR h.val (k % 8) h.isLt (Nat.mod_lt _ (by decide)))).toLoadRect (harg7.unread x5))
    (fun h => View.readAt (Elt F) arg6.view (Rect.unit (s := S8x16x512) ![h.val, k / 8, 0] S1x1x512.size (inbN h.val (k / 8) h.isLt (by omega))).toLoadRect (harg6.unread x4))
    (fun h => View.readAt (Elt F) arg5.view (Rect.unit (s := S8x16x512) ![h.val, k / 8, 0] S1x1x512.size (inbN h.val (k / 8) h.isLt (by omega))).toLoadRect (harg5.unread x3))
    (k0_pay5 (View.readAt (Elt F) arg3.view (Rect.unit (s := S2048x1024) ![0, 0] S2048x1024.size inb_S2048x1024_S2048x1024_0_0).toLoadRect (harg3.unread x1))
      (View.readAt (Elt F) arg2.view (Rect.unit (s := S1024x512) ![0, 0] S1024x512.size inb_S1024x512_S1024x512_0_0).toLoadRect (harg2.unread x0))) k hk

/-- The rows of tiles stored so far, last first. -/
def pcs : (n : ℕ) → n ≤ 128 → List (View.Piece (Elt F) S2048x512 .bf16)
  | 0, _ => []
  | n + 1, h => ⟨Rect.unit (s := S2048x512) ![16 * n, 0] S16x512.size (inbP n h), pc arg2 harg2 arg3 harg3 arg5 harg5 arg6 harg6 arg7 harg7 arg8 harg8 x0 x1 x3 x4 x5 x6 n h⟩ :: pcs n (Nat.le_of_lt h)

end

/-! At an index. -/

theorem zero16 : k0_pay6 (F := Ideal) = fun _ => 0 := by
  funext x
  show Ideal.ofBits .bf16 0#16 = 0
  simp [Ideal.ofBits, Ideal.ieee]

theorem bN_at (v : Vec Ideal S1x1x512 .f32) (r : Fin 16) (t : Fin 512) : bN v (ix2 r t) = v (ix3 0 0 t) := by
  unfold bN
  pointwise

theorem first_at (r e : Vec Ideal S1x16x512 .bf16) (n1 e1 : Vec Ideal S1x1x512 .f32) (i : Fin 16) (t : Fin 512) :
    first r e n1 e1 (ix2 i t) = if r (ix3 0 i t) < n1 (ix3 0 0 t) then e1 (ix3 0 0 t) * e (ix3 0 i t) else 0 := by
  unfold first
  rw [zero16]
  pointwise
  simp only [bN_at]
  rw [mul_comm (e1 _)]

theorem nxt_at (w : FVec Ideal S16x512 .bf16) (r e : Vec Ideal S1x16x512 .bf16) (n1 e1 : Vec Ideal S1x1x512 .f32) (i : Fin 16) (t : Fin 512) :
    nxt w r e n1 e1 (ix2 i t) = w (ix2 i t) + if r (ix3 0 i t) < n1 (ix3 0 0 t) then e1 (ix3 0 0 t) * e (ix3 0 i t) else 0 := by
  unfold nxt
  pointwise
  simp only [bN_at]
  rw [mul_comm (e1 _)]
  split_ifs
  · rfl
  · exact (add_zero _).symm

theorem prow_at (R E : Fin 8 → Vec Ideal S1x16x512 .bf16) (N1 E1 : Fin 8 → Vec Ideal S1x1x512 .f32) (act : FVec Ideal S2048x512 .bf16) (k : ℕ) (hk : k < 128)
    (i : Fin 16) (t : Fin 512) :
    prow R E N1 E1 act k hk (ix2 i t) = (∑ h : Fin 8, if R h (ix3 0 i t) < N1 h (ix3 0 0 t) then E1 h (ix3 0 0 t) * E h (ix3 0 i t) else 0)
      * act (ix2 ⟨16 * k + i.val, by omega⟩ t) := by
  unfold prow
  pointwise
  simp only [nxt_at, first_at, Fin.sum_univ_eight]

/-- The weight of the block's expert `e` for its token `t`. -/
def gateB (x3 x4 : Vec Ideal S8x16x512 .f32) (x5 x6 : Vec Ideal S8x128x512 .bf16) (e : Fin 2048) (t : Fin 512) : EReal :=
  ∑ h : Fin 8, if x6 (ix3 h ⟨e.val % 128, by omega⟩ t) < x4 (ix3 h ⟨e.val / 128, by omega⟩ t)
      then x3 (ix3 h ⟨e.val / 128, by omega⟩ t) * x5 (ix3 h ⟨e.val % 128, by omega⟩ t) else 0
/-- The block's activations. -/
def actB (x0 : Vec Ideal S1024x512 .bf16) (x1 : Vec Ideal S2048x1024 .bf16) (e : Fin 2048) (t : Fin 512) : EReal :=
  gelu (∑ d : Fin 1024, x0 (ix2 d t) * x1 (ix2 e d))
/-- The block of weighted activations. -/
def PB (x0 : Vec Ideal S1024x512 .bf16) (x1 : Vec Ideal S2048x1024 .bf16) (x3 x4 : Vec Ideal S8x16x512 .f32) (x5 x6 : Vec Ideal S8x128x512 .bf16) :
    Vec Ideal S2048x512 .bf16 := fun y => gateB x3 x4 x5 x6 (y 0) (y 1) * actB x0 x1 (y 0) (y 1)

theorem named_k0 : Named.named (F := Ideal) Cert.Kernel2Ideal.κ "gelu_k0" (φ := .f32) 3222493025#32 = ((k0 : ℝ) : EReal) := by
  show (Cert.Kernel2Ideal.κ "gelu_k0").getD _ = _
  simp [Cert.Kernel2Ideal.κ, k0, gc]
theorem named_k1 : Named.named (F := Ideal) Cert.Kernel2Ideal.κ "gelu_k1" (φ := .f32) 3184710632#32 = ((k1 : ℝ) : EReal) := by
  show (Cert.Kernel2Ideal.κ "gelu_k1").getD _ = _
  simp [Cert.Kernel2Ideal.κ, k1, k0, gc, gd]

theorem act_at (x0 : Vec Ideal S1024x512 .bf16) (x1 : Vec Ideal S2048x1024 .bf16) (e : Fin 2048) (t : Fin 512) :
    k0_pay5 x1 x0 (ix2 e t) = actB x0 x1 e t := by
  unfold k0_pay5 actB
  rw [← geluK_eq]
  unfold geluK
  pointwise
  rw [named_k0, named_k1]
  simp only [fun x => mul_comm (x1 (ix2 e x))]
  rfl

variable (arg2 : Memref sig .tc .vmem S1024x512 .bf16) (harg2 : arg2.IsWhole) (arg3 : Memref sig .tc .vmem S2048x1024 .bf16) (harg3 : arg3.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole)
    (x0 : Vec Ideal S1024x512 .bf16) (x1 : Vec Ideal S2048x1024 .bf16) (x3 : Vec Ideal S8x16x512 .f32) (x4 : Vec Ideal S8x16x512 .f32) (x5 : Vec Ideal S8x128x512 .bf16) (x6 : Vec Ideal S8x128x512 .bf16)

theorem rd_R (arg : Memref sig .tc .vmem S8x128x512 .bf16) (h : arg.IsWhole) (x : Vec Ideal S8x128x512 .bf16) (a b : ℕ) (ha : a < 8) (hb : b < 8)
    (i : Fin 16) (t : Fin 512) :
    (View.readAt (Elt Ideal) arg.view (Rect.unit (s := S8x128x512) ![a, 16 * b, 0] S1x16x512.size (inbR a b ha hb)).toLoadRect (h.unread x) : Vec Ideal S1x16x512 .bf16) (ix3 0 i t)
      = x (ix3 ⟨a, ha⟩ ⟨16 * b + i.val, by omega⟩ t) := by
  rw [View.readAt_eq_ld, h.read_unread]
  show x _ = x _
  congr 1
  funext j; fin_cases j <;> apply Fin.ext <;> simp [Rect.unit]

theorem rd_N (arg : Memref sig .tc .vmem S8x16x512 .f32) (h : arg.IsWhole) (x : Vec Ideal S8x16x512 .f32) (a b : ℕ) (ha : a < 8) (hb : b < 16) (t : Fin 512) :
    (View.readAt (Elt Ideal) arg.view (Rect.unit (s := S8x16x512) ![a, b, 0] S1x1x512.size (inbN a b ha hb)).toLoadRect (h.unread x) : Vec Ideal S1x1x512 .f32) (ix3 0 0 t)
      = x (ix3 ⟨a, ha⟩ ⟨b, hb⟩ t) := by
  rw [View.readAt_eq_ld, h.read_unread]
  show x _ = x _
  congr 1
  funext j; fin_cases j <;> apply Fin.ext <;> simp [Rect.unit]

theorem gate_congr {a a' b b' c c' d d' : EReal} (ha : a = a') (hb : b = b') (hc : c = c') (hd : d = d') :
    (if a < b then c * d else 0) = if a' < b' then c' * d' else 0 := by
  subst ha hb hc hd; rfl

theorem zero2 : (![0, 0] : Fin 2 → ℕ) = fun _ => 0 := by
  funext j; fin_cases j <;> rfl

theorem pc_at (k : ℕ) (hk : k < 128) (i : Fin 16) (t : Fin 512) :
    pc arg2 harg2 arg3 harg3 arg5 harg5 arg6 harg6 arg7 harg7 arg8 harg8 x0 x1 x3 x4 x5 x6 k hk (ix2 i t)
      = PB x0 x1 x3 x4 x5 x6 (ix2 ⟨16 * k + i.val, by omega⟩ t) := by
  unfold pc
  rw [prow_at]
  have e1 : (16 * k + i.val) / 128 = k / 8 := by omega
  have e2 : (16 * k + i.val) % 128 = 16 * (k % 8) + i.val := by omega
  refine congrArg₂ (· * ·) (Finset.sum_congr rfl fun h _ => ?_) ?_
  · refine (gate_congr (rd_R arg8 harg8 x6 h.val (k % 8) h.isLt (Nat.mod_lt _ (by decide)) i t) (rd_N arg6 harg6 x4 h.val (k / 8) h.isLt (by omega) t)
      (rd_N arg5 harg5 x3 h.val (k / 8) h.isLt (by omega) t) (rd_R arg7 harg7 x5 h.val (k % 8) h.isLt (Nat.mod_lt _ (by decide)) i t)).trans ?_
    show _ = if x6 (ix3 h ⟨(16 * k + i.val) % 128, Nat.mod_lt _ (by decide)⟩ t) < x4 (ix3 h ⟨(16 * k + i.val) / 128, by omega⟩ t)
      then x3 (ix3 h ⟨(16 * k + i.val) / 128, by omega⟩ t) * x5 (ix3 h ⟨(16 * k + i.val) % 128, Nat.mod_lt _ (by decide)⟩ t) else 0
    simp only [e1, e2]
  · rw [View.readAt_eq_ld, View.readAt_eq_ld, harg2.read_unread, harg3.read_unread, View.ld_unit_zero zero2, View.ld_unit_zero zero2, act_at]
    rfl

theorem pcs_ok : ∀ (n : ℕ) (hn : n ≤ 128), ∀ p ∈ pcs arg2 harg2 arg3 harg3 arg5 harg5 arg6 harg6 arg7 harg7 arg8 harg8 x0 x1 x3 x4 x5 x6 n hn,
    ∀ x : p.1.shape.Idx, p.2 x = PB x0 x1 x3 x4 x5 x6 (p.1.emb x)
  | 0, _, p, hp, x => by simp [pcs] at hp
  | n + 1, hn, p, hp, x => by
    rcases List.mem_cons.mp hp with rfl | hp'
    · obtain ⟨i, t, rfl⟩ : ∃ (i : Fin 16) (t : Fin 512), x = ix2 i t := ⟨x 0, x 1, by funext j; fin_cases j <;> rfl⟩
      refine (pc_at arg2 harg2 arg3 harg3 arg5 harg5 arg6 harg6 arg7 harg7 arg8 harg8 x0 x1 x3 x4 x5 x6 n hn i t).trans ?_
      congr 1
      funext j; fin_cases j <;> apply Fin.ext <;> simp [Rect.unit, Rect.emb]
    · exact pcs_ok n _ p hp' x

theorem pcs_cover : ∀ (n : ℕ) (hn : n ≤ 128) (e : Fin 2048) (t : Fin 512), e.val < 16 * n →
    ∃ p ∈ pcs arg2 harg2 arg3 harg3 arg5 harg5 arg6 harg6 arg7 harg7 arg8 harg8 x0 x1 x3 x4 x5 x6 n hn, (ix2 e t : S2048x512.Idx) ∈ p.1.set
  | 0, _, e, t, h => by omega
  | n + 1, hn, e, t, h => by
    by_cases hlt : e.val < 16 * n
    · obtain ⟨p, hp, hy⟩ := pcs_cover n (Nat.le_of_lt hn) e t hlt
      exact ⟨p, List.mem_cons_of_mem _ hp, hy⟩
    · refine ⟨_, List.mem_cons_self, ?_⟩
      rw [Rect.mem_set_unit]
      intro j; fin_cases j
      · show 16 * n ≤ e.val ∧ e.val < 16 * n + 16
        omega
      · show 0 ≤ t.val ∧ t.val < 0 + 512
        omega

theorem pcs_read : View.canon (pcs arg2 harg2 arg3 harg3 arg5 harg5 arg6 harg6 arg7 harg7 arg8 harg8 x0 x1 x3 x4 x5 x6 128 (Nat.le_refl _))
    = PB x0 x1 x3 x4 x5 x6 := by
  funext y
  obtain ⟨e, t, rfl⟩ : ∃ (e : Fin 2048) (t : Fin 512), y = ix2 e t := ⟨y 0, y 1, by funext j; fin_cases j <;> rfl⟩
  exact View.canon_apply_of_pieces _ _ (pcs_ok arg2 harg2 arg3 harg3 arg5 harg5 arg6 harg6 arg7 harg7 arg8 harg8 x0 x1 x3 x4 x5 x6 128 _) _
    (pcs_cover arg2 harg2 arg3 harg3 arg5 harg5 arg6 harg6 arg7 harg7 arg8 harg8 x0 x1 x3 x4 x5 x6 128 _ e t (by omega))

end Cert.Proof.ExpertsBlk

end

end
-- ==== Proof.ExpertsPay.lean ====
/-
  The experts' accumulator step and last step, at an index.
-/
module

public import proofs.«01_k».proof.Proof.ExpertsBlk

@[expose] public section

set_option maxRecDepth 16384

noncomputable section

namespace Cert.Proof.ExpertsBlk

open Cert.Kernel2Ideal Cert.Kernel2Ideal.Gen
open Idealize.ShloMosaic Idealize.ShloMosaic.TcCoe Idealize.ShloMosaic.Tactic
open Cert.Proof.Experts

theorem pay4_at (d : Fin 1024) (t : Fin 512) : (k0_pay4 (F := Ideal)) (ix2 d t) = 0 := by
  unfold k0_pay4
  pointwise

theorem pay2_at (a : Vec Ideal S1024x512 .f32) (b : Vec Ideal S1024x2048 .bf16) (p : Vec Ideal S2048x512 .bf16) (d : Fin 1024) (t : Fin 512) :
    (k0_pay2 a b p) (ix2 d t) = a (ix2 d t) + ∑ e : Fin 2048, b (ix2 d e) * p (ix2 e t) := by
  unfold k0_pay2
  pointwise

theorem pay3_at (x : Vec Ideal S512x1024 .f32) (a : Vec Ideal S1024x512 .f32) (w : Vec Ideal S1x1024 .f32) (t : Fin 512) (d : Fin 1024) :
    (k0_pay3 x a w) (ix2 t d) = nrm (fun k => x (ix2 t k) + a (ix2 k t)) (w (ix2 0 d)) d := by
  unfold k0_pay3 nrm
  pointwise

end Cert.Proof.ExpertsBlk

end

end
-- ==== Proof.ExpertsCase.lean ====
/-
  What the experts' kernel leaves at one point of its grid: in the first, a middle and the last case of its
  two conditions, the found pieces read as the block's values.
-/
module

public import proofs.«01_k».proof.Proof.ExpertsBlk
public import proofs.«01_k».proof.Proof.Gen.Kernel2Ideal.Frame.RunC

@[expose] public section

set_option maxRecDepth 65536

noncomputable section

namespace Cert.Proof.ExpertsCase

open Cert.Kernel2Ideal Cert.Kernel2Ideal.Gen
open Idealize.ShloMosaic Idealize.ShloMosaic.TcCoe Idealize.ShloMosaic.Tactic
open Cert.Proof.Experts Cert.Proof.ExpertsBlk

theorem readBack (arg13 : Memref sig .tc .vmem S2048x512 .bf16) (L : List (View.Piece (Elt Ideal) S2048x512 .bf16)) (inb) :
    arg13.view.readCov L (Rect.unit (s := S2048x512) ![0, 0] S2048x512.size inb).toLoadRect = View.canon L := by
  rw [View.readCov_eq_canon']
  funext j
  congr 1
  funext a; fin_cases a <;> apply Fin.ext <;> simp [Rect.unit, LoadRect.idx]

theorem list_A {F : FTy → Type} [FloatOps F] [Named F] (c : Dev nD) (arg2 : Memref sig .tc .vmem S1024x512 .bf16) (harg2 : arg2.IsWhole) (arg3 : Memref sig .tc .vmem S2048x1024 .bf16) (harg3 : arg3.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole)
    (x0 : Vec F S1024x512 .bf16) (x1 : Vec F S2048x1024 .bf16) (x3 : Vec F S8x16x512 .f32) (x4 : Vec F S8x16x512 .f32) (x5 : Vec F S8x128x512 .bf16) (x6 : Vec F S8x128x512 .bf16) :
    kernelRun0_A.sl.HS1_128 c arg2 harg2 arg3 harg3 arg5 harg5 arg6 harg6 arg7 harg7 arg8 harg8 x0 x1 x3 x4 x5 x6 = pcs arg2 harg2 arg3 harg3 arg5 harg5 arg6 harg6 arg7 harg7 arg8 harg8 x0 x1 x3 x4 x5 x6 128 (Nat.le_refl _) := rfl

theorem p_A (c : Dev nD) (arg2 : Memref sig .tc .vmem S1024x512 .bf16) (harg2 : arg2.IsWhole) (arg3 : Memref sig .tc .vmem S2048x1024 .bf16) (harg3 : arg3.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg13 : Memref sig .tc .vmem S2048x512 .bf16)
    (x0 : Vec Ideal S1024x512 .bf16) (x1 : Vec Ideal S2048x1024 .bf16) (x3 : Vec Ideal S8x16x512 .f32) (x4 : Vec Ideal S8x16x512 .f32) (x5 : Vec Ideal S8x128x512 .bf16) (x6 : Vec Ideal S8x128x512 .bf16) :
    kernelRun0_A.sl.v10006 (F := Ideal) c arg2 harg2 arg3 harg3 arg5 harg5 arg6 harg6 arg7 harg7 arg8 harg8 arg13 x0 x1 x3 x4 x5 x6 = PB x0 x1 x3 x4 x5 x6 := by
  unfold kernelRun0_A.sl.v10006
  rw [list_A]
  exact (readBack arg13 _ _).trans (pcs_read arg2 harg2 arg3 harg3 arg5 harg5 arg6 harg6 arg7 harg7 arg8 harg8 x0 x1 x3 x4 x5 x6)

theorem list_B {F : FTy → Type} [FloatOps F] [Named F] (c : Dev nD) (arg2 : Memref sig .tc .vmem S1024x512 .bf16) (harg2 : arg2.IsWhole) (arg3 : Memref sig .tc .vmem S2048x1024 .bf16) (harg3 : arg3.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole)
    (x0 : Vec F S1024x512 .bf16) (x1 : Vec F S2048x1024 .bf16) (x3 : Vec F S8x16x512 .f32) (x4 : Vec F S8x16x512 .f32) (x5 : Vec F S8x128x512 .bf16) (x6 : Vec F S8x128x512 .bf16) :
    kernelRun0_B.sl.HS1_128 c arg2 harg2 arg3 harg3 arg5 harg5 arg6 harg6 arg7 harg7 arg8 harg8 x0 x1 x3 x4 x5 x6 = pcs arg2 harg2 arg3 harg3 arg5 harg5 arg6 harg6 arg7 harg7 arg8 harg8 x0 x1 x3 x4 x5 x6 128 (Nat.le_refl _) := rfl

theorem p_B (c : Dev nD) (arg2 : Memref sig .tc .vmem S1024x512 .bf16) (harg2 : arg2.IsWhole) (arg3 : Memref sig .tc .vmem S2048x1024 .bf16) (harg3 : arg3.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg13 : Memref sig .tc .vmem S2048x512 .bf16)
    (x0 : Vec Ideal S1024x512 .bf16) (x1 : Vec Ideal S2048x1024 .bf16) (x3 : Vec Ideal S8x16x512 .f32) (x4 : Vec Ideal S8x16x512 .f32) (x5 : Vec Ideal S8x128x512 .bf16) (x6 : Vec Ideal S8x128x512 .bf16) :
    kernelRun0_B.sl.v10006 (F := Ideal) c arg2 harg2 arg3 harg3 arg5 harg5 arg6 harg6 arg7 harg7 arg8 harg8 arg13 x0 x1 x3 x4 x5 x6 = PB x0 x1 x3 x4 x5 x6 := by
  unfold kernelRun0_B.sl.v10006
  rw [list_B]
  exact (readBack arg13 _ _).trans (pcs_read arg2 harg2 arg3 harg3 arg5 harg5 arg6 harg6 arg7 harg7 arg8 harg8 x0 x1 x3 x4 x5 x6)

theorem list_C {F : FTy → Type} [FloatOps F] [Named F] (c : Dev nD) (arg2 : Memref sig .tc .vmem S1024x512 .bf16) (harg2 : arg2.IsWhole) (arg3 : Memref sig .tc .vmem S2048x1024 .bf16) (harg3 : arg3.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole)
    (x0 : Vec F S1024x512 .bf16) (x1 : Vec F S2048x1024 .bf16) (x3 : Vec F S8x16x512 .f32) (x4 : Vec F S8x16x512 .f32) (x5 : Vec F S8x128x512 .bf16) (x6 : Vec F S8x128x512 .bf16) :
    kernelRun0_C.sl.HS1_128 c arg2 harg2 arg3 harg3 arg5 harg5 arg6 harg6 arg7 harg7 arg8 harg8 x0 x1 x3 x4 x5 x6 = pcs arg2 harg2 arg3 harg3 arg5 harg5 arg6 harg6 arg7 harg7 arg8 harg8 x0 x1 x3 x4 x5 x6 128 (Nat.le_refl _) := rfl

theorem p_C (c : Dev nD) (arg2 : Memref sig .tc .vmem S1024x512 .bf16) (harg2 : arg2.IsWhole) (arg3 : Memref sig .tc .vmem S2048x1024 .bf16) (harg3 : arg3.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg13 : Memref sig .tc .vmem S2048x512 .bf16)
    (x0 : Vec Ideal S1024x512 .bf16) (x1 : Vec Ideal S2048x1024 .bf16) (x3 : Vec Ideal S8x16x512 .f32) (x4 : Vec Ideal S8x16x512 .f32) (x5 : Vec Ideal S8x128x512 .bf16) (x6 : Vec Ideal S8x128x512 .bf16) :
    kernelRun0_C.sl.v10006 (F := Ideal) c arg2 harg2 arg3 harg3 arg5 harg5 arg6 harg6 arg7 harg7 arg8 harg8 arg13 x0 x1 x3 x4 x5 x6 = PB x0 x1 x3 x4 x5 x6 := by
  unfold kernelRun0_C.sl.v10006
  rw [list_C]
  exact (readBack arg13 _ _).trans (pcs_read arg2 harg2 arg3 harg3 arg5 harg5 arg6 harg6 arg7 harg7 arg8 harg8 x0 x1 x3 x4 x5 x6)

theorem acc_A  (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (hc0 : cond0_0 i) (hc1 : ¬cond0_1 i)
    (x0 : Vec Ideal S1024x512 .bf16) (x1 : Vec Ideal S2048x1024 .bf16) (x2 : Vec Ideal S1024x2048 .bf16) (x3 : Vec Ideal S8x16x512 .f32) (x4 : Vec Ideal S8x16x512 .f32) (x5 : Vec Ideal S8x128x512 .bf16) (x6 : Vec Ideal S8x128x512 .bf16) (x7 : Vec Ideal S512x1024 .f32) (x8 : Vec Ideal S1x1024 .f32)  :
    View.canon (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 = k0_pay2 k0_pay4 x2 (PB x0 x1 x3 x4 x5 x6) := by
  unfold kernelRun0_A
  dsimp only
  rw [View.canon_cons_unit_zero zero2, p_A]
  unfold kernelRun0_A.sl.v10003 kernelRun0_A.sl.HS0_1
  rw [View.readCov_unit_zero _ zero2, View.readAt_eq_ld, harg4.read_unread, View.ld_unit_zero zero2]

theorem acc_B  (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (hc0 : ¬cond0_0 i) (hc1 : ¬cond0_1 i)
    (x0 : Vec Ideal S1024x512 .bf16) (x1 : Vec Ideal S2048x1024 .bf16) (x2 : Vec Ideal S1024x2048 .bf16) (x3 : Vec Ideal S8x16x512 .f32) (x4 : Vec Ideal S8x16x512 .f32) (x5 : Vec Ideal S8x128x512 .bf16) (x6 : Vec Ideal S8x128x512 .bf16) (x7 : Vec Ideal S512x1024 .f32) (x8 : Vec Ideal S1x1024 .f32) (xs0 : Vec Ideal S1024x512 .f32)  :
    View.canon (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 = k0_pay2 xs0 x2 (PB x0 x1 x3 x4 x5 x6) := by
  unfold kernelRun0_B
  dsimp only
  rw [View.canon_unit_zero zero2, p_B]
  rw [View.readAt_eq_ld, harg12.read_unread, View.ld_unit_zero zero2, View.readAt_eq_ld, harg4.read_unread, View.ld_unit_zero zero2]

theorem acc_C  (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (hc0 : ¬cond0_0 i) (hc1 : cond0_1 i)
    (x0 : Vec Ideal S1024x512 .bf16) (x1 : Vec Ideal S2048x1024 .bf16) (x2 : Vec Ideal S1024x2048 .bf16) (x3 : Vec Ideal S8x16x512 .f32) (x4 : Vec Ideal S8x16x512 .f32) (x5 : Vec Ideal S8x128x512 .bf16) (x6 : Vec Ideal S8x128x512 .bf16) (x7 : Vec Ideal S512x1024 .f32) (x8 : Vec Ideal S1x1024 .f32) (xs0 : Vec Ideal S1024x512 .f32)  :
    View.canon (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 = k0_pay2 xs0 x2 (PB x0 x1 x3 x4 x5 x6) := by
  unfold kernelRun0_C
  dsimp only
  unfold kernelRun0_C.sl.HS0_1
  rw [View.canon_unit_zero zero2, p_C]
  rw [View.readAt_eq_ld, harg12.read_unread, View.ld_unit_zero zero2, View.readAt_eq_ld, harg4.read_unread, View.ld_unit_zero zero2]

theorem out_C  (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x16x512 .f32) (harg5 : arg5.IsWhole) (arg6 : Memref sig .tc .vmem S8x16x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (hc0 : ¬cond0_0 i) (hc1 : cond0_1 i)
    (x0 : Vec Ideal S1024x512 .bf16) (x1 : Vec Ideal S2048x1024 .bf16) (x2 : Vec Ideal S1024x2048 .bf16) (x3 : Vec Ideal S8x16x512 .f32) (x4 : Vec Ideal S8x16x512 .f32) (x5 : Vec Ideal S8x128x512 .bf16) (x6 : Vec Ideal S8x128x512 .bf16) (x7 : Vec Ideal S512x1024 .f32) (x8 : Vec Ideal S1x1024 .f32) (xs0 : Vec Ideal S1024x512 .f32)  :
    View.canon (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 = k0_pay3 x7 (k0_pay2 xs0 x2 (PB x0 x1 x3 x4 x5 x6)) x8 := by
  unfold kernelRun0_C
  dsimp only
  rw [View.canon_unit_zero zero2]
  unfold kernelRun0_C.sl.v10016 kernelRun0_C.sl.HS0_1
  rw [View.readCov_unit_zero _ zero2, p_C]
  rw [View.readAt_eq_ld, harg9.read_unread, View.ld_unit_zero zero2, View.readAt_eq_ld, harg12.read_unread, View.ld_unit_zero zero2, View.readAt_eq_ld, harg4.read_unread, View.ld_unit_zero zero2]
  rw [View.readAt_eq_ld, harg10.read_unread, View.ld_unit_zero zero2]

end Cert.Proof.ExpertsCase

end

end
-- ==== Proof.ExpertsFold.lean ====
/-
  The blocks the experts' kernel reads at a point, of the arguments.
-/
module

public import proofs.«01_k».proof.Proof.ExpertsPay
public import proofs.«01_k».proof.Proof.ExpertsCase
public import proofs.«01_k».proof.Proof.Gen.Kernel2Ideal.Value

@[expose] public section

set_option maxRecDepth 16384

noncomputable section

namespace Cert.Proof.ExpertsFold

open Cert.Kernel2Ideal Cert.Kernel2Ideal.Gen
open Idealize.ShloMosaic Idealize.ShloMosaic.TcCoe Idealize.ShloMosaic.Tactic
open Cert.Proof.Experts Cert.Proof.ExpertsBlk Cert.Proof.ExpertsCase

variable (m : (ℓ : Loc nD τ sig) → Buf (Elt Ideal) ℓ) (ρ : Dev nD → PrngReg)
abbrev hA (c : Dev nD) : FVec Ideal ⟨2, ![1024, 16384]⟩ .bf16 := m ((c.tc : Thread nD τ).loc main_arg0)
abbrev uA (c : Dev nD) : FVec Ideal ⟨3, ![1, 16384, 1024]⟩ .f32 := m ((c.tc : Thread nD τ).loc main_arg1)
abbrev vA (c : Dev nD) : FVec Ideal ⟨3, ![1, 16384, 1024]⟩ .f32 := m ((c.tc : Thread nD τ).loc main_arg2)
abbrev e1A (c : Dev nD) : FVec Ideal ⟨3, ![8, 128, 16384]⟩ .f32 := m ((c.tc : Thread nD τ).loc main_arg3)
abbrev n1A (c : Dev nD) : FVec Ideal ⟨3, ![8, 128, 16384]⟩ .f32 := m ((c.tc : Thread nD τ).loc main_arg4)
abbrev e2A (c : Dev nD) : FVec Ideal ⟨3, ![8, 128, 16384]⟩ .bf16 := m ((c.tc : Thread nD τ).loc main_arg5)
abbrev r2A (c : Dev nD) : FVec Ideal ⟨3, ![8, 128, 16384]⟩ .bf16 := m ((c.tc : Thread nD τ).loc main_arg6)
abbrev xA (c : Dev nD) : FVec Ideal ⟨2, ![16384, 1024]⟩ .f32 := m ((c.tc : Thread nD τ).loc main_arg7)
abbrev wA (c : Dev nD) : FVec Ideal ⟨1, ![1024]⟩ .f32 := m ((c.tc : Thread nD τ).loc main_arg8)

theorem t_lt (t : Fin cfg0.N) : t.val < 256 := lt_of_lt_of_eq t.isLt (show cfg0.N = 256 from N_0)
/-- The token of place `u` of point `t`'s block; the expert of its place `e`. -/
def tok (t : Fin cfg0.N) (u : Fin 512) : Fin 16384 := ⟨512 * (t.val / 8) + u.val, by have := t_lt t; have := u.isLt; omega⟩
def exq (t : Fin cfg0.N) (e : Fin 2048) : Fin 16384 := ⟨2048 * (t.val % 8) + e.val, by have := e.isLt; omega⟩
def exh (t : Fin cfg0.N) (a : Fin 16) : Fin 128 := ⟨16 * (t.val % 8) + a.val, by have := a.isLt; omega⟩

theorem ix_0 : ∀ t : Fin cfg0.N, win0_0.index t = ![0, t.val / 8] := (by decide +kernel : ∀ t : Fin grid0.N, _)
theorem ix_1 : ∀ t : Fin cfg0.N, win0_1.index t = ![t.val % 8, 0] := (by decide +kernel : ∀ t : Fin grid0.N, _)
theorem ix_2 : ∀ t : Fin cfg0.N, win0_2.index t = ![0, t.val % 8] := (by decide +kernel : ∀ t : Fin grid0.N, _)
theorem ix_3 : ∀ t : Fin cfg0.N, win0_3.index t = ![0, t.val % 8, t.val / 8] := (by decide +kernel : ∀ t : Fin grid0.N, _)
theorem ix_4 : ∀ t : Fin cfg0.N, win0_4.index t = ![0, t.val % 8, t.val / 8] := (by decide +kernel : ∀ t : Fin grid0.N, _)
theorem ix_5 : ∀ t : Fin cfg0.N, win0_5.index t = ![0, 0, t.val / 8] := (by decide +kernel : ∀ t : Fin grid0.N, _)
theorem ix_6 : ∀ t : Fin cfg0.N, win0_6.index t = ![0, 0, t.val / 8] := (by decide +kernel : ∀ t : Fin grid0.N, _)
theorem ix_7 : ∀ t : Fin cfg0.N, win0_7.index t = ![t.val / 8, 0] := (by decide +kernel : ∀ t : Fin grid0.N, _)
theorem ix_8 : ∀ t : Fin cfg0.N, win0_8.index t = ![0, 0] := (by decide +kernel : ∀ t : Fin grid0.N, _)

theorem h_blk (c : Dev nD) (t : Fin cfg0.N) (d : Fin 1024) (u : Fin 512) :
    (iblk m c 0 t : Vec Ideal S1024x512 .bf16) (ix2 d u) = hA m c (ix2 d (tok t u)) := by
  unfold tok
  blk_ext! [iblk, V_main_arg0, ix_0 t]
theorem u_blk (c : Dev nD) (t : Fin cfg0.N) (e : Fin 2048) (d : Fin 1024) :
    (iblk m c 1 t : Vec Ideal S2048x1024 .bf16) (ix2 e d) = uA m c (ix3 0 (exq t e) d) := by
  unfold exq
  blk_ext! [iblk, V, ix_1 t]
theorem v_blk (c : Dev nD) (t : Fin cfg0.N) (d : Fin 1024) (e : Fin 2048) :
    (iblk m c 2 t : Vec Ideal S1024x2048 .bf16) (ix2 d e) = vA m c (ix3 0 (exq t e) d) := by
  unfold exq
  blk_ext! [iblk, V, ix_2 t]
theorem e1_blk (c : Dev nD) (t : Fin cfg0.N) (k : Fin 8) (a : Fin 16) (u : Fin 512) :
    (iblk m c 3 t : Vec Ideal S8x16x512 .f32) (ix3 k a u) = e1A m c (ix3 k (exh t a) (tok t u)) := by
  unfold tok exh
  blk_ext! [iblk, V_main_arg3, ix_3 t]
theorem n1_blk (c : Dev nD) (t : Fin cfg0.N) (k : Fin 8) (a : Fin 16) (u : Fin 512) :
    (iblk m c 4 t : Vec Ideal S8x16x512 .f32) (ix3 k a u) = n1A m c (ix3 k (exh t a) (tok t u)) := by
  unfold tok exh
  blk_ext! [iblk, V_main_arg4, ix_4 t]
theorem e2_blk (c : Dev nD) (t : Fin cfg0.N) (k : Fin 8) (b : Fin 128) (u : Fin 512) :
    (iblk m c 5 t : Vec Ideal S8x128x512 .bf16) (ix3 k b u) = e2A m c (ix3 k b (tok t u)) := by
  unfold tok
  blk_ext! [iblk, V_main_arg5, ix_5 t]
theorem r2_blk (c : Dev nD) (t : Fin cfg0.N) (k : Fin 8) (b : Fin 128) (u : Fin 512) :
    (iblk m c 6 t : Vec Ideal S8x128x512 .bf16) (ix3 k b u) = r2A m c (ix3 k b (tok t u)) := by
  unfold tok
  blk_ext! [iblk, V_main_arg6, ix_6 t]
theorem x_blk (c : Dev nD) (t : Fin cfg0.N) (u : Fin 512) (d : Fin 1024) :
    (iblk m c 7 t : Vec Ideal S512x1024 .f32) (ix2 u d) = xA m c (ix2 (tok t u) d) := by
  unfold tok
  blk_ext! [iblk, V_main_arg7, ix_7 t]
theorem w_blk (c : Dev nD) (t : Fin cfg0.N) (d : Fin 1024) :
    (iblk m c 8 t : Vec Ideal S1x1024 .f32) (ix2 0 d) = wA m c (ix1 d) := by
  blk_ext! [iblk, V, ix_8 t]

/-- The block of weighted activations point `t` computes. -/
def PT (c : Dev nD) (t : Fin cfg0.N) : Vec Ideal S2048x512 .bf16 :=
  PB (iblk m c 0 t) (iblk m c 1 t) (iblk m c 3 t) (iblk m c 4 t) (iblk m c 5 t) (iblk m c 6 t)

theorem PT_at (c : Dev nD) (t : Fin cfg0.N) (e : Fin 2048) (u : Fin 512) : PT m c t (ix2 e u)
    = gate (e1A m c) (n1A m c) (e2A m c) (r2A m c) (exq t e) (tok t u) * gelu (pre (hA m c) (uA m c) (exq t e) (tok t u)) := by
  have hq : (⟨(exq t e).val / 128, by have := (exq t e).isLt; omega⟩ : Fin 128) = exh t ⟨e.val / 128, by have := e.isLt; omega⟩ :=
    Fin.ext (by simp only [exq, exh]; omega)
  have hr : (⟨(exq t e).val % 128, by omega⟩ : Fin 128) = ⟨e.val % 128, by omega⟩ :=
    Fin.ext (by simp only [exq]; omega)
  show gateB _ _ _ _ e u * actB _ _ e u = _
  unfold gateB actB gate pre
  rw [hq, hr]
  congr 1
  · refine Finset.sum_congr rfl fun k _ => ?_
    rw [e1_blk, n1_blk, e2_blk, r2_blk]
  · refine congrArg gelu (Finset.sum_congr rfl fun d _ => ?_)
    rw [h_blk, u_blk]

/-- The block of second vectors point `t` reads. -/
abbrev VT (c : Dev nD) (t : Fin cfg0.N) : Vec Ideal S1024x2048 .bf16 := iblk m c 2 t
/-- What point `t` adds at `(d, u)`. -/
theorem add_at (c : Dev nD) (t : Fin cfg0.N) (d : Fin 1024) (u : Fin 512) :
    (∑ e : Fin 2048, VT m c t (ix2 d e) * PT m c t (ix2 e u))
      = ∑ e : Fin 2048, term (hA m c) (uA m c) (vA m c) (e1A m c) (n1A m c) (e2A m c) (r2A m c) (tok t u) d (exq t e) := by
  refine Finset.sum_congr rfl fun e _ => ?_
  rw [show VT m c t (ix2 d e) = _ from v_blk m c t d e, PT_at, mul_comm]
  rfl

/-- The accumulator after a point, over what the point before left. -/
theorem acc_first (c : Dev nD) (t : Fin cfg0.N) (h0 : t.val % 8 = 0) :
    (outsAt0 m c t.val t.isLt).2 = k0_pay2 k0_pay4 (iblk m c 2 t) (PT m c t) := by
  rw [outsAt0_A m c t h0 (by omega)]
  dsimp only
  unfold sout0_A_0
  rw [View.read_writes_junk_eq_canon, acc_A]
  rfl
theorem acc_next (c : Dev nD) (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 2 t) (PT m c t) := by
  by_cases h1 : t.val % 8 = 7
  · rw [outsAt0_C m c t h0 h1]
    dsimp only
    unfold sout0_C_0
    rw [View.read_writes_junk_eq_canon, acc_C]
    rfl
  · rw [outsAt0_B m c t h0 h1]
    dsimp only
    unfold sout0_B_0
    rw [View.read_writes_junk_eq_canon, acc_B]
    rfl
theorem out_last (c : Dev nD) (t : Fin cfg0.N) (h1 : t.val % 8 = 7) :
    (outsAt0 m c t.val t.isLt).1 = k0_pay3 (iblk m c 7 t) (outsAt0 m c t.val t.isLt).2 (iblk m c 8 t) := by
  rw [acc_next m c t (by omega), outsAt0_C m c t (by omega) h1]
  dsimp only
  unfold out0_C_9
  rw [View.read_writes_junk_eq_canon, out_C]
  rfl

/-- The terms of token `t` at `d`, of a number of experts. -/
def gN (c : Dev nD) (t : Fin 16384) (d : Fin 1024) (k : ℕ) : EReal :=
  if h : k < 16384 then term (hA m c) (uA m c) (vA m c) (e1A m c) (n1A m c) (e2A m c) (r2A m c) t d ⟨k, h⟩ else 0
theorem add_range (c : Dev nD) (t : Fin cfg0.N) (d : Fin 1024) (u : Fin 512) :
    (∑ e : Fin 2048, VT m c t (ix2 d e) * PT m c t (ix2 e u))
      = ∑ k ∈ Finset.range 2048, gN m c (tok t u) d (2048 * (t.val % 8) + k) := by
  rw [add_at, ← Fin.sum_univ_eq_sum_range (fun k => gN m c (tok t u) d (2048 * (t.val % 8) + k))]
  refine Finset.sum_congr rfl fun e _ => ?_
  unfold gN
  rw [dif_pos (by have := e.isLt; omega)]
  rfl

/-- The accumulator after point `n`: the terms of the experts of the blocks up to its own. -/
theorem acc_at (c : Dev nD) (d : Fin 1024) (u : Fin 512) : ∀ (n : ℕ) (hn : n < cfg0.N),
    (outsAt0 m c n hn).2 (ix2 d u) = ∑ k ∈ Finset.range (2048 * (n % 8 + 1)), gN m c (tok ⟨n, hn⟩ u) d k := by
  intro n
  induction n with
  | zero =>
    intro hn
    rw [show (outsAt0 m c 0 hn).2 = _ from acc_first m c ⟨0, hn⟩ rfl, pay2_at, pay4_at, zero_add]
    refine (add_range m c ⟨0, hn⟩ d u).trans ?_
    refine Finset.sum_congr rfl fun k _ => ?_
    simp
  | succ n ih =>
    intro hn
    by_cases h0 : (n + 1) % 8 = 0
    · rw [show (outsAt0 m c (n + 1) hn).2 = _ from acc_first m c ⟨n + 1, hn⟩ h0, pay2_at, pay4_at, zero_add]
      refine (add_range m c ⟨n + 1, hn⟩ d u).trans ?_
      rw [h0]
      refine Finset.sum_congr rfl fun k _ => ?_
      simp only [h0, Nat.mul_zero, Nat.zero_add]
    · rw [show (outsAt0 m c (n + 1) hn).2 = _ from acc_next m c ⟨n + 1, hn⟩ h0, pay2_at]
      have hm : (n + 1) % 8 = n % 8 + 1 := by omega
      have ht : tok ⟨n, Nat.lt_of_succ_lt hn⟩ u = tok ⟨n + 1, hn⟩ u := Fin.ext (by simp only [tok]; omega)
      rw [show 2048 * ((n + 1) % 8 + 1) = 2048 * (n % 8 + 1) + 2048 by omega, Finset.sum_range_add, ← ht]
      refine congrArg₂ (· + ·) (ih (Nat.lt_of_succ_lt hn)) ?_
      refine (add_range m c ⟨n + 1, hn⟩ d u).trans ?_
      rw [← ht, ← hm]

theorem sum_dite (N : ℕ) (f : Fin N → EReal) (n : ℕ) (hn : n = N) :
    ∑ k ∈ Finset.range n, (if h : k < N then f ⟨k, h⟩ else 0) = ∑ e : Fin N, f e := by
  subst hn
  rw [← Fin.sum_univ_eq_sum_range (fun k => if h : k < n then f ⟨k, h⟩ else 0)]
  exact Finset.sum_congr rfl fun e _ => dif_pos e.isLt
theorem sum_gN (c : Dev nD) (t : Fin 16384) (d : Fin 1024) (n : ℕ) (hn : n = 16384) :
    ∑ k ∈ Finset.range n, gN m c t d k
      = ∑ e : Fin 16384, term (hA m c) (uA m c) (vA m c) (e1A m c) (n1A m c) (e2A m c) (r2A m c) t d e :=
  sum_dite 16384 _ n hn

/-- The array the experts' kernel leaves, at an index. -/
theorem G9_at (c : Dev nD) (t : Fin 16384) (d : Fin 1024) : Cert.Kernel2Ideal.Value.G9 m c (ix2 t d)
    = nrm (yv (hA m c) (uA m c) (vA m c) (e1A m c) (n1A m c) (e2A m c) (r2A m c) (xA m c) t) (wA m c (ix1 d)) d := by
  have ht := t.isLt
  have hd := d.isLt
  have hp : Cert.Kernel2Ideal.Value.pt9Of (ix2 t d) = 8 * (t.val / 512) + 7 := by
    show 8 * (1 * (t.val / 512 - 0) + 1 * (d.val / 1024 - 0)) + 7 = _
    omega
  have hN : 8 * (t.val / 512) + 7 < cfg0.N := lt_of_lt_of_eq (by omega) (show cfg0.N = 256 from N_0).symm
  have hl : Cert.Kernel2Ideal.Value.loc9Of (ix2 t d) = ix2 (⟨t.val % 512, by omega⟩ : Fin 512) d := by
    funext a; apply Fin.ext
    match a with
    | ⟨0, _⟩ => rfl
    | ⟨1, _⟩ => exact Nat.mod_eq_of_lt hd
  unfold Cert.Kernel2Ideal.Value.G9
  rw [dif_pos (by rw [hp]; exact hN), hl, Cert.Kernel2Ideal.Value.fold0_congr m c _ _ _ (by omega) hp, ← Cert.Kernel2Ideal.Value.outsAt0_sweep m c _ hN,
    show (outsAt0 m c (8 * (t.val / 512) + 7) hN).1 = _ from out_last m c ⟨8 * (t.val / 512) + 7, hN⟩ (by simp only []; omega)]
  have hk : tok ⟨8 * (t.val / 512) + 7, hN⟩ ⟨t.val % 512, by omega⟩ = t := Fin.ext (by simp only [tok]; omega)
  refine (pay3_at _ _ _ _ _).trans ?_
  rw [w_blk]
  refine congrArg (fun f => nrm f (wA m c (ix1 d)) d) (funext fun k => ?_)
  rw [x_blk, hk, acc_at, hk]
  unfold yv
  refine congrArg (fun z => xA m c (ix2 t k) + z) ?_
  exact sum_gN m c t k _ (by show 2048 * ((8 * (t.val / 512) + 7) % 8 + 1) = 16384; omega)

end Cert.Proof.ExpertsFold

end

end
-- ==== Proof.ExpertsText.lean ====
/-
  The experts' call and its idealization have one text: the named constants read as their bits.
-/
module

public import proofs.«01_k».proof.Proof.Gen.Kernel2
public import proofs.«01_k».proof.Proof.Gen.Kernel2Ideal
public import Idealize.ShloMosaic.PureOps.BitExact

@[expose] public section

set_option maxRecDepth 65536

noncomputable section

namespace Cert.Proof.Experts

open Idealize.ShloMosaic Idealize.SL.Sem

attribute [local instance] Cert.Kernel2.Gen.facts Cert.Kernel2Ideal.Gen.facts

/-- A named constant, read as the bits it stands for. -/
@[reducible] def namedBits : Named Bits := ⟨fun _ _ _ b => Scalar.ofBits _ b⟩

attribute [local instance] namedBits

set_option maxHeartbeats 4000000 in
/-- The kernels' body tables agree. -/
theorem rows_eq : @Cert.Kernel2.defs₀ Bits _ _ = @Cert.Kernel2Ideal.defs₀ Bits _ _ _ := by
  unfold Cert.Kernel2.defs₀ Cert.Kernel2Ideal.defs₀
  refine congrArg Defs.onTc (funext fun l => funext fun x => ?_)
  match l, x with
  | 0, (t, s) => rfl

/-- And so do their body tables with the pipelines'. -/
theorem defs_eq : @Cert.Kernel2.defs Bits _ _ = @Cert.Kernel2Ideal.defs Bits _ _ _ := by
  unfold Cert.Kernel2.defs Cert.Kernel2Ideal.defs
  rw [rows_eq]
  rfl

end Cert.Proof.Experts

end

end
-- ==== Proof.ExpertsFinal.lean ====
/-
  The experts' call and its reference: one array, from one memory.
-/
module

public import proofs.«01_k».proof.Defs
public import proofs.«01_k».proof.Proof.ExpertsFold
public import proofs.«01_k».proof.Proof.ExpertsText
public import proofs.«01_k».proof.Proof.Gen.Reference2Ideal.Run

@[expose] public section

set_option maxRecDepth 16384

noncomputable section

namespace Cert.Proof.ExpertsFinal

open Idealize.ShloMosaic Idealize.ShloMosaic.TcCoe Idealize.ShloMosaic.Tactic Idealize.SL.Sem
open Cert.Proof.Experts Cert.Proof.ExpertsFold

attribute [local instance] Cert.Kernel2.Gen.facts Cert.Kernel2Ideal.Gen.facts Cert.Reference2Ideal.Gen.facts

theorem frame_kernel : Cert.quiescent_Kernel2 := fun m ρ _ => by
  rw [defs_eq]
  exact (θ_run (@Cert.Kernel2Ideal.defs Bits _ namedBits _) _ _).mono (fun _ h => h) (@Cert.Kernel2Ideal.Gen.frame Bits _ namedBits m ρ)
theorem frame_ideal : Cert.quiescent_Kernel2Ideal := fun m ρ _ => Cert.Kernel2Ideal.Gen.frame (F := Ideal) m ρ
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal :=
  ⟨IdealRules.named_const.statement Cert.Kernel2Ideal.κ "gelu_k1" .f32 0xBDD2D3E8#32 (((((-2) * (6693141 / 8388608)) * (Real.log 2)⁻¹) * (12003091 / 268435456) : ℝ) : EReal) rfl,
    IdealRules.named_const.statement Cert.Kernel2Ideal.κ "gelu_k0" .f32 0xC0135761#32 ((((-2) * (6693141 / 8388608)) * (Real.log 2)⁻¹ : ℝ) : EReal) rfl⟩

theorem out_eq (m : (ℓ : Loc Cert.Kernel2Ideal.nD Cert.Kernel2Ideal.τ Cert.Kernel2Ideal.sig) → Buf (Elt Ideal) ℓ) (c : Dev Cert.Kernel2Ideal.nD) :
    Cert.Proof.ExpertsRef.outR (hA m c) (uA m c) (vA m c) (e1A m c) (n1A m c) (e2A m c) (r2A m c) (xA m c) (wA m c)
      = Cert.Kernel2Ideal.Value.G9 m c := by
  funext i
  have e : i = ix2 (i 0 : Fin 16384) (i 1 : Fin 1024) := (ix2_eta i).symm
  rw [e]
  exact (Cert.Proof.ExpertsRef.outR_at _ _ _ _ _ _ _ _ _ _ _).trans (G9_at m c _ _).symm

theorem algebraic : Cert.algebraic_Kernel2Ideal_Reference2Ideal := by
  intro m g m' g' _ hagree
  refine ⟨fun c => Cert.Kernel2Ideal.Value.G9 m c, Cert.Kernel2Ideal.Value.run (F := Ideal) m g, ?_⟩
  refine (θ_run Cert.Reference2Ideal.defs _ _).mono (fun r h c => ?_) (Cert.Reference2Ideal.Value.run (F := Ideal) m' g')
  obtain ⟨h1, h2⟩ := h c
  obtain ⟨a0, a1, a2, a3, a4, a5, a6, a7, a8⟩ := hagree c
  refine ⟨h1.trans ?_, h2⟩
  refine Eq.trans ?_ (out_eq m c)
  unfold hA uA vA e1A n1A e2A r2A xA wA
  rw [← a0, ← a1, ← a2, ← a3, ← a4, ← a5, ← a6, ← a7, ← a8]
  rfl

end Cert.Proof.ExpertsFinal

end

end
-- ==== Proof.InprojRef.lean ====
/-
  The reference of the input projection, read at an index.
-/
module

public import proofs.«01_k».proof.Proof.ExpertsRef
public import proofs.«01_k».proof.Proof.Gen.Reference3Ideal

@[expose] public section

set_option maxRecDepth 16384

noncomputable section

namespace Cert.Proof.Inproj

open Idealize.ShloMosaic Idealize.ShloMosaic.Tactic
open Cert.Proof.Experts

/-- Which batch token `t` is of, and its place there. -/
def bat (t : Fin 16384) : Fin 2 := ⟨t.val / 8192, by have := t.isLt; omega⟩
def pos (t : Fin 16384) : Fin 8192 := ⟨t.val % 8192, by omega⟩
/-- Token `t`'s normalised row times column `n` of the weights. -/
def proj (x : FVec Ideal ⟨3, ![2, 8192, 1024]⟩ .f32) (g : FVec Ideal ⟨2, ![1, 1024]⟩ .f32) (w : FVec Ideal ⟨3, ![1, 1024, 12288]⟩ .f32)
    (t : Fin 16384) (n : Fin 12288) : EReal :=
  ∑ d : Fin 1024, nrm (fun k => x (ix3 (bat t) (pos t) k)) (g (ix2 0 d)) d * w (ix3 0 d n)

end Cert.Proof.Inproj

namespace Cert.Proof.InprojRef

open Cert.Reference3Ideal Cert.Reference3Ideal.Gen
open Idealize.ShloMosaic Idealize.ShloMosaic.Tactic
open Cert.Proof.Experts Cert.Proof.Inproj

def rowR (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))
def outR (x : FVec Ideal S2x8192x1024 .f32) (g : FVec Ideal S1x1024 .f32) (w : FVec Ideal S1x1024x12288 .f32) : FVec Ideal S16384x12288 .bf16 :=
  truncf .bf16 (shapeCast _ (Host.dotGeneral dot_S2x8192x1024_S1024x12288_S2x8192x12288_2_0_01_1_n_n none (rowR x g) (shapeCast _ w shapeCasts_S1x1024x12288_S1024x12288)) shapeCasts_S2x8192x12288_S16384x12288) bitsLt_bf16_f32

theorem rowR_at (x : FVec Ideal S2x8192x1024 .f32) (g : FVec Ideal S1x1024 .f32) (b : Fin 2) (s : Fin 8192) (d : Fin 1024) :
    rowR x g (ix3 b s d) = nrm (fun k => x (ix3 b s k)) (g (ix2 0 d)) d := by
  unfold rowR nrm
  pointwise
theorem outR_at (x : FVec Ideal S2x8192x1024 .f32) (g : FVec Ideal S1x1024 .f32) (w : FVec Ideal S1x1024x12288 .f32) (t : Fin 16384) (n : Fin 12288) :
    outR x g w (ix2 t n) = proj x g w t n := by
  unfold outR proj bat pos
  pointwise
  simp only [rowR_at]

end Cert.Proof.InprojRef

end

end
-- ==== Proof.InprojBlk.lean ====
/-
  The input projection at a point of its grid, and the array it leaves.
-/
module

public import proofs.«01_k».proof.Proof.InprojRef
public import proofs.«01_k».proof.Proof.Gen.Kernel3Ideal.Value
public import Idealize.ShloMosaic.Lib.Pipeline.ValueKit

@[expose] public section

set_option maxRecDepth 16384

noncomputable section

namespace Cert.Proof.InprojBlk

open Cert.Kernel3Ideal Cert.Kernel3Ideal.Gen
open Idealize.ShloMosaic Idealize.ShloMosaic.TcCoe Idealize.ShloMosaic.Tactic
open Cert.Proof.Experts Cert.Proof.Inproj

theorem pay1_at (x : Vec Ideal S1024x1024 .f32) (g : Vec Ideal S1x1024 .f32) (r d : Fin 1024) :
    (k0_pay1 x g) (ix2 r d) = nrm (fun k => x (ix2 r k)) (g (ix2 0 d)) d := by
  unfold k0_pay1 nrm
  pointwise

theorem pay2_at (h : Vec Ideal S1024x1024 .bf16) (w : Vec Ideal S1024x1536 .bf16) (r : Fin 1024) (n : Fin 1536) :
    (k0_pay2 h w) (ix2 r n) = ∑ d : Fin 1024, h (ix2 r d) * w (ix2 d n) := by
  unfold k0_pay2
  pointwise

theorem zero2 : (![0, 0] : Fin 2 → ℕ) = fun _ => 0 := by funext a; fin_cases a <;> rfl

section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1024x1536 .bf16) (harg5 : arg5.IsWhole) (arg6 : Memref sig .tc .vmem S1024x1024 .bf16) (harg6 : arg6.IsWhole)
    (x0 : Vec Ideal S1024x1024 .f32) (x1 : Vec Ideal S1x1024 .f32) (x2 : Vec Ideal S1024x1536 .bf16)

theorem scr_A (hc0 : cond0_0 i) :
    View.canon (kernelRun0_A (F := Ideal) c i arg2 harg2 arg3 harg3 arg4 harg4 arg5 harg5 arg6 harg6 hc0 x0 x1 x2).2.1 = k0_pay1 x0 x1 := by
  unfold kernelRun0_A
  dsimp only
  unfold kernelRun0_A.sl.HS0_1
  rw [View.canon_unit_zero zero2]
  rw [View.readAt_eq_ld, harg2.read_unread, View.ld_unit_zero zero2, View.readAt_eq_ld, harg3.read_unread, View.ld_unit_zero zero2]

theorem out_A (hc0 : cond0_0 i) :
    View.canon (kernelRun0_A (F := Ideal) c i arg2 harg2 arg3 harg3 arg4 harg4 arg5 harg5 arg6 harg6 hc0 x0 x1 x2).1 = k0_pay2 (k0_pay1 x0 x1) x2 := by
  unfold kernelRun0_A
  dsimp only
  rw [View.canon_unit_zero zero2]
  unfold kernelRun0_A.sl.v3 kernelRun0_A.sl.HS0_1
  rw [View.readCov_unit_zero _ zero2]
  rw [View.readAt_eq_ld, harg2.read_unread, View.ld_unit_zero zero2, View.readAt_eq_ld, harg3.read_unread, View.ld_unit_zero zero2,
    View.readAt_eq_ld, harg4.read_unread, View.ld_unit_zero zero2]

theorem out_B (xs0 : Vec Ideal S1024x1024 .bf16) (hc0 : ¬cond0_0 i) :
    View.canon (kernelRun0_B (F := Ideal) c i arg2 harg2 arg3 harg3 arg4 harg4 arg5 harg5 arg6 harg6 hc0 x0 x1 x2 xs0).1 = k0_pay2 xs0 x2 := by
  unfold kernelRun0_B
  dsimp only
  rw [View.canon_unit_zero zero2]
  rw [View.readAt_eq_ld, harg6.read_unread, View.ld_unit_zero zero2, View.readAt_eq_ld, harg4.read_unread, View.ld_unit_zero zero2]
end

variable (m : (ℓ : Loc nD τ sig) → Buf (Elt Ideal) ℓ) (ρ : Dev nD → PrngReg)
abbrev xA (c : Dev nD) : FVec Ideal ⟨3, ![2, 8192, 1024]⟩ .f32 := m ((c.tc : Thread nD τ).loc main_arg0)
abbrev gA (c : Dev nD) : FVec Ideal ⟨2, ![1, 1024]⟩ .f32 := m ((c.tc : Thread nD τ).loc main_arg1)
abbrev wA (c : Dev nD) : FVec Ideal ⟨3, ![1, 1024, 12288]⟩ .f32 := m ((c.tc : Thread nD τ).loc main_arg2)

theorem t_lt (t : Fin cfg0.N) : t.val < 128 := lt_of_lt_of_eq t.isLt (show cfg0.N = 128 from N_0)
/-- The token of row `r` of point `t`'s block; the column of its column `n`. -/
def tok (t : Fin cfg0.N) (r : Fin 1024) : Fin 16384 := ⟨1024 * (t.val / 8) + r.val, by have := t_lt t; have := r.isLt; omega⟩
def col (t : Fin cfg0.N) (n : Fin 1536) : Fin 12288 := ⟨1536 * (t.val % 8) + n.val, by have := n.isLt; omega⟩

theorem ix_0 : ∀ t : Fin cfg0.N, win0_0.index t = ![t.val / 8, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, t.val % 8] := (by decide +kernel : ∀ t : Fin grid0.N, _)

theorem x_blk (c : Dev nD) (t : Fin cfg0.N) (r d : Fin 1024) :
    (iblk m c 0 t : Vec Ideal S1024x1024 .f32) (ix2 r d) = xA m c (ix3 (bat (tok t r)) (pos (tok t r)) d) := by
  unfold bat pos tok
  blk_ext! [iblk, V, ix_0 t]
theorem g_blk (c : Dev nD) (t : Fin cfg0.N) (d : Fin 1024) :
    (iblk m c 1 t : Vec Ideal S1x1024 .f32) (ix2 0 d) = gA m c (ix2 0 d) := by
  blk_ext! [iblk, V_main_arg1, ix_1 t]
theorem w_blk (c : Dev nD) (t : Fin cfg0.N) (d : Fin 1024) (n : Fin 1536) :
    (iblk m c 2 t : Vec Ideal S1024x1536 .bf16) (ix2 d n) = wA m c (ix3 0 d (col t n)) := by
  unfold col
  blk_ext! [iblk, V, ix_2 t]

/-- The scratch after a point, over what the point before left. -/
theorem scr_first (c : Dev nD) (t : Fin cfg0.N) (h0 : t.val % 8 = 0) :
    (outsAt0 m c t.val t.isLt).2 = k0_pay1 (iblk m c 0 t) (iblk m c 1 t) := by
  rw [outsAt0_A m c t h0]
  dsimp only
  unfold sout0_A_0
  rw [View.read_writes_junk_eq_canon, scr_A]
theorem scr_next (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl
theorem out_pt (c : Dev nD) (t : Fin cfg0.N) :
    (outsAt0 m c t.val t.isLt).1 = k0_pay2 (outsAt0 m c t.val t.isLt).2 (iblk m c 2 t) := by
  by_cases h0 : t.val % 8 = 0
  · rw [scr_first m c t h0, outsAt0_A m c t h0]
    dsimp only
    unfold out0_A_3
    rw [View.read_writes_junk_eq_canon, out_A]
  · rw [scr_next m c t h0, outsAt0_B m c t h0]
    dsimp only
    unfold out0_B_3
    rw [View.read_writes_junk_eq_canon, out_B]

/-- The scratch holds the normalised rows of the point's tokens. -/
theorem scr_at (c : Dev nD) (r d : Fin 1024) : ∀ (n : ℕ) (hn : n < cfg0.N),
    (outsAt0 m c n hn).2 (ix2 r d) = nrm (fun k => xA m c (ix3 (bat (tok ⟨n, hn⟩ r)) (pos (tok ⟨n, hn⟩ r)) k)) (gA m c (ix2 0 d)) d := by
  have first : ∀ t : Fin cfg0.N, t.val % 8 = 0 → (outsAt0 m c t.val t.isLt).2 (ix2 r d)
      = nrm (fun k => xA m c (ix3 (bat (tok t r)) (pos (tok t r)) k)) (gA m c (ix2 0 d)) d := fun t h0 => by
    rw [scr_first m c t h0]
    refine (pay1_at _ _ _ _).trans ?_
    rw [g_blk]
    exact congrArg (fun f => nrm f (gA m c (ix2 0 d)) d) (funext fun k => x_blk m c t r k)
  intro n
  induction n with
  | zero => intro hn; exact first ⟨0, hn⟩ rfl
  | succ n ih =>
    intro hn
    by_cases h0 : (n + 1) % 8 = 0
    · exact first ⟨n + 1, hn⟩ h0
    · have ht : tok ⟨n, Nat.lt_of_succ_lt hn⟩ r = tok ⟨n + 1, hn⟩ r := Fin.ext (by simp only [tok]; omega)
      rw [show (outsAt0 m c (n + 1) hn).2 = _ from scr_next m c ⟨n + 1, hn⟩ h0, ← ht]
      exact ih (Nat.lt_of_succ_lt hn)

/-- The array the input projection leaves, at an index. -/
theorem G3_at (c : Dev nD) (t : Fin 16384) (n : Fin 12288) : Cert.Kernel3Ideal.Value.G3 m c (ix2 t n)
    = proj (xA m c) (gA m c) (wA m c) t n := by
  have ht := t.isLt
  have hd := n.isLt
  have hp : Cert.Kernel3Ideal.Value.pt3Of (ix2 t n) = 8 * (t.val / 1024) + n.val / 1536 := by
    show 8 * (t.val / 1024 - 0) + 1 * (n.val / 1536 - 0) = _
    omega
  have hN : 8 * (t.val / 1024) + n.val / 1536 < cfg0.N := lt_of_lt_of_eq (by omega) (show cfg0.N = 128 from N_0).symm
  have hl : Cert.Kernel3Ideal.Value.loc3Of (ix2 t n) = ix2 (⟨t.val % 1024, by omega⟩ : Fin 1024) (⟨n.val % 1536, by omega⟩ : Fin 1536) := by
    funext a; apply Fin.ext
    match a with
    | ⟨0, _⟩ => rfl
    | ⟨1, _⟩ => rfl
  unfold Cert.Kernel3Ideal.Value.G3
  rw [dif_pos (by rw [hp]; exact hN), hl, Cert.Kernel3Ideal.Value.fold0_congr m c _ _ _ (by omega) hp, ← Cert.Kernel3Ideal.Value.outsAt0_sweep m c _ hN,
    show (outsAt0 m c (8 * (t.val / 1024) + n.val / 1536) hN).1 = _ from out_pt m c ⟨8 * (t.val / 1024) + n.val / 1536, hN⟩]
  have hk : tok ⟨8 * (t.val / 1024) + n.val / 1536, hN⟩ ⟨t.val % 1024, by omega⟩ = t := Fin.ext (by simp only [tok]; omega)
  have hc : col ⟨8 * (t.val / 1024) + n.val / 1536, hN⟩ ⟨n.val % 1536, by omega⟩ = n := Fin.ext (by simp only [col]; omega)
  refine (pay2_at _ _ _ _).trans ?_
  unfold proj
  refine Finset.sum_congr rfl fun d _ => ?_
  rw [w_blk, hc, scr_at, hk]

end Cert.Proof.InprojBlk

end

end
-- ==== Proof.InprojFinal.lean ====
/-
  The input projection and its reference: one array, from one memory.
-/
module

public import proofs.«01_k».proof.Defs
public import proofs.«01_k».proof.Proof.InprojBlk
public import proofs.«01_k».proof.Proof.Gen.Kernel3
public import proofs.«01_k».proof.Proof.Gen.Reference3Ideal.Run

@[expose] public section

set_option maxRecDepth 16384

noncomputable section

namespace Cert.Proof.InprojFinal

open Idealize.ShloMosaic Idealize.ShloMosaic.TcCoe Idealize.ShloMosaic.Tactic Idealize.SL.Sem
open Cert.Proof.Inproj Cert.Proof.InprojBlk

attribute [local instance] Cert.Kernel3.Gen.facts Cert.Kernel3Ideal.Gen.facts Cert.Reference3Ideal.Gen.facts

section
variable {F : FTy → Type} [FloatOps F]
/-- The two programs have one text: the kernels' body tables agree. -/
theorem rows_eq : @Cert.Kernel3.defs₀ F _ _ = @Cert.Kernel3Ideal.defs₀ F _ _ := by
  unfold Cert.Kernel3.defs₀ Cert.Kernel3Ideal.defs₀
  refine congrArg Defs.onTc (funext fun l => funext fun x => ?_)
  match l, x with
  | 0, (t, s) => rfl
/-- And so do their body tables with the pipelines'. -/
theorem defs_eq : @Cert.Kernel3.defs F _ _ = @Cert.Kernel3Ideal.defs F _ _ := by
  unfold Cert.Kernel3.defs Cert.Kernel3Ideal.defs
  rw [rows_eq]
  rfl
end

theorem frame_kernel : Cert.quiescent_Kernel3 := fun m ρ _ => by
  rw [defs_eq]
  exact (θ_run (@Cert.Kernel3Ideal.defs Bits _ _) _ _).mono (fun _ h => h) (@Cert.Kernel3Ideal.Gen.frame Bits _ m ρ)
theorem frame_ideal : Cert.quiescent_Kernel3Ideal := fun m ρ _ => Cert.Kernel3Ideal.Gen.frame (F := Ideal) m ρ
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

theorem out_eq (m : (ℓ : Loc Cert.Kernel3Ideal.nD Cert.Kernel3Ideal.τ Cert.Kernel3Ideal.sig) → Buf (Elt Ideal) ℓ) (c : Dev Cert.Kernel3Ideal.nD) :
    Cert.Proof.InprojRef.outR (xA m c) (gA m c) (wA m c) = Cert.Kernel3Ideal.Value.G3 m c := by
  funext i
  have e : i = ix2 (i 0 : Fin 16384) (i 1 : Fin 12288) := (ix2_eta i).symm
  rw [e]
  exact (Cert.Proof.InprojRef.outR_at _ _ _ _ _).trans (G3_at m c _ _).symm

theorem algebraic : Cert.algebraic_Kernel3Ideal_Reference3Ideal := by
  intro m g m' g' _ hagree
  refine ⟨fun c => Cert.Kernel3Ideal.Value.G3 m c, Cert.Kernel3Ideal.Value.run (F := Ideal) m g, ?_⟩
  refine (θ_run Cert.Reference3Ideal.defs _ _).mono (fun r h c => ?_) (Cert.Reference3Ideal.Value.run (F := Ideal) m' g')
  obtain ⟨h1, h2⟩ := h c
  obtain ⟨a0, a1, a2⟩ := hagree c
  refine ⟨h1.trans ?_, h2⟩
  refine Eq.trans ?_ (out_eq m c)
  unfold xA gA wA
  rw [← a0, ← a1, ← a2]
  rfl

end Cert.Proof.InprojFinal

end

end
-- ==== Proof.MergeRef.lean ====
/-
  The reference of the branches' merge, read at an index.
-/
module

public import proofs.«01_k».proof.Proof.InprojRef
public import proofs.«01_k».proof.Proof.Gen.Reference4Ideal

@[expose] public section

set_option maxRecDepth 16384

noncomputable section

namespace Cert.Proof.Merge

open Idealize.ShloMosaic Idealize.ShloMosaic.Tactic
open Cert.Proof.Experts Cert.Proof.Inproj

/-- The logistic function. -/
def sg (z : EReal) : EReal := Ideal.div (Ideal.ofBits .f32 0x3F800000#32) (Ideal.ofBits .f32 0x3F800000#32 + Ideal.exp (-z))

section
variable (oh : FVec Ideal ⟨2, ![16384, 1024]⟩ .bf16) (or : FVec Ideal ⟨2, ![16384, 2048]⟩ .bf16) (p : FVec Ideal ⟨2, ![16384, 12288]⟩ .bf16)
    (x : FVec Ideal ⟨3, ![2, 8192, 1024]⟩ .f32) (wh : FVec Ideal ⟨3, ![1, 1024, 1024]⟩ .f32) (wr : FVec Ideal ⟨3, ![1, 2048, 1024]⟩ .f32)
    (wo : FVec Ideal ⟨3, ![1, 1024, 1024]⟩ .f32) (g : FVec Ideal ⟨2, ![1, 1024]⟩ .f32) (wq : FVec Ideal ⟨3, ![1, 1024, 2048]⟩ .f32)
/-- The gated sum of the two branches. -/
def mix (t : Fin 16384) (k : Fin 1024) : EReal :=
  sg (p (ix2 t ⟨10240 + k.val, by have := k.isLt; omega⟩)) * (∑ j : Fin 1024, oh (ix2 t j) * wh (ix3 0 j k))
    + sg (p (ix2 t ⟨11264 + k.val, by have := k.isLt; omega⟩)) * (∑ j : Fin 2048, or (ix2 t j) * wr (ix3 0 j k))
/-- The residual with it projected. -/
def res (t : Fin 16384) (d : Fin 1024) : EReal := x (ix3 (bat t) (pos t) d) + ∑ k : Fin 1024, mix oh or p wh wr t k * wo (ix3 0 k d)
/-- Its row normalised. -/
def row (t : Fin 16384) (d : Fin 1024) : EReal := nrm (res oh or p x wh wr wo t) (g (ix2 0 d)) d
/-- The queries. -/
def qry (t : Fin 16384) (n : Fin 2048) : EReal := ∑ d : Fin 1024, row oh or p x wh wr wo g t d * wq (ix3 0 d n)
end

end Cert.Proof.Merge

namespace Cert.Proof.MergeRef

open Cert.Reference4Ideal Cert.Reference4Ideal.Gen
open Idealize.ShloMosaic Idealize.ShloMosaic.Tactic
open Cert.Proof.Experts Cert.Proof.Inproj Cert.Proof.Merge

/-- The gates of an array of logits. -/
def sgR (z : FVec Ideal S16384x1024 .bf16) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (extf .f32 z bitsLt_bf16_f32))))
def mixR (oh : FVec Ideal S16384x1024 .bf16) (or : FVec Ideal S16384x2048 .bf16) (p : FVec Ideal S16384x12288 .bf16) (wh : FVec Ideal S1x1024x1024 .f32) (wr : FVec Ideal S1x2048x1024 .f32) : FVec Ideal S16384x1024 .f32 :=
  addf (mulf (sgR (extractStridedSlice S16384x1024 ![0, 10240] p slices_S16384x12288_S16384x1024_0_10240)) (Host.dotGeneral dot_S16384x1024_S1024x1024_S16384x1024_1_0_0_1_n_n none (extf .f32 oh bitsLt_bf16_f32) (shapeCast _ wh shapeCasts_S1x1024x1024_S1024x1024)))
    (mulf (sgR (extractStridedSlice S16384x1024 ![0, 11264] p slices_S16384x12288_S16384x1024_0_11264)) (Host.dotGeneral dot_S16384x2048_S2048x1024_S16384x1024_1_0_0_1_n_n none (extf .f32 or bitsLt_bf16_f32) (shapeCast _ wr shapeCasts_S1x2048x1024_S2048x1024)))
section
variable (oh : FVec Ideal S16384x1024 .bf16) (or : FVec Ideal S16384x2048 .bf16) (p : FVec Ideal S16384x12288 .bf16)
    (x : FVec Ideal S2x8192x1024 .f32) (wh : FVec Ideal S1x1024x1024 .f32) (wr : FVec Ideal S1x2048x1024 .f32)
    (wo : FVec Ideal S1x1024x1024 .f32) (g : FVec Ideal S1x1024 .f32) (wq : FVec Ideal S1x1024x2048 .f32)
def resR : FVec Ideal S16384x1024 .f32 :=
  addf (shapeCast _ x shapeCasts_S2x8192x1024_S16384x1024) (Host.dotGeneral dot_S16384x1024_S1024x1024_S16384x1024_1_0_0_1_n_n none (mixR oh or p wh wr) (shapeCast _ wo shapeCasts_S1x1024x1024_S1024x1024))
def rowR : FVec Ideal S16384x1024 .f32 :=
  mulf (mulf (resR oh or p x wh wr wo) (broadcastInDim S16384x1024 ![0, 1] bcast_S16384x1_S16384x1024_0_1 (Host.rsqrt (addf (Host.divf (broadcastInDim S16384x1 ![0] bcast_S16384_S16384x1_0 (Host.reduceAdd (mulf (resR oh or p x wh wr wo) (resR oh or p x wh wr wo)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))
def rowTR : FVec Ideal S1024x16384 .bf16 :=
  truncf .bf16 (transpose S1024x16384 [1, 0] (rowR oh or p x wh wr wo g) transposes_S16384x1024_S1024x16384_1_0) bitsLt_bf16_f32
def qryR : FVec Ideal S16384x2048 .bf16 :=
  truncf .bf16 (Host.dotGeneral dot_S16384x1024_S1024x2048_S16384x2048_1_0_0_1_n_n none (rowR oh or p x wh wr wo g) (shapeCast _ wq shapeCasts_S1x1024x2048_S1024x2048)) bitsLt_bf16_f32

theorem sgR_at (z : FVec Ideal S16384x1024 .bf16) (t : Fin 16384) (k : Fin 1024) : sgR z (ix2 t k) = sg (z (ix2 t k)) := by
  unfold sgR sg
  pointwise
theorem mixR_at (t : Fin 16384) (k : Fin 1024) : mixR oh or p wh wr (ix2 t k) = mix oh or p wh wr t k := by
  unfold mixR mix
  pointwise
  simp only [sgR_at]
  pointwise
theorem resR_at (t : Fin 16384) (d : Fin 1024) : resR oh or p x wh wr wo (ix2 t d) = res oh or p x wh wr wo t d := by
  unfold resR res bat pos
  pointwise
  simp only [mixR_at]
theorem rowR_at (t : Fin 16384) (d : Fin 1024) : rowR oh or p x wh wr wo g (ix2 t d) = row oh or p x wh wr wo g t d := by
  unfold rowR row nrm
  pointwise
  simp only [resR_at]
theorem rowTR_at (d : Fin 1024) (t : Fin 16384) : rowTR oh or p x wh wr wo g (ix2 d t) = row oh or p x wh wr wo g t d := by
  unfold rowTR
  pointwise
  simp only [rowR_at]
theorem qryR_at (t : Fin 16384) (n : Fin 2048) : qryR oh or p x wh wr wo g wq (ix2 t n) = qry oh or p x wh wr wo g wq t n := by
  unfold qryR qry
  pointwise
  simp only [rowR_at]
end

end Cert.Proof.MergeRef

end

end
-- ==== Proof.MergeBlk.lean ====
/-
  The branches' merge at a point of its grid, and the three arrays it leaves.
-/
module

public import proofs.«01_k».proof.Proof.MergeRef
public import proofs.«01_k».proof.Proof.Gen.Kernel4Ideal.Value
public import Idealize.ShloMosaic.Lib.Pipeline.ValueKit

@[expose] public section

set_option maxRecDepth 16384

noncomputable section

namespace Cert.Proof.MergeBlk

open Cert.Kernel4Ideal Cert.Kernel4Ideal.Gen
open Idealize.ShloMosaic Idealize.ShloMosaic.TcCoe Idealize.ShloMosaic.Tactic
open Cert.Proof.Experts Cert.Proof.Inproj Cert.Proof.Merge

/-- The gated sum, of a point's blocks. -/
def mixB (x0 : Vec Ideal S512x1024 .bf16) (x5 : Vec Ideal S1024x1024 .bf16) (x1 : Vec Ideal S512x2048 .bf16) (x6 : Vec Ideal S2048x1024 .bf16)
    (x2 x3 : Vec Ideal S512x1024 .bf16) (u : Fin 512) (k : Fin 1024) : EReal :=
  sg (x2 (ix2 u k)) * (∑ j : Fin 1024, x0 (ix2 u j) * x5 (ix2 j k)) + sg (x3 (ix2 u k)) * (∑ j : Fin 2048, x1 (ix2 u j) * x6 (ix2 j k))

theorem pay6_at (x0 : Vec Ideal S512x1024 .bf16) (x5 : Vec Ideal S1024x1024 .bf16) (x1 : Vec Ideal S512x2048 .bf16) (x6 : Vec Ideal S2048x1024 .bf16)
    (x2 x3 : Vec Ideal S512x1024 .bf16) (u : Fin 512) (k : Fin 1024) : k0_pay6 x0 x5 x1 x6 x2 x3 (ix2 u k) = mixB x0 x5 x1 x6 x2 x3 u k := by
  unfold k0_pay6 mixB sg
  pointwise
  rw [zero_sub, zero_sub]

theorem pay1_at (a : FVec Ideal S512x1024 .f32) (b : FVec Ideal S512x1024 .bf16) (w : FVec Ideal S1024x1024 .bf16) (u : Fin 512) (d : Fin 1024) :
    k0_pay1 a b w (constant S512x1024 .f32 0x00000000#32) (ix2 u d) = a (ix2 u d) + ∑ k : Fin 1024, b (ix2 u k) * w (ix2 k d) := by
  unfold k0_pay1
  pointwise

theorem pay2_at (a : FVec Ideal S512x1024 .f32) (b : FVec Ideal S512x1024 .bf16) (w : FVec Ideal S1024x1024 .bf16) (z : FVec Ideal S512x1024 .f32) (g : Vec Ideal S1x1024 .f32) (u : Fin 512) (d : Fin 1024) :
    k0_pay2 a b w z g (ix2 u d) = nrm (fun k => k0_pay1 a b w z (ix2 u k)) (g (ix2 0 d)) d := by
  unfold k0_pay2 nrm
  pointwise

theorem pay3_at (a : FVec Ideal S512x1024 .f32) (b : FVec Ideal S512x1024 .bf16) (w : FVec Ideal S1024x1024 .bf16) (z : FVec Ideal S512x1024 .f32) (g : Vec Ideal S1x1024 .f32) (d : Fin 1024) (u : Fin 512) :
    k0_pay3 a b w z g (ix2 d u) = k0_pay2 a b w z g (ix2 u d) := by
  unfold k0_pay3
  pointwise

theorem pay4_at (a : FVec Ideal S512x1024 .f32) (b : FVec Ideal S512x1024 .bf16) (w : FVec Ideal S1024x1024 .bf16) (z : FVec Ideal S512x1024 .f32) (g : Vec Ideal S1x1024 .f32) (wq : Vec Ideal S1024x2048 .bf16) (u : Fin 512) (n : Fin 2048) :
    k0_pay4 a b w z g wq (ix2 u n) = ∑ d : Fin 1024, k0_pay2 a b w z g (ix2 u d) * wq (ix2 d n) := by
  unfold k0_pay4
  pointwise

theorem pay5_eq (a : Vec Ideal S512x1024 .f32) (u : Fin 512) (d : Fin 1024) : k0_pay5 a (ix2 u d) = a (ix2 u d) := by
  unfold k0_pay5
  pointwise
theorem pay7_eq (a : Vec Ideal S1024x1024 .bf16) (k d : Fin 1024) : k0_pay7 a (ix2 k d) = a (ix2 k d) := by
  unfold k0_pay7
  pointwise

theorem zero2 : (![0, 0] : Fin 2 → ℕ) = fun _ => 0 := by funext a; fin_cases a <;> rfl

section
variable (x0 : Vec Ideal S512x1024 .bf16) (x1 : Vec Ideal S512x2048 .bf16) (x2 : Vec Ideal S512x1024 .bf16) (x3 : Vec Ideal S512x1024 .bf16) (x4 : Vec Ideal S512x1024 .f32) (x5 : Vec Ideal S1024x1024 .bf16) (x6 : Vec Ideal S2048x1024 .bf16) (x7 : Vec Ideal S1024x1024 .bf16) (x8 : Vec Ideal S1x1024 .f32) (x9 : Vec Ideal S1024x2048 .bf16)
/-- The residual and its normalised row, of a point's blocks. -/
def resB : FVec Ideal S512x1024 .f32 := k0_pay1 (k0_pay5 x4) (k0_pay6 x0 x5 x1 x6 x2 x3) (k0_pay7 x7) (constant S512x1024 .f32 0x00000000#32)
def rowB : FVec Ideal S512x1024 .f32 := k0_pay2 (k0_pay5 x4) (k0_pay6 x0 x5 x1 x6 x2 x3) (k0_pay7 x7) (constant S512x1024 .f32 0x00000000#32) x8

theorem out10_eq : out0_10 x0 x1 x2 x3 x4 x5 x6 x7 x8 x9 = resB x0 x1 x2 x3 x4 x5 x6 x7 := by
  unfold_out out0_10
  rw [View.canon_unit_zero zero2]
  repeat rw [View.ld_unit_zero zero2]
  rfl
theorem out11_eq : out0_11 x0 x1 x2 x3 x4 x5 x6 x7 x8 x9 = k0_pay3 (k0_pay5 x4) (k0_pay6 x0 x5 x1 x6 x2 x3) (k0_pay7 x7) (constant S512x1024 .f32 0x00000000#32) x8 := by
  unfold_out out0_11
  rw [View.canon_unit_zero zero2]
  repeat rw [View.ld_unit_zero zero2]
theorem out12_eq : out0_12 x0 x1 x2 x3 x4 x5 x6 x7 x8 x9 = k0_pay4 (k0_pay5 x4) (k0_pay6 x0 x5 x1 x6 x2 x3) (k0_pay7 x7) (constant S512x1024 .f32 0x00000000#32) x8 x9 := by
  unfold_out out0_12
  rw [View.canon_unit_zero zero2]
  repeat rw [View.ld_unit_zero zero2]
theorem resB_at (u : Fin 512) (d : Fin 1024) : resB x0 x1 x2 x3 x4 x5 x6 x7 (ix2 u d) = x4 (ix2 u d) + ∑ k : Fin 1024, mixB x0 x5 x1 x6 x2 x3 u k * x7 (ix2 k d) := by
  unfold resB
  rw [pay1_at, pay5_eq]
  simp only [pay6_at, pay7_eq]
theorem rowB_at (u : Fin 512) (d : Fin 1024) : rowB x0 x1 x2 x3 x4 x5 x6 x7 x8 (ix2 u d) = nrm (fun k => resB x0 x1 x2 x3 x4 x5 x6 x7 (ix2 u k)) (x8 (ix2 0 d)) d :=
  pay2_at _ _ _ _ _ _ _
end

variable (m : (ℓ : Loc nD τ sig) → Buf (Elt Ideal) ℓ) (ρ : Dev nD → PrngReg)
abbrev ohA (c : Dev nD) : FVec Ideal ⟨2, ![16384, 1024]⟩ .bf16 := m ((c.tc : Thread nD τ).loc main_arg0)
abbrev orA (c : Dev nD) : FVec Ideal ⟨2, ![16384, 2048]⟩ .bf16 := m ((c.tc : Thread nD τ).loc main_arg1)
abbrev pA (c : Dev nD) : FVec Ideal ⟨2, ![16384, 12288]⟩ .bf16 := m ((c.tc : Thread nD τ).loc main_arg2)
abbrev xA (c : Dev nD) : FVec Ideal ⟨3, ![2, 8192, 1024]⟩ .f32 := m ((c.tc : Thread nD τ).loc main_arg3)
abbrev whA (c : Dev nD) : FVec Ideal ⟨3, ![1, 1024, 1024]⟩ .f32 := m ((c.tc : Thread nD τ).loc main_arg4)
abbrev wrA (c : Dev nD) : FVec Ideal ⟨3, ![1, 2048, 1024]⟩ .f32 := m ((c.tc : Thread nD τ).loc main_arg5)
abbrev woA (c : Dev nD) : FVec Ideal ⟨3, ![1, 1024, 1024]⟩ .f32 := m ((c.tc : Thread nD τ).loc main_arg6)
abbrev gA (c : Dev nD) : FVec Ideal ⟨2, ![1, 1024]⟩ .f32 := m ((c.tc : Thread nD τ).loc main_arg7)
abbrev wqA (c : Dev nD) : FVec Ideal ⟨3, ![1, 1024, 2048]⟩ .f32 := m ((c.tc : Thread nD τ).loc main_arg8)

theorem t_lt (t : Fin cfg0.N) : t.val < 32 := lt_of_lt_of_eq t.isLt (show cfg0.N = 32 from N_0)
/-- The token of place `u` of point `t`'s block. -/
def tok (t : Fin cfg0.N) (u : Fin 512) : Fin 16384 := ⟨512 * t.val + u.val, by have := t_lt t; have := u.isLt; omega⟩

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 10] := (by decide +kernel : ∀ t : Fin grid0.N, _)
theorem ix_3 : ∀ t : Fin cfg0.N, win0_3.index t = ![t.val, 11] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![0, t.val] := (by decide +kernel : ∀ t : Fin grid0.N, _)
theorem ix_12 : ∀ t : Fin cfg0.N, win0_12.index t = ![t.val, 0] := (by decide +kernel : ∀ t : Fin grid0.N, _)

theorem oh_blk (c : Dev nD) (t : Fin cfg0.N) (u : Fin 512) (j : Fin 1024) :
    (iblk m c 0 t : Vec Ideal S512x1024 .bf16) (ix2 u j) = ohA m c (ix2 (tok t u) j) := by
  unfold tok
  blk_ext! [iblk, V_main_arg0, ix_0 t]
theorem or_blk (c : Dev nD) (t : Fin cfg0.N) (u : Fin 512) (j : Fin 2048) :
    (iblk m c 1 t : Vec Ideal S512x2048 .bf16) (ix2 u j) = orA m c (ix2 (tok t u) j) := by
  unfold tok
  blk_ext! [iblk, V_main_arg1, ix_1 t]
theorem ga_blk (c : Dev nD) (t : Fin cfg0.N) (u : Fin 512) (k : Fin 1024) :
    (iblk m c 2 t : Vec Ideal S512x1024 .bf16) (ix2 u k) = pA m c (ix2 (tok t u) ⟨10240 + k.val, by have := k.isLt; omega⟩) := by
  unfold tok
  blk_ext! [iblk, V_main_arg2, ix_2 t]
theorem gb_blk (c : Dev nD) (t : Fin cfg0.N) (u : Fin 512) (k : Fin 1024) :
    (iblk m c 3 t : Vec Ideal S512x1024 .bf16) (ix2 u k) = pA m c (ix2 (tok t u) ⟨11264 + k.val, by have := k.isLt; omega⟩) := by
  unfold tok
  blk_ext! [iblk, V_main_arg2, ix_3 t]
theorem x_blk (c : Dev nD) (t : Fin cfg0.N) (u : Fin 512) (d : Fin 1024) :
    (iblk m c 4 t : Vec Ideal S512x1024 .f32) (ix2 u d) = xA m c (ix3 (bat (tok t u)) (pos (tok t u)) d) := by
  unfold bat pos tok
  blk_ext! [iblk, V, ix_4 t]
theorem wh_blk (c : Dev nD) (t : Fin cfg0.N) (j k : Fin 1024) :
    (iblk m c 5 t : Vec Ideal S1024x1024 .bf16) (ix2 j k) = whA m c (ix3 0 j k) := by
  blk_ext! [iblk, V, ix_5 t]
theorem wr_blk (c : Dev nD) (t : Fin cfg0.N) (j : Fin 2048) (k : Fin 1024) :
    (iblk m c 6 t : Vec Ideal S2048x1024 .bf16) (ix2 j k) = wrA m c (ix3 0 j k) := by
  blk_ext! [iblk, V, ix_6 t]
theorem wo_blk (c : Dev nD) (t : Fin cfg0.N) (k d : Fin 1024) :
    (iblk m c 7 t : Vec Ideal S1024x1024 .bf16) (ix2 k d) = woA m c (ix3 0 k d) := by
  blk_ext! [iblk, V, ix_7 t]
theorem g_blk (c : Dev nD) (t : Fin cfg0.N) (d : Fin 1024) :
    (iblk m c 8 t : Vec Ideal S1x1024 .f32) (ix2 0 d) = gA m c (ix2 0 d) := by
  blk_ext! [iblk, V_main_arg7, ix_8 t]
theorem wq_blk (c : Dev nD) (t : Fin cfg0.N) (d : Fin 1024) (n : Fin 2048) :
    (iblk m c 9 t : Vec Ideal S1024x2048 .bf16) (ix2 d n) = wqA m c (ix3 0 d n) := by
  blk_ext! [iblk, V, ix_9 t]

theorem mix_pt (c : Dev nD) (t : Fin cfg0.N) (u : Fin 512) (k : Fin 1024) :
    mixB (iblk m c 0 t) (iblk m c 5 t) (iblk m c 1 t) (iblk m c 6 t) (iblk m c 2 t) (iblk m c 3 t) u k
      = mix (ohA m c) (orA m c) (pA m c) (whA m c) (wrA m c) (tok t u) k := by
  unfold mixB mix
  rw [ga_blk, gb_blk]
  refine congrArg₂ (· + ·) (congrArg₂ (· * ·) rfl (Finset.sum_congr rfl fun j _ => ?_)) (congrArg₂ (· * ·) rfl (Finset.sum_congr rfl fun j _ => ?_))
  · rw [oh_blk, wh_blk]
  · rw [or_blk, wr_blk]
theorem res_pt (c : Dev nD) (t : Fin cfg0.N) (u : Fin 512) (d : Fin 1024) :
    resB (iblk m c 0 t) (iblk m c 1 t) (iblk m c 2 t) (iblk m c 3 t) (iblk m c 4 t) (iblk m c 5 t) (iblk m c 6 t) (iblk m c 7 t) (ix2 u d)
      = res (ohA m c) (orA m c) (pA m c) (xA m c) (whA m c) (wrA m c) (woA m c) (tok t u) d := by
  refine (resB_at _ _ _ _ _ _ _ _ _ _).trans ?_
  unfold res
  rw [x_blk]
  refine congrArg₂ (· + ·) rfl (Finset.sum_congr rfl fun k _ => ?_)
  rw [mix_pt, wo_blk]
theorem row_pt (c : Dev nD) (t : Fin cfg0.N) (u : Fin 512) (d : Fin 1024) :
    rowB (iblk m c 0 t) (iblk m c 1 t) (iblk m c 2 t) (iblk m c 3 t) (iblk m c 4 t) (iblk m c 5 t) (iblk m c 6 t) (iblk m c 7 t) (iblk m c 8 t) (ix2 u d)
      = row (ohA m c) (orA m c) (pA m c) (xA m c) (whA m c) (wrA m c) (woA m c) (gA m c) (tok t u) d := by
  refine (rowB_at _ _ _ _ _ _ _ _ _ _ _).trans ?_
  unfold row
  rw [g_blk]
  exact congrArg (fun f => nrm f (gA m c (ix2 0 d)) d) (funext fun k => res_pt m c t u k)

/-- The three results, of the arguments. -/
def f1 (c : Dev nD) : Vec Ideal S16384x1024 .f32 := fun i => res (ohA m c) (orA m c) (pA m c) (xA m c) (whA m c) (wrA m c) (woA m c) (i 0) (i 1)
def f2 (c : Dev nD) : Vec Ideal S1024x16384 .bf16 := fun i => row (ohA m c) (orA m c) (pA m c) (xA m c) (whA m c) (wrA m c) (woA m c) (gA m c) (i 1) (i 0)
def f3 (c : Dev nD) : Vec Ideal S16384x2048 .bf16 := fun i => qry (ohA m c) (orA m c) (pA m c) (xA m c) (whA m c) (wrA m c) (woA m c) (gA m c) (wqA m c) (i 0) (i 1)

theorem pt_10 (c : Dev nD) (t : Fin cfg0.N) (u : Fin 512) (d : Fin 1024) :
    (out0_10 (iblk m c 0 t) (iblk m c 1 t) (iblk m c 2 t) (iblk m c 3 t) (iblk m c 4 t) (iblk m c 5 t) (iblk m c 6 t) (iblk m c 7 t) (iblk m c 8 t) (iblk m c 9 t)) (ix2 u d)
      = f1 m c (ix2 (tok t u) d) := by
  rw [out10_eq]
  exact res_pt m c t u d
theorem pt_11 (c : Dev nD) (t : Fin cfg0.N) (d : Fin 1024) (u : Fin 512) :
    (out0_11 (iblk m c 0 t) (iblk m c 1 t) (iblk m c 2 t) (iblk m c 3 t) (iblk m c 4 t) (iblk m c 5 t) (iblk m c 6 t) (iblk m c 7 t) (iblk m c 8 t) (iblk m c 9 t)) (ix2 d u)
      = f2 m c (ix2 d (tok t u)) := by
  rw [out11_eq]
  exact (pay3_at _ _ _ _ _ _ _).trans (row_pt m c t u d)
theorem pt_12 (c : Dev nD) (t : Fin cfg0.N) (u : Fin 512) (n : Fin 2048) :
    (out0_12 (iblk m c 0 t) (iblk m c 1 t) (iblk m c 2 t) (iblk m c 3 t) (iblk m c 4 t) (iblk m c 5 t) (iblk m c 6 t) (iblk m c 7 t) (iblk m c 8 t) (iblk m c 9 t)) (ix2 u n)
      = f3 m c (ix2 (tok t u) n) := by
  rw [out12_eq]
  refine (pay4_at _ _ _ _ _ _ _ _).trans ?_
  show _ = ∑ d : Fin 1024, row (ohA m c) (orA m c) (pA m c) (xA m c) (whA m c) (wrA m c) (woA m c) (gA m c) (tok t u) d * wqA m c (ix3 0 d n)
  refine Finset.sum_congr rfl fun d _ => ?_
  rw [wq_blk]
  exact congrArg₂ (· * ·) (row_pt m c t u d) rfl

theorem arr_10 (c : Dev nD) : (dats m 0 c).arrAt 10 cfg0.N = f1 m c := by
  refine (dats m 0 c).arrAt_eq_of_covers 10 _ (by decide +kernel) fun t hf y => ?_
  blk_simp
  rw [after0_10]
  have e0 : ((win0_10.blk t).view.emb y) = ix2 (tok t (y 0)) (y 1 : Fin 1024) := by
    unfold tok
    blk_ext! [ix_10 t]
  exact ((congrArg _ (ix2_eta y).symm).trans (pt_10 m c t (y 0) (y 1))).trans (congrArg (fun z : S16384x1024.Idx => f1 m c z) e0.symm)
theorem arr_11 (c : Dev nD) : (dats m 0 c).arrAt 11 cfg0.N = f2 m c := by
  refine (dats m 0 c).arrAt_eq_of_covers 11 _ (by decide +kernel) fun t hf y => ?_
  blk_simp
  rw [after0_11]
  have e0 : ((win0_11.blk t).view.emb y) = ix2 (y 0 : Fin 1024) (tok t (y 1)) := by
    unfold tok
    blk_ext! [ix_11 t]
  exact ((congrArg _ (ix2_eta y).symm).trans (pt_11 m c t (y 0) (y 1))).trans (congrArg (fun z : S1024x16384.Idx => f2 m c z) e0.symm)
theorem arr_12 (c : Dev nD) : (dats m 0 c).arrAt 12 cfg0.N = f3 m c := by
  refine (dats m 0 c).arrAt_eq_of_covers 12 _ (by decide +kernel) fun t hf y => ?_
  blk_simp
  rw [after0_12]
  have e0 : ((win0_12.blk t).view.emb y) = ix2 (tok t (y 0)) (y 1 : Fin 2048) := by
    unfold tok
    blk_ext! [ix_12 t]
  exact ((congrArg _ (ix2_eta y).symm).trans (pt_12 m c t (y 0) (y 1))).trans (congrArg (fun z : S16384x2048.Idx => f3 m c z) e0.symm)

end Cert.Proof.MergeBlk

end

end
-- ==== Proof.MergeFinal.lean ====
/-
  The branches' merge and its reference: three arrays, from one memory.
-/
module

public import proofs.«01_k».proof.Defs
public import proofs.«01_k».proof.Proof.MergeBlk
public import proofs.«01_k».proof.Proof.Gen.Kernel4
public import proofs.«01_k».proof.Proof.Gen.Reference4Ideal.Run

@[expose] public section

set_option maxRecDepth 16384

noncomputable section

namespace Cert.Proof.MergeFinal

open Idealize.ShloMosaic Idealize.ShloMosaic.TcCoe Idealize.ShloMosaic.Tactic Idealize.SL.Sem
open Cert.Proof.Merge Cert.Proof.MergeBlk

attribute [local instance] Cert.Kernel4.Gen.facts Cert.Kernel4Ideal.Gen.facts Cert.Reference4Ideal.Gen.facts

section
variable {F : FTy → Type} [FloatOps F]
/-- The two programs have one text: the kernels' body tables agree. -/
theorem rows_eq : @Cert.Kernel4.defs₀ F _ _ = @Cert.Kernel4Ideal.defs₀ F _ _ := by
  unfold Cert.Kernel4.defs₀ Cert.Kernel4Ideal.defs₀
  refine congrArg Defs.onTc (funext fun l => funext fun x => ?_)
  match l, x with
  | 0, (t, s) => rfl
/-- And so do their body tables with the pipelines'. -/
theorem defs_eq : @Cert.Kernel4.defs F _ _ = @Cert.Kernel4Ideal.defs F _ _ := by
  unfold Cert.Kernel4.defs Cert.Kernel4Ideal.defs
  rw [rows_eq]
  rfl
end

theorem frame_kernel : Cert.quiescent_Kernel4 := fun m ρ _ => by
  rw [defs_eq]
  exact (θ_run (@Cert.Kernel4Ideal.defs Bits _ _) _ _).mono (fun _ h => h) (@Cert.Kernel4Ideal.Gen.frame Bits _ m ρ)
theorem frame_ideal : Cert.quiescent_Kernel4Ideal := fun m ρ _ => Cert.Kernel4Ideal.Gen.frame (F := Ideal) m ρ
theorem frame_ref : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem preserves : Cert.preserves_Kernel4_Kernel4Ideal := trivial

section
variable (m : (ℓ : Loc Cert.Kernel4Ideal.nD Cert.Kernel4Ideal.τ Cert.Kernel4Ideal.sig) → Buf (Elt Ideal) ℓ) (c : Dev Cert.Kernel4Ideal.nD)
theorem out1_eq : Cert.Proof.MergeRef.resR (ohA m c) (orA m c) (pA m c) (xA m c) (whA m c) (wrA m c) (woA m c) = f1 m c := by
  funext i
  have e : i = ix2 (i 0 : Fin 16384) (i 1 : Fin 1024) := (ix2_eta i).symm
  rw [e]
  exact Cert.Proof.MergeRef.resR_at _ _ _ _ _ _ _ _ _
theorem out2_eq : Cert.Proof.MergeRef.rowTR (ohA m c) (orA m c) (pA m c) (xA m c) (whA m c) (wrA m c) (woA m c) (gA m c) = f2 m c := by
  funext i
  have e : i = ix2 (i 0 : Fin 1024) (i 1 : Fin 16384) := (ix2_eta i).symm
  rw [e]
  exact Cert.Proof.MergeRef.rowTR_at _ _ _ _ _ _ _ _ _ _
theorem out3_eq : Cert.Proof.MergeRef.qryR (ohA m c) (orA m c) (pA m c) (xA m c) (whA m c) (wrA m c) (woA m c) (gA m c) (wqA m c) = f3 m c := by
  funext i
  have e : i = ix2 (i 0 : Fin 16384) (i 1 : Fin 2048) := (ix2_eta i).symm
  rw [e]
  exact Cert.Proof.MergeRef.qryR_at _ _ _ _ _ _ _ _ _ _ _
end

theorem algebraic : Cert.algebraic_Kernel4Ideal_Reference4Ideal := by
  intro m g m' g' _ hagree
  refine ⟨fun c => f1 m c, fun c => f2 m c, fun c => f3 m c, ?_, ?_⟩
  · refine (θ_run Cert.Kernel4Ideal.defs _ _).mono (fun r h c => ?_) (Cert.Kernel4Ideal.Value.run_blocks (F := Ideal) m g)
    obtain ⟨h1, h2, h3, h4⟩ := h c
    exact ⟨h1.trans (arr_10 m c), h2.trans (arr_11 m c), h3.trans (arr_12 m c), h4⟩
  · refine (θ_run Cert.Reference4Ideal.defs _ _).mono (fun r h c => ?_) (Cert.Reference4Ideal.Value.run (F := Ideal) m' g')
    obtain ⟨h1, h2, h3, h4⟩ := h c
    obtain ⟨a0, a1, a2, a3, a4, a5, a6, a7, a8⟩ := hagree c
    refine ⟨h1.trans ?_, h2.trans ?_, h3.trans ?_, h4⟩
    · refine Eq.trans ?_ (out1_eq m c)
      unfold ohA orA pA xA whA wrA woA
      rw [← a0, ← a1, ← a2, ← a3, ← a4, ← a5, ← a6]
      rfl
    · refine Eq.trans ?_ (out2_eq m c)
      unfold ohA orA pA xA whA wrA woA gA
      rw [← a0, ← a1, ← a2, ← a3, ← a4, ← a5, ← a6, ← a7]
      rfl
    · refine Eq.trans ?_ (out3_eq m c)
      unfold ohA orA pA xA whA wrA woA gA wqA
      rw [← a0, ← a1, ← a2, ← a3, ← a4, ← a5, ← a6, ← a7, ← a8]
      rfl

end Cert.Proof.MergeFinal

end

end
-- ==== Proof.lean ====
/- The proof of the claim: both frames from one run over any float algebra (Proof/Frames.lean), the values in Proof/Final.lean; the experts' call in Proof/ExpertsFinal.lean, the input projection in Proof/InprojFinal.lean, the merge in Proof/MergeFinal.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Frames
public import proofs.«01_k».proof.Proof.Final
public import proofs.«01_k».proof.Proof.ExpertsFinal
public import proofs.«01_k».proof.Proof.InprojFinal
public import proofs.«01_k».proof.Proof.MergeFinal

@[expose] public section

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

variable {F : FTy → Type} [FloatOps F]

/-- The two programs have one text: the kernels' body tables agree. -/
theorem rows_eq : @Cert.Kernel.defs₀ F _ _ = @Cert.KernelIdeal.defs₀ F _ _ := by
  unfold Cert.Kernel.defs₀ Cert.KernelIdeal.defs₀
  refine congrArg Defs.onTc (funext fun l => funext fun x => ?_)
  match l, x with
  | 0, (t, s) => rfl

/-- And so do their body tables with the pipelines'. -/
theorem defs_eq : @Cert.Kernel.defs F _ _ = @Cert.KernelIdeal.defs F _ _ := by
  unfold Cert.Kernel.defs Cert.KernelIdeal.defs
  rw [rows_eq]
  rfl

theorem frame_kernel : Cert.quiescent_Kernel := fun m ρ _ => by
  rw [defs_eq]
  exact (θ_run Cert.KernelIdeal.defs _ _).mono (fun _ h => h) (TopkF.frame_all (F := Bits) m ρ)

theorem frame_ideal : Cert.quiescent_KernelIdeal := fun m ρ _ => TopkF.frame_all (F := Ideal) m ρ

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_inputs.Gen.facts,
    frame_kernel, frame_ideal, fun m ρ _ => TopkF.frame_all (F := Ideal) m ρ, fun m ρ _ => Final.frame_ref m ρ, fun m ρ _ => Final.frame_ref m ρ,
    ExpertsFinal.frame_kernel, ExpertsFinal.frame_ideal, ExpertsFinal.frame_ref,
    InprojFinal.frame_kernel, InprojFinal.frame_ideal, InprojFinal.frame_ref,
    MergeFinal.frame_kernel, MergeFinal.frame_ideal, MergeFinal.frame_ref,
    trivial, Final.algebraic, ExpertsFinal.preserves, ExpertsFinal.algebraic,
    InprojFinal.preserves, InprojFinal.algebraic, MergeFinal.preserves, MergeFinal.algebraic⟩

end Cert.Proof

end

end
